-- ==== Defs.lean ====
def Pre_Kernel [hPre_counts_fit : Cert.Pre_counts_fit.Facts] (m : (ℓ : Loc Cert.Kernel.nD Cert.Kernel.τ Cert.Kernel.sig) → Buf (Elt Bits) ℓ) : Prop :=
  ∀ c : Dev Cert.Kernel.nD,
    (Cert.Pre_counts_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_Reference [hPre_counts_fit : Cert.Pre_counts_fit.Facts] (m : (ℓ : Loc Cert.Reference.nD Cert.Reference.τ Cert.Reference.sig) → Buf (Elt Bits) ℓ) : Prop :=
  ∀ c : Dev Cert.Reference.nD,
    (Cert.Pre_counts_fit.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_counts_fit : Cert.Pre_counts_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Reference [hReference : Cert.Reference.Facts] [hPre_counts_fit : Cert.Pre_counts_fit.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def bitexact_Kernel_Reference [hKernel : Cert.Kernel.Facts] [hReference : Cert.Reference.Facts] [hPre_counts_fit : Cert.Pre_counts_fit.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v85)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v85) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v27) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v84)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v84) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_counts_fit : Cert.Pre_counts_fit.Facts),
    quiescent_Kernel (hKernel := hKernel) (hPre_counts_fit := hPre_counts_fit)
    ∧ quiescent_Reference (hReference := hReference) (hPre_counts_fit := hPre_counts_fit)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ bitexact_Kernel_Reference (hKernel := hKernel) (hReference := hReference) (hPre_counts_fit := hPre_counts_fit)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_counts_fit.lean ====
abbrev S64 : Shape := ⟨1, ![64]⟩
abbrev S49152x8x128 : Shape := ⟨3, ![49152, 8, 128]⟩
abbrev S64x2048x512 : Shape := ⟨3, ![64, 2048, 512]⟩
abbrev S64x512x2048 : Shape := ⟨3, ![64, 512, 2048]⟩
abbrev S_ : Shape := ⟨0, ![]⟩

class Facts : Prop where
  reducesTo_S64_S_d0 : S64.ReducesTo [0] S_
  h_S_ : 0 < S_.numel
  bcast_S_S64 : S_.BroadcastsInDim S64 (![] : Fin 0 → Fin S64.rank)

variable [Facts]

def fn {F : FTy → Type} [FloatOps F] (main_arg0 : IVec S64 32) (main_arg1 : IVec S49152x8x128 32) (main_arg2 : FVec F S64x2048x512 .f32) (main_arg3 : FVec F S64x2048x512 .f32) (main_arg4 : FVec F S64x512x2048 .f32) : IVec S64 1 :=
  let main_c : IVec S_ 32 := constantI S_ 32 0#32
  let main_v0 : IVec S_ 32 := (fun x v => Host.reduce IntOp.addi x v reducesTo_S64_S_d0 h_S_) main_arg0 main_c
  let main_c_0 : IVec S_ 32 := constantI S_ 32 0#32
  let main_v1 : IVec S64 32 := broadcastInDim S64 ![] bcast_S_S64 main_c_0
  let main_v2 : IVec S64 1 := cmpi .sge main_arg0 main_v1
  let main_c_1 : IVec S_ 32 := constantI S_ 32 32768#32
  let main_v3 : IVec S64 32 := broadcastInDim S64 ![] bcast_S_S64 main_c_1
  let main_v4 : IVec S64 1 := cmpi .sle main_arg0 main_v3
  let main_v5 : IVec S64 1 := andi main_v2 main_v4
  let main_c_2 : IVec S_ 32 := constantI S_ 32 1#32
  let main_v6 : IVec S_ 1 := cmpi .sge main_v0 main_c_2
  let main_v7 : IVec S64 1 := broadcastInDim S64 ![] bcast_S_S64 main_v6
  let main_v8 : IVec S64 1 := andi main_v5 main_v7
  let main_c_3 : IVec S_ 32 := constantI S_ 32 32768#32
  let main_v9 : IVec S_ 1 := cmpi .sle main_v0 main_c_3
  let main_v10 : IVec S64 1 := broadcastInDim S64 ![] bcast_S_S64 main_v9
  let main_v11 : IVec S64 1 := andi main_v8 main_v10
  main_v11
-- ==== Kernel.lean ====
abbrev S64 : Shape := ⟨1, ![64]⟩
abbrev S49152x8x128 : Shape := ⟨3, ![49152, 8, 128]⟩
abbrev S64x2048x512 : Shape := ⟨3, ![64, 2048, 512]⟩
abbrev S64x512x2048 : Shape := ⟨3, ![64, 512, 2048]⟩
abbrev S192 : Shape := ⟨1, ![192]⟩
abbrev S_ : Shape := ⟨0, ![]⟩
abbrev S1 : Shape := ⟨1, ![1]⟩
abbrev S192x1 : Shape := ⟨2, ![192, 1]⟩
abbrev S1x64 : Shape := ⟨2, ![1, 64]⟩
abbrev S192x64 : Shape := ⟨2, ![192, 64]⟩
abbrev S64x1 : Shape := ⟨2, ![64, 1]⟩
abbrev S64x64 : Shape := ⟨2, ![64, 64]⟩
abbrev S393216x128 : Shape := ⟨2, ![393216, 128]⟩
abbrev S4096x128 : Shape := ⟨2, ![4096, 128]⟩
abbrev S2x2048x512 : Shape := ⟨3, ![2, 2048, 512]⟩
abbrev S2x512x2048 : Shape := ⟨3, ![2, 512, 2048]⟩
abbrev S2048x512 : Shape := ⟨2, ![2048, 512]⟩
abbrev S512x2048 : Shape := ⟨2, ![512, 2048]⟩
abbrev S256x2048 : Shape := ⟨2, ![256, 2048]⟩
abbrev S2 : Shape := ⟨1, ![2]⟩
abbrev S1x2048x512 : Shape := ⟨3, ![1, 2048, 512]⟩
abbrev S1x512x2048 : Shape := ⟨3, ![1, 512, 2048]⟩
abbrev S2048x128 : Shape := ⟨2, ![2048, 128]⟩
abbrev S256x128 : Shape := ⟨2, ![256, 128]⟩
abbrev S256x512 : Shape := ⟨2, ![256, 512]⟩

abbrev nBuf : Space → Nat
  | .hbm => 185
  | .vmem => 11
  | .smem => 6
  | _ => 0

abbrev hbmTy0_0 (i : Nat) : BufTy := match i % 128 with
  | 0 => ⟨S64, .i32⟩
  | 1 => ⟨S49152x8x128, .i32⟩
  | 2 => ⟨S64x2048x512, .f32⟩
  | 3 => ⟨S64x2048x512, .f32⟩
  | 4 => ⟨S64x512x2048, .f32⟩
  | 5 => ⟨S64, .i32⟩
  | 6 => ⟨S192, .i32⟩
  | 7 => ⟨S_, .i32⟩
  | 8 => ⟨S64, .i32⟩
  | 9 => ⟨S64, .i32⟩
  | 10 => ⟨S_, .i32⟩
  | 11 => ⟨S64, .i32⟩
  | 12 => ⟨S64, .i32⟩
  | 13 => ⟨S_, .i32⟩
  | 14 => ⟨S_, .i32⟩
  | 15 => ⟨S64, .i32⟩
  | 16 => ⟨S64, .i32⟩
  | 17 => ⟨S64, .i32⟩
  | 18 => ⟨S_, .i32⟩
  | 19 => ⟨S64, .i32⟩
  | 20 => ⟨S64, .i1⟩
  | 21 => ⟨S64, .i32⟩
  | 22 => ⟨S64, .i32⟩
  | 23 => ⟨S_, .i32⟩
  | 24 => ⟨S64, .i32⟩
  | 25 => ⟨S64, .i1⟩
  | 26 => ⟨S64, .i1⟩
  | 27 => ⟨S_, .i32⟩
  | 28 => ⟨S64, .i32⟩
  | 29 => ⟨S64, .i32⟩
  | 30 => ⟨S64, .i32⟩
  | 31 => ⟨S_, .i32⟩
  | 32 => ⟨S_, .i32⟩
  | 33 => ⟨S64, .i32⟩
  | 34 => ⟨S64, .i32⟩
  | 35 => ⟨S1, .i32⟩
  | 36 => ⟨S_, .i32⟩
  | 37 => ⟨S192, .i32⟩
  | 38 => ⟨S192, .i1⟩
  | 39 => ⟨S_, .i32⟩
  | 40 => ⟨S_, .i32⟩
  | 41 => ⟨S_, .i32⟩
  | 42 => ⟨S_, .i32⟩
  | 43 => ⟨S192, .i32⟩
  | 44 => ⟨S192x1, .i32⟩
  | 45 => ⟨S1x64, .i32⟩
  | 46 => ⟨S192x64, .i32⟩
  | 47 => ⟨S192x64, .i32⟩
  | 48 => ⟨S192x64, .i1⟩
  | 49 => ⟨S192x1, .i32⟩
  | 50 => ⟨S1x64, .i32⟩
  | 51 => ⟨S192x64, .i32⟩
  | 52 => ⟨S192x64, .i32⟩
  | 53 => ⟨S192x64, .i1⟩
  | 54 => ⟨S192x64, .i1⟩
  | 55 => ⟨S1x64, .i32⟩
  | 56 => ⟨S_, .i32⟩
  | 57 => ⟨S_, .i32⟩
  | 58 => ⟨S192x64, .i32⟩
  | 59 => ⟨S192x64, .i32⟩
  | 60 => ⟨S192x64, .i32⟩
  | 61 => ⟨S_, .i32⟩
  | 62 => ⟨S1x64, .i32⟩
  | 63 => ⟨S_, .i32⟩
  | 64 => ⟨S_, .i32⟩
  | 65 => ⟨S192x64, .i32⟩
  | 66 => ⟨S192x64, .i32⟩
  | 67 => ⟨S192x64, .i32⟩
  | 68 => ⟨S_, .i32⟩
  | 69 => ⟨S192, .i32⟩
  | 70 => ⟨S1x64, .i32⟩
  | 71 => ⟨S_, .i32⟩
  | 72 => ⟨S_, .i32⟩
  | 73 => ⟨S192x64, .i32⟩
  | 74 => ⟨S192x64, .i32⟩
  | 75 => ⟨S192x64, .i32⟩
  | 76 => ⟨S_, .i32⟩
  | 77 => ⟨S192, .i32⟩
  | 78 => ⟨S192, .i32⟩
  | 79 => ⟨S_, .i32⟩
  | 80 => ⟨S192, .i32⟩
  | 81 => ⟨S192, .i32⟩
  | 82 => ⟨S192, .i32⟩
  | 83 => ⟨S_, .i32⟩
  | 84 => ⟨S_, .i32⟩
  | 85 => ⟨S_, .i32⟩
  | 86 => ⟨S192, .i32⟩
  | 87 => ⟨S192, .i32⟩
  | 88 => ⟨S_, .i32⟩
  | 89 => ⟨S192, .i32⟩
  | 90 => ⟨S192, .i32⟩
  | 91 => ⟨S_, .i32⟩
  | 92 => ⟨S_, .i32⟩
  | 93 => ⟨S192, .i32⟩
  | 94 => ⟨S1x64, .i32⟩
  | 95 => ⟨S_, .i32⟩
  | 96 => ⟨S_, .i32⟩
  | 97 => ⟨S192x64, .i32⟩
  | 98 => ⟨S192x64, .i32⟩
  | 99 => ⟨S192x64, .i32⟩
  | 100 => ⟨S_, .i32⟩
  | 101 => ⟨S192, .i32⟩
  | 102 => ⟨S192, .i1⟩
  | 103 => ⟨S192, .i1⟩
  | 104 => ⟨S_, .i32⟩
  | 105 => ⟨S64, .i32⟩
  | 106 => ⟨S64, .i1⟩
  | 107 => ⟨S64, .i32⟩
  | 108 => ⟨S_, .i32⟩
  | 109 => ⟨S_, .i32⟩
  | 110 => ⟨S64, .i32⟩
  | 111 => ⟨S_, .i32⟩
  | 112 => ⟨S64, .i32⟩
  | 113 => ⟨S64, .i32⟩
  | 114 => ⟨S1x64, .i32⟩
  | 115 => ⟨S_, .i32⟩
  | 116 => ⟨S_, .i32⟩
  | 117 => ⟨S192x64, .i32⟩
  | 118 => ⟨S192x64, .i32⟩
  | 119 => ⟨S192x64, .i32⟩
  | 120 => ⟨S_, .i32⟩
  | 121 => ⟨S192, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S64, .i32⟩

abbrev hbmTy0_1 (i : Nat) : BufTy := match i % 128 with
  | 0 => ⟨S192, .i32⟩
  | 1 => ⟨S192, .i32⟩
  | 2 => ⟨S_, .i32⟩
  | 3 => ⟨S192, .i32⟩
  | 4 => ⟨S192, .i1⟩
  | 5 => ⟨S_, .i32⟩
  | 6 => ⟨S192, .i32⟩
  | 7 => ⟨S192, .i1⟩
  | 8 => ⟨S_, .i32⟩
  | 9 => ⟨S_, .i1⟩
  | 10 => ⟨S192, .i1⟩
  | 11 => ⟨S192, .i1⟩
  | 12 => ⟨S192, .i1⟩
  | 13 => ⟨S192, .i32⟩
  | 14 => ⟨S192, .i32⟩
  | 15 => ⟨S1x64, .i1⟩
  | 16 => ⟨S1x64, .i32⟩
  | 17 => ⟨S64x1, .i32⟩
  | 18 => ⟨S_, .i32⟩
  | 19 => ⟨S64x1, .i32⟩
  | 20 => ⟨S64x1, .i32⟩
  | 21 => ⟨S64x64, .i32⟩
  | 22 => ⟨S64x64, .i32⟩
  | 23 => ⟨S64x64, .i1⟩
  | 24 => ⟨S64x64, .i1⟩
  | 25 => ⟨S64x64, .i1⟩
  | 26 => ⟨S1x64, .i32⟩
  | 27 => ⟨S_, .i32⟩
  | 28 => ⟨S_, .i32⟩
  | 29 => ⟨S64x64, .i32⟩
  | 30 => ⟨S64x64, .i32⟩
  | 31 => ⟨S64x64, .i32⟩
  | 32 => ⟨S_, .i32⟩
  | 33 => ⟨S64, .i32⟩
  | 34 => ⟨S_, .i32⟩
  | 35 => ⟨S64, .i32⟩
  | 36 => ⟨S64, .i32⟩
  | 37 => ⟨S1, .i32⟩
  | 38 => ⟨S_, .i32⟩
  | 39 => ⟨S64, .i32⟩
  | 40 => ⟨S64, .i1⟩
  | 41 => ⟨S_, .i32⟩
  | 42 => ⟨S_, .i32⟩
  | 43 => ⟨S64, .i32⟩
  | 44 => ⟨S64, .i32⟩
  | 45 => ⟨S1x64, .i32⟩
  | 46 => ⟨S_, .i32⟩
  | 47 => ⟨S_, .i32⟩
  | 48 => ⟨S192x64, .i32⟩
  | 49 => ⟨S192x64, .i32⟩
  | 50 => ⟨S192x64, .i32⟩
  | 51 => ⟨S_, .i32⟩
  | 52 => ⟨S_, .i32⟩
  | 53 => ⟨S64, .i32⟩
  | 54 => ⟨S64, .i32⟩
  | 55 => ⟨S393216x128, .i32⟩
  | 56 => ⟨S393216x128, .i32⟩
  | _ => ⟨S64, .i32⟩

abbrev hbmTy (i : Nat) : BufTy := match i / 128 with
  | 0 => hbmTy0_0 i
  | 1 => hbmTy0_1 i
  | _ => ⟨S64, .i32⟩

abbrev bufTy : (tb : Table) → Fin (tcTables nBuf tb) → BufTy
  | .hbm, ⟨i, _⟩ => hbmTy i
  | .local _ .vmem, ⟨0, _⟩ => ⟨S4096x128, .i32⟩
  | .local _ .vmem, ⟨1, _⟩ => ⟨S4096x128, .i32⟩
  | .local _ .vmem, ⟨2, _⟩ => ⟨S4096x128, .i32⟩
  | .local _ .vmem, ⟨3, _⟩ => ⟨S4096x128, .i32⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S256x2048, .bf16⟩
  | .local _ .smem, ⟨0, _⟩ => ⟨S192, .i32⟩
  | .local _ .smem, ⟨1, _⟩ => ⟨S192, .i32⟩
  | .local _ .smem, ⟨2, _⟩ => ⟨S192, .i32⟩
  | .local _ .smem, ⟨3, _⟩ => ⟨S192, .i32⟩
  | .local _ .smem, ⟨4, _⟩ => ⟨S192, .i32⟩
  | .local _ .smem, ⟨5, _⟩ => ⟨S192, .i32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_4 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v29 : Ref sig .tc := ⟨.hbm, 60, rfl⟩
abbrev main_c_5 : Ref sig .tc := ⟨.hbm, 61, rfl⟩
abbrev main_v31 : Ref sig .tc := ⟨.hbm, 62, rfl⟩
abbrev main_c_6 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v32 : Ref sig .tc := ⟨.hbm, 67, rfl⟩
abbrev main_c_7 : Ref sig .tc := ⟨.hbm, 68, rfl⟩
abbrev main_v33 : Ref sig .tc := ⟨.hbm, 69, rfl⟩
abbrev main_v34 : Ref sig .tc := ⟨.hbm, 70, rfl⟩
abbrev main_c_8 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_v35 : Ref sig .tc := ⟨.hbm, 75, rfl⟩
abbrev main_c_9 : Ref sig .tc := ⟨.hbm, 76, rfl⟩
abbrev main_v36 : Ref sig .tc := ⟨.hbm, 77, rfl⟩
abbrev main_v37 : Ref sig .tc := ⟨.hbm, 78, rfl⟩
abbrev main_c_10 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_c_11 : Ref sig .tc := ⟨.hbm, 83, rfl⟩
abbrev main_c_12 : Ref sig .tc := ⟨.hbm, 84, rfl⟩
abbrev main_call5_v0 : Ref sig .tc := ⟨.hbm, 85, rfl⟩
abbrev main_call5_v1 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_v41 : Ref sig .tc := ⟨.hbm, 90, rfl⟩
abbrev main_c_13 : Ref sig .tc := ⟨.hbm, 91, rfl⟩
abbrev main_call6_v0 : Ref sig .tc := ⟨.hbm, 92, rfl⟩
abbrev main_call6_v1 : Ref sig .tc := ⟨.hbm, 93, rfl⟩
abbrev main_v43 : Ref sig .tc := ⟨.hbm, 94, rfl⟩
abbrev main_c_14 : Ref sig .tc := ⟨.hbm, 95, rfl⟩
abbrev main_call7_v0 : Ref sig .tc := ⟨.hbm, 96, rfl⟩
abbrev main_call7_v1 : Ref sig .tc := ⟨.hbm, 97, rfl⟩
abbrev main_call7_v2 : Ref sig .tc := ⟨.hbm, 98, rfl⟩
abbrev main_v44 : Ref sig .tc := ⟨.hbm, 99, rfl⟩
abbrev main_c_15 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_c_16 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_call8_call0_c : Ref sig .tc := ⟨.hbm, 108, rfl⟩
abbrev main_call8_call0_v0 : Ref sig .tc := ⟨.hbm, 109, rfl⟩
abbrev main_v52 : Ref sig .tc := ⟨.hbm, 110, rfl⟩
abbrev main_c_17 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_c_18 : Ref sig .tc := ⟨.hbm, 115, rfl⟩
abbrev main_call9_v0 : Ref sig .tc := ⟨.hbm, 116, rfl⟩
abbrev main_call9_v1 : Ref sig .tc := ⟨.hbm, 117, rfl⟩
abbrev main_call9_v2 : Ref sig .tc := ⟨.hbm, 118, rfl⟩
abbrev main_v56 : Ref sig .tc := ⟨.hbm, 119, rfl⟩
abbrev main_c_19 : Ref sig .tc := ⟨.hbm, 120, rfl⟩
abbrev main_v57 : Ref sig .tc := ⟨.hbm, 121, rfl⟩
abbrev main_c_20 : Ref sig .tc := ⟨.hbm, 122, rfl⟩
abbrev main_call10_v0 : Ref sig .tc := ⟨.hbm, 123, rfl⟩
abbrev main_call10_c : Ref sig .tc := ⟨.hbm, 124, rfl⟩
abbrev main_call10_v1 : Ref sig .tc := ⟨.hbm, 125, rfl⟩
abbrev main_call10_c_0 : Ref sig .tc := ⟨.hbm, 126, rfl⟩
abbrev main_call10_v2 : Ref sig .tc := ⟨.hbm, 127, rfl⟩
abbrev main_call10_v3 : Ref sig .tc := ⟨.hbm, 128, rfl⟩
abbrev main_call10_v4 : Ref sig .tc := ⟨.hbm, 129, rfl⟩
abbrev main_call10_c_1 : Ref sig .tc := ⟨.hbm, 130, rfl⟩
abbrev main_call10_v5 : Ref sig .tc := ⟨.hbm, 131, rfl⟩
abbrev main_call10_v6 : Ref sig .tc := ⟨.hbm, 132, rfl⟩
abbrev main_call10_c_2 : Ref sig .tc := ⟨.hbm, 133, rfl⟩
abbrev main_call10_v7 : Ref sig .tc := ⟨.hbm, 134, rfl⟩
abbrev main_call10_v8 : Ref sig .tc := ⟨.hbm, 135, rfl⟩
abbrev main_call10_c_3 : Ref sig .tc := ⟨.hbm, 136, rfl⟩
abbrev main_call10_v9 : Ref sig .tc := ⟨.hbm, 137, rfl⟩
abbrev main_call10_v10 : Ref sig .tc := ⟨.hbm, 138, rfl⟩
abbrev main_call10_v11 : Ref sig .tc := ⟨.hbm, 139, rfl⟩
abbrev main_call10_v12 : Ref sig .tc := ⟨.hbm, 140, rfl⟩
abbrev main_call10_v13 : Ref sig .tc := ⟨.hbm, 141, rfl⟩
abbrev main_call10_v14 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_c_21 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_c_22 : Ref sig .tc := ⟨.hbm, 155, rfl⟩
abbrev main_call11_v0 : Ref sig .tc := ⟨.hbm, 156, rfl⟩
abbrev main_call11_v1 : Ref sig .tc := ⟨.hbm, 157, rfl⟩
abbrev main_call11_v2 : Ref sig .tc := ⟨.hbm, 158, rfl⟩
abbrev main_v70 : Ref sig .tc := ⟨.hbm, 159, rfl⟩
abbrev main_c_23 : Ref sig .tc := ⟨.hbm, 160, rfl⟩
abbrev main_v71 : Ref sig .tc := ⟨.hbm, 161, rfl⟩
abbrev main_c_24 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_c_25 : Ref sig .tc := ⟨.hbm, 169, rfl⟩
abbrev main_call12_v0 : Ref sig .tc := ⟨.hbm, 170, rfl⟩
abbrev main_call12_v1 : Ref sig .tc := ⟨.hbm, 171, rfl⟩
abbrev main_v78 : Ref sig .tc := ⟨.hbm, 172, rfl⟩
abbrev main_v79 : Ref sig .tc := ⟨.hbm, 173, rfl⟩
abbrev main_c_26 : Ref sig .tc := ⟨.hbm, 174, rfl⟩
abbrev main_call13_v0 : Ref sig .tc := ⟨.hbm, 175, rfl⟩
abbrev main_call13_v1 : Ref sig .tc := ⟨.hbm, 176, rfl⟩
abbrev main_call13_v2 : Ref sig .tc := ⟨.hbm, 177, rfl⟩
abbrev main_v80 : Ref sig .tc := ⟨.hbm, 178, rfl⟩
abbrev main_c_27 : Ref sig .tc := ⟨.hbm, 179, rfl⟩
abbrev main_c_28 : Ref sig .tc := ⟨.hbm, 180, rfl⟩
abbrev main_v82 : Ref sig .tc := ⟨.hbm, 181, rfl⟩
abbrev main_v83 : Ref sig .tc := ⟨.hbm, 182, rfl⟩
abbrev main_v84 : Ref sig .tc := ⟨.hbm, 183, rfl⟩
abbrev main_v85 : Ref sig .tc := ⟨.hbm, 184, rfl⟩
abbrev main_v30 : Ref sig .tc := ⟨.smem, 0, rfl⟩
abbrev main_v16 : Ref sig .tc := ⟨.smem, 1, rfl⟩
abbrev main_v42 : Ref sig .tc := ⟨.smem, 2, rfl⟩
abbrev main_v48 : Ref sig .tc := ⟨.smem, 3, rfl⟩
abbrev main_v58 : Ref sig .tc := ⟨.smem, 4, rfl⟩
abbrev main_v81 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![96], ![false]⟩

abbrev pre0 : Pipeline.Prefetch sig := ⟨6, ![main_v30.idx, main_v16.idx, main_v42.idx, main_v48.idx, main_v58.idx, main_v81.idx], fun | 0 => main_v30.names | 1 => main_v16.names | 2 => main_v42.names | 3 => main_v48.names | 4 => main_v58.names | 5 => main_v81.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let c2_i32 : BitVec 32 := 2#32
  let v0 : BitVec 32 := Scalar.muli arg0 c2_i32
  let v1 : Index := Scalar.indexCast v0
  ![v1.toNat]
def k0_off2 (i : grid0.Coords) : Fin 1 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v3 : Index := Scalar.indexCast v1
  ![v3.toNat]
def k0_cond1 (i : grid0.Coords) : BitVec 1 :=
  let arg0 : BitVec 32 := BitVec.ofNat 32 (i 0).val
  let c0_i32_0 : BitVec 32 := 0#32
  let v2 : BitVec 1 := Scalar.cmpi .eq arg0 c0_i32_0
  let v7 : BitVec 32 := Scalar.extui v2
  let c0_i32_1 : BitVec 32 := 0#32
  let v8 : BitVec 1 := Scalar.cmpi .ne v7 c0_i32_1
  v8

def k0_off3 (v6 : BitVec 32) : Fin 1 → Nat :=
  let c0_i32_15 : BitVec 32 := 0#32
  let v38 : BitVec 32 := Scalar.addi v6 c0_i32_15
  let c2_i32_16 : BitVec 32 := 2#32
  let v39 : BitVec 1 := Scalar.cmpi .sge v38 c2_i32_16
  let c2_i32_17 : BitVec 32 := 2#32
  let v40 : BitVec 32 := Scalar.subi v38 c2_i32_17
  let v41 : BitVec 32 := Scalar.select v39 v40 v38
  ![v41.toNat]
def k0_cond2 (v37 : BitVec 32) : BitVec 1 :=
  let c0_i32_18 : BitVec 32 := 0#32
  let v42 : BitVec 1 := Scalar.cmpi .sge v37 c0_i32_18
  let v43 : BitVec 32 := Scalar.extui v42
  let c0_i32_19 : BitVec 32 := 0#32
  let v44 : BitVec 1 := Scalar.cmpi .ne v43 c0_i32_19
  v44

def k0_off4 (v6 : BitVec 32) : Fin 3 → Nat :=
  let c0_i32_15 : BitVec 32 := 0#32
  let v38 : BitVec 32 := Scalar.addi v6 c0_i32_15
  let c2_i32_16 : BitVec 32 := 2#32
  let v39 : BitVec 1 := Scalar.cmpi .sge v38 c2_i32_16
  let c2_i32_17 : BitVec 32 := 2#32
  let v40 : BitVec 32 := Scalar.subi v38 c2_i32_17
  let v41 : BitVec 32 := Scalar.select v39 v40 v38
  let c0_i32_20 : BitVec 32 := 0#32
  let c0_i32_21 : BitVec 32 := 0#32
  ![v41.toNat, 0, 0]
def k0_off5 (v37 : BitVec 32) : Fin 3 → Nat :=
  let c0_i32_22 : BitVec 32 := 0#32
  let c0_i32_23 : BitVec 32 := 0#32
  ![v37.toNat, 0, 0]
def k0_off6 (v6 : BitVec 32) : Fin 3 → Nat :=
  let c0_i32_15 : BitVec 32 := 0#32
  let v38 : BitVec 32 := Scalar.addi v6 c0_i32_15
  let c2_i32_16 : BitVec 32 := 2#32
  let v39 : BitVec 1 := Scalar.cmpi .sge v38 c2_i32_16
  let c2_i32_17 : BitVec 32 := 2#32
  let v40 : BitVec 32 := Scalar.subi v38 c2_i32_17
  let v41 : BitVec 32 := Scalar.select v39 v40 v38
  let c0_i32_28 : BitVec 32 := 0#32
  let c0_i32_29 : BitVec 32 := 0#32
  ![v41.toNat, 0, 0]
def k0_off7 (v37 : BitVec 32) : Fin 3 → Nat :=
  let c0_i32_30 : BitVec 32 := 0#32
  let c0_i32_31 : BitVec 32 := 0#32
  ![v37.toNat, 0, 0]

def k0_chk1 (i : grid0.Coords) (v6 : BitVec 32) (v37 : BitVec 32) : Prop :=
  (∀ (k0_h1 : k0_cond1 i = 1#1), ∀ (k0_h2 : k0_cond2 v37 = 1#1), ∀ a, (k0_off3 v6) a + S1.size a ≤ S2.size a) ∧
  (∀ (k0_h1 : k0_cond1 i = 1#1), ∀ (k0_h2 : k0_cond2 v37 = 1#1), ∀ a, (k0_off4 v6) a + S1x2048x512.size a ≤ S2x2048x512.size a) ∧
  (∀ (k0_h1 : k0_cond1 i = 1#1), ∀ (k0_h2 : k0_cond2 v37 = 1#1), ∀ a, (k0_off5 v37) a + S1x2048x512.size a ≤ S64x2048x512.size a) ∧
  (∀ (k0_h1 : k0_cond1 i = 1#1), ∀ (k0_h2 : k0_cond2 v37 = 1#1), ∀ a, (k0_off6 v6) a + S1x512x2048.size a ≤ S2x512x2048.size a) ∧
  (∀ (k0_h1 : k0_cond1 i = 1#1), ∀ (k0_h2 : k0_cond2 v37 = 1#1), ∀ a, (k0_off7 v37) a + S1x512x2048.size a ≤ S64x512x2048.size a)
theorem k0_off3_inb : ∀ (i : grid0.Coords) (v6 : BitVec 32) (v37 : BitVec 32) (k0_hw1 : k0_chk1 i v6 v37), ∀ (k0_h1 : k0_cond1 i = 1#1), ∀ (k0_h2 : k0_cond2 v37 = 1#1), ∀ a, (k0_off3 v6) a + S1.size a ≤ S2.size a := fun i v6 v37 k0_hw1 k0_h1 k0_h2 => k0_hw1.1 k0_h1 k0_h2
theorem k0_off4_inb : ∀ (i : grid0.Coords) (v6 : BitVec 32) (v37 : BitVec 32) (k0_hw1 : k0_chk1 i v6 v37), ∀ (k0_h1 : k0_cond1 i = 1#1), ∀ (k0_h2 : k0_cond2 v37 = 1#1), ∀ a, (k0_off4 v6) a + S1x2048x512.size a ≤ S2x2048x512.size a := fun i v6 v37 k0_hw1 k0_h1 k0_h2 => k0_hw1.2.1 k0_h1 k0_h2
theorem k0_off5_inb : ∀ (i : grid0.Coords) (v6 : BitVec 32) (v37 : BitVec 32) (k0_hw1 : k0_chk1 i v6 v37), ∀ (k0_h1 : k0_cond1 i = 1#1), ∀ (k0_h2 : k0_cond2 v37 = 1#1), ∀ a, (k0_off5 v37) a + S1x2048x512.size a ≤ S64x2048x512.size a := fun i v6 v37 k0_hw1 k0_h1 k0_h2 => k0_hw1.2.2.1 k0_h1 k0_h2
theorem k0_off6_inb : ∀ (i : grid0.Coords) (v6 : BitVec 32) (v37 : BitVec 32) (k0_hw1 : k0_chk1 i v6 v37), ∀ (k0_h1 : k0_cond1 i = 1#1), ∀ (k0_h2 : k0_cond2 v37 = 1#1), ∀ a, (k0_off6 v6) a + S1x512x2048.size a ≤ S2x512x2048.size a := fun i v6 v37 k0_hw1 k0_h1 k0_h2 => k0_hw1.2.2.2.1 k0_h1 k0_h2
theorem k0_off7_inb : ∀ (i : grid0.Coords) (v6 : BitVec 32) (v37 : BitVec 32) (k0_hw1 : k0_chk1 i v6 v37), ∀ (k0_h1 : k0_cond1 i = 1#1), ∀ (k0_h2 : k0_cond2 v37 = 1#1), ∀ a, (k0_off7 v37) a + S1x512x2048.size a ≤ S64x512x2048.size a := fun i v6 v37 k0_hw1 k0_h1 k0_h2 => k0_hw1.2.2.2.2 k0_h1 k0_h2

def k0_off8 (i : grid0.Coords) : Fin 1 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v9 : Index := Scalar.indexCast v1
  ![v9.toNat]
def k0_off9 (i : grid0.Coords) : Fin 1 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v37 : Index := Scalar.indexCast v1
  ![v37.toNat]
def k0_off10 (v6 : BitVec 32) : Fin 1 → Nat :=
  let c1_i32_15 : BitVec 32 := 1#32
  let v39 : BitVec 32 := Scalar.addi v6 c1_i32_15
  let c2_i32_16 : BitVec 32 := 2#32
  let v40 : BitVec 1 := Scalar.cmpi .sge v39 c2_i32_16
  let c2_i32_17 : BitVec 32 := 2#32
  let v41 : BitVec 32 := Scalar.subi v39 c2_i32_17
  let v42 : BitVec 32 := Scalar.select v40 v41 v39
  ![v42.toNat]
def k0_cond3 (v10 : BitVec 32) : BitVec 1 :=
  let c1_i32 : BitVec 32 := 1#32
  let v11 : BitVec 1 := Scalar.cmpi .eq v10 c1_i32
  let v12 : BitVec 32 := Scalar.extui v11
  let c0_i32_2 : BitVec 32 := 0#32
  let v13 : BitVec 1 := Scalar.cmpi .ne v12 c0_i32_2
  v13

def k0_cond4 (v38 : BitVec 32) : BitVec 1 :=
  let c0_i32_18 : BitVec 32 := 0#32
  let v43 : BitVec 1 := Scalar.cmpi .sge v38 c0_i32_18
  let v44 : BitVec 32 := Scalar.extui v43
  let c0_i32_19 : BitVec 32 := 0#32
  let v45 : BitVec 1 := Scalar.cmpi .ne v44 c0_i32_19
  v45

def k0_off11 (v6 : BitVec 32) : Fin 3 → Nat :=
  let c1_i32_15 : BitVec 32 := 1#32
  let v39 : BitVec 32 := Scalar.addi v6 c1_i32_15
  let c2_i32_16 : BitVec 32 := 2#32
  let v40 : BitVec 1 := Scalar.cmpi .sge v39 c2_i32_16
  let c2_i32_17 : BitVec 32 := 2#32
  let v41 : BitVec 32 := Scalar.subi v39 c2_i32_17
  let v42 : BitVec 32 := Scalar.select v40 v41 v39
  let c0_i32_43 : BitVec 32 := 0#32
  let c0_i32_44 : BitVec 32 := 0#32
  ![v42.toNat, 0, 0]
def k0_off12 (v38 : BitVec 32) : Fin 3 → Nat :=
  let c0_i32_45 : BitVec 32 := 0#32
  let c0_i32_46 : BitVec 32 := 0#32
  ![v38.toNat, 0, 0]
def k0_off13 (v6 : BitVec 32) : Fin 3 → Nat :=
  let c1_i32_15 : BitVec 32 := 1#32
  let v39 : BitVec 32 := Scalar.addi v6 c1_i32_15
  let c2_i32_16 : BitVec 32 := 2#32
  let v40 : BitVec 1 := Scalar.cmpi .sge v39 c2_i32_16
  let c2_i32_17 : BitVec 32 := 2#32
  let v41 : BitVec 32 := Scalar.subi v39 c2_i32_17
  let v42 : BitVec 32 := Scalar.select v40 v41 v39
  let c0_i32_51 : BitVec 32 := 0#32
  let c0_i32_52 : BitVec 32 := 0#32
  ![v42.toNat, 0, 0]
def k0_off14 (v38 : BitVec 32) : Fin 3 → Nat :=
  let c0_i32_53 : BitVec 32 := 0#32
  let c0_i32_54 : BitVec 32 := 0#32
  ![v38.toNat, 0, 0]

def k0_chk2 (v6 : BitVec 32) (v10 : BitVec 32) (v38 : BitVec 32) : Prop :=
  (∀ (k0_h3 : k0_cond3 v10 = 1#1), ∀ (k0_h4 : k0_cond4 v38 = 1#1), ∀ a, (k0_off10 v6) a + S1.size a ≤ S2.size a) ∧
  (∀ (k0_h3 : k0_cond3 v10 = 1#1), ∀ (k0_h4 : k0_cond4 v38 = 1#1), ∀ a, (k0_off11 v6) a + S1x2048x512.size a ≤ S2x2048x512.size a) ∧
  (∀ (k0_h3 : k0_cond3 v10 = 1#1), ∀ (k0_h4 : k0_cond4 v38 = 1#1), ∀ a, (k0_off12 v38) a + S1x2048x512.size a ≤ S64x2048x512.size a) ∧
  (∀ (k0_h3 : k0_cond3 v10 = 1#1), ∀ (k0_h4 : k0_cond4 v38 = 1#1), ∀ a, (k0_off13 v6) a + S1x512x2048.size a ≤ S2x512x2048.size a) ∧
  (∀ (k0_h3 : k0_cond3 v10 = 1#1), ∀ (k0_h4 : k0_cond4 v38 = 1#1), ∀ a, (k0_off14 v38) a + S1x512x2048.size a ≤ S64x512x2048.size a)
theorem k0_off10_inb : ∀ (v6 : BitVec 32) (v10 : BitVec 32) (v38 : BitVec 32) (k0_hw2 : k0_chk2 v6 v10 v38), ∀ (k0_h3 : k0_cond3 v10 = 1#1), ∀ (k0_h4 : k0_cond4 v38 = 1#1), ∀ a, (k0_off10 v6) a + S1.size a ≤ S2.size a := fun v6 v10 v38 k0_hw2 k0_h3 k0_h4 => k0_hw2.1 k0_h3 k0_h4
theorem k0_off11_inb : ∀ (v6 : BitVec 32) (v10 : BitVec 32) (v38 : BitVec 32) (k0_hw2 : k0_chk2 v6 v10 v38), ∀ (k0_h3 : k0_cond3 v10 = 1#1), ∀ (k0_h4 : k0_cond4 v38 = 1#1), ∀ a, (k0_off11 v6) a + S1x2048x512.size a ≤ S2x2048x512.size a := fun v6 v10 v38 k0_hw2 k0_h3 k0_h4 => k0_hw2.2.1 k0_h3 k0_h4
theorem k0_off12_inb : ∀ (v6 : BitVec 32) (v10 : BitVec 32) (v38 : BitVec 32) (k0_hw2 : k0_chk2 v6 v10 v38), ∀ (k0_h3 : k0_cond3 v10 = 1#1), ∀ (k0_h4 : k0_cond4 v38 = 1#1), ∀ a, (k0_off12 v38) a + S1x2048x512.size a ≤ S64x2048x512.size a := fun v6 v10 v38 k0_hw2 k0_h3 k0_h4 => k0_hw2.2.2.1 k0_h3 k0_h4
theorem k0_off13_inb : ∀ (v6 : BitVec 32) (v10 : BitVec 32) (v38 : BitVec 32) (k0_hw2 : k0_chk2 v6 v10 v38), ∀ (k0_h3 : k0_cond3 v10 = 1#1), ∀ (k0_h4 : k0_cond4 v38 = 1#1), ∀ a, (k0_off13 v6) a + S1x512x2048.size a ≤ S2x512x2048.size a := fun v6 v10 v38 k0_hw2 k0_h3 k0_h4 => k0_hw2.2.2.2.1 k0_h3 k0_h4
theorem k0_off14_inb : ∀ (v6 : BitVec 32) (v10 : BitVec 32) (v38 : BitVec 32) (k0_hw2 : k0_chk2 v6 v10 v38), ∀ (k0_h3 : k0_cond3 v10 = 1#1), ∀ (k0_h4 : k0_cond4 v38 = 1#1), ∀ a, (k0_off14 v38) a + S1x512x2048.size a ≤ S64x512x2048.size a := fun v6 v10 v38 k0_hw2 k0_h3 k0_h4 => k0_hw2.2.2.2.2 k0_h3 k0_h4

def k0_off15 (i : grid0.Coords) : Fin 1 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v46 : Index := Scalar.indexCast v1
  ![v46.toNat]
def k0_off16 (v6 : BitVec 32) : Fin 1 → Nat :=
  ![v6.toNat]

def k0_off17 (v6 : BitVec 32) : Fin 3 → Nat :=
  let c0_i32_20 : BitVec 32 := 0#32
  let c0_i32_21 : BitVec 32 := 0#32
  ![v6.toNat, 0, 0]
def k0_off18 (v47 : BitVec 32) : Fin 3 → Nat :=
  let c0_i32_22 : BitVec 32 := 0#32
  let c0_i32_23 : BitVec 32 := 0#32
  ![v47.toNat, 0, 0]

def k0_off19 (v6 : BitVec 32) : Fin 1 → Nat :=
  ![v6.toNat]
def k0_off20 (v6 : BitVec 32) : Fin 3 → Nat :=
  let c0_i32_24 : BitVec 32 := 0#32
  let c0_i32_25 : BitVec 32 := 0#32
  ![v6.toNat, 0, 0]
def k0_off21 (v6 : BitVec 32) : Fin 3 → Nat :=
  let c0_i32_28 : BitVec 32 := 0#32
  let c0_i32_29 : BitVec 32 := 0#32
  ![v6.toNat, 0, 0]
def k0_off22 (v47 : BitVec 32) : Fin 3 → Nat :=
  let c0_i32_30 : BitVec 32 := 0#32
  let c0_i32_31 : BitVec 32 := 0#32
  ![v47.toNat, 0, 0]

def k0_chk4 (v10 : BitVec 32) (v47 : BitVec 32) : Prop :=
  (∀ (k0_h3 : k0_cond3 v10 = 1#1), ∀ a, (k0_off18 v47) a + S1x2048x512.size a ≤ S64x2048x512.size a) ∧
  (∀ (k0_h3 : k0_cond3 v10 = 1#1), ∀ a, (k0_off22 v47) a + S1x512x2048.size a ≤ S64x512x2048.size a)
theorem k0_off18_inb : ∀ (v10 : BitVec 32) (v47 : BitVec 32) (k0_hw4 : k0_chk4 v10 v47), ∀ (k0_h3 : k0_cond3 v10 = 1#1), ∀ a, (k0_off18 v47) a + S1x2048x512.size a ≤ S64x2048x512.size a := fun v10 v47 k0_hw4 k0_h3 => k0_hw4.1 k0_h3
theorem k0_off22_inb : ∀ (v10 : BitVec 32) (v47 : BitVec 32) (k0_hw4 : k0_chk4 v10 v47), ∀ (k0_h3 : k0_cond3 v10 = 1#1), ∀ a, (k0_off22 v47) a + S1x512x2048.size a ≤ S64x512x2048.size a := fun v10 v47 k0_hw4 k0_h3 => k0_hw4.2 k0_h3

def k0_off23 (v6 : BitVec 32) : Fin 3 → Nat :=
  let v66 : Index := Scalar.indexCast v6
  let c0 : Index := 0#32
  let c0_32 : Index := 0#32
  ![v66.toNat, 0, 0]
def k0_off24 (v6 : BitVec 32) : Fin 3 → Nat :=
  let v80 : Index := Scalar.indexCast v6
  let c0_39 : Index := 0#32
  let c0_40 : Index := 0#32
  ![v80.toNat, 0, 0]

def k0_chk3 (v6 : BitVec 32) (v10 : BitVec 32) : Prop :=
  (∀ (k0_h3 : k0_cond3 v10 = 1#1), ∀ a, (k0_off16 v6) a + S1.size a ≤ S2.size a) ∧
  (∀ (k0_h3 : k0_cond3 v10 = 1#1), ∀ a, (k0_off17 v6) a + S1x2048x512.size a ≤ S2x2048x512.size a) ∧
  (∀ (k0_h3 : k0_cond3 v10 = 1#1), ∀ a, (k0_off19 v6) a + S1.size a ≤ S2.size a) ∧
  (∀ (k0_h3 : k0_cond3 v10 = 1#1), ∀ a, (k0_off20 v6) a + S1x2048x512.size a ≤ S2x2048x512.size a) ∧
  (∀ (k0_h3 : k0_cond3 v10 = 1#1), ∀ a, (k0_off21 v6) a + S1x512x2048.size a ≤ S2x512x2048.size a) ∧
  (∀ (k0_h3 : k0_cond3 v10 = 1#1), ∀ a, (k0_off23 v6) a + S1x2048x512.size a ≤ S2x2048x512.size a) ∧
  (∀ (k0_h3 : k0_cond3 v10 = 1#1), ∀ a, (k0_off24 v6) a + S1x512x2048.size a ≤ S2x512x2048.size a)
theorem k0_off16_inb : ∀ (v6 : BitVec 32) (v10 : BitVec 32) (k0_hw3 : k0_chk3 v6 v10), ∀ (k0_h3 : k0_cond3 v10 = 1#1), ∀ a, (k0_off16 v6) a + S1.size a ≤ S2.size a := fun v6 v10 k0_hw3 k0_h3 => k0_hw3.1 k0_h3
theorem k0_off17_inb : ∀ (v6 : BitVec 32) (v10 : BitVec 32) (k0_hw3 : k0_chk3 v6 v10), ∀ (k0_h3 : k0_cond3 v10 = 1#1), ∀ a, (k0_off17 v6) a + S1x2048x512.size a ≤ S2x2048x512.size a := fun v6 v10 k0_hw3 k0_h3 => k0_hw3.2.1 k0_h3
theorem k0_off19_inb : ∀ (v6 : BitVec 32) (v10 : BitVec 32) (k0_hw3 : k0_chk3 v6 v10), ∀ (k0_h3 : k0_cond3 v10 = 1#1), ∀ a, (k0_off19 v6) a + S1.size a ≤ S2.size a := fun v6 v10 k0_hw3 k0_h3 => k0_hw3.2.2.1 k0_h3
theorem k0_off20_inb : ∀ (v6 : BitVec 32) (v10 : BitVec 32) (k0_hw3 : k0_chk3 v6 v10), ∀ (k0_h3 : k0_cond3 v10 = 1#1), ∀ a, (k0_off20 v6) a + S1x2048x512.size a ≤ S2x2048x512.size a := fun v6 v10 k0_hw3 k0_h3 => k0_hw3.2.2.2.1 k0_h3
theorem k0_off21_inb : ∀ (v6 : BitVec 32) (v10 : BitVec 32) (k0_hw3 : k0_chk3 v6 v10), ∀ (k0_h3 : k0_cond3 v10 = 1#1), ∀ a, (k0_off21 v6) a + S1x512x2048.size a ≤ S2x512x2048.size a := fun v6 v10 k0_hw3 k0_h3 => k0_hw3.2.2.2.2.1 k0_h3
theorem k0_off23_inb : ∀ (v6 : BitVec 32) (v10 : BitVec 32) (k0_hw3 : k0_chk3 v6 v10), ∀ (k0_h3 : k0_cond3 v10 = 1#1), ∀ a, (k0_off23 v6) a + S1x2048x512.size a ≤ S2x2048x512.size a := fun v6 v10 k0_hw3 k0_h3 => k0_hw3.2.2.2.2.2.1 k0_h3
theorem k0_off24_inb : ∀ (v6 : BitVec 32) (v10 : BitVec 32) (k0_hw3 : k0_chk3 v6 v10), ∀ (k0_h3 : k0_cond3 v10 = 1#1), ∀ a, (k0_off24 v6) a + S1x512x2048.size a ≤ S2x512x2048.size a := fun v6 v10 k0_hw3 k0_h3 => k0_hw3.2.2.2.2.2.2 k0_h3

def k0_off25 (i : grid0.Coords) : Fin 1 → Nat :=
  let arg0 : BitVec 32 := BitVec.ofNat 32 (i 0).val
  let c2_i32_7 : BitVec 32 := 2#32
  let v20 : BitVec 32 := Scalar.muli arg0 c2_i32_7
  let c1_i32_8 : BitVec 32 := 1#32
  let v21 : BitVec 32 := Scalar.addi v20 c1_i32_8
  let v22 : Index := Scalar.indexCast v21
  ![v22.toNat]
def k0_off26 (i : grid0.Coords) : Fin 1 → Nat :=
  let arg0 : BitVec 32 := BitVec.ofNat 32 (i 0).val
  let c2_i32_7 : BitVec 32 := 2#32
  let v20 : BitVec 32 := Scalar.muli arg0 c2_i32_7
  let c1_i32_8 : BitVec 32 := 1#32
  let v21 : BitVec 32 := Scalar.addi v20 c1_i32_8
  let v37 : Index := Scalar.indexCast v21
  ![v37.toNat]
def k0_off27 (v25 : BitVec 32) : Fin 1 → Nat :=
  let c1_i32_15 : BitVec 32 := 1#32
  let v39 : BitVec 32 := Scalar.addi v25 c1_i32_15
  let c2_i32_16 : BitVec 32 := 2#32
  let v40 : BitVec 1 := Scalar.cmpi .sge v39 c2_i32_16
  let c2_i32_17 : BitVec 32 := 2#32
  let v41 : BitVec 32 := Scalar.subi v39 c2_i32_17
  let v42 : BitVec 32 := Scalar.select v40 v41 v39
  ![v42.toNat]
def k0_cond7 (v27 : BitVec 32) : BitVec 1 :=
  let c1_i32_9 : BitVec 32 := 1#32
  let v28 : BitVec 1 := Scalar.cmpi .eq v27 c1_i32_9
  let v29 : BitVec 32 := Scalar.extui v28
  let c0_i32_10 : BitVec 32 := 0#32
  let v30 : BitVec 1 := Scalar.cmpi .ne v29 c0_i32_10
  v30

def k0_cond8 (v38 : BitVec 32) : BitVec 1 :=
  let c0_i32_18 : BitVec 32 := 0#32
  let v43 : BitVec 1 := Scalar.cmpi .sge v38 c0_i32_18
  let v44 : BitVec 32 := Scalar.extui v43
  let c0_i32_19 : BitVec 32 := 0#32
  let v45 : BitVec 1 := Scalar.cmpi .ne v44 c0_i32_19
  v45

def k0_off28 (v25 : BitVec 32) : Fin 3 → Nat :=
  let c1_i32_15 : BitVec 32 := 1#32
  let v39 : BitVec 32 := Scalar.addi v25 c1_i32_15
  let c2_i32_16 : BitVec 32 := 2#32
  let v40 : BitVec 1 := Scalar.cmpi .sge v39 c2_i32_16
  let c2_i32_17 : BitVec 32 := 2#32
  let v41 : BitVec 32 := Scalar.subi v39 c2_i32_17
  let v42 : BitVec 32 := Scalar.select v40 v41 v39
  let c0_i32_43 : BitVec 32 := 0#32
  let c0_i32_44 : BitVec 32 := 0#32
  ![v42.toNat, 0, 0]
def k0_off29 (v38 : BitVec 32) : Fin 3 → Nat :=
  let c0_i32_45 : BitVec 32 := 0#32
  let c0_i32_46 : BitVec 32 := 0#32
  ![v38.toNat, 0, 0]
def k0_off30 (v25 : BitVec 32) : Fin 3 → Nat :=
  let c1_i32_15 : BitVec 32 := 1#32
  let v39 : BitVec 32 := Scalar.addi v25 c1_i32_15
  let c2_i32_16 : BitVec 32 := 2#32
  let v40 : BitVec 1 := Scalar.cmpi .sge v39 c2_i32_16
  let c2_i32_17 : BitVec 32 := 2#32
  let v41 : BitVec 32 := Scalar.subi v39 c2_i32_17
  let v42 : BitVec 32 := Scalar.select v40 v41 v39
  let c0_i32_51 : BitVec 32 := 0#32
  let c0_i32_52 : BitVec 32 := 0#32
  ![v42.toNat, 0, 0]
def k0_off31 (v38 : BitVec 32) : Fin 3 → Nat :=
  let c0_i32_53 : BitVec 32 := 0#32
  let c0_i32_54 : BitVec 32 := 0#32
  ![v38.toNat, 0, 0]

def k0_chk5 (v25 : BitVec 32) (v27 : BitVec 32) (v38 : BitVec 32) : Prop :=
  (∀ (k0_h7 : k0_cond7 v27 = 1#1), ∀ (k0_h8 : k0_cond8 v38 = 1#1), ∀ a, (k0_off27 v25) a + S1.size a ≤ S2.size a) ∧
  (∀ (k0_h7 : k0_cond7 v27 = 1#1), ∀ (k0_h8 : k0_cond8 v38 = 1#1), ∀ a, (k0_off28 v25) a + S1x2048x512.size a ≤ S2x2048x512.size a) ∧
  (∀ (k0_h7 : k0_cond7 v27 = 1#1), ∀ (k0_h8 : k0_cond8 v38 = 1#1), ∀ a, (k0_off29 v38) a + S1x2048x512.size a ≤ S64x2048x512.size a) ∧
  (∀ (k0_h7 : k0_cond7 v27 = 1#1), ∀ (k0_h8 : k0_cond8 v38 = 1#1), ∀ a, (k0_off30 v25) a + S1x512x2048.size a ≤ S2x512x2048.size a) ∧
  (∀ (k0_h7 : k0_cond7 v27 = 1#1), ∀ (k0_h8 : k0_cond8 v38 = 1#1), ∀ a, (k0_off31 v38) a + S1x512x2048.size a ≤ S64x512x2048.size a)
theorem k0_off27_inb : ∀ (v25 : BitVec 32) (v27 : BitVec 32) (v38 : BitVec 32) (k0_hw5 : k0_chk5 v25 v27 v38), ∀ (k0_h7 : k0_cond7 v27 = 1#1), ∀ (k0_h8 : k0_cond8 v38 = 1#1), ∀ a, (k0_off27 v25) a + S1.size a ≤ S2.size a := fun v25 v27 v38 k0_hw5 k0_h7 k0_h8 => k0_hw5.1 k0_h7 k0_h8
theorem k0_off28_inb : ∀ (v25 : BitVec 32) (v27 : BitVec 32) (v38 : BitVec 32) (k0_hw5 : k0_chk5 v25 v27 v38), ∀ (k0_h7 : k0_cond7 v27 = 1#1), ∀ (k0_h8 : k0_cond8 v38 = 1#1), ∀ a, (k0_off28 v25) a + S1x2048x512.size a ≤ S2x2048x512.size a := fun v25 v27 v38 k0_hw5 k0_h7 k0_h8 => k0_hw5.2.1 k0_h7 k0_h8
theorem k0_off29_inb : ∀ (v25 : BitVec 32) (v27 : BitVec 32) (v38 : BitVec 32) (k0_hw5 : k0_chk5 v25 v27 v38), ∀ (k0_h7 : k0_cond7 v27 = 1#1), ∀ (k0_h8 : k0_cond8 v38 = 1#1), ∀ a, (k0_off29 v38) a + S1x2048x512.size a ≤ S64x2048x512.size a := fun v25 v27 v38 k0_hw5 k0_h7 k0_h8 => k0_hw5.2.2.1 k0_h7 k0_h8
theorem k0_off30_inb : ∀ (v25 : BitVec 32) (v27 : BitVec 32) (v38 : BitVec 32) (k0_hw5 : k0_chk5 v25 v27 v38), ∀ (k0_h7 : k0_cond7 v27 = 1#1), ∀ (k0_h8 : k0_cond8 v38 = 1#1), ∀ a, (k0_off30 v25) a + S1x512x2048.size a ≤ S2x512x2048.size a := fun v25 v27 v38 k0_hw5 k0_h7 k0_h8 => k0_hw5.2.2.2.1 k0_h7 k0_h8
theorem k0_off31_inb : ∀ (v25 : BitVec 32) (v27 : BitVec 32) (v38 : BitVec 32) (k0_hw5 : k0_chk5 v25 v27 v38), ∀ (k0_h7 : k0_cond7 v27 = 1#1), ∀ (k0_h8 : k0_cond8 v38 = 1#1), ∀ a, (k0_off31 v38) a + S1x512x2048.size a ≤ S64x512x2048.size a := fun v25 v27 v38 k0_hw5 k0_h7 k0_h8 => k0_hw5.2.2.2.2 k0_h7 k0_h8

def k0_off32 (i : grid0.Coords) : Fin 1 → Nat :=
  let arg0 : BitVec 32 := BitVec.ofNat 32 (i 0).val
  let c2_i32_7 : BitVec 32 := 2#32
  let v20 : BitVec 32 := Scalar.muli arg0 c2_i32_7
  let c1_i32_8 : BitVec 32 := 1#32
  let v21 : BitVec 32 := Scalar.addi v20 c1_i32_8
  let v46 : Index := Scalar.indexCast v21
  ![v46.toNat]
def k0_off33 (v25 : BitVec 32) : Fin 1 → Nat :=
  ![v25.toNat]

def k0_off34 (v25 : BitVec 32) : Fin 3 → Nat :=
  let c0_i32_20 : BitVec 32 := 0#32
  let c0_i32_21 : BitVec 32 := 0#32
  ![v25.toNat, 0, 0]
def k0_off35 (v47 : BitVec 32) : Fin 3 → Nat :=
  let c0_i32_22 : BitVec 32 := 0#32
  let c0_i32_23 : BitVec 32 := 0#32
  ![v47.toNat, 0, 0]

def k0_off36 (v25 : BitVec 32) : Fin 1 → Nat :=
  ![v25.toNat]
def k0_off37 (v25 : BitVec 32) : Fin 3 → Nat :=
  let c0_i32_24 : BitVec 32 := 0#32
  let c0_i32_25 : BitVec 32 := 0#32
  ![v25.toNat, 0, 0]
def k0_off38 (v25 : BitVec 32) : Fin 3 → Nat :=
  let c0_i32_28 : BitVec 32 := 0#32
  let c0_i32_29 : BitVec 32 := 0#32
  ![v25.toNat, 0, 0]
def k0_off39 (v47 : BitVec 32) : Fin 3 → Nat :=
  let c0_i32_30 : BitVec 32 := 0#32
  let c0_i32_31 : BitVec 32 := 0#32
  ![v47.toNat, 0, 0]

def k0_chk7 (v27 : BitVec 32) (v47 : BitVec 32) : Prop :=
  (∀ (k0_h7 : k0_cond7 v27 = 1#1), ∀ a, (k0_off35 v47) a + S1x2048x512.size a ≤ S64x2048x512.size a) ∧
  (∀ (k0_h7 : k0_cond7 v27 = 1#1), ∀ a, (k0_off39 v47) a + S1x512x2048.size a ≤ S64x512x2048.size a)
theorem k0_off35_inb : ∀ (v27 : BitVec 32) (v47 : BitVec 32) (k0_hw7 : k0_chk7 v27 v47), ∀ (k0_h7 : k0_cond7 v27 = 1#1), ∀ a, (k0_off35 v47) a + S1x2048x512.size a ≤ S64x2048x512.size a := fun v27 v47 k0_hw7 k0_h7 => k0_hw7.1 k0_h7
theorem k0_off39_inb : ∀ (v27 : BitVec 32) (v47 : BitVec 32) (k0_hw7 : k0_chk7 v27 v47), ∀ (k0_h7 : k0_cond7 v27 = 1#1), ∀ a, (k0_off39 v47) a + S1x512x2048.size a ≤ S64x512x2048.size a := fun v27 v47 k0_hw7 k0_h7 => k0_hw7.2 k0_h7

def k0_off40 (v25 : BitVec 32) : Fin 3 → Nat :=
  let v66 : Index := Scalar.indexCast v25
  let c0 : Index := 0#32
  let c0_32 : Index := 0#32
  ![v66.toNat, 0, 0]
def k0_off41 (v25 : BitVec 32) : Fin 3 → Nat :=
  let v80 : Index := Scalar.indexCast v25
  let c0_39 : Index := 0#32
  let c0_40 : Index := 0#32
  ![v80.toNat, 0, 0]

def k0_chk6 (v25 : BitVec 32) (v27 : BitVec 32) : Prop :=
  (∀ (k0_h7 : k0_cond7 v27 = 1#1), ∀ a, (k0_off33 v25) a + S1.size a ≤ S2.size a) ∧
  (∀ (k0_h7 : k0_cond7 v27 = 1#1), ∀ a, (k0_off34 v25) a + S1x2048x512.size a ≤ S2x2048x512.size a) ∧
  (∀ (k0_h7 : k0_cond7 v27 = 1#1), ∀ a, (k0_off36 v25) a + S1.size a ≤ S2.size a) ∧
  (∀ (k0_h7 : k0_cond7 v27 = 1#1), ∀ a, (k0_off37 v25) a + S1x2048x512.size a ≤ S2x2048x512.size a) ∧
  (∀ (k0_h7 : k0_cond7 v27 = 1#1), ∀ a, (k0_off38 v25) a + S1x512x2048.size a ≤ S2x512x2048.size a) ∧
  (∀ (k0_h7 : k0_cond7 v27 = 1#1), ∀ a, (k0_off40 v25) a + S1x2048x512.size a ≤ S2x2048x512.size a) ∧
  (∀ (k0_h7 : k0_cond7 v27 = 1#1), ∀ a, (k0_off41 v25) a + S1x512x2048.size a ≤ S2x512x2048.size a)
theorem k0_off33_inb : ∀ (v25 : BitVec 32) (v27 : BitVec 32) (k0_hw6 : k0_chk6 v25 v27), ∀ (k0_h7 : k0_cond7 v27 = 1#1), ∀ a, (k0_off33 v25) a + S1.size a ≤ S2.size a := fun v25 v27 k0_hw6 k0_h7 => k0_hw6.1 k0_h7
theorem k0_off34_inb : ∀ (v25 : BitVec 32) (v27 : BitVec 32) (k0_hw6 : k0_chk6 v25 v27), ∀ (k0_h7 : k0_cond7 v27 = 1#1), ∀ a, (k0_off34 v25) a + S1x2048x512.size a ≤ S2x2048x512.size a := fun v25 v27 k0_hw6 k0_h7 => k0_hw6.2.1 k0_h7
theorem k0_off36_inb : ∀ (v25 : BitVec 32) (v27 : BitVec 32) (k0_hw6 : k0_chk6 v25 v27), ∀ (k0_h7 : k0_cond7 v27 = 1#1), ∀ a, (k0_off36 v25) a + S1.size a ≤ S2.size a := fun v25 v27 k0_hw6 k0_h7 => k0_hw6.2.2.1 k0_h7
theorem k0_off37_inb : ∀ (v25 : BitVec 32) (v27 : BitVec 32) (k0_hw6 : k0_chk6 v25 v27), ∀ (k0_h7 : k0_cond7 v27 = 1#1), ∀ a, (k0_off37 v25) a + S1x2048x512.size a ≤ S2x2048x512.size a := fun v25 v27 k0_hw6 k0_h7 => k0_hw6.2.2.2.1 k0_h7
theorem k0_off38_inb : ∀ (v25 : BitVec 32) (v27 : BitVec 32) (k0_hw6 : k0_chk6 v25 v27), ∀ (k0_h7 : k0_cond7 v27 = 1#1), ∀ a, (k0_off38 v25) a + S1x512x2048.size a ≤ S2x512x2048.size a := fun v25 v27 k0_hw6 k0_h7 => k0_hw6.2.2.2.2.1 k0_h7
theorem k0_off40_inb : ∀ (v25 : BitVec 32) (v27 : BitVec 32) (k0_hw6 : k0_chk6 v25 v27), ∀ (k0_h7 : k0_cond7 v27 = 1#1), ∀ a, (k0_off40 v25) a + S1x2048x512.size a ≤ S2x2048x512.size a := fun v25 v27 k0_hw6 k0_h7 => k0_hw6.2.2.2.2.2.1 k0_h7
theorem k0_off41_inb : ∀ (v25 : BitVec 32) (v27 : BitVec 32) (k0_hw6 : k0_chk6 v25 v27), ∀ (k0_h7 : k0_cond7 v27 = 1#1), ∀ a, (k0_off41 v25) a + S1x512x2048.size a ≤ S2x512x2048.size a := fun v25 v27 k0_hw6 k0_h7 => k0_hw6.2.2.2.2.2.2 k0_h7

def k0_cond5 (v4 : BitVec 32) : BitVec 1 :=
  let c0_i32_3 : BitVec 32 := 0#32
  let v14 : BitVec 1 := Scalar.cmpi .sgt v4 c0_i32_3
  let v15 : BitVec 32 := Scalar.extui v14
  let c0_i32_4 : BitVec 32 := 0#32
  let v16 : BitVec 1 := Scalar.cmpi .ne v15 c0_i32_4
  v16

def k0_cond6 (v4 : BitVec 32) : BitVec 1 :=
  let c0_i32_5 : BitVec 32 := 0#32
  let v17 : BitVec 1 := Scalar.cmpi .eq v4 c0_i32_5
  let v18 : BitVec 32 := Scalar.extui v17
  let c0_i32_6 : BitVec 32 := 0#32
  let v19 : BitVec 1 := Scalar.cmpi .ne v18 c0_i32_6
  v19

def k0_cond9 (v23 : BitVec 32) : BitVec 1 :=
  let c0_i32_11 : BitVec 32 := 0#32
  let v31 : BitVec 1 := Scalar.cmpi .sgt v23 c0_i32_11
  let v32 : BitVec 32 := Scalar.extui v31
  let c0_i32_12 : BitVec 32 := 0#32
  let v33 : BitVec 1 := Scalar.cmpi .ne v32 c0_i32_12
  v33

def k0_cond10 (v23 : BitVec 32) : BitVec 1 :=
  let c0_i32_13 : BitVec 32 := 0#32
  let v34 : BitVec 1 := Scalar.cmpi .eq v23 c0_i32_13
  let v35 : BitVec 32 := Scalar.extui v34
  let c0_i32_14 : BitVec 32 := 0#32
  let v36 : BitVec 1 := Scalar.cmpi .ne v35 c0_i32_14
  v36

def cc0_transform_0 (k0_off1_inb : ∀ i : grid0.Coords, ∀ a, (k0_off1 i) a + S1.size a ≤ S192.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.muli arg0 c2_i32
  let v1 : Index := Scalar.indexCast v0
  let v2 : BitVec 32 := pf.at 1 (Rect.unit (s := S192) ![v1.toNat] S1.size (k0_off1_inb i)) numel1_S1
  let c2_i32_0 : BitVec 32 := 2#32
  let v3 : BitVec 32 := Scalar.divsi v2 c2_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2_i32_0 c0_i32_2
  let v10 : BitVec 32 := Scalar.extui v9
  let c0_i32_3 : BitVec 32 := 0#32
  let v11 : BitVec 1 := Scalar.cmpi .slt c2_i32_0 c0_i32_3
  let v12 : BitVec 32 := Scalar.extui v11
  let v13 : BitVec 32 := Scalar.subi v10 v12
  let v14 : BitVec 1 := Scalar.cmpi .ne v8 v13
  let v15 : BitVec 32 := Scalar.remsi v2 c2_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S64 : Shape := ⟨1, ![64]⟩
abbrev S49152x8x128 : Shape := ⟨3, ![49152, 8, 128]⟩
abbrev S64x2048x512 : Shape := ⟨3, ![64, 2048, 512]⟩
abbrev S64x512x2048 : Shape := ⟨3, ![64, 512, 2048]⟩
abbrev S_ : Shape := ⟨0, ![]⟩
abbrev S192 : Shape := ⟨1, ![192]⟩
abbrev S1x64 : Shape := ⟨2, ![1, 64]⟩
abbrev S192x1 : Shape := ⟨2, ![192, 1]⟩
abbrev S192x64 : Shape := ⟨2, ![192, 64]⟩
abbrev S1 : Shape := ⟨1, ![1]⟩
abbrev S49152x1024 : Shape := ⟨2, ![49152, 1024]⟩
abbrev S256x1024 : Shape := ⟨2, ![256, 1024]⟩
abbrev S256x2048 : Shape := ⟨2, ![256, 2048]⟩
abbrev S1x2048x512 : Shape := ⟨3, ![1, 2048, 512]⟩
abbrev S2048x512 : Shape := ⟨2, ![2048, 512]⟩
abbrev S256x512 : Shape := ⟨2, ![256, 512]⟩
abbrev S1x512x2048 : Shape := ⟨3, ![1, 512, 2048]⟩
abbrev S512x2048 : Shape := ⟨2, ![512, 2048]⟩
abbrev S393216x128 : Shape := ⟨2, ![393216, 128]⟩

abbrev nBuf : Space → Nat
  | .hbm => 58
  | .vmem => 5
  | .smem => 2
  | _ => 0

abbrev bufTy : (tb : Table) → Fin (tcTables nBuf tb) → BufTy
  | .hbm, ⟨0, _⟩ => ⟨S64, .i32⟩
  | .hbm, ⟨1, _⟩ => ⟨S49152x8x128, .i32⟩
  | .hbm, ⟨2, _⟩ => ⟨S64x2048x512, .f32⟩
  | .hbm, ⟨3, _⟩ => ⟨S64x2048x512, .f32⟩
  | .hbm, ⟨4, _⟩ => ⟨S64x512x2048, .f32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S64, .i1⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S_, .i32⟩
  | .hbm, ⟨33, _⟩ => ⟨S_, .i32⟩
  | .hbm, ⟨34, _⟩ => ⟨S64, .i32⟩
  | .hbm, ⟨35, _⟩ => ⟨S192, .i32⟩
  | .hbm, ⟨36, _⟩ => ⟨S_, .i32⟩
  | .hbm, ⟨37, _⟩ => ⟨S192, .i32⟩
  | .hbm, ⟨38, _⟩ => ⟨S192, .i32⟩
  | .hbm, ⟨39, _⟩ => ⟨S1x64, .i32⟩
  | .hbm, ⟨40, _⟩ => ⟨S192x1, .i32⟩
  | .hbm, ⟨41, _⟩ => ⟨S192x64, .i32⟩
  | .hbm, ⟨42, _⟩ => ⟨S192x64, .i32⟩
  | .hbm, ⟨43, _⟩ => ⟨S192x64, .i1⟩
  | .hbm, ⟨44, _⟩ => ⟨S192x64, .i32⟩
  | .hbm, ⟨45, _⟩ => ⟨S_, .i32⟩
  | .hbm, ⟨46, _⟩ => ⟨S192, .i32⟩
  | .hbm, ⟨47, _⟩ => ⟨S_, .i32⟩
  | .hbm, ⟨48, _⟩ => ⟨S192, .i32⟩
  | .hbm, ⟨49, _⟩ => ⟨S192, .i32⟩
  | .hbm, ⟨50, _⟩ => ⟨S1, .i32⟩
  | .hbm, ⟨51, _⟩ => ⟨S_, .i32⟩
  | .hbm, ⟨52, _⟩ => ⟨S192, .i32⟩
  | .hbm, ⟨53, _⟩ => ⟨S192, .i1⟩
  | .hbm, ⟨54, _⟩ => ⟨S192, .i32⟩
  | .hbm, ⟨55, _⟩ => ⟨S49152x1024, .i32⟩
  | .hbm, ⟨56, _⟩ => ⟨S49152x1024, .i32⟩
  | .hbm, ⟨57, _⟩ => ⟨S393216x128, .i32⟩
  | .local _ .vmem, ⟨0, _⟩ => ⟨S49152x1024, .i32⟩
  | .local _ .vmem, ⟨1, _⟩ => ⟨S64x2048x512, .f32⟩
  | .local _ .vmem, ⟨2, _⟩ => ⟨S64x2048x512, .f32⟩
  | .local _ .vmem, ⟨3, _⟩ => ⟨S64x512x2048, .f32⟩
  | .local _ .vmem, ⟨4, _⟩ => ⟨S49152x1024, .i32⟩
  | .local _ .smem, ⟨0, _⟩ => ⟨S192, .i32⟩
  | .local _ .smem, ⟨1, _⟩ => ⟨S192, .i32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c192_i32 : BitVec 32 := 192#32
  let v0 : BitVec 32 := Scalar.addi c0_i32 c192_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg7 : BitVec 32 := Scf.iv c0_i32 c1_i32 k0_t1
  let v1 : Index := Scalar.indexCast arg7
  ![v1.toNat]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v3 : BitVec 32 := Scalar.muli arg7 c256_i32
  let v4 : Index := Scalar.indexCast v3
  let c0 : Index := 0#32
  ![v4.toNat, 0]
def k0_off3 (v2 : BitVec 32) : Fin 3 → Nat :=
  let v11 : Index := Scalar.indexCast v2
  let c0_1 : Index := 0#32
  let c0_2 : Index := 0#32
  ![v11.toNat, 0, 0]

def k0_off4 (v2 : BitVec 32) : Fin 3 → Nat :=
  let v25 : Index := Scalar.indexCast v2
  let c0_6 : Index := 0#32
  let c0_7 : Index := 0#32
  ![v25.toNat, 0, 0]

def k0_chk1 (v2 : BitVec 32) : Prop :=
  (∀ a, (k0_off3 v2) a + S1x2048x512.size a ≤ S64x2048x512.size a) ∧
  (∀ a, (k0_off4 v2) a + S1x512x2048.size a ≤ S64x512x2048.size a)
theorem k0_off3_inb : ∀ (v2 : BitVec 32) (k0_hw1 : k0_chk1 v2), ∀ a, (k0_off3 v2) a + S1x2048x512.size a ≤ S64x2048x512.size a := fun v2 k0_hw1 => k0_hw1.1
theorem k0_off4_inb : ∀ (v2 : BitVec 32) (k0_hw1 : k0_chk1 v2), ∀ a, (k0_off4 v2) a + S1x512x2048.size a ≤ S64x512x2048.size a := fun v2 k0_hw1 => k0_hw1.2

def k0_off5 (k0_t1 : Fin k0_t1_loop.trips) : Fin 1 → Nat :=
  let c0_i32 : BitVec 32 := 0#32
  let c1_i32 : BitVec 32 := 1#32
  let arg7 : BitVec 32 := Scf.iv c0_i32 c1_i32 k0_t1
  let v30 : Index := Scalar.indexCast arg7
  ![v30.toNat]
def k0_off6 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v3 : BitVec 32 := Scalar.muli arg7 c256_i32
  let v38 : Index := Scalar.indexCast v3
  let c0_11 : Index := 0#32
  ![v38.toNat, 0]
abbrev stage0_0 : Fin 1 → Memref sig .tc .smem S192 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S192 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S49152x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S49152x1024 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel2.lean ====
abbrev S4x4096x2048 : Shape := ⟨3, ![4, 4096, 2048]⟩
abbrev S4x2048 : Shape := ⟨2, ![4, 2048]⟩
abbrev S2048x12288 : Shape := ⟨2, ![2048, 12288]⟩
abbrev S12288 : Shape := ⟨1, ![12288]⟩
abbrev S2048 : Shape := ⟨1, ![2048]⟩
abbrev S2048x2304 : Shape := ⟨2, ![2048, 2304]⟩
abbrev S1x12288 : Shape := ⟨2, ![1, 12288]⟩
abbrev S4x12288 : Shape := ⟨2, ![4, 12288]⟩
abbrev S2048x1024 : Shape := ⟨2, ![2048, 1024]⟩
abbrev S1x1024 : Shape := ⟨2, ![1, 1024]⟩
abbrev S4x1024 : Shape := ⟨2, ![4, 1024]⟩
abbrev S4x6x2048 : Shape := ⟨3, ![4, 6, 2048]⟩
abbrev S16384x2048 : Shape := ⟨2, ![16384, 2048]⟩
abbrev S1x2048 : Shape := ⟨2, ![1, 2048]⟩
abbrev S16384x2304 : Shape := ⟨2, ![16384, 2304]⟩
abbrev S1024x2048 : Shape := ⟨2, ![1024, 2048]⟩
abbrev S1x6x2048 : Shape := ⟨3, ![1, 6, 2048]⟩
abbrev S1024x2304 : Shape := ⟨2, ![1024, 2304]⟩
abbrev S1x1x2048 : Shape := ⟨3, ![1, 1, 2048]⟩
abbrev S1024 : Shape := ⟨1, ![1024]⟩
abbrev S1024x1 : Shape := ⟨2, ![1024, 1]⟩

abbrev nBuf : Space → Nat
  | .hbm => 13
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S2048x12288, .f32⟩
  | .hbm, ⟨3, _⟩ => ⟨S12288, .f32⟩
  | .hbm, ⟨4, _⟩ => ⟨S2048, .f32⟩
  | .hbm, ⟨5, _⟩ => ⟨S2048x2304, .f32⟩
  | .hbm, ⟨6, _⟩ => ⟨S1x12288, .f32⟩
  | .hbm, ⟨7, _⟩ => ⟨S4x12288, .f32⟩
  | .hbm, ⟨8, _⟩ => ⟨S4x6x2048, .f32⟩
  | .hbm, ⟨9, _⟩ => ⟨S16384x2048, .f32⟩
  | .hbm, ⟨10, _⟩ => ⟨S1x2048, .f32⟩
  | .hbm, ⟨11, _⟩ => ⟨S2048x2304, .bf16⟩
  | .hbm, ⟨12, _⟩ => ⟨S16384x2304, .bf16⟩
  | .local _ .vmem, ⟨0, _⟩ => ⟨S4x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S4x1024, .f32⟩
  | .local _ .vmem, ⟨6, _⟩ => ⟨S4x1024, .f32⟩
  | .local _ .vmem, ⟨7, _⟩ => ⟨S1024x2048, .f32⟩
  | .local _ .vmem, ⟨8, _⟩ => ⟨S1024x2048, .f32⟩
  | .local _ .vmem, ⟨9, _⟩ => ⟨S1x6x2048, .f32⟩
  | .local _ .vmem, ⟨10, _⟩ => ⟨S1x6x2048, .f32⟩
  | .local _ .vmem, ⟨11, _⟩ => ⟨S1x2048, .f32⟩
  | .local _ .vmem, ⟨12, _⟩ => ⟨S2048x2304, .bf16⟩
  | .local _ .vmem, ⟨13, _⟩ => ⟨S1024x2304, .bf16⟩
  | .local _ .vmem, ⟨14, _⟩ => ⟨S1024x2304, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x6x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2304 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x2304 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference2Ideal.lean ====
abbrev S4x4096x2048 : Shape := ⟨3, ![4, 4096, 2048]⟩
abbrev S4x2048 : Shape := ⟨2, ![4, 2048]⟩
abbrev S2048x12288 : Shape := ⟨2, ![2048, 12288]⟩
abbrev S12288 : Shape := ⟨1, ![12288]⟩
abbrev S2048 : Shape := ⟨1, ![2048]⟩
abbrev S2048x2304 : Shape := ⟨2, ![2048, 2304]⟩
abbrev S_ : Shape := ⟨0, ![]⟩
abbrev S4x12288 : Shape := ⟨2, ![4, 12288]⟩
abbrev S1x12288 : Shape := ⟨2, ![1, 12288]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x2304 : Shape := ⟨3, ![4, 4096, 2304]⟩
abbrev S16384x2304 : Shape := ⟨2, ![16384, 2304]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S2048x12288, .f32⟩
  | .hbm, ⟨3, _⟩ => ⟨S12288, .f32⟩
  | .hbm, ⟨4, _⟩ => ⟨S2048, .f32⟩
  | .hbm, ⟨5, _⟩ => ⟨S2048x2304, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S4x12288, .f32⟩
  | .hbm, ⟨16, _⟩ => ⟨S1x12288, .f32⟩
  | .hbm, ⟨17, _⟩ => ⟨S4x12288, .f32⟩
  | .hbm, ⟨18, _⟩ => ⟨S4x12288, .f32⟩
  | .hbm, ⟨19, _⟩ => ⟨S4x2048, .f32⟩
  | .hbm, ⟨20, _⟩ => ⟨S4x2048, .f32⟩
  | .hbm, ⟨21, _⟩ => ⟨S4x4096x2048, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x1, .f32⟩
  | .hbm, ⟨32, _⟩ => ⟨S4x4096x2048, .f32⟩
  | .hbm, ⟨33, _⟩ => ⟨S4x4096x2048, .f32⟩
  | .hbm, ⟨34, _⟩ => ⟨S1x1x2048, .f32⟩
  | .hbm, ⟨35, _⟩ => ⟨S4x4096x2048, .f32⟩
  | .hbm, ⟨36, _⟩ => ⟨S4x4096x2048, .f32⟩
  | .hbm, ⟨37, _⟩ => ⟨S4x1x2048, .f32⟩
  | .hbm, ⟨38, _⟩ => ⟨S_, .f32⟩
  | .hbm, ⟨39, _⟩ => ⟨S4x1x2048, .f32⟩
  | .hbm, ⟨40, _⟩ => ⟨S4x1x2048, .f32⟩
  | .hbm, ⟨41, _⟩ => ⟨S4x4096x2048, .f32⟩
  | .hbm, ⟨42, _⟩ => ⟨S4x4096x2048, .f32⟩
  | .hbm, ⟨43, _⟩ => ⟨S4x1x2048, .f32⟩
  | .hbm, ⟨44, _⟩ => ⟨S4x4096x2048, .f32⟩
  | .hbm, ⟨45, _⟩ => ⟨S4x4096x2048, .f32⟩
  | .hbm, ⟨46, _⟩ => ⟨S4x4096x2304, .f32⟩
  | .hbm, ⟨47, _⟩ => ⟨S4x4096x2304, .bf16⟩
  | .hbm, ⟨48, _⟩ => ⟨S16384x2304, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Kernel3.lean ====
abbrev S64 : Shape := ⟨1, ![64]⟩
abbrev S8x16384 : Shape := ⟨2, ![8, 16384]⟩
abbrev S192 : Shape := ⟨1, ![192]⟩
abbrev S_ : Shape := ⟨0, ![]⟩
abbrev S1 : Shape := ⟨1, ![1]⟩
abbrev S192x1 : Shape := ⟨2, ![192, 1]⟩
abbrev S1x64 : Shape := ⟨2, ![1, 64]⟩
abbrev S192x64 : Shape := ⟨2, ![192, 64]⟩
abbrev S64x1 : Shape := ⟨2, ![64, 1]⟩
abbrev S64x64 : Shape := ⟨2, ![64, 64]⟩
abbrev S1x16384 : Shape := ⟨2, ![1, 16384]⟩

abbrev nBuf : Space → Nat
  | .hbm => 187
  | .vmem => 2
  | .smem => 1
  | _ => 0

abbrev hbmTy0_0 (i : Nat) : BufTy := match i % 128 with
  | 0 => ⟨S64, .i32⟩
  | 1 => ⟨S8x16384, .i32⟩
  | 2 => ⟨S64, .i32⟩
  | 3 => ⟨S192, .i32⟩
  | 4 => ⟨S_, .i32⟩
  | 5 => ⟨S64, .i32⟩
  | 6 => ⟨S64, .i32⟩
  | 7 => ⟨S_, .i32⟩
  | 8 => ⟨S64, .i32⟩
  | 9 => ⟨S64, .i32⟩
  | 10 => ⟨S_, .i32⟩
  | 11 => ⟨S_, .i32⟩
  | 12 => ⟨S64, .i32⟩
  | 13 => ⟨S64, .i32⟩
  | 14 => ⟨S64, .i32⟩
  | 15 => ⟨S_, .i32⟩
  | 16 => ⟨S64, .i32⟩
  | 17 => ⟨S64, .i1⟩
  | 18 => ⟨S64, .i32⟩
  | 19 => ⟨S64, .i32⟩
  | 20 => ⟨S_, .i32⟩
  | 21 => ⟨S64, .i32⟩
  | 22 => ⟨S64, .i1⟩
  | 23 => ⟨S64, .i1⟩
  | 24 => ⟨S_, .i32⟩
  | 25 => ⟨S64, .i32⟩
  | 26 => ⟨S64, .i32⟩
  | 27 => ⟨S64, .i32⟩
  | 28 => ⟨S_, .i32⟩
  | 29 => ⟨S_, .i32⟩
  | 30 => ⟨S64, .i32⟩
  | 31 => ⟨S64, .i32⟩
  | 32 => ⟨S1, .i32⟩
  | 33 => ⟨S_, .i32⟩
  | 34 => ⟨S192, .i32⟩
  | 35 => ⟨S192, .i1⟩
  | 36 => ⟨S_, .i32⟩
  | 37 => ⟨S_, .i32⟩
  | 38 => ⟨S_, .i32⟩
  | 39 => ⟨S_, .i32⟩
  | 40 => ⟨S192, .i32⟩
  | 41 => ⟨S192, .i32⟩
  | 42 => ⟨S192x1, .i32⟩
  | 43 => ⟨S1x64, .i32⟩
  | 44 => ⟨S192x64, .i32⟩
  | 45 => ⟨S192x64, .i32⟩
  | 46 => ⟨S192x64, .i1⟩
  | 47 => ⟨S192x1, .i32⟩
  | 48 => ⟨S1x64, .i32⟩
  | 49 => ⟨S192x64, .i32⟩
  | 50 => ⟨S192x64, .i32⟩
  | 51 => ⟨S192x64, .i1⟩
  | 52 => ⟨S192x64, .i1⟩
  | 53 => ⟨S1x64, .i32⟩
  | 54 => ⟨S_, .i32⟩
  | 55 => ⟨S_, .i32⟩
  | 56 => ⟨S192x64, .i32⟩
  | 57 => ⟨S192x64, .i32⟩
  | 58 => ⟨S192x64, .i32⟩
  | 59 => ⟨S_, .i32⟩
  | 60 => ⟨S192, .i32⟩
  | 61 => ⟨S1x64, .i32⟩
  | 62 => ⟨S_, .i32⟩
  | 63 => ⟨S_, .i32⟩
  | 64 => ⟨S192x64, .i32⟩
  | 65 => ⟨S192x64, .i32⟩
  | 66 => ⟨S192x64, .i32⟩
  | 67 => ⟨S_, .i32⟩
  | 68 => ⟨S192, .i32⟩
  | 69 => ⟨S1x64, .i32⟩
  | 70 => ⟨S_, .i32⟩
  | 71 => ⟨S_, .i32⟩
  | 72 => ⟨S192x64, .i32⟩
  | 73 => ⟨S192x64, .i32⟩
  | 74 => ⟨S192x64, .i32⟩
  | 75 => ⟨S_, .i32⟩
  | 76 => ⟨S192, .i32⟩
  | 77 => ⟨S192, .i32⟩
  | 78 => ⟨S_, .i32⟩
  | 79 => ⟨S192, .i32⟩
  | 80 => ⟨S192, .i32⟩
  | 81 => ⟨S192, .i32⟩
  | 82 => ⟨S_, .i32⟩
  | 83 => ⟨S_, .i32⟩
  | 84 => ⟨S_, .i32⟩
  | 85 => ⟨S192, .i32⟩
  | 86 => ⟨S192, .i32⟩
  | 87 => ⟨S_, .i32⟩
  | 88 => ⟨S192, .i32⟩
  | 89 => ⟨S192, .i32⟩
  | 90 => ⟨S_, .i32⟩
  | 91 => ⟨S_, .i32⟩
  | 92 => ⟨S192, .i32⟩
  | 93 => ⟨S192, .i32⟩
  | 94 => ⟨S1x64, .i32⟩
  | 95 => ⟨S_, .i32⟩
  | 96 => ⟨S_, .i32⟩
  | 97 => ⟨S192x64, .i32⟩
  | 98 => ⟨S192x64, .i32⟩
  | 99 => ⟨S192x64, .i32⟩
  | 100 => ⟨S_, .i32⟩
  | 101 => ⟨S192, .i32⟩
  | 102 => ⟨S192, .i1⟩
  | 103 => ⟨S192, .i1⟩
  | 104 => ⟨S192, .i32⟩
  | 105 => ⟨S_, .i32⟩
  | 106 => ⟨S64, .i32⟩
  | 107 => ⟨S64, .i1⟩
  | 108 => ⟨S64, .i32⟩
  | 109 => ⟨S_, .i32⟩
  | 110 => ⟨S_, .i32⟩
  | 111 => ⟨S64, .i32⟩
  | 112 => ⟨S_, .i32⟩
  | 113 => ⟨S64, .i32⟩
  | 114 => ⟨S64, .i32⟩
  | 115 => ⟨S1x64, .i32⟩
  | 116 => ⟨S_, .i32⟩
  | 117 => ⟨S_, .i32⟩
  | 118 => ⟨S192x64, .i32⟩
  | 119 => ⟨S192x64, .i32⟩
  | 120 => ⟨S192x64, .i32⟩
  | 121 => ⟨S_, .i32⟩
  | 122 => ⟨S192, .i32⟩
  | 123 => ⟨S_, .i32⟩
  | 124 => ⟨S_, .i32⟩
  | 125 => ⟨S_, .i32⟩
  | 126 => ⟨S_, .i1⟩
  | 127 => ⟨S_, .i32⟩
  | _ => ⟨S64, .i32⟩

abbrev hbmTy0_1 (i : Nat) : BufTy := match i % 128 with
  | 0 => ⟨S_, .i32⟩
  | 1 => ⟨S192, .i32⟩
  | 2 => ⟨S192, .i32⟩
  | 3 => ⟨S_, .i32⟩
  | 4 => ⟨S192, .i32⟩
  | 5 => ⟨S192, .i1⟩
  | 6 => ⟨S_, .i32⟩
  | 7 => ⟨S192, .i32⟩
  | 8 => ⟨S192, .i1⟩
  | 9 => ⟨S_, .i32⟩
  | 10 => ⟨S_, .i1⟩
  | 11 => ⟨S192, .i1⟩
  | 12 => ⟨S192, .i1⟩
  | 13 => ⟨S192, .i1⟩
  | 14 => ⟨S192, .i32⟩
  | 15 => ⟨S192, .i32⟩
  | 16 => ⟨S192, .i32⟩
  | 17 => ⟨S1x64, .i1⟩
  | 18 => ⟨S1x64, .i32⟩
  | 19 => ⟨S64x1, .i32⟩
  | 20 => ⟨S_, .i32⟩
  | 21 => ⟨S64x1, .i32⟩
  | 22 => ⟨S64x1, .i32⟩
  | 23 => ⟨S64x64, .i32⟩
  | 24 => ⟨S64x64, .i32⟩
  | 25 => ⟨S64x64, .i1⟩
  | 26 => ⟨S64x64, .i1⟩
  | 27 => ⟨S64x64, .i1⟩
  | 28 => ⟨S1x64, .i32⟩
  | 29 => ⟨S_, .i32⟩
  | 30 => ⟨S_, .i32⟩
  | 31 => ⟨S64x64, .i32⟩
  | 32 => ⟨S64x64, .i32⟩
  | 33 => ⟨S64x64, .i32⟩
  | 34 => ⟨S_, .i32⟩
  | 35 => ⟨S64, .i32⟩
  | 36 => ⟨S_, .i32⟩
  | 37 => ⟨S64, .i32⟩
  | 38 => ⟨S64, .i32⟩
  | 39 => ⟨S1, .i32⟩
  | 40 => ⟨S_, .i32⟩
  | 41 => ⟨S64, .i32⟩
  | 42 => ⟨S64, .i1⟩
  | 43 => ⟨S_, .i32⟩
  | 44 => ⟨S_, .i32⟩
  | 45 => ⟨S64, .i32⟩
  | 46 => ⟨S64, .i32⟩
  | 47 => ⟨S1x64, .i32⟩
  | 48 => ⟨S_, .i32⟩
  | 49 => ⟨S_, .i32⟩
  | 50 => ⟨S192x64, .i32⟩
  | 51 => ⟨S192x64, .i32⟩
  | 52 => ⟨S192x64, .i32⟩
  | 53 => ⟨S_, .i32⟩
  | 54 => ⟨S192, .i32⟩
  | 55 => ⟨S_, .i32⟩
  | 56 => ⟨S64, .i32⟩
  | 57 => ⟨S64, .i32⟩
  | 58 => ⟨S8x16384, .i32⟩
  | _ => ⟨S64, .i32⟩

abbrev hbmTy (i : Nat) : BufTy := match i / 128 with
  | 0 => hbmTy0_0 i
  | 1 => hbmTy0_1 i
  | _ => ⟨S64, .i32⟩

abbrev bufTy : (tb : Table) → Fin (tcTables nBuf tb) → BufTy
  | .hbm, ⟨i, _⟩ => hbmTy i
  | .local _ .vmem, ⟨0, _⟩ => ⟨S8x16384, .i32⟩
  | .local _ .vmem, ⟨1, _⟩ => ⟨S8x16384, .i32⟩
  | .local _ .smem, ⟨0, _⟩ => ⟨S64, .i32⟩
  | _, _ => ⟨S64, .i32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_call1_call0_c : Ref sig .tc := ⟨.hbm, 28, rfl⟩
abbrev main_call1_call0_v0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_4 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v29 : Ref sig .tc := ⟨.hbm, 58, rfl⟩
abbrev main_c_5 : Ref sig .tc := ⟨.hbm, 59, rfl⟩
abbrev main_v30 : Ref sig .tc := ⟨.hbm, 60, rfl⟩
abbrev main_v31 : Ref sig .tc := ⟨.hbm, 61, rfl⟩
abbrev main_c_6 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v32 : Ref sig .tc := ⟨.hbm, 66, rfl⟩
abbrev main_c_7 : Ref sig .tc := ⟨.hbm, 67, rfl⟩
abbrev main_v33 : Ref sig .tc := ⟨.hbm, 68, rfl⟩
abbrev main_v34 : Ref sig .tc := ⟨.hbm, 69, rfl⟩
abbrev main_c_8 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_v35 : Ref sig .tc := ⟨.hbm, 74, rfl⟩
abbrev main_c_9 : Ref sig .tc := ⟨.hbm, 75, rfl⟩
abbrev main_v36 : Ref sig .tc := ⟨.hbm, 76, rfl⟩
abbrev main_v37 : Ref sig .tc := ⟨.hbm, 77, rfl⟩
abbrev main_c_10 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_c_11 : Ref sig .tc := ⟨.hbm, 82, rfl⟩
abbrev main_c_12 : Ref sig .tc := ⟨.hbm, 83, rfl⟩
abbrev main_call5_v0 : Ref sig .tc := ⟨.hbm, 84, rfl⟩
abbrev main_call5_v1 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_v41 : Ref sig .tc := ⟨.hbm, 89, rfl⟩
abbrev main_c_13 : Ref sig .tc := ⟨.hbm, 90, rfl⟩
abbrev main_call6_v0 : Ref sig .tc := ⟨.hbm, 91, rfl⟩
abbrev main_call6_v1 : Ref sig .tc := ⟨.hbm, 92, rfl⟩
abbrev main_v42 : Ref sig .tc := ⟨.hbm, 93, rfl⟩
abbrev main_v43 : Ref sig .tc := ⟨.hbm, 94, rfl⟩
abbrev main_c_14 : Ref sig .tc := ⟨.hbm, 95, rfl⟩
abbrev main_call7_v0 : Ref sig .tc := ⟨.hbm, 96, rfl⟩
abbrev main_call7_v1 : Ref sig .tc := ⟨.hbm, 97, rfl⟩
abbrev main_call7_v2 : Ref sig .tc := ⟨.hbm, 98, rfl⟩
abbrev main_v44 : Ref sig .tc := ⟨.hbm, 99, rfl⟩
abbrev main_c_15 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_c_16 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_call8_call0_c : Ref sig .tc := ⟨.hbm, 109, rfl⟩
abbrev main_call8_call0_v0 : Ref sig .tc := ⟨.hbm, 110, rfl⟩
abbrev main_v52 : Ref sig .tc := ⟨.hbm, 111, rfl⟩
abbrev main_c_17 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_c_18 : Ref sig .tc := ⟨.hbm, 116, rfl⟩
abbrev main_call9_v0 : Ref sig .tc := ⟨.hbm, 117, rfl⟩
abbrev main_call9_v1 : Ref sig .tc := ⟨.hbm, 118, rfl⟩
abbrev main_call9_v2 : Ref sig .tc := ⟨.hbm, 119, rfl⟩
abbrev main_v56 : Ref sig .tc := ⟨.hbm, 120, rfl⟩
abbrev main_c_19 : Ref sig .tc := ⟨.hbm, 121, rfl⟩
abbrev main_v57 : Ref sig .tc := ⟨.hbm, 122, rfl⟩
abbrev main_c_20 : Ref sig .tc := ⟨.hbm, 123, rfl⟩
abbrev main_call10_v0 : Ref sig .tc := ⟨.hbm, 124, rfl⟩
abbrev main_call10_c : Ref sig .tc := ⟨.hbm, 125, rfl⟩
abbrev main_call10_v1 : Ref sig .tc := ⟨.hbm, 126, rfl⟩
abbrev main_call10_c_0 : Ref sig .tc := ⟨.hbm, 127, rfl⟩
abbrev main_call10_v2 : Ref sig .tc := ⟨.hbm, 128, rfl⟩
abbrev main_call10_v3 : Ref sig .tc := ⟨.hbm, 129, rfl⟩
abbrev main_call10_v4 : Ref sig .tc := ⟨.hbm, 130, rfl⟩
abbrev main_call10_c_1 : Ref sig .tc := ⟨.hbm, 131, rfl⟩
abbrev main_call10_v5 : Ref sig .tc := ⟨.hbm, 132, rfl⟩
abbrev main_call10_v6 : Ref sig .tc := ⟨.hbm, 133, rfl⟩
abbrev main_call10_c_2 : Ref sig .tc := ⟨.hbm, 134, rfl⟩
abbrev main_call10_v7 : Ref sig .tc := ⟨.hbm, 135, rfl⟩
abbrev main_call10_v8 : Ref sig .tc := ⟨.hbm, 136, rfl⟩
abbrev main_call10_c_3 : Ref sig .tc := ⟨.hbm, 137, rfl⟩
abbrev main_call10_v9 : Ref sig .tc := ⟨.hbm, 138, rfl⟩
abbrev main_call10_v10 : Ref sig .tc := ⟨.hbm, 139, rfl⟩
abbrev main_call10_v11 : Ref sig .tc := ⟨.hbm, 140, rfl⟩
abbrev main_call10_v12 : Ref sig .tc := ⟨.hbm, 141, rfl⟩
abbrev main_call10_v13 : Ref sig .tc := ⟨.hbm, 142, rfl⟩
abbrev main_call10_v14 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_c_21 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_v69 : Ref sig .tc := ⟨.hbm, 156, rfl⟩
abbrev main_c_22 : Ref sig .tc := ⟨.hbm, 157, rfl⟩
abbrev main_call11_v0 : Ref sig .tc := ⟨.hbm, 158, rfl⟩
abbrev main_call11_v1 : Ref sig .tc := ⟨.hbm, 159, rfl⟩
abbrev main_call11_v2 : Ref sig .tc := ⟨.hbm, 160, rfl⟩
abbrev main_v70 : Ref sig .tc := ⟨.hbm, 161, rfl⟩
abbrev main_c_23 : Ref sig .tc := ⟨.hbm, 162, rfl⟩
abbrev main_v71 : Ref sig .tc := ⟨.hbm, 163, rfl⟩
abbrev main_c_24 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_c_25 : Ref sig .tc := ⟨.hbm, 171, rfl⟩
abbrev main_call12_v0 : Ref sig .tc := ⟨.hbm, 172, rfl⟩
abbrev main_call12_v1 : Ref sig .tc := ⟨.hbm, 173, rfl⟩
abbrev main_v78 : Ref sig .tc := ⟨.hbm, 174, rfl⟩
abbrev main_v79 : Ref sig .tc := ⟨.hbm, 175, rfl⟩
abbrev main_c_26 : Ref sig .tc := ⟨.hbm, 176, rfl⟩
abbrev main_call13_v0 : Ref sig .tc := ⟨.hbm, 177, rfl⟩
abbrev main_call13_v1 : Ref sig .tc := ⟨.hbm, 178, rfl⟩
abbrev main_call13_v2 : Ref sig .tc := ⟨.hbm, 179, rfl⟩
abbrev main_v80 : Ref sig .tc := ⟨.hbm, 180, rfl⟩
abbrev main_c_27 : Ref sig .tc := ⟨.hbm, 181, rfl⟩
abbrev main_v81 : Ref sig .tc := ⟨.hbm, 182, rfl⟩
abbrev main_c_28 : Ref sig .tc := ⟨.hbm, 183, rfl⟩
abbrev main_v82 : Ref sig .tc := ⟨.hbm, 184, rfl⟩
abbrev main_v83 : Ref sig .tc := ⟨.hbm, 185, rfl⟩
abbrev main_v84 : Ref sig .tc := ⟨.hbm, 186, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x16384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x16384 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference3Ideal.lean ====
abbrev S64 : Shape := ⟨1, ![64]⟩
abbrev S8x16384 : Shape := ⟨2, ![8, 16384]⟩
abbrev S_ : Shape := ⟨0, ![]⟩
abbrev S64x1 : Shape := ⟨2, ![64, 1]⟩
abbrev S1x16384 : Shape := ⟨2, ![1, 16384]⟩
abbrev S16384 : Shape := ⟨1, ![16384]⟩
abbrev S64x16384 : Shape := ⟨2, ![64, 16384]⟩
abbrev S6x16384 : Shape := ⟨2, ![6, 16384]⟩

abbrev nBuf : Space → Nat
  | .hbm => 71
  | .vmem => 0
  | .smem => 0
  | _ => 0

abbrev bufTy : (tb : Table) → Fin (tcTables nBuf tb) → BufTy
  | .hbm, ⟨0, _⟩ => ⟨S64, .i32⟩
  | .hbm, ⟨1, _⟩ => ⟨S8x16384, .i32⟩
  | .hbm, ⟨2, _⟩ => ⟨S_, .i32⟩
  | .hbm, ⟨3, _⟩ => ⟨S64, .i32⟩
  | .hbm, ⟨4, _⟩ => ⟨S64, .i32⟩
  | .hbm, ⟨5, _⟩ => ⟨S_, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i1⟩
  | .hbm, ⟨13, _⟩ => ⟨S64, .i32⟩
  | .hbm, ⟨14, _⟩ => ⟨S64, .i32⟩
  | .hbm, ⟨15, _⟩ => ⟨S_, .i32⟩
  | .hbm, ⟨16, _⟩ => ⟨S64, .i32⟩
  | .hbm, ⟨17, _⟩ => ⟨S64, .i1⟩
  | .hbm, ⟨18, _⟩ => ⟨S64, .i1⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S64, .i32⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S_, .i32⟩
  | .hbm, ⟨27, _⟩ => ⟨S_, .i32⟩
  | .hbm, ⟨28, _⟩ => ⟨S64, .i32⟩
  | .hbm, ⟨29, _⟩ => ⟨S64, .i32⟩
  | .hbm, ⟨30, _⟩ => ⟨S64, .i32⟩
  | .hbm, ⟨31, _⟩ => ⟨S64x1, .i32⟩
  | .hbm, ⟨32, _⟩ => ⟨S1x16384, .i32⟩
  | .hbm, ⟨33, _⟩ => ⟨S16384, .i32⟩
  | .hbm, ⟨34, _⟩ => ⟨S1x16384, .i32⟩
  | .hbm, ⟨35, _⟩ => ⟨S64x16384, .i32⟩
  | .hbm, ⟨36, _⟩ => ⟨S64x16384, .i32⟩
  | .hbm, ⟨37, _⟩ => ⟨S64x16384, .i1⟩
  | .hbm, ⟨38, _⟩ => ⟨S64x1, .i32⟩
  | .hbm, ⟨39, _⟩ => ⟨S_, .i32⟩
  | .hbm, ⟨40, _⟩ => ⟨S_, .i32⟩
  | .hbm, ⟨41, _⟩ => ⟨S64x16384, .i32⟩
  | .hbm, ⟨42, _⟩ => ⟨S64x16384, .i32⟩
  | .hbm, ⟨43, _⟩ => ⟨S64x16384, .i32⟩
  | .hbm, ⟨44, _⟩ => ⟨S_, .i32⟩
  | .hbm, ⟨45, _⟩ => ⟨S16384, .i32⟩
  | .hbm, ⟨46, _⟩ => ⟨S1x16384, .i32⟩
  | .hbm, ⟨47, _⟩ => ⟨S16384, .i32⟩
  | .hbm, ⟨48, _⟩ => ⟨S16384, .i32⟩
  | .hbm, ⟨49, _⟩ => ⟨S1x16384, .i32⟩
  | .hbm, ⟨50, _⟩ => ⟨S16384, .i32⟩
  | .hbm, ⟨51, _⟩ => ⟨S1x16384, .i32⟩
  | .hbm, ⟨52, _⟩ => ⟨S64x16384, .i32⟩
  | .hbm, ⟨53, _⟩ => ⟨S64x16384, .i32⟩
  | .hbm, ⟨54, _⟩ => ⟨S64x16384, .i1⟩
  | .hbm, ⟨55, _⟩ => ⟨S64x1, .i32⟩
  | .hbm, ⟨56, _⟩ => ⟨S_, .i32⟩
  | .hbm, ⟨57, _⟩ => ⟨S_, .i32⟩
  | .hbm, ⟨58, _⟩ => ⟨S64x16384, .i32⟩
  | .hbm, ⟨59, _⟩ => ⟨S64x16384, .i32⟩
  | .hbm, ⟨60, _⟩ => ⟨S64x16384, .i32⟩
  | .hbm, ⟨61, _⟩ => ⟨S_, .i32⟩
  | .hbm, ⟨62, _⟩ => ⟨S16384, .i32⟩
  | .hbm, ⟨63, _⟩ => ⟨S1x16384, .i32⟩
  | .hbm, ⟨64, _⟩ => ⟨S16384, .i32⟩
  | .hbm, ⟨65, _⟩ => ⟨S16384, .i32⟩
  | .hbm, ⟨66, _⟩ => ⟨S1x16384, .i32⟩
  | .hbm, ⟨67, _⟩ => ⟨S1x16384, .i32⟩
  | .hbm, ⟨68, _⟩ => ⟨S_, .i32⟩
  | .hbm, ⟨69, _⟩ => ⟨S6x16384, .i32⟩
  | .hbm, ⟨70, _⟩ => ⟨S8x16384, .i32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_c_1 : Ref sig .tc := ⟨.hbm, 23, rfl⟩
abbrev main_v3 : Ref sig .tc := ⟨.hbm, 24, rfl⟩
abbrev main_v4 : Ref sig .tc := ⟨.hbm, 25, rfl⟩
abbrev main_call1_call0_c : Ref sig .tc := ⟨.hbm, 26, rfl⟩
abbrev main_call1_call0_v0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_2 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_4 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_v28 : Ref sig .tc := ⟨.hbm, 60, rfl⟩
abbrev main_c_5 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_c_6 : Ref sig .tc := ⟨.hbm, 68, rfl⟩
abbrev main_v35 : Ref sig .tc := ⟨.hbm, 69, rfl⟩
abbrev main_v36 : Ref sig .tc := ⟨.hbm, 70, rfl⟩

abbrev nD : Nat := 1
abbrev τ : Topo := Topo.v7x

variable {F : FTy → Type} [FloatOps F]
-- ==== Proof.Seg.lean ====
module

public import proofs.«01_k».proof.Proof.Gen.Kernel
public import proofs.«01_k».proof.Proof.Gen.Kernel.Launch
public import proofs.«01_k».proof.Proof.Gen.Kernel.Skeleton

/-! The body of the call cut into its regions: the request of the first weights, and for each of a grid point's two
blocks the weights' arrival, the expert on the block's rows, and the zeros of a block without rows. -/

@[expose] public section

noncomputable section

namespace Cert.Experts

open Cert.Kernel Cert.Kernel.Gen
open Idealize.ShloMosaic Idealize.ShloMosaic.TcCoe
open Idealize.SL.Sem

variable {F : FTy → Type} [BitOps F]

abbrev tbE : Memref sig .tc .smem S192 .i32 := Memref.whole main_v30
abbrev tbR : Memref sig .tc .smem S192 .i32 := Memref.whole main_v16
abbrev tbV : Memref sig .tc .smem S192 .i32 := Memref.whole main_v42
abbrev tbF : Memref sig .tc .smem S192 .i32 := Memref.whole main_v48
abbrev tbS : Memref sig .tc .smem S192 .i32 := Memref.whole main_v58
abbrev tbA : Memref sig .tc .smem S192 .i32 := Memref.whole main_v81
abbrev hbG : Memref sig .tc .hbm S64x2048x512 .f32 := Memref.whole main_arg2
abbrev hbU : Memref sig .tc .hbm S64x2048x512 .f32 := Memref.whole main_arg3
abbrev hbD : Memref sig .tc .hbm S64x512x2048 .f32 := Memref.whole main_arg4
abbrev scG : Memref sig .tc .vmem S2x2048x512 .f32 := Memref.whole cc0_scratch0
abbrev scU : Memref sig .tc .vmem S2x2048x512 .f32 := Memref.whole cc0_scratch1
abbrev scD : Memref sig .tc .vmem S2x512x2048 .f32 := Memref.whole cc0_scratch2
abbrev wbG : Memref sig .tc .vmem S2048x512 .bf16 := Memref.whole cc0_scratch3
abbrev wbU : Memref sig .tc .vmem S2048x512 .bf16 := Memref.whole cc0_scratch4
abbrev wbD : Memref sig .tc .vmem S512x2048 .bf16 := Memref.whole cc0_scratch5
abbrev xbB : Memref sig .tc .vmem S256x2048 .bf16 := Memref.whole cc0_scratch6

/-- The first grid point's request for the first expert's weights. -/
noncomputable def segI (i : grid0.Coords) (arg7 : Memref sig .tc .vmem S4096x128 .i32) (harg7 : arg7.IsWhole) (arg11 : Memref sig .tc .vmem S4096x128 .i32) (harg11 : arg11.IsWhole) (v6 : Elt F .i32) : Prog (TpuEff nD τ sig (Elt F) Λ₀ .tc) PUnit := do
  if k0_h1 : k0_cond1 i = 1#1 then do
    let c0 : Index := 0#32
    let v37 : Elt F .i32 ← smemLoad tbE (Rect.unit (s := S192) ![0] S1.size inb_S192_S1_0) numel1_S1 rfl
    have k0_hw1 : k0_chk1 i v6 v37 := (← Prog.lift (TpuEff.assume (k0_chk1 i v6 v37) (k0_chk1.dec i v6 v37))).down
    let c0_i32_15 : BitVec 32 := 0#32
    let v38 : BitVec 32 := Scalar.addi v6 c0_i32_15
    let c2_i32_16 : BitVec 32 := 2#32
    let v39 : BitVec 1 := Scalar.cmpi .sge v38 c2_i32_16
    let c2_i32_17 : BitVec 32 := 2#32
    let v40 : BitVec 32 := Scalar.subi v38 c2_i32_17
    let v41 : BitVec 32 := Scalar.select v39 v40 v38
    let c0_i32_18 : BitVec 32 := 0#32
    let v42 : BitVec 1 := Scalar.cmpi .sge v37 c0_i32_18
    let v43 : BitVec 32 := Scalar.extui v42
    let c0_i32_19 : BitVec 32 := 0#32
    let v44 : BitVec 1 := Scalar.cmpi .ne v43 c0_i32_19
    if k0_h2 : k0_cond2 v37 = 1#1 then do
      let v45 : DmaSems sig S1 := cc0_scratch7.slice (Rect.unit (s := S2) (k0_off3 v6) S1.size (k0_off3_inb i v6 v37 k0_hw1 k0_h1 k0_h2))
      let v46 : DmaSems sig S_ := v45.squeeze S_ squeezes_S1_S_
      let c0_i32_20 : BitVec 32 := 0#32
      let c0_i32_21 : BitVec 32 := 0#32
      let v47 : Memref sig .tc .vmem S1x2048x512 .f32 := scG.slice (Rect.unit (s := S2x2048x512) (k0_off4 v6) S1x2048x512.size (k0_off4_inb i v6 v37 k0_hw1 k0_h1 k0_h2)) (fun _ => rfl)
      let v48 : Memref sig .tc .vmem S2048x512 .f32 := v47.squeeze S2048x512 squeezes_S1x2048x512_S2048x512
      let c0_i32_22 : BitVec 32 := 0#32
      let c0_i32_23 : BitVec 32 := 0#32
      let v49 : Memref sig .tc .hbm S1x2048x512 .f32 := hbG.slice (Rect.unit (s := S64x2048x512) (k0_off5 v37) S1x2048x512.size (k0_off5_inb i v6 v37 k0_hw1 k0_h1 k0_h2)) (fun _ => rfl)
      let v50 : Memref sig .tc .hbm S2048x512 .f32 := v49.squeeze S2048x512 squeezes_S1x2048x512_S2048x512
      Prog.lift (.enqueueDma v50 (.here v48) (.dma v46.sem) ((View.wordExact_bits rfl).reshape _ _) ((View.wordExact_bits rfl).reshape _ _) ⟨Or.inl rfl, trivial⟩)
      let v51 : DmaSems sig S1 := cc0_scratch7.slice (Rect.unit (s := S2) (k0_off3 v6) S1.size (k0_off3_inb i v6 v37 k0_hw1 k0_h1 k0_h2))
      let v52 : DmaSems sig S_ := v51.squeeze S_ squeezes_S1_S_
      let c0_i32_24 : BitVec 32 := 0#32
      let c0_i32_25 : BitVec 32 := 0#32
      let v53 : Memref sig .tc .vmem S1x2048x512 .f32 := scU.slice (Rect.unit (s := S2x2048x512) (k0_off4 v6) S1x2048x512.size (k0_off4_inb i v6 v37 k0_hw1 k0_h1 k0_h2)) (fun _ => rfl)
      let v54 : Memref sig .tc .vmem S2048x512 .f32 := v53.squeeze S2048x512 squeezes_S1x2048x512_S2048x512
      let c0_i32_26 : BitVec 32 := 0#32
      let c0_i32_27 : BitVec 32 := 0#32
      let v55 : Memref sig .tc .hbm S1x2048x512 .f32 := hbU.slice (Rect.unit (s := S64x2048x512) (k0_off5 v37) S1x2048x512.size (k0_off5_inb i v6 v37 k0_hw1 k0_h1 k0_h2)) (fun _ => rfl)
      let v56 : Memref sig .tc .hbm S2048x512 .f32 := v55.squeeze S2048x512 squeezes_S1x2048x512_S2048x512
      Prog.lift (.enqueueDma v56 (.here v54) (.dma v52.sem) ((View.wordExact_bits rfl).reshape _ _) ((View.wordExact_bits rfl).reshape _ _) ⟨Or.inl rfl, trivial⟩)
      let v57 : DmaSems sig S1 := cc0_scratch7.slice (Rect.unit (s := S2) (k0_off3 v6) S1.size (k0_off3_inb i v6 v37 k0_hw1 k0_h1 k0_h2))
      let v58 : DmaSems sig S_ := v57.squeeze S_ squeezes_S1_S_
      let c0_i32_28 : BitVec 32 := 0#32
      let c0_i32_29 : BitVec 32 := 0#32
      let v59 : Memref sig .tc .vmem S1x512x2048 .f32 := scD.slice (Rect.unit (s := S2x512x2048) (k0_off6 v6) S1x512x2048.size (k0_off6_inb i v6 v37 k0_hw1 k0_h1 k0_h2)) (fun _ => rfl)
      let v60 : Memref sig .tc .vmem S512x2048 .f32 := v59.squeeze S512x2048 squeezes_S1x512x2048_S512x2048
      let c0_i32_30 : BitVec 32 := 0#32
      let c0_i32_31 : BitVec 32 := 0#32
      let v61 : Memref sig .tc .hbm S1x512x2048 .f32 := hbD.slice (Rect.unit (s := S64x512x2048) (k0_off7 v37) S1x512x2048.size (k0_off7_inb i v6 v37 k0_hw1 k0_h1 k0_h2)) (fun _ => rfl)
      let v62 : Memref sig .tc .hbm S512x2048 .f32 := v61.squeeze S512x2048 squeezes_S1x512x2048_S512x2048
      Prog.lift (.enqueueDma v62 (.here v60) (.dma v58.sem) ((View.wordExact_bits rfl).reshape _ _) ((View.wordExact_bits rfl).reshape _ _) ⟨Or.inl rfl, trivial⟩)
      pure ⟨⟩
    else do
      pure ⟨⟩
    pure ⟨⟩
  else do
    pure ⟨⟩

/-- The weights of the first block of a pair, where it is its expert's first block. -/
noncomputable def segW0 (i : grid0.Coords) (arg7 : Memref sig .tc .vmem S4096x128 .i32) (harg7 : arg7.IsWhole) (arg11 : Memref sig .tc .vmem S4096x128 .i32) (harg11 : arg11.IsWhole) (v1 : BitVec 32) (v6 : Elt F .i32) (v10 : Elt F .i32) (k0_hw3 : k0_chk3 v6 v10) : Prog (TpuEff nD τ sig (Elt F) Λ₀ .tc) PUnit := do
  if k0_h3 : k0_cond3 v10 = 1#1 then do
    let v69 : FVec F S2048x512 .bf16 ← k0_part1 i tbE (Memref.isWhole_whole _) tbR (Memref.isWhole_whole _) tbV (Memref.isWhole_whole _) tbF (Memref.isWhole_whole _) tbS (Memref.isWhole_whole _) tbA (Memref.isWhole_whole _) arg7 harg7 hbG (Memref.isWhole_whole _) hbU (Memref.isWhole_whole _) hbD (Memref.isWhole_whole _) arg11 harg11 scG (Memref.isWhole_whole _) scU (Memref.isWhole_whole _) scD (Memref.isWhole_whole _) wbG (Memref.isWhole_whole _) wbU (Memref.isWhole_whole _) wbD (Memref.isWhole_whole _) xbB (Memref.isWhole_whole _) cc0_scratch7 v1 v6 v10 k0_hw3 k0_h3
    let v70 : Vec F S2048x512 .bf16 ← Prog.lift (.load wbG (Rect.unit (s := S2048x512) ![0, 0] S2048x512.size inb_S2048x512_S2048x512_0_0).toLoadRect (View.loadsAt_vmem h_S2048x512))
    have v71 : FVec F S2048x512 .bf16 := shapeCast S2048x512 v70 shapeCasts_S2048x512_S2048x512
    have v72 : FVec F S2048x512 .bf16 := shapeCast S2048x512 v69 shapeCasts_S2048x512_S2048x512
    Prog.lift (.store wbG (Rect.unit (s := S2048x512) ![0, 0] S2048x512.size inb_S2048x512_S2048x512_0_0) v72 Finset.univ (View.stores_vmem h_S2048x512 ((Memref.isWhole_whole _).storeExact_slice rfl _ packedbf16_S2048x512_S2048x512_0_0) (fun _ => rfl)) (.inl rfl))
    let v73 : Index := Scalar.indexCast v6
    let c0_35 : Index := 0#32
    let c0_36 : Index := 0#32
    let v74 : Vec F S1x2048x512 .f32 ← Prog.lift (.load scU (Rect.unit (s := S2x2048x512) (k0_off23 v6) S1x2048x512.size (k0_off23_inb v6 v10 k0_hw3 k0_h3)).toLoadRect (View.loadsAt_vmem h_S1x2048x512))
    have v75 : FVec F S2048x512 .f32 := shapeCast S2048x512 v74 shapeCasts_S1x2048x512_S2048x512
    have v76 : FVec F S2048x512 .bf16 := truncf .bf16 v75 bitsLt_bf16_f32
    let c0_37 : Index := 0#32
    let c0_38 : Index := 0#32
    let v77 : Vec F S2048x512 .bf16 ← Prog.lift (.load wbU (Rect.unit (s := S2048x512) ![0, 0] S2048x512.size inb_S2048x512_S2048x512_0_0).toLoadRect (View.loadsAt_vmem h_S2048x512))
    have v78 : FVec F S2048x512 .bf16 := shapeCast S2048x512 v77 shapeCasts_S2048x512_S2048x512
    have v79 : FVec F S2048x512 .bf16 := shapeCast S2048x512 v76 shapeCasts_S2048x512_S2048x512
    Prog.lift (.store wbU (Rect.unit (s := S2048x512) ![0, 0] S2048x512.size inb_S2048x512_S2048x512_0_0) v79 Finset.univ (View.stores_vmem h_S2048x512 ((Memref.isWhole_whole _).storeExact_slice rfl _ packedbf16_S2048x512_S2048x512_0_0) (fun _ => rfl)) (.inl rfl))
    let v80 : Index := Scalar.indexCast v6
    let c0_39 : Index := 0#32
    let c0_40 : Index := 0#32
    let v81 : Vec F S1x512x2048 .f32 ← Prog.lift (.load scD (Rect.unit (s := S2x512x2048) (k0_off24 v6) S1x512x2048.size (k0_off24_inb v6 v10 k0_hw3 k0_h3)).toLoadRect (View.loadsAt_vmem h_S1x512x2048))
    have v82 : FVec F S512x2048 .f32 := shapeCast S512x2048 v81 shapeCasts_S1x512x2048_S512x2048
    have v83 : FVec F S512x2048 .bf16 := truncf .bf16 v82 bitsLt_bf16_f32
    let c0_41 : Index := 0#32
    let c0_42 : Index := 0#32
    let v84 : Vec F S512x2048 .bf16 ← Prog.lift (.load wbD (Rect.unit (s := S512x2048) ![0, 0] S512x2048.size inb_S512x2048_S512x2048_0_0).toLoadRect (View.loadsAt_vmem h_S512x2048))
    have v85 : FVec F S512x2048 .bf16 := shapeCast S512x2048 v84 shapeCasts_S512x2048_S512x2048
    have v86 : FVec F S512x2048 .bf16 := shapeCast S512x2048 v83 shapeCasts_S512x2048_S512x2048
    Prog.lift (.store wbD (Rect.unit (s := S512x2048) ![0, 0] S512x2048.size inb_S512x2048_S512x2048_0_0) v86 Finset.univ (View.stores_vmem h_S512x2048 ((Memref.isWhole_whole _).storeExact_slice rfl _ packedbf16_S512x2048_S512x2048_0_0) (fun _ => rfl)) (.inl rfl))
    pure ⟨⟩
  else do
    pure ⟨⟩

/-- The expert of the first block of a pair on its rows. -/
noncomputable def segC0 (i : grid0.Coords) (arg7 : Memref sig .tc .vmem S4096x128 .i32) (harg7 : arg7.IsWhole) (arg11 : Memref sig .tc .vmem S4096x128 .i32) (harg11 : arg11.IsWhole) (v4 : Elt F .i32) : Prog (TpuEff nD τ sig (Elt F) Λ₀ .tc) PUnit := do
  if k0_h5 : k0_cond5 v4 = 1#1 then do
    let ⟨v39, v42, v45, v48, v51, v54, v57, v60, v61, v62, v63, v64⟩ : Σ' (v39 : IVec S256x128 32) (v42 : IVec S256x128 32) (v45 : IVec S256x128 32) (v48 : IVec S256x128 32) (v51 : IVec S256x128 32) (v54 : IVec S256x128 32) (v57 : IVec S256x128 32) (v60 : IVec S256x128 32) (v61 : FVec F S256x128 .f32) (v62 : FVec F S256x128 .f32) (v63 : FVec F S256x128 .f32), FVec F S256x128 .f32 ← k0_part2 i tbE (Memref.isWhole_whole _) tbR (Memref.isWhole_whole _) tbV (Memref.isWhole_whole _) tbF (Memref.isWhole_whole _) tbS (Memref.isWhole_whole _) tbA (Memref.isWhole_whole _) arg7 harg7 hbG (Memref.isWhole_whole _) hbU (Memref.isWhole_whole _) hbD (Memref.isWhole_whole _) arg11 harg11 scG (Memref.isWhole_whole _) scU (Memref.isWhole_whole _) scD (Memref.isWhole_whole _) wbG (Memref.isWhole_whole _) wbU (Memref.isWhole_whole _) wbD (Memref.isWhole_whole _) xbB (Memref.isWhole_whole _) cc0_scratch7
    let ⟨v68, v69, v70, v71, v72, v73, v74, v75, v76, v104⟩ : Σ' (v68 : FVec F S256x128 .f32) (v69 : FVec F S256x128 .f32) (v70 : FVec F S256x128 .f32) (v71 : FVec F S256x128 .f32) (v72 : FVec F S256x128 .f32) (v73 : FVec F S256x128 .f32) (v74 : FVec F S256x128 .f32) (v75 : FVec F S256x128 .f32) (v76 : FVec F S256x128 .f32), FVec F S256x128 .bf16 ← k0_part3 i tbE (Memref.isWhole_whole _) tbR (Memref.isWhole_whole _) tbV (Memref.isWhole_whole _) tbF (Memref.isWhole_whole _) tbS (Memref.isWhole_whole _) tbA (Memref.isWhole_whole _) arg7 harg7 hbG (Memref.isWhole_whole _) hbU (Memref.isWhole_whole _) hbD (Memref.isWhole_whole _) arg11 harg11 scG (Memref.isWhole_whole _) scU (Memref.isWhole_whole _) scD (Memref.isWhole_whole _) wbG (Memref.isWhole_whole _) wbU (Memref.isWhole_whole _) wbD (Memref.isWhole_whole _) xbB (Memref.isWhole_whole _) cc0_scratch7 v39 v42 v45 v48 v51 v54 v57 v60 v61 v62 v63 v64
    let v137 : FVec F S256x128 .bf16 ← k0_part4 i tbE (Memref.isWhole_whole _) tbR (Memref.isWhole_whole _) tbV (Memref.isWhole_whole _) tbF (Memref.isWhole_whole _) tbS (Memref.isWhole_whole _) tbA (Memref.isWhole_whole _) arg7 harg7 hbG (Memref.isWhole_whole _) hbU (Memref.isWhole_whole _) hbD (Memref.isWhole_whole _) arg11 harg11 scG (Memref.isWhole_whole _) scU (Memref.isWhole_whole _) scD (Memref.isWhole_whole _) wbG (Memref.isWhole_whole _) wbU (Memref.isWhole_whole _) wbD (Memref.isWhole_whole _) xbB (Memref.isWhole_whole _) cc0_scratch7 v68 v69 v70 v71 v72 v73 v74 v75 v76 v104
    let ⟨v151, v169⟩ : Σ' (v151 : FVec F S256x2048 .f32), IVec S256x128 32 ← k0_part5 i tbE (Memref.isWhole_whole _) tbR (Memref.isWhole_whole _) tbV (Memref.isWhole_whole _) tbF (Memref.isWhole_whole _) tbS (Memref.isWhole_whole _) tbA (Memref.isWhole_whole _) arg7 harg7 hbG (Memref.isWhole_whole _) hbU (Memref.isWhole_whole _) hbD (Memref.isWhole_whole _) arg11 harg11 scG (Memref.isWhole_whole _) scU (Memref.isWhole_whole _) scD (Memref.isWhole_whole _) wbG (Memref.isWhole_whole _) wbU (Memref.isWhole_whole _) wbD (Memref.isWhole_whole _) xbB (Memref.isWhole_whole _) cc0_scratch7 v137
    let c0_i32_79 : BitVec 32 := 0#32
    let v170 : Memref sig .tc .vmem S2048x128 .i32 := arg11.slice (Rect.unit (s := S4096x128) ![0, 0] S2048x128.size inb_S4096x128_S2048x128_0_0) (fun _ => rfl)
    let c3_80 : Index := 3#32
    let c0_81 : Index := 0#32
    let v171 : Vec F S256x128 .i32 ← Prog.lift (.load v170 (⟨![3, 0], S256x128.size, ![8, 1], inb_S2048x128_S256x128_3_0_s_8_1⟩ : LoadRect S2048x128) (View.loadsAt_vmem h_S256x128))
    Prog.lift (.store v170 ⟨(⟨![3, 0], S256x128.size, ![8, 1], inb_S2048x128_S256x128_3_0_s_8_1⟩ : LoadRect S2048x128), spos_8_1⟩ v169 Finset.univ (View.stores_vmem_bits_univ h_S256x128 rfl) (.inl rfl))
    have v172 : FVec F S256x128 .f32 := extractStridedSlice S256x128 ![0, 512] v151 slices_S256x2048_o0_512_S256x128
    have v173 : FVec F S256x128 .f32 := extractStridedSlice S256x128 ![0, 1536] v151 slices_S256x2048_o0_1536_S256x128
    have v174 : IVec S256x128 32 := packElementwise v172 v173
    let c0_i32_82 : BitVec 32 := 0#32
    let c0_i32_83 : BitVec 32 := 0#32
    let v175 : Memref sig .tc .vmem S2048x128 .i32 := arg11.slice (Rect.unit (s := S4096x128) ![0, 0] S2048x128.size inb_S4096x128_S2048x128_0_0) (fun _ => rfl)
    let c4_84 : Index := 4#32
    let c0_85 : Index := 0#32
    let v176 : Vec F S256x128 .i32 ← Prog.lift (.load v175 (⟨![4, 0], S256x128.size, ![8, 1], inb_S2048x128_S256x128_4_0_s_8_1⟩ : LoadRect S2048x128) (View.loadsAt_vmem h_S256x128))
    Prog.lift (.store v175 ⟨(⟨![4, 0], S256x128.size, ![8, 1], inb_S2048x128_S256x128_4_0_s_8_1⟩ : LoadRect S2048x128), spos_8_1⟩ v174 Finset.univ (View.stores_vmem_bits_univ h_S256x128 rfl) (.inl rfl))
    have v177 : FVec F S256x128 .f32 := extractStridedSlice S256x128 ![0, 640] v151 slices_S256x2048_o0_640_S256x128
    have v178 : FVec F S256x128 .f32 := extractStridedSlice S256x128 ![0, 1664] v151 slices_S256x2048_o0_1664_S256x128
    have v179 : IVec S256x128 32 := packElementwise v177 v178
    let c0_i32_86 : BitVec 32 := 0#32
    let c0_i32_87 : BitVec 32 := 0#32
    let v180 : Memref sig .tc .vmem S2048x128 .i32 := arg11.slice (Rect.unit (s := S4096x128) ![0, 0] S2048x128.size inb_S4096x128_S2048x128_0_0) (fun _ => rfl)
    let c5_88 : Index := 5#32
    let c0_89 : Index := 0#32
    let v181 : Vec F S256x128 .i32 ← Prog.lift (.load v180 (⟨![5, 0], S256x128.size, ![8, 1], inb_S2048x128_S256x128_5_0_s_8_1⟩ : LoadRect S2048x128) (View.loadsAt_vmem h_S256x128))
    Prog.lift (.store v180 ⟨(⟨![5, 0], S256x128.size, ![8, 1], inb_S2048x128_S256x128_5_0_s_8_1⟩ : LoadRect S2048x128), spos_8_1⟩ v179 Finset.univ (View.stores_vmem_bits_univ h_S256x128 rfl) (.inl rfl))
    have v182 : FVec F S256x128 .f32 := extractStridedSlice S256x128 ![0, 768] v151 slices_S256x2048_o0_768_S256x128
    have v183 : FVec F S256x128 .f32 := extractStridedSlice S256x128 ![0, 1792] v151 slices_S256x2048_o0_1792_S256x128
    have v184 : IVec S256x128 32 := packElementwise v182 v183
    let c0_i32_90 : BitVec 32 := 0#32
    let c0_i32_91 : BitVec 32 := 0#32
    let v185 : Memref sig .tc .vmem S2048x128 .i32 := arg11.slice (Rect.unit (s := S4096x128) ![0, 0] S2048x128.size inb_S4096x128_S2048x128_0_0) (fun _ => rfl)
    let c6_92 : Index := 6#32
    let c0_93 : Index := 0#32
    let v186 : Vec F S256x128 .i32 ← Prog.lift (.load v185 (⟨![6, 0], S256x128.size, ![8, 1], inb_S2048x128_S256x128_6_0_s_8_1⟩ : LoadRect S2048x128) (View.loadsAt_vmem h_S256x128))
    Prog.lift (.store v185 ⟨(⟨![6, 0], S256x128.size, ![8, 1], inb_S2048x128_S256x128_6_0_s_8_1⟩ : LoadRect S2048x128), spos_8_1⟩ v184 Finset.univ (View.stores_vmem_bits_univ h_S256x128 rfl) (.inl rfl))
    have v187 : FVec F S256x128 .f32 := extractStridedSlice S256x128 ![0, 896] v151 slices_S256x2048_o0_896_S256x128
    have v188 : FVec F S256x128 .f32 := extractStridedSlice S256x128 ![0, 1920] v151 slices_S256x2048_o0_1920_S256x128
    have v189 : IVec S256x128 32 := packElementwise v187 v188
    let c0_i32_94 : BitVec 32 := 0#32
    let c0_i32_95 : BitVec 32 := 0#32
    let v190 : Memref sig .tc .vmem S2048x128 .i32 := arg11.slice (Rect.unit (s := S4096x128) ![0, 0] S2048x128.size inb_S4096x128_S2048x128_0_0) (fun _ => rfl)
    let c7_96 : Index := 7#32
    let c0_97 : Index := 0#32
    let v191 : Vec F S256x128 .i32 ← Prog.lift (.load v190 (⟨![7, 0], S256x128.size, ![8, 1], inb_S2048x128_S256x128_7_0_s_8_1⟩ : LoadRect S2048x128) (View.loadsAt_vmem h_S256x128))
    Prog.lift (.store v190 ⟨(⟨![7, 0], S256x128.size, ![8, 1], inb_S2048x128_S256x128_7_0_s_8_1⟩ : LoadRect S2048x128), spos_8_1⟩ v189 Finset.univ (View.stores_vmem_bits_univ h_S256x128 rfl) (.inl rfl))
    pure ⟨⟩
  else do
    pure ⟨⟩

/-- The zeros of the first block of a pair, where it holds no row. -/
noncomputable def segZ0 (i : grid0.Coords) (arg7 : Memref sig .tc .vmem S4096x128 .i32) (harg7 : arg7.IsWhole) (arg11 : Memref sig .tc .vmem S4096x128 .i32) (harg11 : arg11.IsWhole) (v4 : Elt F .i32) : Prog (TpuEff nD τ sig (Elt F) Λ₀ .tc) PUnit := do
  if k0_h6 : k0_cond6 v4 = 1#1 then do
    let ⟨v37, v65⟩ : Σ' (v37 : FVec F S256x2048 .f32), IVec S256x128 32 ← k0_part6 i tbE (Memref.isWhole_whole _) tbR (Memref.isWhole_whole _) tbV (Memref.isWhole_whole _) tbF (Memref.isWhole_whole _) tbS (Memref.isWhole_whole _) tbA (Memref.isWhole_whole _) arg7 harg7 hbG (Memref.isWhole_whole _) hbU (Memref.isWhole_whole _) hbD (Memref.isWhole_whole _) arg11 harg11 scG (Memref.isWhole_whole _) scU (Memref.isWhole_whole _) scD (Memref.isWhole_whole _) wbG (Memref.isWhole_whole _) wbU (Memref.isWhole_whole _) wbD (Memref.isWhole_whole _) xbB (Memref.isWhole_whole _) cc0_scratch7
    let v66 : Memref sig .tc .vmem S2048x128 .i32 := arg11.slice (Rect.unit (s := S4096x128) ![0, 0] S2048x128.size inb_S4096x128_S2048x128_0_0) (fun _ => rfl)
    let v67 : Vec F S256x128 .i32 ← Prog.lift (.load v66 (⟨![5, 0], S256x128.size, ![8, 1], inb_S2048x128_S256x128_5_0_s_8_1⟩ : LoadRect S2048x128) (View.loadsAt_vmem h_S256x128))
    Prog.lift (.store v66 ⟨(⟨![5, 0], S256x128.size, ![8, 1], inb_S2048x128_S256x128_5_0_s_8_1⟩ : LoadRect S2048x128), spos_8_1⟩ v65 Finset.univ (View.stores_vmem_bits_univ h_S256x128 rfl) (.inl rfl))
    have v68 : FVec F S256x128 .f32 := extractStridedSlice S256x128 ![0, 768] v37 slices_S256x2048_o0_768_S256x128
    have v69 : FVec F S256x128 .f32 := extractStridedSlice S256x128 ![0, 1792] v37 slices_S256x2048_o0_1792_S256x128
    have v70 : IVec S256x128 32 := packElementwise v68 v69
    let c0_i32_33 : BitVec 32 := 0#32
    let c0_i32_34 : BitVec 32 := 0#32
    let v71 : Memref sig .tc .vmem S2048x128 .i32 := arg11.slice (Rect.unit (s := S4096x128) ![0, 0] S2048x128.size inb_S4096x128_S2048x128_0_0) (fun _ => rfl)
    let c6 : Index := 6#32
    let c0_35 : Index := 0#32
    let v72 : Vec F S256x128 .i32 ← Prog.lift (.load v71 (⟨![6, 0], S256x128.size, ![8, 1], inb_S2048x128_S256x128_6_0_s_8_1⟩ : LoadRect S2048x128) (View.loadsAt_vmem h_S256x128))
    Prog.lift (.store v71 ⟨(⟨![6, 0], S256x128.size, ![8, 1], inb_S2048x128_S256x128_6_0_s_8_1⟩ : LoadRect S2048x128), spos_8_1⟩ v70 Finset.univ (View.stores_vmem_bits_univ h_S256x128 rfl) (.inl rfl))
    have v73 : FVec F S256x128 .f32 := extractStridedSlice S256x128 ![0, 896] v37 slices_S256x2048_o0_896_S256x128
    have v74 : FVec F S256x128 .f32 := extractStridedSlice S256x128 ![0, 1920] v37 slices_S256x2048_o0_1920_S256x128
    have v75 : IVec S256x128 32 := packElementwise v73 v74
    let c0_i32_36 : BitVec 32 := 0#32
    let c0_i32_37 : BitVec 32 := 0#32
    let v76 : Memref sig .tc .vmem S2048x128 .i32 := arg11.slice (Rect.unit (s := S4096x128) ![0, 0] S2048x128.size inb_S4096x128_S2048x128_0_0) (fun _ => rfl)
    let c7 : Index := 7#32
    let c0_38 : Index := 0#32
    let v77 : Vec F S256x128 .i32 ← Prog.lift (.load v76 (⟨![7, 0], S256x128.size, ![8, 1], inb_S2048x128_S256x128_7_0_s_8_1⟩ : LoadRect S2048x128) (View.loadsAt_vmem h_S256x128))
    Prog.lift (.store v76 ⟨(⟨![7, 0], S256x128.size, ![8, 1], inb_S2048x128_S256x128_7_0_s_8_1⟩ : LoadRect S2048x128), spos_8_1⟩ v75 Finset.univ (View.stores_vmem_bits_univ h_S256x128 rfl) (.inl rfl))
    pure ⟨⟩
  else do
    pure ⟨⟩

/-- The weights of the second block of a pair, where it is its expert's first block. -/
noncomputable def segW1 (i : grid0.Coords) (arg7 : Memref sig .tc .vmem S4096x128 .i32) (harg7 : arg7.IsWhole) (arg11 : Memref sig .tc .vmem S4096x128 .i32) (harg11 : arg11.IsWhole) (v21 : BitVec 32) (v25 : Elt F .i32) (v27 : Elt F .i32) (k0_hw6 : k0_chk6 v25 v27) : Prog (TpuEff nD τ sig (Elt F) Λ₀ .tc) PUnit := do
  if k0_h7 : k0_cond7 v27 = 1#1 then do
    let v69 : FVec F S2048x512 .bf16 ← k0_part7 i tbE (Memref.isWhole_whole _) tbR (Memref.isWhole_whole _) tbV (Memref.isWhole_whole _) tbF (Memref.isWhole_whole _) tbS (Memref.isWhole_whole _) tbA (Memref.isWhole_whole _) arg7 harg7 hbG (Memref.isWhole_whole _) hbU (Memref.isWhole_whole _) hbD (Memref.isWhole_whole _) arg11 harg11 scG (Memref.isWhole_whole _) scU (Memref.isWhole_whole _) scD (Memref.isWhole_whole _) wbG (Memref.isWhole_whole _) wbU (Memref.isWhole_whole _) wbD (Memref.isWhole_whole _) xbB (Memref.isWhole_whole _) cc0_scratch7 v21 v25 v27 k0_hw6 k0_h7
    let v70 : Vec F S2048x512 .bf16 ← Prog.lift (.load wbG (Rect.unit (s := S2048x512) ![0, 0] S2048x512.size inb_S2048x512_S2048x512_0_0).toLoadRect (View.loadsAt_vmem h_S2048x512))
    have v71 : FVec F S2048x512 .bf16 := shapeCast S2048x512 v70 shapeCasts_S2048x512_S2048x512
    have v72 : FVec F S2048x512 .bf16 := shapeCast S2048x512 v69 shapeCasts_S2048x512_S2048x512
    Prog.lift (.store wbG (Rect.unit (s := S2048x512) ![0, 0] S2048x512.size inb_S2048x512_S2048x512_0_0) v72 Finset.univ (View.stores_vmem h_S2048x512 ((Memref.isWhole_whole _).storeExact_slice rfl _ packedbf16_S2048x512_S2048x512_0_0) (fun _ => rfl)) (.inl rfl))
    let v73 : Index := Scalar.indexCast v25
    let c0_35 : Index := 0#32
    let c0_36 : Index := 0#32
    let v74 : Vec F S1x2048x512 .f32 ← Prog.lift (.load scU (Rect.unit (s := S2x2048x512) (k0_off40 v25) S1x2048x512.size (k0_off40_inb v25 v27 k0_hw6 k0_h7)).toLoadRect (View.loadsAt_vmem h_S1x2048x512))
    have v75 : FVec F S2048x512 .f32 := shapeCast S2048x512 v74 shapeCasts_S1x2048x512_S2048x512
    have v76 : FVec F S2048x512 .bf16 := truncf .bf16 v75 bitsLt_bf16_f32
    let c0_37 : Index := 0#32
    let c0_38 : Index := 0#32
    let v77 : Vec F S2048x512 .bf16 ← Prog.lift (.load wbU (Rect.unit (s := S2048x512) ![0, 0] S2048x512.size inb_S2048x512_S2048x512_0_0).toLoadRect (View.loadsAt_vmem h_S2048x512))
    have v78 : FVec F S2048x512 .bf16 := shapeCast S2048x512 v77 shapeCasts_S2048x512_S2048x512
    have v79 : FVec F S2048x512 .bf16 := shapeCast S2048x512 v76 shapeCasts_S2048x512_S2048x512
    Prog.lift (.store wbU (Rect.unit (s := S2048x512) ![0, 0] S2048x512.size inb_S2048x512_S2048x512_0_0) v79 Finset.univ (View.stores_vmem h_S2048x512 ((Memref.isWhole_whole _).storeExact_slice rfl _ packedbf16_S2048x512_S2048x512_0_0) (fun _ => rfl)) (.inl rfl))
    let v80 : Index := Scalar.indexCast v25
    let c0_39 : Index := 0#32
    let c0_40 : Index := 0#32
    let v81 : Vec F S1x512x2048 .f32 ← Prog.lift (.load scD (Rect.unit (s := S2x512x2048) (k0_off41 v25) S1x512x2048.size (k0_off41_inb v25 v27 k0_hw6 k0_h7)).toLoadRect (View.loadsAt_vmem h_S1x512x2048))
    have v82 : FVec F S512x2048 .f32 := shapeCast S512x2048 v81 shapeCasts_S1x512x2048_S512x2048
    have v83 : FVec F S512x2048 .bf16 := truncf .bf16 v82 bitsLt_bf16_f32
    let c0_41 : Index := 0#32
    let c0_42 : Index := 0#32
    let v84 : Vec F S512x2048 .bf16 ← Prog.lift (.load wbD (Rect.unit (s := S512x2048) ![0, 0] S512x2048.size inb_S512x2048_S512x2048_0_0).toLoadRect (View.loadsAt_vmem h_S512x2048))
    have v85 : FVec F S512x2048 .bf16 := shapeCast S512x2048 v84 shapeCasts_S512x2048_S512x2048
    have v86 : FVec F S512x2048 .bf16 := shapeCast S512x2048 v83 shapeCasts_S512x2048_S512x2048
    Prog.lift (.store wbD (Rect.unit (s := S512x2048) ![0, 0] S512x2048.size inb_S512x2048_S512x2048_0_0) v86 Finset.univ (View.stores_vmem h_S512x2048 ((Memref.isWhole_whole _).storeExact_slice rfl _ packedbf16_S512x2048_S512x2048_0_0) (fun _ => rfl)) (.inl rfl))
    pure ⟨⟩
  else do
    pure ⟨⟩

/-- The expert of the second block of a pair on its rows. -/
noncomputable def segC1 (i : grid0.Coords) (arg7 : Memref sig .tc .vmem S4096x128 .i32) (harg7 : arg7.IsWhole) (arg11 : Memref sig .tc .vmem S4096x128 .i32) (harg11 : arg11.IsWhole) (v23 : Elt F .i32) : Prog (TpuEff nD τ sig (Elt F) Λ₀ .tc) PUnit := do
  if k0_h9 : k0_cond9 v23 = 1#1 then do
    let ⟨v39, v42, v45, v48, v51, v54, v57, v60, v61, v62, v63, v64⟩ : Σ' (v39 : IVec S256x128 32) (v42 : IVec S256x128 32) (v45 : IVec S256x128 32) (v48 : IVec S256x128 32) (v51 : IVec S256x128 32) (v54 : IVec S256x128 32) (v57 : IVec S256x128 32) (v60 : IVec S256x128 32) (v61 : FVec F S256x128 .f32) (v62 : FVec F S256x128 .f32) (v63 : FVec F S256x128 .f32), FVec F S256x128 .f32 ← k0_part8 i tbE (Memref.isWhole_whole _) tbR (Memref.isWhole_whole _) tbV (Memref.isWhole_whole _) tbF (Memref.isWhole_whole _) tbS (Memref.isWhole_whole _) tbA (Memref.isWhole_whole _) arg7 harg7 hbG (Memref.isWhole_whole _) hbU (Memref.isWhole_whole _) hbD (Memref.isWhole_whole _) arg11 harg11 scG (Memref.isWhole_whole _) scU (Memref.isWhole_whole _) scD (Memref.isWhole_whole _) wbG (Memref.isWhole_whole _) wbU (Memref.isWhole_whole _) wbD (Memref.isWhole_whole _) xbB (Memref.isWhole_whole _) cc0_scratch7
    let ⟨v68, v69, v70, v71, v72, v73, v74, v75, v76, v104⟩ : Σ' (v68 : FVec F S256x128 .f32) (v69 : FVec F S256x128 .f32) (v70 : FVec F S256x128 .f32) (v71 : FVec F S256x128 .f32) (v72 : FVec F S256x128 .f32) (v73 : FVec F S256x128 .f32) (v74 : FVec F S256x128 .f32) (v75 : FVec F S256x128 .f32) (v76 : FVec F S256x128 .f32), FVec F S256x128 .bf16 ← k0_part9 i tbE (Memref.isWhole_whole _) tbR (Memref.isWhole_whole _) tbV (Memref.isWhole_whole _) tbF (Memref.isWhole_whole _) tbS (Memref.isWhole_whole _) tbA (Memref.isWhole_whole _) arg7 harg7 hbG (Memref.isWhole_whole _) hbU (Memref.isWhole_whole _) hbD (Memref.isWhole_whole _) arg11 harg11 scG (Memref.isWhole_whole _) scU (Memref.isWhole_whole _) scD (Memref.isWhole_whole _) wbG (Memref.isWhole_whole _) wbU (Memref.isWhole_whole _) wbD (Memref.isWhole_whole _) xbB (Memref.isWhole_whole _) cc0_scratch7 v39 v42 v45 v48 v51 v54 v57 v60 v61 v62 v63 v64
    let v137 : FVec F S256x128 .bf16 ← k0_part10 i tbE (Memref.isWhole_whole _) tbR (Memref.isWhole_whole _) tbV (Memref.isWhole_whole _) tbF (Memref.isWhole_whole _) tbS (Memref.isWhole_whole _) tbA (Memref.isWhole_whole _) arg7 harg7 hbG (Memref.isWhole_whole _) hbU (Memref.isWhole_whole _) hbD (Memref.isWhole_whole _) arg11 harg11 scG (Memref.isWhole_whole _) scU (Memref.isWhole_whole _) scD (Memref.isWhole_whole _) wbG (Memref.isWhole_whole _) wbU (Memref.isWhole_whole _) wbD (Memref.isWhole_whole _) xbB (Memref.isWhole_whole _) cc0_scratch7 v68 v69 v70 v71 v72 v73 v74 v75 v76 v104
    let ⟨v151, v169⟩ : Σ' (v151 : FVec F S256x2048 .f32), IVec S256x128 32 ← k0_part11 i tbE (Memref.isWhole_whole _) tbR (Memref.isWhole_whole _) tbV (Memref.isWhole_whole _) tbF (Memref.isWhole_whole _) tbS (Memref.isWhole_whole _) tbA (Memref.isWhole_whole _) arg7 harg7 hbG (Memref.isWhole_whole _) hbU (Memref.isWhole_whole _) hbD (Memref.isWhole_whole _) arg11 harg11 scG (Memref.isWhole_whole _) scU (Memref.isWhole_whole _) scD (Memref.isWhole_whole _) wbG (Memref.isWhole_whole _) wbU (Memref.isWhole_whole _) wbD (Memref.isWhole_whole _) xbB (Memref.isWhole_whole _) cc0_scratch7 v137
    let c0_i32_78 : BitVec 32 := 0#32
    let v170 : Memref sig .tc .vmem S2048x128 .i32 := arg11.slice (Rect.unit (s := S4096x128) ![2048, 0] S2048x128.size inb_S4096x128_S2048x128_2048_0) (fun _ => rfl)
    let c3_79 : Index := 3#32
    let c0_80 : Index := 0#32
    let v171 : Vec F S256x128 .i32 ← Prog.lift (.load v170 (⟨![3, 0], S256x128.size, ![8, 1], inb_S2048x128_S256x128_3_0_s_8_1⟩ : LoadRect S2048x128) (View.loadsAt_vmem h_S256x128))
    Prog.lift (.store v170 ⟨(⟨![3, 0], S256x128.size, ![8, 1], inb_S2048x128_S256x128_3_0_s_8_1⟩ : LoadRect S2048x128), spos_8_1⟩ v169 Finset.univ (View.stores_vmem_bits_univ h_S256x128 rfl) (.inl rfl))
    have v172 : FVec F S256x128 .f32 := extractStridedSlice S256x128 ![0, 512] v151 slices_S256x2048_o0_512_S256x128
    have v173 : FVec F S256x128 .f32 := extractStridedSlice S256x128 ![0, 1536] v151 slices_S256x2048_o0_1536_S256x128
    have v174 : IVec S256x128 32 := packElementwise v172 v173
    let c2048_i32_81 : BitVec 32 := 2048#32
    let c0_i32_82 : BitVec 32 := 0#32
    let v175 : Memref sig .tc .vmem S2048x128 .i32 := arg11.slice (Rect.unit (s := S4096x128) ![2048, 0] S2048x128.size inb_S4096x128_S2048x128_2048_0) (fun _ => rfl)
    let c4_83 : Index := 4#32
    let c0_84 : Index := 0#32
    let v176 : Vec F S256x128 .i32 ← Prog.lift (.load v175 (⟨![4, 0], S256x128.size, ![8, 1], inb_S2048x128_S256x128_4_0_s_8_1⟩ : LoadRect S2048x128) (View.loadsAt_vmem h_S256x128))
    Prog.lift (.store v175 ⟨(⟨![4, 0], S256x128.size, ![8, 1], inb_S2048x128_S256x128_4_0_s_8_1⟩ : LoadRect S2048x128), spos_8_1⟩ v174 Finset.univ (View.stores_vmem_bits_univ h_S256x128 rfl) (.inl rfl))
    have v177 : FVec F S256x128 .f32 := extractStridedSlice S256x128 ![0, 640] v151 slices_S256x2048_o0_640_S256x128
    have v178 : FVec F S256x128 .f32 := extractStridedSlice S256x128 ![0, 1664] v151 slices_S256x2048_o0_1664_S256x128
    have v179 : IVec S256x128 32 := packElementwise v177 v178
    let c2048_i32_85 : BitVec 32 := 2048#32
    let c0_i32_86 : BitVec 32 := 0#32
    let v180 : Memref sig .tc .vmem S2048x128 .i32 := arg11.slice (Rect.unit (s := S4096x128) ![2048, 0] S2048x128.size inb_S4096x128_S2048x128_2048_0) (fun _ => rfl)
    let c5_87 : Index := 5#32
    let c0_88 : Index := 0#32
    let v181 : Vec F S256x128 .i32 ← Prog.lift (.load v180 (⟨![5, 0], S256x128.size, ![8, 1], inb_S2048x128_S256x128_5_0_s_8_1⟩ : LoadRect S2048x128) (View.loadsAt_vmem h_S256x128))
    Prog.lift (.store v180 ⟨(⟨![5, 0], S256x128.size, ![8, 1], inb_S2048x128_S256x128_5_0_s_8_1⟩ : LoadRect S2048x128), spos_8_1⟩ v179 Finset.univ (View.stores_vmem_bits_univ h_S256x128 rfl) (.inl rfl))
    have v182 : FVec F S256x128 .f32 := extractStridedSlice S256x128 ![0, 768] v151 slices_S256x2048_o0_768_S256x128
    have v183 : FVec F S256x128 .f32 := extractStridedSlice S256x128 ![0, 1792] v151 slices_S256x2048_o0_1792_S256x128
    have v184 : IVec S256x128 32 := packElementwise v182 v183
    let c2048_i32_89 : BitVec 32 := 2048#32
    let c0_i32_90 : BitVec 32 := 0#32
    let v185 : Memref sig .tc .vmem S2048x128 .i32 := arg11.slice (Rect.unit (s := S4096x128) ![2048, 0] S2048x128.size inb_S4096x128_S2048x128_2048_0) (fun _ => rfl)
    let c6_91 : Index := 6#32
    let c0_92 : Index := 0#32
    let v186 : Vec F S256x128 .i32 ← Prog.lift (.load v185 (⟨![6, 0], S256x128.size, ![8, 1], inb_S2048x128_S256x128_6_0_s_8_1⟩ : LoadRect S2048x128) (View.loadsAt_vmem h_S256x128))
    Prog.lift (.store v185 ⟨(⟨![6, 0], S256x128.size, ![8, 1], inb_S2048x128_S256x128_6_0_s_8_1⟩ : LoadRect S2048x128), spos_8_1⟩ v184 Finset.univ (View.stores_vmem_bits_univ h_S256x128 rfl) (.inl rfl))
    have v187 : FVec F S256x128 .f32 := extractStridedSlice S256x128 ![0, 896] v151 slices_S256x2048_o0_896_S256x128
    have v188 : FVec F S256x128 .f32 := extractStridedSlice S256x128 ![0, 1920] v151 slices_S256x2048_o0_1920_S256x128
    have v189 : IVec S256x128 32 := packElementwise v187 v188
    let c2048_i32_93 : BitVec 32 := 2048#32
    let c0_i32_94 : BitVec 32 := 0#32
    let v190 : Memref sig .tc .vmem S2048x128 .i32 := arg11.slice (Rect.unit (s := S4096x128) ![2048, 0] S2048x128.size inb_S4096x128_S2048x128_2048_0) (fun _ => rfl)
    let c7_95 : Index := 7#32
    let c0_96 : Index := 0#32
    let v191 : Vec F S256x128 .i32 ← Prog.lift (.load v190 (⟨![7, 0], S256x128.size, ![8, 1], inb_S2048x128_S256x128_7_0_s_8_1⟩ : LoadRect S2048x128) (View.loadsAt_vmem h_S256x128))
    Prog.lift (.store v190 ⟨(⟨![7, 0], S256x128.size, ![8, 1], inb_S2048x128_S256x128_7_0_s_8_1⟩ : LoadRect S2048x128), spos_8_1⟩ v189 Finset.univ (View.stores_vmem_bits_univ h_S256x128 rfl) (.inl rfl))
    pure ⟨⟩
  else do
    pure ⟨⟩

/-- The zeros of the second block of a pair, where it holds no row. -/
noncomputable def segZ1 (i : grid0.Coords) (arg7 : Memref sig .tc .vmem S4096x128 .i32) (harg7 : arg7.IsWhole) (arg11 : Memref sig .tc .vmem S4096x128 .i32) (harg11 : arg11.IsWhole) (v23 : Elt F .i32) : Prog (TpuEff nD τ sig (Elt F) Λ₀ .tc) PUnit := do
  if k0_h10 : k0_cond10 v23 = 1#1 then do
    let ⟨v37, v65⟩ : Σ' (v37 : FVec F S256x2048 .f32), IVec S256x128 32 ← k0_part12 i tbE (Memref.isWhole_whole _) tbR (Memref.isWhole_whole _) tbV (Memref.isWhole_whole _) tbF (Memref.isWhole_whole _) tbS (Memref.isWhole_whole _) tbA (Memref.isWhole_whole _) arg7 harg7 hbG (Memref.isWhole_whole _) hbU (Memref.isWhole_whole _) hbD (Memref.isWhole_whole _) arg11 harg11 scG (Memref.isWhole_whole _) scU (Memref.isWhole_whole _) scD (Memref.isWhole_whole _) wbG (Memref.isWhole_whole _) wbU (Memref.isWhole_whole _) wbD (Memref.isWhole_whole _) xbB (Memref.isWhole_whole _) cc0_scratch7
    let v66 : Memref sig .tc .vmem S2048x128 .i32 := arg11.slice (Rect.unit (s := S4096x128) ![2048, 0] S2048x128.size inb_S4096x128_S2048x128_2048_0) (fun _ => rfl)
    let v67 : Vec F S256x128 .i32 ← Prog.lift (.load v66 (⟨![5, 0], S256x128.size, ![8, 1], inb_S2048x128_S256x128_5_0_s_8_1⟩ : LoadRect S2048x128) (View.loadsAt_vmem h_S256x128))
    Prog.lift (.store v66 ⟨(⟨![5, 0], S256x128.size, ![8, 1], inb_S2048x128_S256x128_5_0_s_8_1⟩ : LoadRect S2048x128), spos_8_1⟩ v65 Finset.univ (View.stores_vmem_bits_univ h_S256x128 rfl) (.inl rfl))
    have v68 : FVec F S256x128 .f32 := extractStridedSlice S256x128 ![0, 768] v37 slices_S256x2048_o0_768_S256x128
    have v69 : FVec F S256x128 .f32 := extractStridedSlice S256x128 ![0, 1792] v37 slices_S256x2048_o0_1792_S256x128
    have v70 : IVec S256x128 32 := packElementwise v68 v69
    let c2048_i32_32 : BitVec 32 := 2048#32
    let c0_i32_33 : BitVec 32 := 0#32
    let v71 : Memref sig .tc .vmem S2048x128 .i32 := arg11.slice (Rect.unit (s := S4096x128) ![2048, 0] S2048x128.size inb_S4096x128_S2048x128_2048_0) (fun _ => rfl)
    let c6 : Index := 6#32
    let c0_34 : Index := 0#32
    let v72 : Vec F S256x128 .i32 ← Prog.lift (.load v71 (⟨![6, 0], S256x128.size, ![8, 1], inb_S2048x128_S256x128_6_0_s_8_1⟩ : LoadRect S2048x128) (View.loadsAt_vmem h_S256x128))
    Prog.lift (.store v71 ⟨(⟨![6, 0], S256x128.size, ![8, 1], inb_S2048x128_S256x128_6_0_s_8_1⟩ : LoadRect S2048x128), spos_8_1⟩ v70 Finset.univ (View.stores_vmem_bits_univ h_S256x128 rfl) (.inl rfl))
    have v73 : FVec F S256x128 .f32 := extractStridedSlice S256x128 ![0, 896] v37 slices_S256x2048_o0_896_S256x128
    have v74 : FVec F S256x128 .f32 := extractStridedSlice S256x128 ![0, 1920] v37 slices_S256x2048_o0_1920_S256x128
    have v75 : IVec S256x128 32 := packElementwise v73 v74
    let c2048_i32_35 : BitVec 32 := 2048#32
    let c0_i32_36 : BitVec 32 := 0#32
    let v76 : Memref sig .tc .vmem S2048x128 .i32 := arg11.slice (Rect.unit (s := S4096x128) ![2048, 0] S2048x128.size inb_S4096x128_S2048x128_2048_0) (fun _ => rfl)
    let c7 : Index := 7#32
    let c0_37 : Index := 0#32
    let v77 : Vec F S256x128 .i32 ← Prog.lift (.load v76 (⟨![7, 0], S256x128.size, ![8, 1], inb_S2048x128_S256x128_7_0_s_8_1⟩ : LoadRect S2048x128) (View.loadsAt_vmem h_S256x128))
    Prog.lift (.store v76 ⟨(⟨![7, 0], S256x128.size, ![8, 1], inb_S2048x128_S256x128_7_0_s_8_1⟩ : LoadRect S2048x128), spos_8_1⟩ v75 Finset.univ (View.stores_vmem_bits_univ h_S256x128 rfl) (.inl rfl))
    pure ⟨⟩
  else do
    pure ⟨⟩

/-- The body as its regions, one after the other. -/
noncomputable def bodySegs (i : grid0.Coords) (arg7 : Memref sig .tc .vmem S4096x128 .i32) (harg7 : arg7.IsWhole) (arg11 : Memref sig .tc .vmem S4096x128 .i32) (harg11 : arg11.IsWhole) : Prog (TpuEff nD τ sig (Elt F) Λ₀ .tc) PUnit := do
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let v2 : BitVec 1 := Scalar.cmpi .eq arg0 c0_i32_0
  let v3 : Index := Scalar.indexCast v1
  let v4 : Elt F .i32 ← smemLoad tbV (Rect.unit (s := S192) (k0_off2 i) S1.size (k0_off2_inb i)) numel1_S1 rfl
  let v5 : Index := Scalar.indexCast v1
  let v6 : Elt F .i32 ← smemLoad tbS (Rect.unit (s := S192) (k0_off2 i) S1.size (k0_off2_inb i)) numel1_S1 rfl
  let v7 : BitVec 32 := Scalar.extui v2
  let c0_i32_1 : BitVec 32 := 0#32
  let v8 : BitVec 1 := Scalar.cmpi .ne v7 c0_i32_1
  segI i arg7 harg7 arg11 harg11 v6
  let v9 : Index := Scalar.indexCast v1
  let v10 : Elt F .i32 ← smemLoad tbF (Rect.unit (s := S192) (k0_off8 i) S1.size (k0_off8_inb i)) numel1_S1 rfl
  have k0_hw3 : k0_chk3 v6 v10 := (← Prog.lift (TpuEff.assume (k0_chk3 v6 v10) (k0_chk3.dec v6 v10))).down
  let c1_i32 : BitVec 32 := 1#32
  let v11 : BitVec 1 := Scalar.cmpi .eq v10 c1_i32
  let v12 : BitVec 32 := Scalar.extui v11
  let c0_i32_2 : BitVec 32 := 0#32
  let v13 : BitVec 1 := Scalar.cmpi .ne v12 c0_i32_2
  segW0 i arg7 harg7 arg11 harg11 v1 v6 v10 k0_hw3
  let c0_i32_3 : BitVec 32 := 0#32
  let v14 : BitVec 1 := Scalar.cmpi .sgt v4 c0_i32_3
  let v15 : BitVec 32 := Scalar.extui v14
  let c0_i32_4 : BitVec 32 := 0#32
  let v16 : BitVec 1 := Scalar.cmpi .ne v15 c0_i32_4
  segC0 i arg7 harg7 arg11 harg11 v4
  let c0_i32_5 : BitVec 32 := 0#32
  let v17 : BitVec 1 := Scalar.cmpi .eq v4 c0_i32_5
  let v18 : BitVec 32 := Scalar.extui v17
  let c0_i32_6 : BitVec 32 := 0#32
  let v19 : BitVec 1 := Scalar.cmpi .ne v18 c0_i32_6
  segZ0 i arg7 harg7 arg11 harg11 v4
  let c2_i32_7 : BitVec 32 := 2#32
  let v20 : BitVec 32 := Scalar.muli arg0 c2_i32_7
  let c1_i32_8 : BitVec 32 := 1#32
  let v21 : BitVec 32 := Scalar.addi v20 c1_i32_8
  let v22 : Index := Scalar.indexCast v21
  let v23 : Elt F .i32 ← smemLoad tbV (Rect.unit (s := S192) (k0_off25 i) S1.size (k0_off25_inb i)) numel1_S1 rfl
  let v24 : Index := Scalar.indexCast v21
  let v25 : Elt F .i32 ← smemLoad tbS (Rect.unit (s := S192) (k0_off25 i) S1.size (k0_off25_inb i)) numel1_S1 rfl
  let v26 : Index := Scalar.indexCast v21
  let v27 : Elt F .i32 ← smemLoad tbF (Rect.unit (s := S192) (k0_off25 i) S1.size (k0_off25_inb i)) numel1_S1 rfl
  have k0_hw6 : k0_chk6 v25 v27 := (← Prog.lift (TpuEff.assume (k0_chk6 v25 v27) (k0_chk6.dec v25 v27))).down
  let c1_i32_9 : BitVec 32 := 1#32
  let v28 : BitVec 1 := Scalar.cmpi .eq v27 c1_i32_9
  let v29 : BitVec 32 := Scalar.extui v28
  let c0_i32_10 : BitVec 32 := 0#32
  let v30 : BitVec 1 := Scalar.cmpi .ne v29 c0_i32_10
  segW1 i arg7 harg7 arg11 harg11 v21 v25 v27 k0_hw6
  let c0_i32_11 : BitVec 32 := 0#32
  let v31 : BitVec 1 := Scalar.cmpi .sgt v23 c0_i32_11
  let v32 : BitVec 32 := Scalar.extui v31
  let c0_i32_12 : BitVec 32 := 0#32
  let v33 : BitVec 1 := Scalar.cmpi .ne v32 c0_i32_12
  segC1 i arg7 harg7 arg11 harg11 v23
  let c0_i32_13 : BitVec 32 := 0#32
  segZ1 i arg7 harg7 arg11 harg11 v23

/-- The body as the pipeline calls it, on its operands. -/
abbrev bodyAt (i : grid0.Coords) (arg7 : Memref sig .tc .vmem S4096x128 .i32) (harg7 : arg7.IsWhole) (arg11 : Memref sig .tc .vmem S4096x128 .i32) (harg11 : arg11.IsWhole) : Prog (TpuEff nD τ sig (Elt F) Λ₀ .tc) PUnit :=
  cc0_experts i tbE (Memref.isWhole_whole _) tbR (Memref.isWhole_whole _) tbV (Memref.isWhole_whole _) tbF (Memref.isWhole_whole _) tbS (Memref.isWhole_whole _) tbA (Memref.isWhole_whole _) arg7 harg7 hbG (Memref.isWhole_whole _) hbU (Memref.isWhole_whole _) hbD (Memref.isWhole_whole _) arg11 harg11 scG (Memref.isWhole_whole _) scU (Memref.isWhole_whole _) scD (Memref.isWhole_whole _) wbG (Memref.isWhole_whole _) wbU (Memref.isWhole_whole _) wbD (Memref.isWhole_whole _) xbB (Memref.isWhole_whole _) cc0_scratch7

/-- A conditional followed by a continuation: the continuation after either way. -/
theorem dite_then {E : Type → Type} {α β : Type} {C : Prop} [Decidable C] (A : C → Prog E α) (B : ¬C → Prog E α) (K : α → Prog E β) :
    ((if h : C then A h else B h) >>= K) = (if h : C then A h >>= K else B h >>= K) := by
  split <;> rfl

theorem bodyAt_eq (i : grid0.Coords) (arg7 : Memref sig .tc .vmem S4096x128 .i32) (harg7 : arg7.IsWhole) (arg11 : Memref sig .tc .vmem S4096x128 .i32) (harg11 : arg11.IsWhole) :
    bodyAt (F := F) i arg7 harg7 arg11 harg11 = bodySegs i arg7 harg7 arg11 harg11 := by
  unfold bodyAt cc0_experts k0_part13 bodySegs segI segW0 segC0 segZ0 segW1 segC1 segZ1
  simp only [dite_then, Prog.bind_assoc, Prog.bind_ret, pure_bind]

end Cert.Experts

end
-- ==== Proof.Slots.lean ====
module

public import proofs.«01_k».proof.Proof.Seg
public import Idealize.ShloMosaic.Lib.Batch
public import Idealize.ShloMosaic.Lib.Pipeline.Frame
public import Idealize.ShloMosaic.Lib.Tactic

/-! The two slots of the weights' scratch: a slot at rest (its counter at zero, its three windows at anything), and a
slot whose three copies are under way, which deliver one expert's weights. -/

@[expose] public section

noncomputable section

namespace Cert.Experts

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-! ## The windows -/

theorem inbS (s : Fin 2) : ∀ a, (![s.val] : Fin 1 → ℕ) a + S1.size a ≤ S2.size a := by
  intro a; fin_cases a; have := s.isLt; show s.val + 1 ≤ 2; omega
theorem inbG (s : Fin 2) : ∀ a, (![s.val, 0, 0] : Fin 3 → ℕ) a + S1x2048x512.size a ≤ S2x2048x512.size a := by
  intro a; have := s.isLt; fin_cases a; · show s.val + 1 ≤ 2; omega
  · show 0 + 2048 ≤ 2048; omega
  · show 0 + 512 ≤ 512; omega
theorem inbD (s : Fin 2) : ∀ a, (![s.val, 0, 0] : Fin 3 → ℕ) a + S1x512x2048.size a ≤ S2x512x2048.size a := by
  intro a; have := s.isLt; fin_cases a; · show s.val + 1 ≤ 2; omega
  · show 0 + 512 ≤ 512; omega
  · show 0 + 2048 ≤ 2048; omega
theorem inbHG (e : Fin 64) : ∀ a, (![e.val, 0, 0] : Fin 3 → ℕ) a + S1x2048x512.size a ≤ S64x2048x512.size a := by
  intro a; have := e.isLt; fin_cases a; · show e.val + 1 ≤ 64; omega
  · show 0 + 2048 ≤ 2048; omega
  · show 0 + 512 ≤ 512; omega
theorem inbHD (e : Fin 64) : ∀ a, (![e.val, 0, 0] : Fin 3 → ℕ) a + S1x512x2048.size a ≤ S64x512x2048.size a := by
  intro a; have := e.isLt; fin_cases a; · show e.val + 1 ≤ 64; omega
  · show 0 + 512 ≤ 512; omega
  · show 0 + 2048 ≤ 2048; omega

/-- The window of a `[2, 2048, 512]` scratch, and of a `[64, 2048, 512]` array, at the offsets `o`. -/
abbrev winG (M : Memref sig .tc .vmem S2x2048x512 .f32) (o : Fin 3 → ℕ) (h : ∀ a, o a + S1x2048x512.size a ≤ S2x2048x512.size a) :
    Memref sig .tc .vmem S2048x512 .f32 :=
  (M.slice (Rect.unit (s := S2x2048x512) o S1x2048x512.size h) (fun _ => rfl)).squeeze S2048x512 squeezes_S1x2048x512_S2048x512
abbrev srcG (M : Memref sig .tc .hbm S64x2048x512 .f32) (o : Fin 3 → ℕ) (h : ∀ a, o a + S1x2048x512.size a ≤ S64x2048x512.size a) :
    Memref sig .tc .hbm S2048x512 .f32 :=
  (M.slice (Rect.unit (s := S64x2048x512) o S1x2048x512.size h) (fun _ => rfl)).squeeze S2048x512 squeezes_S1x2048x512_S2048x512
abbrev winD (M : Memref sig .tc .vmem S2x512x2048 .f32) (o : Fin 3 → ℕ) (h : ∀ a, o a + S1x512x2048.size a ≤ S2x512x2048.size a) :
    Memref sig .tc .vmem S512x2048 .f32 :=
  (M.slice (Rect.unit (s := S2x512x2048) o S1x512x2048.size h) (fun _ => rfl)).squeeze S512x2048 squeezes_S1x512x2048_S512x2048
abbrev srcD (M : Memref sig .tc .hbm S64x512x2048 .f32) (o : Fin 3 → ℕ) (h : ∀ a, o a + S1x512x2048.size a ≤ S64x512x2048.size a) :
    Memref sig .tc .hbm S512x2048 .f32 :=
  (M.slice (Rect.unit (s := S64x512x2048) o S1x512x2048.size h) (fun _ => rfl)).squeeze S512x2048 squeezes_S1x512x2048_S512x2048
abbrev cellAt (o : Fin 1 → ℕ) (h : ∀ a, o a + S1.size a ≤ S2.size a) : DmaSem sig :=
  ((cc0_scratch7.slice (Rect.unit (s := S2) o S1.size h)).squeeze S_ squeezes_S1_S_).sem

abbrev slotCell (s : Fin 2) : SemLoc sig := .dma (cellAt ![s.val] (inbS s))

/-- The units of one copy. -/
abbrev units : ℕ := (winG scG ![0, 0, 0] (inbG 0)).view.amount (slotCell 0)

/-- Element `i` of a slot's window, in the array the weights come from. -/
def inG {n : ℕ} (e : Fin 64) (i : (⟨3, ![n, 2048, 512]⟩ : Shape).Idx) : S64x2048x512.Idx :=
  fun a => match a with | ⟨0, _⟩ => e | ⟨1, _⟩ => i 1 | ⟨2, _⟩ => i 2
def inD {n : ℕ} (e : Fin 64) (i : (⟨3, ![n, 512, 2048]⟩ : Shape).Idx) : S64x512x2048.Idx :=
  fun a => match a with | ⟨0, _⟩ => e | ⟨1, _⟩ => i 1 | ⟨2, _⟩ => i 2

/-- What a slot's windows hold once expert `e`'s weights have landed. -/
def landG (A : S64x2048x512.Idx → Elt F .f32) (e : Fin 64) : S2x2048x512.Idx → Elt F .f32 := fun i => A (inG e i)
def landD (A : S64x512x2048.Idx → Elt F .f32) (e : Fin 64) : S2x512x2048.Idx → Elt F .f32 := fun i => A (inD e i)

theorem write_scG (s : Fin 2) (e : Fin 64) (A : S64x2048x512.Idx → Elt F .f32) (f : S2x2048x512.Idx → Elt F .f32) :
    ∀ i ∈ (winG scG ![s.val, 0, 0] (inbG s)).view.set,
      (winG scG ![s.val, 0, 0] (inbG s)).view.write (Elt F) f (ReadAs.same.apply ((srcG hbG ![e.val, 0, 0] (inbHG e)).view.read (Elt F) A)) Finset.univ i
        = landG A e i := by
  intro i hi
  obtain ⟨x, -, rfl⟩ := Finset.mem_map.mp hi
  rw [View.write_emb_of_mem _ _ (Finset.mem_univ x)]
  show A _ = A _
  refine congrArg A (funext fun a => Fin.ext ?_)
  have h0 : ∀ y : S1x2048x512.Idx, (y 0).val = 0 := fun y => by have := (y 0).isLt; change _ < 1 at this; omega
  fin_cases a
  · show e.val + 1 * _ = e.val
    refine (fun (a b : ℕ) (h : b = 0) => show a + 1 * b = a by omega) _ _ ?_
    exact h0 (Shape.reshapeEquiv (Shape.Squeezes.numel_eq squeezes_S1x2048x512_S2048x512) x)
  · rfl
  · rfl

theorem write_scU (s : Fin 2) (e : Fin 64) (A : S64x2048x512.Idx → Elt F .f32) (f : S2x2048x512.Idx → Elt F .f32) :
    ∀ i ∈ (winG scU ![s.val, 0, 0] (inbG s)).view.set,
      (winG scU ![s.val, 0, 0] (inbG s)).view.write (Elt F) f (ReadAs.same.apply ((srcG hbU ![e.val, 0, 0] (inbHG e)).view.read (Elt F) A)) Finset.univ i
        = landG A e i := by
  intro i hi
  obtain ⟨x, -, rfl⟩ := Finset.mem_map.mp hi
  rw [View.write_emb_of_mem _ _ (Finset.mem_univ x)]
  show A _ = A _
  refine congrArg A (funext fun a => Fin.ext ?_)
  have h0 : ∀ y : S1x2048x512.Idx, (y 0).val = 0 := fun y => by have := (y 0).isLt; change _ < 1 at this; omega
  fin_cases a
  · show e.val + 1 * _ = e.val
    refine (fun (a b : ℕ) (h : b = 0) => show a + 1 * b = a by omega) _ _ ?_
    exact h0 (Shape.reshapeEquiv (Shape.Squeezes.numel_eq squeezes_S1x2048x512_S2048x512) x)
  · rfl
  · rfl

theorem write_scD (s : Fin 2) (e : Fin 64) (A : S64x512x2048.Idx → Elt F .f32) (f : S2x512x2048.Idx → Elt F .f32) :
    ∀ i ∈ (winD scD ![s.val, 0, 0] (inbD s)).view.set,
      (winD scD ![s.val, 0, 0] (inbD s)).view.write (Elt F) f (ReadAs.same.apply ((srcD hbD ![e.val, 0, 0] (inbHD e)).view.read (Elt F) A)) Finset.univ i
        = landD A e i := by
  intro i hi
  obtain ⟨x, -, rfl⟩ := Finset.mem_map.mp hi
  rw [View.write_emb_of_mem _ _ (Finset.mem_univ x)]
  show A _ = A _
  refine congrArg A (funext fun a => Fin.ext ?_)
  have h0 : ∀ y : S1x512x2048.Idx, (y 0).val = 0 := fun y => by have := (y 0).isLt; change _ < 1 at this; omega
  fin_cases a
  · show e.val + 1 * _ = e.val
    refine (fun (a b : ℕ) (h : b = 0) => show a + 1 * b = a by omega) _ _ ?_
    exact h0 (Shape.reshapeEquiv (Shape.Squeezes.numel_eq squeezes_S1x512x2048_S512x2048) x)
  · rfl
  · rfl

variable (A2 A3 : S64x2048x512.Idx → Elt F .f32) (A4 : S64x512x2048.Idx → Elt F .f32)

/-! What the three copies of a slot deliver: the window holding expert `e`'s weights, and the array's part back. -/

def dlvG (c : Dev nD) (q : PosShare TreeShare) (s : Fin 2) (e : Fin 64) : sProp 𝕄 := iprop(
  ((winG scG ![s.val, 0, 0] (inbG s)).view.loc (c : Thread nD τ) ↦[(winG scG ![s.val, 0, 0] (inbG s)).view.set]{fullShare} landG A2 e)
    ∗ ((srcG hbG ![e.val, 0, 0] (inbHG e)).view.loc (c : Thread nD τ) ↦[(srcG hbG ![e.val, 0, 0] (inbHG e)).view.set]{q} A2))
instance dlvG_storable (c : Dev nD) (q : PosShare TreeShare) (s : Fin 2) (e : Fin 64) :
    Storable (upEmb : UEmb _ 𝕄) (dlvG A2 c q s e) := by unfold dlvG; infer_instance
def dlvU (c : Dev nD) (q : PosShare TreeShare) (s : Fin 2) (e : Fin 64) : sProp 𝕄 := iprop(
  ((winG scU ![s.val, 0, 0] (inbG s)).view.loc (c : Thread nD τ) ↦[(winG scU ![s.val, 0, 0] (inbG s)).view.set]{fullShare} landG A3 e)
    ∗ ((srcG hbU ![e.val, 0, 0] (inbHG e)).view.loc (c : Thread nD τ) ↦[(srcG hbU ![e.val, 0, 0] (inbHG e)).view.set]{q} A3))
instance dlvU_storable (c : Dev nD) (q : PosShare TreeShare) (s : Fin 2) (e : Fin 64) :
    Storable (upEmb : UEmb _ 𝕄) (dlvU A3 c q s e) := by unfold dlvU; infer_instance
def dlvD (c : Dev nD) (q : PosShare TreeShare) (s : Fin 2) (e : Fin 64) : sProp 𝕄 := iprop(
  ((winD scD ![s.val, 0, 0] (inbD s)).view.loc (c : Thread nD τ) ↦[(winD scD ![s.val, 0, 0] (inbD s)).view.set]{fullShare} landD A4 e)
    ∗ ((srcD hbD ![e.val, 0, 0] (inbHD e)).view.loc (c : Thread nD τ) ↦[(srcD hbD ![e.val, 0, 0] (inbHD e)).view.set]{q} A4))
instance dlvD_storable (c : Dev nD) (q : PosShare TreeShare) (s : Fin 2) (e : Fin 64) :
    Storable (upEmb : UEmb _ 𝕄) (dlvD A4 c q s e) := by unfold dlvD; infer_instance

def dlv (c : Dev nD) (q : PosShare TreeShare) (s : Fin 2) (e : Fin 64) : Fin 3 → sProp 𝕄 :=
  ![dlvG A2 c q s e, dlvU A3 c q s e, dlvD A4 c q s e]
instance dlv_storable (c : Dev nD) (q : PosShare TreeShare) (s : Fin 2) (e : Fin 64) (t : Fin 3) :
    Storable (upEmb : UEmb _ 𝕄) (dlv A2 A3 A4 c q s e t) :=
  match t with
  | 0 => dlvG_storable A2 c q s e
  | 1 => dlvU_storable A3 c q s e
  | 2 => dlvD_storable A4 c q s e

abbrev EC : UEmb Counters 𝕄 := countersEmb (U := Pipeline.UD sig nD τ)

/-- A slot's windows at anything. -/
def slotWin (c : Dev nD) (s : Fin 2) : sProp 𝕄 := iprop(
  (∃ f, (winG scG ![s.val, 0, 0] (inbG s)).view.loc (c : Thread nD τ) ↦[(winG scG ![s.val, 0, 0] (inbG s)).view.set]{fullShare} f)
  ∗ (∃ f, (winG scU ![s.val, 0, 0] (inbG s)).view.loc (c : Thread nD τ) ↦[(winG scU ![s.val, 0, 0] (inbG s)).view.set]{fullShare} f)
  ∗ (∃ f, (winD scD ![s.val, 0, 0] (inbD s)).view.loc (c : Thread nD τ) ↦[(winD scD ![s.val, 0, 0] (inbD s)).view.set]{fullShare} f))

/-- The arrays of the weights at the slot's share. -/
def slotSrc (c : Dev nD) (q : PosShare TreeShare) : sProp 𝕄 := iprop(
  (hbG.view.loc (c : Thread nD τ) ↦{q} A2) ∗ (hbU.view.loc (c : Thread nD τ) ↦{q} A3) ∗ (hbD.view.loc (c : Thread nD τ) ↦{q} A4))

/-- What a slot keeps of the arrays while expert `e`'s weights are under way. -/
def slotRest (c : Dev nD) (q : PosShare TreeShare) (e : Fin 64) : sProp 𝕄 := iprop(
  (hbG.view.loc (c : Thread nD τ) ↦[Finset.univ \ (srcG hbG ![e.val, 0, 0] (inbHG e)).view.set]{q} A2)
  ∗ (hbU.view.loc (c : Thread nD τ) ↦[Finset.univ \ (srcG hbU ![e.val, 0, 0] (inbHG e)).view.set]{q} A3)
  ∗ (hbD.view.loc (c : Thread nD τ) ↦[Finset.univ \ (srcD hbD ![e.val, 0, 0] (inbHD e)).view.set]{q} A4))

/-- A slot at rest. -/
def slotIdle (c : Dev nD) (q : PosShare TreeShare) (s : Fin 2) : sProp 𝕄 := iprop(
  semVal ((c : Thread nD τ), slotCell s) 0 ∗ slotWin (F := F) c s ∗ slotSrc A2 A3 A4 c q)

/-- A slot with the request of expert `e`'s weights under way. -/
def slotFly (c : Dev nD) (q : PosShare TreeShare) (s : Fin 2) (e : Fin 64) : sProp 𝕄 := iprop(
  Transfers.Batch EC (c : Thread nD τ) (slotCell s) () units (dlv A2 A3 A4 c q s e) 3 0 ∗ slotRest A2 A3 A4 c q e)

/-! ## A request -/

/-- The three copies of a request, at any offsets. -/
abbrev reqP (oS : Fin 1 → ℕ) (hS : ∀ a, oS a + S1.size a ≤ S2.size a)
    (oG : Fin 3 → ℕ) (hG : ∀ a, oG a + S1x2048x512.size a ≤ S2x2048x512.size a)
    (oE : Fin 3 → ℕ) (hE : ∀ a, oE a + S1x2048x512.size a ≤ S64x2048x512.size a)
    (oD : Fin 3 → ℕ) (hD : ∀ a, oD a + S1x512x2048.size a ≤ S2x512x2048.size a)
    (oF : Fin 3 → ℕ) (hF : ∀ a, oF a + S1x512x2048.size a ≤ S64x512x2048.size a) :
    Prog (TpuEff nD τ sig (Elt F) Λ₀ .tc) PUnit := do
  Prog.lift (.enqueueDma (srcG hbG oE hE) (.here (winG scG oG hG)) (.dma (cellAt oS hS)) ((View.wordExact_bits rfl).reshape _ _) ((View.wordExact_bits rfl).reshape _ _) ⟨Or.inl rfl, trivial⟩)
  Prog.lift (.enqueueDma (srcG hbU oE hE) (.here (winG scU oG hG)) (.dma (cellAt oS hS)) ((View.wordExact_bits rfl).reshape _ _) ((View.wordExact_bits rfl).reshape _ _) ⟨Or.inl rfl, trivial⟩)
  Prog.lift (.enqueueDma (srcD hbD oF hF) (.here (winD scD oD hD)) (.dma (cellAt oS hS)) ((View.wordExact_bits rfl).reshape _ _) ((View.wordExact_bits rfl).reshape _ _) ⟨Or.inl rfl, trivial⟩)

theorem ret_bind' {E : Type → Type} {α β : Type} (a : α) (k : α → Prog E β) : (Prog.ret a).bind k = k a := rfl

theorem wp_reqP (c : Dev nD) (q : PosShare TreeShare) (s : Fin 2) (e : Fin 64) {oS hS oG hG oE hE oD hD oF hF}
    (eS : oS = ![s.val]) (eG : oG = ![s.val, 0, 0]) (eE : oE = ![e.val, 0, 0]) (eD : oD = ![s.val, 0, 0]) (eF : oF = ![e.val, 0, 0]) :
    slotIdle A2 A3 A4 c q s ⊢ wp frame (wpE (defs₀ (F := F)) Variants.none (c : Thread nD τ) none) Set.univ
      (reqP (F := F) oS hS oG hG oE hE oD hD oF hF) fun _ => slotFly A2 A3 A4 c q s e := by
  subst eS eG eE eD eF
  unfold slotIdle slotWin slotSrc slotFly slotRest
  iintro ⟨Hc, ⟨⟨%f0, H0⟩, ⟨%f1, H1⟩, ⟨%f2, H2⟩⟩, SG, SU, SD⟩
  icases (pointsTo_split_subset (Finset.subset_univ (srcG hbG ![e.val, 0, 0] (inbHG e)).view.set)).1 $$ SG with ⟨SG, RG⟩
  icases (pointsTo_split_subset (Finset.subset_univ (srcG hbU ![e.val, 0, 0] (inbHG e)).view.set)).1 $$ SU with ⟨SU, RU⟩
  icases (pointsTo_split_subset (Finset.subset_univ (srcD hbD ![e.val, 0, 0] (inbHD e)).view.set)).1 $$ SD with ⟨SD, RD⟩
  imod (Transfers.batch_alloc' EC (c : Thread nD τ) (sm := slotCell s) () units (dlv A2 A3 A4 c q s e) (E := Set.univ)) $$ Hc with HB
  iapply (Transfers.wp_dmaBatch EC Variants.none (c : Thread nD τ) none (src := srcG hbG ![e.val, 0, 0] (inbHG e)) (dst := winG scG ![s.val, 0, 0] (inbG s))
    (D := dlv A2 A3 A4 c q s e) (j := 0) () units rfl subset_rfl (by decide) (Nat.zero_le _)
    (show _ ⊢ dlvG A2 c q s e from by
      unfold dlvG
      rw [← pointsTo_congr (write_scG s e A2 _)])) $$ [H0 SG HB]
  · isplitl [SG]; · iexact SG
    isplitl [H0]; · iexact H0
    iexact HB
  iintro HB
  try simp only [ret_bind']
  iapply (Transfers.wp_dmaBatch EC Variants.none (c : Thread nD τ) none (src := srcG hbU ![e.val, 0, 0] (inbHG e)) (dst := winG scU ![s.val, 0, 0] (inbG s))
    (D := dlv A2 A3 A4 c q s e) (j := 1) () units rfl subset_rfl (by decide) (Nat.zero_le _)
    (show _ ⊢ dlvU A3 c q s e from by
      unfold dlvU
      rw [← pointsTo_congr (write_scU s e A3 _)])) $$ [H1 SU HB]
  · isplitl [SU]; · iexact SU
    isplitl [H1]; · iexact H1
    iexact HB
  iintro HB
  try simp only [ret_bind']
  iapply (Transfers.wp_dmaBatch EC Variants.none (c : Thread nD τ) none (src := srcD hbD ![e.val, 0, 0] (inbHD e)) (dst := winD scD ![s.val, 0, 0] (inbD s))
    (D := dlv A2 A3 A4 c q s e) (j := 2) () units rfl subset_rfl (by decide) (Nat.zero_le _)
    (show _ ⊢ dlvD A4 c q s e from by
      unfold dlvD
      rw [← pointsTo_congr (write_scD s e A4 _)])) $$ [H2 SD HB]
  · isplitl [SD]; · iexact SD
    isplitl [H2]; · iexact H2
    iexact HB
  iintro HB
  try simp only [ret_bind']
  sl_step
  isplitl [HB]; · iexact HB
  isplitl [RG]; · iexact RG
  isplitl [RU]; · iexact RU
  iexact RD

end Cert.Experts
-- ==== Proof.Arrive.lean ====
module

public import proofs.«01_k».proof.Proof.Slots
public import Idealize.ShloMosaic.Lib.Pipeline.Value
public import Idealize.ShloMosaic.Lib.Pointwise.Reshape

/-! The arrival of one expert's weights: the three waits, the casts into the buffers the products read, and the region of
the body that does both. -/

@[expose] public section

noncomputable section

namespace Cert.Experts

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (A2 A3 : S64x2048x512.Idx → Elt F .f32) (A4 : S64x512x2048.Idx → Elt F .f32)

/-- A slot whose weights have landed. -/
def slotLanded (c : Dev nD) (q : PosShare TreeShare) (s : Fin 2) (e : Fin 64) : sProp 𝕄 := iprop(
  semVal ((c : Thread nD τ), slotCell s) 0
  ∗ ((winG scG ![s.val, 0, 0] (inbG s)).view.loc (c : Thread nD τ) ↦[(winG scG ![s.val, 0, 0] (inbG s)).view.set]{fullShare} landG A2 e)
  ∗ ((winG scU ![s.val, 0, 0] (inbG s)).view.loc (c : Thread nD τ) ↦[(winG scU ![s.val, 0, 0] (inbG s)).view.set]{fullShare} landG A3 e)
  ∗ ((winD scD ![s.val, 0, 0] (inbD s)).view.loc (c : Thread nD τ) ↦[(winD scD ![s.val, 0, 0] (inbD s)).view.set]{fullShare} landD A4 e)
  ∗ slotSrc A2 A3 A4 c q)

/-- The three waits of an arrival, at any offsets. -/
abbrev waitP (oS : Fin 1 → ℕ) (hS : ∀ a, oS a + S1.size a ≤ S2.size a) (oT : Fin 1 → ℕ) (hT : ∀ a, oT a + S1.size a ≤ S2.size a)
    (oG : Fin 3 → ℕ) (hG : ∀ a, oG a + S1x2048x512.size a ≤ S2x2048x512.size a)
    (oU : Fin 3 → ℕ) (hU : ∀ a, oU a + S1x2048x512.size a ≤ S2x2048x512.size a)
    (oE : Fin 3 → ℕ) (hE : ∀ a, oE a + S1x2048x512.size a ≤ S64x2048x512.size a)
    (oD : Fin 3 → ℕ) (hD : ∀ a, oD a + S1x512x2048.size a ≤ S2x512x2048.size a)
    (oF : Fin 3 → ℕ) (hF : ∀ a, oF a + S1x512x2048.size a ≤ S64x512x2048.size a) :
    Prog (TpuEff nD τ sig (Elt F) Λ₀ .tc) PUnit := do
  Prog.lift (.waitDma2 (cellAt oS hS) (srcG hbG oE hE) (winG scG oG hG) ((View.wordExact_bits rfl).reshape _ _) ((View.wordExact_bits rfl).reshape _ _))
  Prog.lift (.waitDma2 (cellAt oT hT) (srcG hbU oE hE) (winG scU oU hU) ((View.wordExact_bits rfl).reshape _ _) ((View.wordExact_bits rfl).reshape _ _))
  Prog.lift (.waitDma2 (cellAt oT hT) (srcD hbD oF hF) (winD scD oD hD) ((View.wordExact_bits rfl).reshape _ _) ((View.wordExact_bits rfl).reshape _ _))

theorem wp_waitP (c : Dev nD) (q : PosShare TreeShare) (s : Fin 2) (e : Fin 64) (W : Waits sig Unit) {oS hS oT hT oG hG oU hU oE hE oD hD oF hF}
    (eS : oS = ![s.val]) (eT : oT = ![s.val]) (eG : oG = ![s.val, 0, 0]) (eU : oU = ![s.val, 0, 0]) (eD : oD = ![s.val, 0, 0]) :
    iprop(slotFly A2 A3 A4 c q s e ∗ owes (c : Thread nD τ) 0 W) ⊢ wp frame (wpE (defs₀ (F := F)) Variants.none (c : Thread nD τ) none) Set.univ
      (waitP (F := F) oS hS oT hT oG hG oU hU oE hE oD hD oF hF) fun _ => iprop(slotLanded A2 A3 A4 c q s e ∗ ∃ W', owes (c : Thread nD τ) 0 W') := by
  subst eS eT eG eU eD
  unfold slotFly slotRest slotLanded slotSrc
  iintro ⟨⟨HB, RG, RU, RD⟩, HW⟩
  iapply (Transfers.wp_waitBatch EC Variants.none (c : Thread nD τ) none () (srcw := srcG hbG oE hE) (dstw := winG scG ![s.val, 0, 0] (inbG s)) (hsrc := (View.wordExact_bits rfl).reshape _ _) (hdst := (View.wordExact_bits rfl).reshape _ _) (N := units) rfl (D := dlv A2 A3 A4 c q s e) (u := 0) (by decide)) $$ [HB HW]
  · isplitl [HB] <;> iassumption
  iintro ⟨HB, HW⟩
  try simp only [ret_bind']
  iapply (Transfers.wp_waitBatch EC Variants.none (c : Thread nD τ) none () (srcw := srcG hbU oE hE) (dstw := winG scU ![s.val, 0, 0] (inbG s)) (hsrc := (View.wordExact_bits rfl).reshape _ _) (hdst := (View.wordExact_bits rfl).reshape _ _) (N := units) rfl (D := dlv A2 A3 A4 c q s e) (u := 0 + units) (by decide)) $$ [HB HW]
  · isplitl [HB] <;> iassumption
  iintro ⟨HB, HW⟩
  try simp only [ret_bind']
  iapply (Transfers.wp_waitBatchAll EC Variants.none (c : Thread nD τ) none () (srcw := srcD hbD oF hF) (dstw := winD scD ![s.val, 0, 0] (inbD s)) (hsrc := (View.wordExact_bits rfl).reshape _ _) (hdst := (View.wordExact_bits rfl).reshape _ _) (N := units) (J := units) rfl (by decide) (D := dlv A2 A3 A4 c q s e) (u := 0 + units + units) (by decide)) $$ [HB HW]
  · isplitl [HB] <;> iassumption
  rw [Idealize.SL.BI.bigSep_univ_eq_bigSepL [0, 1, 2] (by decide) (by decide) _]
  iintro ⟨HD, HV, HW⟩
  try simp only [ret_bind']
  icases (show bigSepL [0, 1, 2] (dlv A2 A3 A4 c q s e) ⊢ iprop(dlvG A2 c q s e ∗ dlvU A3 c q s e ∗ dlvD A4 c q s e) from .rfl) $$ HD with ⟨DG, DU, DD⟩
  unfold dlvG dlvU dlvD
  icases DG with ⟨DG, SG⟩
  icases DU with ⟨DU, SU⟩
  icases DD with ⟨DD, SD⟩
  ihave SG := (pointsTo_split_subset (ℓ := hbG.view.loc (c : Thread nD τ)) (Finset.subset_univ (srcG hbG ![e.val, 0, 0] (inbHG e)).view.set)).2 $$ [SG RG]
  · isplitl [SG] <;> iassumption
  ihave SU := (pointsTo_split_subset (ℓ := hbU.view.loc (c : Thread nD τ)) (Finset.subset_univ (srcG hbU ![e.val, 0, 0] (inbHG e)).view.set)).2 $$ [SU RU]
  · isplitl [SU] <;> iassumption
  ihave SD := (pointsTo_split_subset (ℓ := hbD.view.loc (c : Thread nD τ)) (Finset.subset_univ (srcD hbD ![e.val, 0, 0] (inbHD e)).view.set)).2 $$ [SD RD]
  · isplitl [SD] <;> iassumption
  sl_step
  isplitr [HW]
  · isplitl [HV]; · iexact HV
    isplitl [DG]; · iexact DG
    isplitl [DU]; · iexact DU
    isplitl [DD]; · iexact DD
    isplitl [SG]; · iexact SG
    isplitl [SU]; · iexact SU
    iexact SD
  · iexists _; iexact HW

/-- Expert `e`'s weights as the products read them. -/
def wtG (A : S64x2048x512.Idx → Elt F .f32) (e : Fin 64) : FVec F S2048x512 .bf16 :=
  truncf .bf16 (shapeCast S2048x512 (fun y : S1x2048x512.Idx => A (inG e y) : FVec F S1x2048x512 .f32) shapeCasts_S1x2048x512_S2048x512) bitsLt_bf16_f32
def wtD (A : S64x512x2048.Idx → Elt F .f32) (e : Fin 64) : FVec F S512x2048 .bf16 :=
  truncf .bf16 (shapeCast S512x2048 (fun y : S1x512x2048.Idx => A (inD e y) : FVec F S1x512x2048 .f32) shapeCasts_S1x512x2048_S512x2048) bitsLt_bf16_f32

/-- The buffers the products read, at anything and at expert `e`'s weights. -/
def wtsAny (c : Dev nD) : sProp 𝕄 := iprop(
  (∃ f, wbG.view.loc (c : Thread nD τ) ↦{fullShare} f) ∗ (∃ f, wbU.view.loc (c : Thread nD τ) ↦{fullShare} f) ∗ (∃ f, wbD.view.loc (c : Thread nD τ) ↦{fullShare} f))
def wtsAt (c : Dev nD) (e : Fin 64) : sProp 𝕄 := iprop(
  (wbG.view.loc (c : Thread nD τ) ↦{fullShare} wtG A2 e) ∗ (wbU.view.loc (c : Thread nD τ) ↦{fullShare} wtG A3 e) ∗ (wbD.view.loc (c : Thread nD τ) ↦{fullShare} wtD A4 e))

/-- The casts of an arrival, at any offsets. -/
abbrev castP (oG : Fin 3 → ℕ) (hG : ∀ a, oG a + S1x2048x512.size a ≤ S2x2048x512.size a)
    (oD : Fin 3 → ℕ) (hD : ∀ a, oD a + S1x512x2048.size a ≤ S2x512x2048.size a) :
    Prog (TpuEff nD τ sig (Elt F) Λ₀ .tc) PUnit := do
  let v67 : Vec F S1x2048x512 .f32 ← Prog.lift (.load scG (Rect.unit (s := S2x2048x512) oG S1x2048x512.size hG).toLoadRect (View.loadsAt_vmem h_S1x2048x512))
  let v70 : Vec F S2048x512 .bf16 ← Prog.lift (.load wbG (Rect.unit (s := S2048x512) ![0, 0] S2048x512.size inb_S2048x512_S2048x512_0_0).toLoadRect (View.loadsAt_vmem h_S2048x512))
  Prog.lift (.store wbG (Rect.unit (s := S2048x512) ![0, 0] S2048x512.size inb_S2048x512_S2048x512_0_0)
    (shapeCast S2048x512 (truncf .bf16 (shapeCast S2048x512 v67 shapeCasts_S1x2048x512_S2048x512 : FVec F S2048x512 .f32) bitsLt_bf16_f32) shapeCasts_S2048x512_S2048x512) Finset.univ
    (View.stores_vmem h_S2048x512 ((Memref.isWhole_whole _).storeExact_slice rfl _ packedbf16_S2048x512_S2048x512_0_0) (fun _ => rfl)) (.inl rfl))
  let v74 : Vec F S1x2048x512 .f32 ← Prog.lift (.load scU (Rect.unit (s := S2x2048x512) oG S1x2048x512.size hG).toLoadRect (View.loadsAt_vmem h_S1x2048x512))
  let v77 : Vec F S2048x512 .bf16 ← Prog.lift (.load wbU (Rect.unit (s := S2048x512) ![0, 0] S2048x512.size inb_S2048x512_S2048x512_0_0).toLoadRect (View.loadsAt_vmem h_S2048x512))
  Prog.lift (.store wbU (Rect.unit (s := S2048x512) ![0, 0] S2048x512.size inb_S2048x512_S2048x512_0_0)
    (shapeCast S2048x512 (truncf .bf16 (shapeCast S2048x512 v74 shapeCasts_S1x2048x512_S2048x512 : FVec F S2048x512 .f32) bitsLt_bf16_f32) shapeCasts_S2048x512_S2048x512) Finset.univ
    (View.stores_vmem h_S2048x512 ((Memref.isWhole_whole _).storeExact_slice rfl _ packedbf16_S2048x512_S2048x512_0_0) (fun _ => rfl)) (.inl rfl))
  let v81 : Vec F S1x512x2048 .f32 ← Prog.lift (.load scD (Rect.unit (s := S2x512x2048) oD S1x512x2048.size hD).toLoadRect (View.loadsAt_vmem h_S1x512x2048))
  let v84 : Vec F S512x2048 .bf16 ← Prog.lift (.load wbD (Rect.unit (s := S512x2048) ![0, 0] S512x2048.size inb_S512x2048_S512x2048_0_0).toLoadRect (View.loadsAt_vmem h_S512x2048))
  Prog.lift (.store wbD (Rect.unit (s := S512x2048) ![0, 0] S512x2048.size inb_S512x2048_S512x2048_0_0)
    (shapeCast S512x2048 (truncf .bf16 (shapeCast S512x2048 v81 shapeCasts_S1x512x2048_S512x2048 : FVec F S512x2048 .f32) bitsLt_bf16_f32) shapeCasts_S512x2048_S512x2048) Finset.univ
    (View.stores_vmem h_S512x2048 ((Memref.isWhole_whole _).storeExact_slice rfl _ packedbf16_S512x2048_S512x2048_0_0) (fun _ => rfl)) (.inl rfl))

theorem load_scG (s : Fin 2) (e : Fin 64) (A : S64x2048x512.Idx → Elt F .f32) :
    (scG.access (Rect.unit (s := S2x2048x512) ![s.val, 0, 0] S1x2048x512.size (inbG s))).read (Elt F) (landG A e)
      = fun y : S1x2048x512.Idx => A (inG e y) := by
  funext y
  show A _ = A _
  refine congrArg A (funext fun a => Fin.ext ?_)
  fin_cases a
  · rfl
  · exact (fun (a b : ℕ) (h : a = 0) => show a + 1 * b = b by omega) _ _ rfl
  · exact (fun (a b : ℕ) (h : a = 0) => show a + 1 * b = b by omega) _ _ rfl
theorem set_scG (s : Fin 2) :
    (scG.access (Rect.unit (s := S2x2048x512) ![s.val, 0, 0] S1x2048x512.size (inbG s))).set ⊆ (winG scG ![s.val, 0, 0] (inbG s)).view.set :=
  (View.set_reshape (v := scG.access (Rect.unit (s := S2x2048x512) ![s.val, 0, 0] S1x2048x512.size (inbG s))) _).ge

theorem load_scU (s : Fin 2) (e : Fin 64) (A : S64x2048x512.Idx → Elt F .f32) :
    (scU.access (Rect.unit (s := S2x2048x512) ![s.val, 0, 0] S1x2048x512.size (inbG s))).read (Elt F) (landG A e)
      = fun y : S1x2048x512.Idx => A (inG e y) := by
  funext y
  show A _ = A _
  refine congrArg A (funext fun a => Fin.ext ?_)
  fin_cases a
  · rfl
  · exact (fun (a b : ℕ) (h : a = 0) => show a + 1 * b = b by omega) _ _ rfl
  · exact (fun (a b : ℕ) (h : a = 0) => show a + 1 * b = b by omega) _ _ rfl
theorem set_scU (s : Fin 2) :
    (scU.access (Rect.unit (s := S2x2048x512) ![s.val, 0, 0] S1x2048x512.size (inbG s))).set ⊆ (winG scU ![s.val, 0, 0] (inbG s)).view.set :=
  (View.set_reshape (v := scU.access (Rect.unit (s := S2x2048x512) ![s.val, 0, 0] S1x2048x512.size (inbG s))) _).ge

theorem load_scD (s : Fin 2) (e : Fin 64) (A : S64x512x2048.Idx → Elt F .f32) :
    (scD.access (Rect.unit (s := S2x512x2048) ![s.val, 0, 0] S1x512x2048.size (inbD s))).read (Elt F) (landD A e)
      = fun y : S1x512x2048.Idx => A (inD e y) := by
  funext y
  show A _ = A _
  refine congrArg A (funext fun a => Fin.ext ?_)
  fin_cases a
  · rfl
  · exact (fun (a b : ℕ) (h : a = 0) => show a + 1 * b = b by omega) _ _ rfl
  · exact (fun (a b : ℕ) (h : a = 0) => show a + 1 * b = b by omega) _ _ rfl
theorem set_scD (s : Fin 2) :
    (scD.access (Rect.unit (s := S2x512x2048) ![s.val, 0, 0] S1x512x2048.size (inbD s))).set ⊆ (winD scD ![s.val, 0, 0] (inbD s)).view.set :=
  (View.set_reshape (v := scD.access (Rect.unit (s := S2x512x2048) ![s.val, 0, 0] S1x512x2048.size (inbD s))) _).ge

theorem zz : (![0, 0] : Fin 2 → ℕ) = fun _ => 0 := by funext a; fin_cases a <;> rfl
theorem store_wbG (f w : S2048x512.Idx → Elt F .bf16) :
    (wbG.access (Rect.unit (s := S2048x512) ![0, 0] S2048x512.size inb_S2048x512_S2048x512_0_0)).write (Elt F) f w Finset.univ = w :=
  Memref.write_access_unit_zero_univ _ _ zz _ _ _
theorem store_wbU (f w : S2048x512.Idx → Elt F .bf16) :
    (wbU.access (Rect.unit (s := S2048x512) ![0, 0] S2048x512.size inb_S2048x512_S2048x512_0_0)).write (Elt F) f w Finset.univ = w :=
  Memref.write_access_unit_zero_univ _ _ zz _ _ _
theorem store_wbD (f w : S512x2048.Idx → Elt F .bf16) :
    (wbD.access (Rect.unit (s := S512x2048) ![0, 0] S512x2048.size inb_S512x2048_S512x2048_0_0)).write (Elt F) f w Finset.univ = w :=
  Memref.write_access_unit_zero_univ _ _ zz _ _ _

theorem wp_castP (c : Dev nD) (q : PosShare TreeShare) (s : Fin 2) (e : Fin 64) {oG hG oD hD}
    (eG : oG = ![s.val, 0, 0]) (eD : oD = ![s.val, 0, 0]) :
    iprop(slotLanded A2 A3 A4 c q s e ∗ wtsAny c) ⊢ wp frame (wpE (defs₀ (F := F)) Variants.none (c : Thread nD τ) none) Set.univ
      (castP (F := F) oG hG oD hD) fun _ => iprop(slotIdle A2 A3 A4 c q s ∗ wtsAt A2 A3 A4 c e) := by
  subst eG eD
  unfold slotLanded slotIdle slotWin wtsAny wtsAt
  iintro ⟨⟨HV, DG, DU, DD, HS⟩, ⟨⟨%f0, B0⟩, ⟨%f1, B1⟩, ⟨%f2, B2⟩⟩⟩
  iapply (wp_load_rect Variants.none (c : Thread nD τ) none Set.univ (set_scG s)) $$ DG
  iintro DG
  try simp only [ret_bind']
  iapply (wp_load Variants.none (c : Thread nD τ) none Set.univ (m := wbG) (S := Finset.univ) (Finset.subset_univ _)) $$ B0
  iintro B0
  try simp only [ret_bind']
  iapply (wp_store Variants.none (c : Thread nD τ) none Set.univ (m := wbG) (r := Rect.unit (s := S2048x512) ![0, 0] S2048x512.size inb_S2048x512_S2048x512_0_0) (S := Finset.univ) (Finset.subset_univ _)) $$ B0
  iintro B0
  try simp only [ret_bind']
  iapply (wp_load_rect Variants.none (c : Thread nD τ) none Set.univ (set_scU s)) $$ DU
  iintro DU
  try simp only [ret_bind']
  iapply (wp_load Variants.none (c : Thread nD τ) none Set.univ (m := wbU) (S := Finset.univ) (Finset.subset_univ _)) $$ B1
  iintro B1
  try simp only [ret_bind']
  iapply (wp_store Variants.none (c : Thread nD τ) none Set.univ (m := wbU) (r := Rect.unit (s := S2048x512) ![0, 0] S2048x512.size inb_S2048x512_S2048x512_0_0) (S := Finset.univ) (Finset.subset_univ _)) $$ B1
  iintro B1
  try simp only [ret_bind']
  iapply (wp_load_rect Variants.none (c : Thread nD τ) none Set.univ (set_scD s)) $$ DD
  iintro DD
  try simp only [ret_bind']
  iapply (wp_load Variants.none (c : Thread nD τ) none Set.univ (m := wbD) (S := Finset.univ) (Finset.subset_univ _)) $$ B2
  iintro B2
  try simp only [ret_bind']
  iapply (wp_store Variants.none (c : Thread nD τ) none Set.univ (m := wbD) (r := Rect.unit (s := S512x2048) ![0, 0] S512x2048.size inb_S512x2048_S512x2048_0_0) (S := Finset.univ) (Finset.subset_univ _)) $$ B2
  iintro B2
  try simp only [ret_bind']
  rw [load_scG, load_scU, load_scD]
  sl_step
  isplitr [B0 B1 B2]
  · isplitl [HV]; · iexact HV
    isplitr [HS]
    · isplitl [DG]; · iexists _; iexact DG
      isplitl [DU]; · iexists _; iexact DU
      iexists _; iexact DD
    · iexact HS
  · unfold wtG wtD
    rw [store_wbG, store_wbU, store_wbD]
    rw [shapeCast_self, shapeCast_self, shapeCast_self]
    isplitl [B0]; · iexact B0
    isplitl [B1]; · iexact B1
    iexact B2

end Cert.Experts
-- ==== Proof.Weights.lean ====
module

public import proofs.«01_k».proof.Proof.Arrive

/-! The weights' regions of the body: what each does to the two slots and to the buffers the products read, for words of
the routing's tables that name a slot, an expert and the next expert. -/

@[expose] public section

noncomputable section

namespace Cert.Experts

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-! ## A word of a table -/

/-- Block `b`'s place in a table. -/
def ix (b : Fin 192) : S192.Idx := fun a => match a with | ⟨0, _⟩ => b

theorem word_tbE (b : Fin 192) {o : Fin 1 → ℕ} {h} (eo : o = ![b.val]) (f : S192.Idx → Elt F .i32) (x : S1.Idx) :
    (tbE.access (Rect.unit (s := S192) o S1.size h)).read (Elt F) f x = f (ix b) := by
  subst eo
  show f _ = f _
  refine congrArg f (funext fun a => Fin.ext ?_)
  have h0 : (x 0).val = 0 := by have := (x 0).isLt; change _ < 1 at this; omega
  fin_cases a
  exact (fun (a b : ℕ) (h : b = 0) => show a + 1 * b = a by omega) _ _ h0
theorem word_tbR (b : Fin 192) {o : Fin 1 → ℕ} {h} (eo : o = ![b.val]) (f : S192.Idx → Elt F .i32) (x : S1.Idx) :
    (tbR.access (Rect.unit (s := S192) o S1.size h)).read (Elt F) f x = f (ix b) := by
  subst eo
  show f _ = f _
  refine congrArg f (funext fun a => Fin.ext ?_)
  have h0 : (x 0).val = 0 := by have := (x 0).isLt; change _ < 1 at this; omega
  fin_cases a
  exact (fun (a b : ℕ) (h : b = 0) => show a + 1 * b = a by omega) _ _ h0
theorem word_tbV (b : Fin 192) {o : Fin 1 → ℕ} {h} (eo : o = ![b.val]) (f : S192.Idx → Elt F .i32) (x : S1.Idx) :
    (tbV.access (Rect.unit (s := S192) o S1.size h)).read (Elt F) f x = f (ix b) := by
  subst eo
  show f _ = f _
  refine congrArg f (funext fun a => Fin.ext ?_)
  have h0 : (x 0).val = 0 := by have := (x 0).isLt; change _ < 1 at this; omega
  fin_cases a
  exact (fun (a b : ℕ) (h : b = 0) => show a + 1 * b = a by omega) _ _ h0
theorem word_tbF (b : Fin 192) {o : Fin 1 → ℕ} {h} (eo : o = ![b.val]) (f : S192.Idx → Elt F .i32) (x : S1.Idx) :
    (tbF.access (Rect.unit (s := S192) o S1.size h)).read (Elt F) f x = f (ix b) := by
  subst eo
  show f _ = f _
  refine congrArg f (funext fun a => Fin.ext ?_)
  have h0 : (x 0).val = 0 := by have := (x 0).isLt; change _ < 1 at this; omega
  fin_cases a
  exact (fun (a b : ℕ) (h : b = 0) => show a + 1 * b = a by omega) _ _ h0
theorem word_tbS (b : Fin 192) {o : Fin 1 → ℕ} {h} (eo : o = ![b.val]) (f : S192.Idx → Elt F .i32) (x : S1.Idx) :
    (tbS.access (Rect.unit (s := S192) o S1.size h)).read (Elt F) f x = f (ix b) := by
  subst eo
  show f _ = f _
  refine congrArg f (funext fun a => Fin.ext ?_)
  have h0 : (x 0).val = 0 := by have := (x 0).isLt; change _ < 1 at this; omega
  fin_cases a
  exact (fun (a b : ℕ) (h : b = 0) => show a + 1 * b = a by omega) _ _ h0
theorem word_tbA (b : Fin 192) {o : Fin 1 → ℕ} {h} (eo : o = ![b.val]) (f : S192.Idx → Elt F .i32) (x : S1.Idx) :
    (tbA.access (Rect.unit (s := S192) o S1.size h)).read (Elt F) f x = f (ix b) := by
  subst eo
  show f _ = f _
  refine congrArg f (funext fun a => Fin.ext ?_)
  have h0 : (x 0).val = 0 := by have := (x 0).isLt; change _ < 1 at this; omega
  fin_cases a
  exact (fun (a b : ℕ) (h : b = 0) => show a + 1 * b = a by omega) _ _ h0

theorem bind_unit {E : Type → Type} (p : Prog E PUnit) : (p >>= fun _ => pure ⟨⟩) = p := by
  induction p with
  | ret a => rfl
  | op e c ih => exact congrArg (Prog.op e) (funext ih)

section Rules

theorem wp_wordK {α : Type} (c : Dev nD) {Q : α → sProp 𝕄} (m : Memref sig .tc .smem S192 .i32) (r : Rect S192) {h1 : r.shape.numel = 1} {hp : EltTy.i32.packing = 1}
    {q : PosShare TreeShare} {f : Buf (Elt F) ((m.access r).loc (c : Thread nD τ))} {v : Elt F .i32}
    {k : Elt F .i32 → Prog (TpuEff nD τ sig (Elt F) Λ₀ .tc) α}
    (hv : (m.access r).read (Elt F) f (Shape.Idx.first (h1.symm ▸ Nat.one_pos)) = v) :
    ((m.access r).loc (c : Thread nD τ) ↦{q} f)
      ⊢ iprop((((m.access r).loc (c : Thread nD τ) ↦{q} f) -∗ wp frame (wpE (defs₀ (F := F)) Variants.none (c : Thread nD τ) none) Set.univ (k v) Q) -∗ wp frame (wpE (defs₀ (F := F)) Variants.none (c : Thread nD τ) none) Set.univ (smemLoad m r h1 hp >>= k) Q) := by
  subst hv
  exact wp_smemLoadElt (hw := View.loads_smem_one hp h1) Variants.none (c : Thread nD τ) none Set.univ (Finset.subset_univ _)

theorem wp_assumeK {α : Type} (c : Dev nD) {Q : α → sProp 𝕄} {P : Prop} {d : Decidable P} {k : PLift P → Prog (TpuEff nD τ sig (Elt F) Λ₀ .tc) α} (h : P) :
    wp frame (wpE (defs₀ (F := F)) Variants.none (c : Thread nD τ) none) Set.univ (k ⟨h⟩) Q ⊢ wp frame (wpE (defs₀ (F := F)) Variants.none (c : Thread nD τ) none) Set.univ (Prog.lift (TpuEff.assume P d) >>= k) Q :=
  wp_assume Variants.none (c : Thread nD τ) none Set.univ h

theorem wp_bindK {α β : Type} (c : Dev nD) {Q : α → sProp 𝕄} {P : sProp 𝕄} {p : Prog (TpuEff nD τ sig (Elt F) Λ₀ .tc) β} {Φ : β → sProp 𝕄}
    {k : β → Prog (TpuEff nD τ sig (Elt F) Λ₀ .tc) α} (h : P ⊢ wp frame (wpE (defs₀ (F := F)) Variants.none (c : Thread nD τ) none) Set.univ p Φ) :
    P ⊢ iprop((∀ a, Φ a -∗ wp frame (wpE (defs₀ (F := F)) Variants.none (c : Thread nD τ) none) Set.univ (k a) Q) -∗ wp frame (wpE (defs₀ (F := F)) Variants.none (c : Thread nD τ) none) Set.univ (p >>= k) Q) := by
  rw [wp_bind]
  iintro HP HK
  iapply (wp_wand frame _ _) $$ [HP]
  · iapply h; iexact HP
  iexact HK
end Rules

variable (A2 A3 : S64x2048x512.Idx → Elt F .f32) (A4 : S64x512x2048.Idx → Elt F .f32)

/-! ## The state the regions carry -/

/-- A slot's share of the weights' arrays. -/
def qs (s : Fin 2) : PosShare TreeShare := if s = 0 then fullShare.left else fullShare.right

/-- The two slots, one of them with a request under way where `p` names it. -/
def slots (c : Dev nD) (p : Option (Fin 2 × Fin 64)) : sProp 𝕄 :=
  match p with
  | none => iprop(slotIdle A2 A3 A4 c (qs 0) 0 ∗ slotIdle A2 A3 A4 c (qs 1) 1)
  | some (s, e) => iprop(slotFly A2 A3 A4 c (qs s) s e ∗ slotIdle A2 A3 A4 c (qs (1 - s)) (1 - s))

theorem slots_idle (c : Dev nD) (s : Fin 2) :
    iprop(slotIdle A2 A3 A4 c (qs s) s ∗ slotIdle A2 A3 A4 c (qs (1 - s)) (1 - s)) ⊢ slots A2 A3 A4 c none := by
  fin_cases s
  · exact .rfl
  · show iprop(slotIdle A2 A3 A4 c (qs 1) 1 ∗ slotIdle A2 A3 A4 c (qs 0) 0) ⊢ iprop(slotIdle A2 A3 A4 c (qs 0) 0 ∗ slotIdle A2 A3 A4 c (qs 1) 1)
    iintro ⟨H1, H0⟩
    isplitl [H0] <;> iassumption
theorem idle_slots (c : Dev nD) (s : Fin 2) :
    slots A2 A3 A4 c none ⊢ iprop(slotIdle A2 A3 A4 c (qs s) s ∗ slotIdle A2 A3 A4 c (qs (1 - s)) (1 - s)) := by
  fin_cases s
  · exact .rfl
  · show iprop(slotIdle A2 A3 A4 c (qs 0) 0 ∗ slotIdle A2 A3 A4 c (qs 1) 1) ⊢ iprop(slotIdle A2 A3 A4 c (qs 1) 1 ∗ slotIdle A2 A3 A4 c (qs 0) 0)
    iintro ⟨H1, H0⟩
    isplitl [H0] <;> iassumption
theorem fly_slots (c : Dev nD) (s : Fin 2) (e : Fin 64) :
    iprop(slotIdle A2 A3 A4 c (qs s) s ∗ slotFly A2 A3 A4 c (qs (1 - s)) (1 - s) e) ⊢ slots A2 A3 A4 c (some (1 - s, e)) := by
  have h : (1 : Fin 2) - (1 - s) = s := by fin_cases s <;> rfl
  show _ ⊢ iprop(slotFly A2 A3 A4 c (qs (1 - s)) (1 - s) e ∗ slotIdle A2 A3 A4 c (qs (1 - (1 - s))) (1 - (1 - s)))
  rw [h]
  iintro ⟨H1, H0⟩
  isplitl [H0] <;> iassumption

/-- The routing's tables, as the body holds them. -/
def tabs (c : Dev nD) (fE fR fV fF fS fA : S192.Idx → Elt F .i32) : sProp 𝕄 := iprop(
  (tbE.view.loc (c : Thread nD τ) ↦{fullShare.right} fE) ∗ (tbR.view.loc (c : Thread nD τ) ↦{fullShare.right} fR)
  ∗ (tbV.view.loc (c : Thread nD τ) ↦{fullShare.right} fV) ∗ (tbF.view.loc (c : Thread nD τ) ↦{fullShare.right} fF)
  ∗ (tbS.view.loc (c : Thread nD τ) ↦{fullShare.right} fS) ∗ (tbA.view.loc (c : Thread nD τ) ↦{fullShare.right} fA))

/-- The words a table holds for a slot, an expert, and the expert after it. -/
def wS (s : Fin 2) : Elt F .i32 := (BitVec.ofNat 32 s.val : BitVec 32)
def wE (e : Fin 64) : Elt F .i32 := (BitVec.ofNat 32 e.val : BitVec 32)
def wN (n : Option (Fin 64)) : Elt F .i32 := match n with | none => (4294967295#32 : BitVec 32) | some a => wE a

theorem word_toNat (e : Fin 64) : (BitVec.ofNat 32 e.val).toNat = e.val := by
  rw [BitVec.toNat_ofNat]; have := e.isLt; omega
theorem o3 (s : Fin 2) : k0_off3 (wS (F := F) s) = ![s.val] := by fin_cases s <;> rfl
theorem o16 (s : Fin 2) : k0_off16 (wS (F := F) s) = ![s.val] := by fin_cases s <;> rfl
theorem o19 (s : Fin 2) : k0_off19 (wS (F := F) s) = ![s.val] := by fin_cases s <;> rfl
theorem o33 (s : Fin 2) : k0_off33 (wS (F := F) s) = ![s.val] := by fin_cases s <;> rfl
theorem o36 (s : Fin 2) : k0_off36 (wS (F := F) s) = ![s.val] := by fin_cases s <;> rfl
theorem o4 (s : Fin 2) : k0_off4 (wS (F := F) s) = ![s.val, 0, 0] := by fin_cases s <;> rfl
theorem o6 (s : Fin 2) : k0_off6 (wS (F := F) s) = ![s.val, 0, 0] := by fin_cases s <;> rfl
theorem o17 (s : Fin 2) : k0_off17 (wS (F := F) s) = ![s.val, 0, 0] := by fin_cases s <;> rfl
theorem o20 (s : Fin 2) : k0_off20 (wS (F := F) s) = ![s.val, 0, 0] := by fin_cases s <;> rfl
theorem o21 (s : Fin 2) : k0_off21 (wS (F := F) s) = ![s.val, 0, 0] := by fin_cases s <;> rfl
theorem o23 (s : Fin 2) : k0_off23 (wS (F := F) s) = ![s.val, 0, 0] := by fin_cases s <;> rfl
theorem o24 (s : Fin 2) : k0_off24 (wS (F := F) s) = ![s.val, 0, 0] := by fin_cases s <;> rfl
theorem o34 (s : Fin 2) : k0_off34 (wS (F := F) s) = ![s.val, 0, 0] := by fin_cases s <;> rfl
theorem o37 (s : Fin 2) : k0_off37 (wS (F := F) s) = ![s.val, 0, 0] := by fin_cases s <;> rfl
theorem o38 (s : Fin 2) : k0_off38 (wS (F := F) s) = ![s.val, 0, 0] := by fin_cases s <;> rfl
theorem o40 (s : Fin 2) : k0_off40 (wS (F := F) s) = ![s.val, 0, 0] := by fin_cases s <;> rfl
theorem o41 (s : Fin 2) : k0_off41 (wS (F := F) s) = ![s.val, 0, 0] := by fin_cases s <;> rfl
theorem o10 (s : Fin 2) : k0_off10 (wS (F := F) s) = ![(1 - s).val] := by show k0_off10 (BitVec.ofNat 32 s.val : BitVec 32) = _; revert s; decide
theorem o27 (s : Fin 2) : k0_off27 (wS (F := F) s) = ![(1 - s).val] := by show k0_off27 (BitVec.ofNat 32 s.val : BitVec 32) = _; revert s; decide
theorem o11 (s : Fin 2) : k0_off11 (wS (F := F) s) = ![(1 - s).val, 0, 0] := by show k0_off11 (BitVec.ofNat 32 s.val : BitVec 32) = _; revert s; decide
theorem o13 (s : Fin 2) : k0_off13 (wS (F := F) s) = ![(1 - s).val, 0, 0] := by show k0_off13 (BitVec.ofNat 32 s.val : BitVec 32) = _; revert s; decide
theorem o28 (s : Fin 2) : k0_off28 (wS (F := F) s) = ![(1 - s).val, 0, 0] := by show k0_off28 (BitVec.ofNat 32 s.val : BitVec 32) = _; revert s; decide
theorem o30 (s : Fin 2) : k0_off30 (wS (F := F) s) = ![(1 - s).val, 0, 0] := by show k0_off30 (BitVec.ofNat 32 s.val : BitVec 32) = _; revert s; decide
theorem o5 (e : Fin 64) : k0_off5 (wE (F := F) e) = ![e.val, 0, 0] := by rw [show wE (F := F) e = (BitVec.ofNat 32 e.val : BitVec 32) from rfl]; unfold k0_off5; rw [word_toNat]
theorem o7 (e : Fin 64) : k0_off7 (wE (F := F) e) = ![e.val, 0, 0] := by rw [show wE (F := F) e = (BitVec.ofNat 32 e.val : BitVec 32) from rfl]; unfold k0_off7; rw [word_toNat]
theorem o12 (e : Fin 64) : k0_off12 (wE (F := F) e) = ![e.val, 0, 0] := by rw [show wE (F := F) e = (BitVec.ofNat 32 e.val : BitVec 32) from rfl]; unfold k0_off12; rw [word_toNat]
theorem o14 (e : Fin 64) : k0_off14 (wE (F := F) e) = ![e.val, 0, 0] := by rw [show wE (F := F) e = (BitVec.ofNat 32 e.val : BitVec 32) from rfl]; unfold k0_off14; rw [word_toNat]
theorem o18 (e : Fin 64) : k0_off18 (wE (F := F) e) = ![e.val, 0, 0] := by rw [show wE (F := F) e = (BitVec.ofNat 32 e.val : BitVec 32) from rfl]; unfold k0_off18; rw [word_toNat]
theorem o22 (e : Fin 64) : k0_off22 (wE (F := F) e) = ![e.val, 0, 0] := by rw [show wE (F := F) e = (BitVec.ofNat 32 e.val : BitVec 32) from rfl]; unfold k0_off22; rw [word_toNat]
theorem o29 (e : Fin 64) : k0_off29 (wE (F := F) e) = ![e.val, 0, 0] := by rw [show wE (F := F) e = (BitVec.ofNat 32 e.val : BitVec 32) from rfl]; unfold k0_off29; rw [word_toNat]
theorem o31 (e : Fin 64) : k0_off31 (wE (F := F) e) = ![e.val, 0, 0] := by rw [show wE (F := F) e = (BitVec.ofNat 32 e.val : BitVec 32) from rfl]; unfold k0_off31; rw [word_toNat]
theorem o35 (e : Fin 64) : k0_off35 (wE (F := F) e) = ![e.val, 0, 0] := by rw [show wE (F := F) e = (BitVec.ofNat 32 e.val : BitVec 32) from rfl]; unfold k0_off35; rw [word_toNat]
theorem o39 (e : Fin 64) : k0_off39 (wE (F := F) e) = ![e.val, 0, 0] := by rw [show wE (F := F) e = (BitVec.ofNat 32 e.val : BitVec 32) from rfl]; unfold k0_off39; rw [word_toNat]

/-- The two blocks of a grid point. -/
def blk (i : grid0.Coords) (h : Fin 2) : Fin 192 := ⟨2 * (i 0).val + h.val, by have := (i 0).isLt; change _ < 96 at this; have := h.isLt; omega⟩

theorem off_even (x : ℕ) (hx : x < 96) :
    ((BitVec.ofNat 32 x * 2#32 + 0#32 : BitVec 32)).toNat = 2 * x := by
  simp only [BitVec.toNat_add, BitVec.toNat_mul, BitVec.toNat_ofNat]; omega
theorem off_odd (x : ℕ) (hx : x < 96) :
    ((BitVec.ofNat 32 x * 2#32 + 1#32 : BitVec 32)).toNat = 2 * x + 1 := by
  simp only [BitVec.toNat_add, BitVec.toNat_mul, BitVec.toNat_ofNat]; omega
theorem o2 (i : grid0.Coords) : k0_off2 i = ![(blk i 0).val] := congrArg (fun n => (![n] : Fin 1 → ℕ)) (off_even (i 0).val (i 0).isLt)
theorem o8 (i : grid0.Coords) : k0_off8 i = ![(blk i 0).val] := congrArg (fun n => (![n] : Fin 1 → ℕ)) (off_even (i 0).val (i 0).isLt)
theorem o9 (i : grid0.Coords) : k0_off9 i = ![(blk i 0).val] := congrArg (fun n => (![n] : Fin 1 → ℕ)) (off_even (i 0).val (i 0).isLt)
theorem o15 (i : grid0.Coords) : k0_off15 i = ![(blk i 0).val] := congrArg (fun n => (![n] : Fin 1 → ℕ)) (off_even (i 0).val (i 0).isLt)
theorem o25 (i : grid0.Coords) : k0_off25 i = ![(blk i 1).val] := congrArg (fun n => (![n] : Fin 1 → ℕ)) (off_odd (i 0).val (i 0).isLt)
theorem o26 (i : grid0.Coords) : k0_off26 i = ![(blk i 1).val] := congrArg (fun n => (![n] : Fin 1 → ℕ)) (off_odd (i 0).val (i 0).isLt)
theorem o32 (i : grid0.Coords) : k0_off32 i = ![(blk i 1).val] := congrArg (fun n => (![n] : Fin 1 → ℕ)) (off_odd (i 0).val (i 0).isLt)

theorem c4_none : ¬ k0_cond4 (wN (F := F) none) = 1#1 := by show ¬ k0_cond4 4294967295#32 = 1#1; decide
theorem c8_none : ¬ k0_cond8 (wN (F := F) none) = 1#1 := by show ¬ k0_cond8 4294967295#32 = 1#1; decide
theorem c2_some (e : Fin 64) : k0_cond2 (wE (F := F) e) = 1#1 := by
  show k0_cond2 (BitVec.ofNat 32 e.val : BitVec 32) = 1#1
  revert e; decide
theorem c4_some (e : Fin 64) : k0_cond4 (wN (F := F) (some e)) = 1#1 := by
  show k0_cond4 (BitVec.ofNat 32 e.val : BitVec 32) = 1#1
  revert e; decide
theorem c8_some (e : Fin 64) : k0_cond8 (wN (F := F) (some e)) = 1#1 := by
  show k0_cond8 (BitVec.ofNat 32 e.val : BitVec 32) = 1#1
  revert e; decide

theorem chk1_ok (i : grid0.Coords) (s : Fin 2) (e : Fin 64) : k0_chk1 i (wS (F := F) s) (wE (F := F) e) := by
  refine ⟨fun _ _ => ?_, fun _ _ => ?_, fun _ _ => ?_, fun _ _ => ?_, fun _ _ => ?_⟩
  · rw [o3]; exact inbS s
  · rw [o4]; exact inbG s
  · rw [o5]; exact inbHG e
  · rw [o6]; exact inbD s
  · rw [o7]; exact inbHD e
theorem chk2_ok (s : Fin 2) (v10 : Elt F .i32) (n : Option (Fin 64)) : k0_chk2 (wS (F := F) s) v10 (wN (F := F) n) := by
  cases n with
  | none => exact ⟨fun _ h => absurd h c4_none, fun _ h => absurd h c4_none, fun _ h => absurd h c4_none, fun _ h => absurd h c4_none, fun _ h => absurd h c4_none⟩
  | some e =>
    refine ⟨fun _ _ => ?_, fun _ _ => ?_, fun _ _ => ?_, fun _ _ => ?_, fun _ _ => ?_⟩
    · rw [o10]; exact inbS (1 - s)
    · rw [o11]; exact inbG (1 - s)
    · rw [show wN (F := F) (some e) = wE e from rfl, o12]; exact inbHG e
    · rw [o13]; exact inbD (1 - s)
    · rw [show wN (F := F) (some e) = wE e from rfl, o14]; exact inbHD e
theorem chk5_ok (s : Fin 2) (v10 : Elt F .i32) (n : Option (Fin 64)) : k0_chk5 (wS (F := F) s) v10 (wN (F := F) n) := by
  cases n with
  | none => exact ⟨fun _ h => absurd h c8_none, fun _ h => absurd h c8_none, fun _ h => absurd h c8_none, fun _ h => absurd h c8_none, fun _ h => absurd h c8_none⟩
  | some e =>
    refine ⟨fun _ _ => ?_, fun _ _ => ?_, fun _ _ => ?_, fun _ _ => ?_, fun _ _ => ?_⟩
    · rw [o27]; exact inbS (1 - s)
    · rw [o28]; exact inbG (1 - s)
    · rw [show wN (F := F) (some e) = wE e from rfl, o29]; exact inbHG e
    · rw [o30]; exact inbD (1 - s)
    · rw [show wN (F := F) (some e) = wE e from rfl, o31]; exact inbHD e
theorem chk3_ok (s : Fin 2) (v10 : Elt F .i32) : k0_chk3 (wS (F := F) s) v10 := by
  refine ⟨fun _ => ?_, fun _ => ?_, fun _ => ?_, fun _ => ?_, fun _ => ?_, fun _ => ?_, fun _ => ?_⟩
  · rw [o16]; exact inbS s
  · rw [o17]; exact inbG s
  · rw [o19]; exact inbS s
  · rw [o20]; exact inbG s
  · rw [o21]; exact inbD s
  · rw [o23]; exact inbG s
  · rw [o24]; exact inbD s
theorem chk6_ok (s : Fin 2) (v10 : Elt F .i32) : k0_chk6 (wS (F := F) s) v10 := by
  refine ⟨fun _ => ?_, fun _ => ?_, fun _ => ?_, fun _ => ?_, fun _ => ?_, fun _ => ?_, fun _ => ?_⟩
  · rw [o33]; exact inbS s
  · rw [o34]; exact inbG s
  · rw [o36]; exact inbS s
  · rw [o37]; exact inbG s
  · rw [o38]; exact inbD s
  · rw [o40]; exact inbG s
  · rw [o41]; exact inbD s
theorem chk4_ok (v10 : Elt F .i32) (e : Fin 64) : k0_chk4 v10 (wE (F := F) e) := by
  refine ⟨fun _ => ?_, fun _ => ?_⟩
  · rw [o18]; exact inbHG e
  · rw [o22]; exact inbHD e
theorem chk7_ok (v10 : Elt F .i32) (e : Fin 64) : k0_chk7 v10 (wE (F := F) e) := by
  refine ⟨fun _ => ?_, fun _ => ?_⟩
  · rw [o35]; exact inbHG e
  · rw [o39]; exact inbHD e

theorem segW0_eq (i : grid0.Coords) (arg7 : Memref sig .tc .vmem S4096x128 .i32) (harg7 : arg7.IsWhole) (arg11 : Memref sig .tc .vmem S4096x128 .i32) (harg11 : arg11.IsWhole) (v1 : BitVec 32) (v6 v10 : Elt F .i32) (hw : k0_chk3 v6 v10) :
    segW0 (F := F) i arg7 harg7 arg11 harg11 v1 v6 v10 hw = (if h3 : k0_cond3 v10 = 1#1 then do
      let v38 : Elt F .i32 ← smemLoad tbA (Rect.unit (s := S192) (k0_off9 i) S1.size (k0_off9_inb i)) numel1_S1 rfl
      have hw2 : k0_chk2 v6 v10 v38 := (← Prog.lift (TpuEff.assume (k0_chk2 v6 v10 v38) (k0_chk2.dec v6 v10 v38))).down
      (if h4 : k0_cond4 v38 = 1#1 then
        reqP (k0_off10 v6) (k0_off10_inb v6 v10 v38 hw2 h3 h4) (k0_off11 v6) (k0_off11_inb v6 v10 v38 hw2 h3 h4) (k0_off12 v38) (k0_off12_inb v6 v10 v38 hw2 h3 h4)
          (k0_off13 v6) (k0_off13_inb v6 v10 v38 hw2 h3 h4) (k0_off14 v38) (k0_off14_inb v6 v10 v38 hw2 h3 h4)
      else pure ⟨⟩ : Prog (TpuEff nD τ sig (Elt F) Λ₀ .tc) PUnit) >>= fun _ => do
      let v47 : Elt F .i32 ← smemLoad tbE (Rect.unit (s := S192) (k0_off15 i) S1.size (k0_off15_inb i)) numel1_S1 rfl
      have hw4 : k0_chk4 v10 v47 := (← Prog.lift (TpuEff.assume (k0_chk4 v10 v47) (k0_chk4.dec v10 v47))).down
      waitP (k0_off16 v6) (k0_off16_inb v6 v10 hw h3) (k0_off19 v6) (k0_off19_inb v6 v10 hw h3) (k0_off17 v6) (k0_off17_inb v6 v10 hw h3)
        (k0_off20 v6) (k0_off20_inb v6 v10 hw h3) (k0_off18 v47) (k0_off18_inb v10 v47 hw4 h3) (k0_off21 v6) (k0_off21_inb v6 v10 hw h3)
        (k0_off22 v47) (k0_off22_inb v10 v47 hw4 h3)
      castP (k0_off23 v6) (k0_off23_inb v6 v10 hw h3) (k0_off24 v6) (k0_off24_inb v6 v10 hw h3)
    else pure ⟨⟩) := by
  unfold segW0 k0_part1 reqP waitP castP
  simp only [dite_then, Prog.bind_assoc, Prog.bind_ret, pure_bind, bind_unit]

theorem wp_segW0 (c : Dev nD) (i : grid0.Coords) (arg7 : Memref sig .tc .vmem S4096x128 .i32) (harg7 : arg7.IsWhole) (arg11 : Memref sig .tc .vmem S4096x128 .i32) (harg11 : arg11.IsWhole) (v1 : BitVec 32) (s : Fin 2) (e : Fin 64) (n : Option (Fin 64)) (v10 : Elt F .i32)
    (hw : k0_chk3 (wS (F := F) s) v10) (h3 : k0_cond3 v10 = 1#1) (fE fR fV fF fS fA : S192.Idx → Elt F .i32) (W : Waits sig Unit)
    (hE : fE (ix (blk i 0)) = wE e) (hA : fA (ix (blk i 0)) = wN n) :
    iprop(tabs c fE fR fV fF fS fA ∗ slots A2 A3 A4 c (some (s, e)) ∗ wtsAny c ∗ owes (c : Thread nD τ) 0 W)
      ⊢ wp frame (wpE (defs₀ (F := F)) Variants.none (c : Thread nD τ) none) Set.univ
        (segW0 (F := F) i arg7 harg7 arg11 harg11 v1 (wS (F := F) s) v10 hw)
        fun _ => iprop(tabs c fE fR fV fF fS fA ∗ slots A2 A3 A4 c (n.map (1 - s, ·)) ∗ wtsAt A2 A3 A4 c e ∗ ∃ W', owes (c : Thread nD τ) 0 W') := by
  rw [segW0_eq, dif_pos h3]
  unfold tabs
  iintro ⟨⟨TE, TR, TV, TF, TS, TA⟩, HS, HB, HW⟩
  icases (show slots A2 A3 A4 c (some (s, e)) ⊢ iprop(slotFly A2 A3 A4 c (qs s) s e ∗ slotIdle A2 A3 A4 c (qs (1 - s)) (1 - s)) from .rfl) $$ HS with ⟨HF, HI⟩
  iapply (wp_wordK c tbA (Rect.unit (s := S192) (k0_off9 i) S1.size (k0_off9_inb i)) (v := wN n) (f := fA) (q := fullShare.right) ((word_tbA (blk i 0) (o9 i) fA _).trans hA)) $$ TA
  iintro TA
  iapply (wp_assumeK c (chk2_ok s v10 n))
  have hreq : iprop(slotIdle A2 A3 A4 c (qs (1 - s)) (1 - s)) ⊢ wp frame (wpE (defs₀ (F := F)) Variants.none (c : Thread nD τ) none) Set.univ
      (if h4 : k0_cond4 (wN (F := F) n) = 1#1 then
        reqP (F := F) (k0_off10 (wS (F := F) s)) (k0_off10_inb (wS (F := F) s) v10 (wN (F := F) n) (chk2_ok s v10 n) h3 h4)
          (k0_off11 (wS (F := F) s)) (k0_off11_inb (wS (F := F) s) v10 (wN (F := F) n) (chk2_ok s v10 n) h3 h4)
          (k0_off12 (wN (F := F) n)) (k0_off12_inb (wS (F := F) s) v10 (wN (F := F) n) (chk2_ok s v10 n) h3 h4)
          (k0_off13 (wS (F := F) s)) (k0_off13_inb (wS (F := F) s) v10 (wN (F := F) n) (chk2_ok s v10 n) h3 h4)
          (k0_off14 (wN (F := F) n)) (k0_off14_inb (wS (F := F) s) v10 (wN (F := F) n) (chk2_ok s v10 n) h3 h4)
      else pure ⟨⟩) fun _ => (match n with
        | none => slotIdle A2 A3 A4 c (qs (1 - s)) (1 - s)
        | some a => slotFly A2 A3 A4 c (qs (1 - s)) (1 - s) a) := by
    cases n with
    | none => rw [dif_neg c4_none]; iintro H; sl_step; iexact H
    | some a =>
      rw [dif_pos (c4_some a)]
      exact wp_reqP A2 A3 A4 c (qs (1 - s)) (1 - s) a (o10 (F := F) s) (o11 (F := F) s) (o12 (F := F) a) (o13 (F := F) s) (o14 (F := F) a)
  iapply (wp_bindK (F := F) c hreq) $$ HI
  iintro %_ HI
  iapply (wp_wordK c tbE (Rect.unit (s := S192) (k0_off15 i) S1.size (k0_off15_inb i)) (v := wE e) (f := fE) (q := fullShare.right) ((word_tbE (blk i 0) (o15 i) fE _).trans hE)) $$ TE
  iintro TE
  iapply (wp_assumeK c (chk4_ok v10 e))
  iapply (wp_bindK c (wp_waitP A2 A3 A4 c (qs s) s e W (o16 s) (o19 s) (o17 s) (o20 s) (o21 s))) $$ [HF HW]
  · isplitl [HF] <;> iassumption
  iintro %_ ⟨HL, HW⟩
  iapply (wp_wand frame _ _) $$ [HL HB]
  · iapply (wp_castP A2 A3 A4 c (qs s) s e (o23 s) (o24 s))
    isplitl [HL] <;> iassumption
  iintro %_ ⟨HI0, HB⟩
  isplitl [TE TR TV TF TS TA]
  · isplitl [TE]; · iexact TE
    isplitl [TR]; · iexact TR
    isplitl [TV]; · iexact TV
    isplitl [TF]; · iexact TF
    isplitl [TS]; · iexact TS
    iexact TA
  isplitl [HI HI0]
  · cases n with
    | none => iapply (slots_idle A2 A3 A4 c s); isplitl [HI0] <;> iassumption
    | some a => iapply (fly_slots A2 A3 A4 c s a); isplitl [HI0] <;> iassumption
  isplitl [HB] <;> iassumption

theorem segW1_eq (i : grid0.Coords) (arg7 : Memref sig .tc .vmem S4096x128 .i32) (harg7 : arg7.IsWhole) (arg11 : Memref sig .tc .vmem S4096x128 .i32) (harg11 : arg11.IsWhole) (v1 : BitVec 32) (v6 v10 : Elt F .i32) (hw : k0_chk6 v6 v10) :
    segW1 (F := F) i arg7 harg7 arg11 harg11 v1 v6 v10 hw = (if h3 : k0_cond7 v10 = 1#1 then do
      let v38 : Elt F .i32 ← smemLoad tbA (Rect.unit (s := S192) (k0_off26 i) S1.size (k0_off26_inb i)) numel1_S1 rfl
      have hw2 : k0_chk5 v6 v10 v38 := (← Prog.lift (TpuEff.assume (k0_chk5 v6 v10 v38) (k0_chk5.dec v6 v10 v38))).down
      (if h4 : k0_cond8 v38 = 1#1 then
        reqP (k0_off27 v6) (k0_off27_inb v6 v10 v38 hw2 h3 h4) (k0_off28 v6) (k0_off28_inb v6 v10 v38 hw2 h3 h4) (k0_off29 v38) (k0_off29_inb v6 v10 v38 hw2 h3 h4)
          (k0_off30 v6) (k0_off30_inb v6 v10 v38 hw2 h3 h4) (k0_off31 v38) (k0_off31_inb v6 v10 v38 hw2 h3 h4)
      else pure ⟨⟩ : Prog (TpuEff nD τ sig (Elt F) Λ₀ .tc) PUnit) >>= fun _ => do
      let v47 : Elt F .i32 ← smemLoad tbE (Rect.unit (s := S192) (k0_off32 i) S1.size (k0_off32_inb i)) numel1_S1 rfl
      have hw4 : k0_chk7 v10 v47 := (← Prog.lift (TpuEff.assume (k0_chk7 v10 v47) (k0_chk7.dec v10 v47))).down
      waitP (k0_off33 v6) (k0_off33_inb v6 v10 hw h3) (k0_off36 v6) (k0_off36_inb v6 v10 hw h3) (k0_off34 v6) (k0_off34_inb v6 v10 hw h3)
        (k0_off37 v6) (k0_off37_inb v6 v10 hw h3) (k0_off35 v47) (k0_off35_inb v10 v47 hw4 h3) (k0_off38 v6) (k0_off38_inb v6 v10 hw h3)
        (k0_off39 v47) (k0_off39_inb v10 v47 hw4 h3)
      castP (k0_off40 v6) (k0_off40_inb v6 v10 hw h3) (k0_off41 v6) (k0_off41_inb v6 v10 hw h3)
    else pure ⟨⟩) := by
  unfold segW1 k0_part7 reqP waitP castP
  simp only [dite_then, Prog.bind_assoc, Prog.bind_ret, pure_bind, bind_unit]

theorem wp_segW1 (c : Dev nD) (i : grid0.Coords) (arg7 : Memref sig .tc .vmem S4096x128 .i32) (harg7 : arg7.IsWhole) (arg11 : Memref sig .tc .vmem S4096x128 .i32) (harg11 : arg11.IsWhole) (v1 : BitVec 32) (s : Fin 2) (e : Fin 64) (n : Option (Fin 64)) (v10 : Elt F .i32)
    (hw : k0_chk6 (wS (F := F) s) v10) (h3 : k0_cond7 v10 = 1#1) (fE fR fV fF fS fA : S192.Idx → Elt F .i32) (W : Waits sig Unit)
    (hE : fE (ix (blk i 1)) = wE e) (hA : fA (ix (blk i 1)) = wN n) :
    iprop(tabs c fE fR fV fF fS fA ∗ slots A2 A3 A4 c (some (s, e)) ∗ wtsAny c ∗ owes (c : Thread nD τ) 0 W)
      ⊢ wp frame (wpE (defs₀ (F := F)) Variants.none (c : Thread nD τ) none) Set.univ
        (segW1 (F := F) i arg7 harg7 arg11 harg11 v1 (wS (F := F) s) v10 hw)
        fun _ => iprop(tabs c fE fR fV fF fS fA ∗ slots A2 A3 A4 c (n.map (1 - s, ·)) ∗ wtsAt A2 A3 A4 c e ∗ ∃ W', owes (c : Thread nD τ) 0 W') := by
  rw [segW1_eq, dif_pos h3]
  unfold tabs
  iintro ⟨⟨TE, TR, TV, TF, TS, TA⟩, HS, HB, HW⟩
  icases (show slots A2 A3 A4 c (some (s, e)) ⊢ iprop(slotFly A2 A3 A4 c (qs s) s e ∗ slotIdle A2 A3 A4 c (qs (1 - s)) (1 - s)) from .rfl) $$ HS with ⟨HF, HI⟩
  iapply (wp_wordK c tbA (Rect.unit (s := S192) (k0_off26 i) S1.size (k0_off26_inb i)) (v := wN n) (f := fA) (q := fullShare.right) ((word_tbA (blk i 1) (o26 i) fA _).trans hA)) $$ TA
  iintro TA
  iapply (wp_assumeK c (chk5_ok s v10 n))
  have hreq : iprop(slotIdle A2 A3 A4 c (qs (1 - s)) (1 - s)) ⊢ wp frame (wpE (defs₀ (F := F)) Variants.none (c : Thread nD τ) none) Set.univ
      (if h4 : k0_cond8 (wN (F := F) n) = 1#1 then
        reqP (F := F) (k0_off27 (wS (F := F) s)) (k0_off27_inb (wS (F := F) s) v10 (wN (F := F) n) (chk5_ok s v10 n) h3 h4)
          (k0_off28 (wS (F := F) s)) (k0_off28_inb (wS (F := F) s) v10 (wN (F := F) n) (chk5_ok s v10 n) h3 h4)
          (k0_off29 (wN (F := F) n)) (k0_off29_inb (wS (F := F) s) v10 (wN (F := F) n) (chk5_ok s v10 n) h3 h4)
          (k0_off30 (wS (F := F) s)) (k0_off30_inb (wS (F := F) s) v10 (wN (F := F) n) (chk5_ok s v10 n) h3 h4)
          (k0_off31 (wN (F := F) n)) (k0_off31_inb (wS (F := F) s) v10 (wN (F := F) n) (chk5_ok s v10 n) h3 h4)
      else pure ⟨⟩) fun _ => (match n with
        | none => slotIdle A2 A3 A4 c (qs (1 - s)) (1 - s)
        | some a => slotFly A2 A3 A4 c (qs (1 - s)) (1 - s) a) := by
    cases n with
    | none => rw [dif_neg c8_none]; iintro H; sl_step; iexact H
    | some a =>
      rw [dif_pos (c8_some a)]
      exact wp_reqP A2 A3 A4 c (qs (1 - s)) (1 - s) a (o27 (F := F) s) (o28 (F := F) s) (o29 (F := F) a) (o30 (F := F) s) (o31 (F := F) a)
  iapply (wp_bindK (F := F) c hreq) $$ HI
  iintro %_ HI
  iapply (wp_wordK c tbE (Rect.unit (s := S192) (k0_off32 i) S1.size (k0_off32_inb i)) (v := wE e) (f := fE) (q := fullShare.right) ((word_tbE (blk i 1) (o32 i) fE _).trans hE)) $$ TE
  iintro TE
  iapply (wp_assumeK c (chk7_ok v10 e))
  iapply (wp_bindK c (wp_waitP A2 A3 A4 c (qs s) s e W (o33 s) (o36 s) (o34 s) (o37 s) (o38 s))) $$ [HF HW]
  · isplitl [HF] <;> iassumption
  iintro %_ ⟨HL, HW⟩
  iapply (wp_wand frame _ _) $$ [HL HB]
  · iapply (wp_castP A2 A3 A4 c (qs s) s e (o40 s) (o41 s))
    isplitl [HL] <;> iassumption
  iintro %_ ⟨HI0, HB⟩
  isplitl [TE TR TV TF TS TA]
  · isplitl [TE]; · iexact TE
    isplitl [TR]; · iexact TR
    isplitl [TV]; · iexact TV
    isplitl [TF]; · iexact TF
    isplitl [TS]; · iexact TS
    iexact TA
  isplitl [HI HI0]
  · cases n with
    | none => iapply (slots_idle A2 A3 A4 c s); isplitl [HI0] <;> iassumption
    | some a => iapply (fly_slots A2 A3 A4 c s a); isplitl [HI0] <;> iassumption
  isplitl [HB] <;> iassumption

theorem segI_eq (i : grid0.Coords) (arg7 : Memref sig .tc .vmem S4096x128 .i32) (harg7 : arg7.IsWhole) (arg11 : Memref sig .tc .vmem S4096x128 .i32) (harg11 : arg11.IsWhole) (v6 : Elt F .i32) :
    segI (F := F) i arg7 harg7 arg11 harg11 v6 = (if h1 : k0_cond1 i = 1#1 then do
      let v37 : Elt F .i32 ← smemLoad tbE (Rect.unit (s := S192) ![0] S1.size inb_S192_S1_0) numel1_S1 rfl
      have hw1 : k0_chk1 i v6 v37 := (← Prog.lift (TpuEff.assume (k0_chk1 i v6 v37) (k0_chk1.dec i v6 v37))).down
      if h2 : k0_cond2 v37 = 1#1 then
        reqP (k0_off3 v6) (k0_off3_inb i v6 v37 hw1 h1 h2) (k0_off4 v6) (k0_off4_inb i v6 v37 hw1 h1 h2) (k0_off5 v37) (k0_off5_inb i v6 v37 hw1 h1 h2)
          (k0_off6 v6) (k0_off6_inb i v6 v37 hw1 h1 h2) (k0_off7 v37) (k0_off7_inb i v6 v37 hw1 h1 h2)
      else pure ⟨⟩
    else pure ⟨⟩) := by
  unfold segI reqP
  simp only [dite_then, Prog.bind_assoc, Prog.bind_ret, pure_bind, bind_unit]

theorem wp_segI (c : Dev nD) (i : grid0.Coords) (arg7 : Memref sig .tc .vmem S4096x128 .i32) (harg7 : arg7.IsWhole) (arg11 : Memref sig .tc .vmem S4096x128 .i32) (harg11 : arg11.IsWhole) (s : Fin 2) (e : Fin 64)
    (h1 : k0_cond1 i = 1#1) (fE fR fV fF fS fA : S192.Idx → Elt F .i32)
    (hE : fE (ix 0) = wE e) :
    iprop(tabs c fE fR fV fF fS fA ∗ slots A2 A3 A4 c none)
      ⊢ wp frame (wpE (defs₀ (F := F)) Variants.none (c : Thread nD τ) none) Set.univ
        (segI (F := F) i arg7 harg7 arg11 harg11 (wS (F := F) s))
        fun _ => iprop(tabs c fE fR fV fF fS fA ∗ slots A2 A3 A4 c (some (s, e))) := by
  rw [segI_eq, dif_pos h1]
  unfold tabs
  iintro ⟨⟨TE, TR, TV, TF, TS, TA⟩, HS⟩
  icases (idle_slots A2 A3 A4 c s) $$ HS with ⟨HF, HI⟩
  iapply (wp_wordK c tbE (Rect.unit (s := S192) ![0] S1.size inb_S192_S1_0) (v := wE e) (f := fE) (q := fullShare.right) ((word_tbE 0 rfl fE _).trans hE)) $$ TE
  iintro TE
  iapply (wp_assumeK c (chk1_ok i s e))
  rw [dif_pos (c2_some e)]
  iapply (wp_wand frame _ _) $$ [HF]
  · iapply (wp_reqP A2 A3 A4 c (qs s) s e (o3 s) (o4 s) (o5 e) (o6 s) (o7 e))
    iexact HF
  iintro %_ HF
  isplitl [TE TR TV TF TS TA]
  · isplitl [TE]; · iexact TE
    isplitl [TR]; · iexact TR
    isplitl [TV]; · iexact TV
    isplitl [TF]; · iexact TF
    isplitl [TS]; · iexact TS
    iexact TA
  iapply (show iprop(slotFly A2 A3 A4 c (qs s) s e ∗ slotIdle A2 A3 A4 c (qs (1 - s)) (1 - s)) ⊢ slots A2 A3 A4 c (some (s, e)) from .rfl)
  isplitl [HF] <;> iassumption

end Cert.Experts
-- ==== Proof.Mlp.lean ====
module

public import proofs.«01_k».proof.Proof.Weights

@[expose] public section

/-! # What one block of rows becomes

The values the body computes, as functions of the block's words and of the expert's three matrices, and
how they lie in the strided slabs of the staging buffers. -/

noncomputable section

namespace Cert.Experts

open Cert.Kernel Cert.Kernel.Gen
open Idealize.ShloMosaic Idealize.ShloMosaic.TcCoe Idealize.ShloMosaic.Tactic

/-- A block's words: 256 rows of 1024 pairs. -/
abbrev SWords : Shape := ⟨2, ![256, 1024]⟩

/-- The index of row `x`, column `y`. -/
def at2 {n k : ℕ} (x : Fin n) (y : Fin k) : Shape.Idx ⟨2, ![n, k]⟩ := fun a => match a with
  | ⟨0, _⟩ => x
  | ⟨1, _⟩ => y

variable {F : FTy → Type} [BitOps F]

/-- The block's rows as bf16 numbers: the words' low halves left, the high halves right. -/
def xbOf (W : IVec SWords 32) : FVec F S256x2048 .bf16 := fun j =>
  if h : (j 1).val < 1024 then FloatOps.truncf .bf16 (by decide) ((unpackElementwise (F := F) 0 W (by decide)) (at2 (n := 256) (k := 1024) (j 0) ⟨(j 1).val, h⟩))
  else FloatOps.truncf .bf16 (by decide) ((unpackElementwise (F := F) 1 W (by decide)) (at2 (n := 256) (k := 1024) (j 0) ⟨(j 1).val - 1024, by have := (j 1).isLt; change _ < 2048 at this; omega⟩))

/-- Silu of the gate product times the up product, rounded, through the down product. -/
def mlp (X : FVec F S256x2048 .bf16) (G U : FVec F S2048x512 .bf16) (D : FVec F S512x2048 .bf16) : FVec F S256x2048 .f32 :=
  matmul dot_S256x512_S512x2048_S256x2048_1_0_0_1_n_n none
    (truncf .bf16 (mulf (mulf (matmul dot_S256x2048_S2048x512_S256x512_1_0_0_1_n_n none X G (constant S256x512 .f32 0x00000000#32))
        (logistic (matmul dot_S256x2048_S2048x512_S256x512_1_0_0_1_n_n none X G (constant S256x512 .f32 0x00000000#32))))
      (matmul dot_S256x2048_S2048x512_S256x512_1_0_0_1_n_n none X U (constant S256x512 .f32 0x00000000#32))) bitsLt_bf16_f32)
    D (constant S256x2048 .f32 0x00000000#32)

/-- The zero rows. -/
def zeros : FVec F S256x2048 .f32 := broadcast S256x2048 (Scalar.ofBits .f32 0x00000000#32)

/-- The rows as words: the left half of the columns low, the right half high. -/
def pk (V : FVec F S256x2048 .f32) : IVec SWords 32 := fun j =>
  BitOps.toBits (FloatOps.truncf .bf16 (by decide) (V (at2 (j 0) ⟨1024 + (j 1).val, by have := (j 1).isLt; change _ < 1024 at this; omega⟩)))
    ++ BitOps.toBits (FloatOps.truncf .bf16 (by decide) (V (at2 (j 0) ⟨(j 1).val, by have := (j 1).isLt; change _ < 1024 at this; omega⟩)))

/-- The words of half `h` of a staged pair of blocks. -/
def words (h : Fin 2) (f : S4096x128.Idx → BitVec 32) : IVec SWords 32 := fun j =>
  f (at2 ⟨2048 * h.val + 8 * (j 0).val + (j 1).val / 128, by
      have := (j 0).isLt; have := (j 1).isLt; change _ < 256 at *; change _ < 1024 at *; omega⟩
    ⟨(j 1).val % 128, Nat.mod_lt _ (by decide)⟩)

theorem slab_inb (s : Fin 8) (a : Fin 2) : S256x128.size a = 0 ∨ (![s.val, 0] : Fin 2 → ℕ) a + (![8, 1] : Fin 2 → ℕ) a * (S256x128.size a - 1) < S2048x128.size a := by
  revert s a; decide

/-- Slab `s` of half `h`: every eighth row. -/
abbrev slab (h : Fin 2) (s : Fin 8) : Rect S4096x128 :=
  (Rect.unit (s := S4096x128) ![2048 * h.val, 0] S2048x128.size (by revert h; decide)).within
    ({ off := ![s.val, 0], size := S256x128.size, stride := ![8, 1], inb := slab_inb s, stride_pos := by decide } : Rect S2048x128) (fun _ => rfl)

theorem slab_emb0 (h : Fin 2) (s : Fin 8) (x : S256x128.Idx) : ((slab h s).emb x 0).val = 2048 * h.val + s.val + 8 * (x 0).val := rfl

theorem slab_emb1 (h : Fin 2) (s : Fin 8) (x : S256x128.Idx) : ((slab h s).emb x 1).val = (x 1).val := by
  show 0 + 0 + 1 * (x 1).val = _; omega

/-- A word of a block, found again in the slab it was stored by. -/
def put (Y : IVec SWords 32) : S4096x128.Idx → BitVec 32 := fun y =>
  Y (at2 ⟨(y 0).val % 2048 / 8, by omega⟩ ⟨128 * ((y 0).val % 8) + (y 1).val, by
    have := (y 1).isLt; change _ < 128 at this; omega⟩)

/-- One store of a block. -/
def slabPiece (h : Fin 2) (w : Fin 8 → IVec S256x128 32) (s : Fin 8) : View.Piece (Elt F) S4096x128 .i32 := ⟨slab h s, w s⟩

/-- The eight stores of a block. -/
def slabs (h : Fin 2) (w : Fin 8 → IVec S256x128 32) : List (View.Piece (Elt F) S4096x128 .i32) :=
  [7, 6, 5, 4, 3, 2, 1, 0].map (slabPiece h w)

theorem mem_slabs (h : Fin 2) (w : Fin 8 → IVec S256x128 32) (p : View.Piece (Elt F) S4096x128 .i32) :
    p ∈ slabs (F := F) h w ↔ ∃ s : Fin 8, slabPiece h w s = p := by
  refine List.mem_map.trans ⟨fun ⟨s, _, e⟩ => ⟨s, e⟩, fun ⟨s, e⟩ => ⟨s, ?_, e⟩⟩
  clear e; revert s; decide

/-- A staged pair of blocks with half `h` put. -/
def halfOut (h : Fin 2) (Y : IVec SWords 32) (old : S4096x128.Idx → BitVec 32) : S4096x128.Idx → BitVec 32 := fun y =>
  if (y 0).val / 2048 = h.val then put Y y else old y

theorem read_slabs (h : Fin 2) {sg : RefSig} {κ : Kind} {sp : Space} (v : View sg κ sp S4096x128 .i32) (g : v.ty.Contents (Elt F))
    (w : Fin 8 → IVec S256x128 32) (Y : IVec SWords 32)
    (hw : ∀ s x, w s x = Y (at2 (x 0) ⟨128 * s.val + (x 1).val, by
      have := (x 1).isLt; change _ < 128 at this; have := s.isLt; omega⟩)) :
    v.read (Elt F) (v.writes (Elt F) g (slabs h w)) = halfOut h Y (v.read (Elt F) g) := by
  funext y
  unfold halfOut
  have hy0 : (y 0).val < 4096 := (y 0).isLt
  have hy1 : (y 1).val < 128 := (y 1).isLt
  split
  · rename_i hh
    refine View.read_writes_apply_of_pieces v g (put Y) _ ?_ y ?_
    · intro p hp x
      obtain ⟨s, rfl⟩ := (mem_slabs h w p).1 hp
      refine (hw s x).trans ?_
      have hs := s.isLt; have hx0 : (x 0).val < 256 := (x 0).isLt; have hx1 : (x 1).val < 128 := (x 1).isLt
      refine congrArg Y (funext fun a => Fin.ext ?_)
      have e0 := slab_emb0 h s x; have e1 := slab_emb1 h s x
      match a with
      | ⟨0, _⟩ => show (x 0).val = ((slab h s).emb x 0).val % 2048 / 8; rw [e0]; omega
      | ⟨1, _⟩ => show 128 * s.val + (x 1).val = 128 * (((slab h s).emb x 0).val % 8) + ((slab h s).emb x 1).val; rw [e0, e1]; omega
    · refine ⟨_, (mem_slabs h w _).2 ⟨⟨(y 0).val % 8, by omega⟩, rfl⟩, ?_⟩
      have := (slab h ⟨(y 0).val % 8, by omega⟩).idx_mem (at2 (n := 256) (k := 128) ⟨(y 0).val % 2048 / 8, by omega⟩ ⟨(y 1).val, hy1⟩)
      show y ∈ (slab h _).set
      refine Eq.subst (motive := fun z => z ∈ (slab h _).set) (Eq.symm ?_) this
      refine funext fun a => Fin.ext ?_
      match a with
      | ⟨0, _⟩ => refine Eq.trans ?_ (slab_emb0 h _ _).symm; show (y 0).val = 2048 * h.val + (y 0).val % 8 + 8 * ((y 0).val % 2048 / 8); omega
      | ⟨1, _⟩ => show (y 1).val = 0 + 0 + 1 * (y 1).val; omega
  · rename_i hh
    refine View.read_writes_apply_of_forall_not_mem v g y _ fun p hp hm => hh ?_
    obtain ⟨s, rfl⟩ := (mem_slabs h w p).1 hp
    obtain ⟨x, hx⟩ := (slab h s).exists_idx_of_mem hm
    have e0 := slab_emb0 h s x
    have hs := s.isLt; have hx0 : (x 0).val < 256 := (x 0).isLt; have := h.isLt
    rw [show (slab h s).emb x = y from hx] at e0
    omega

/-! ## The rows as the body gathers them -/

/-- The sixteen column strips the rows are gathered in. -/
abbrev strip (k : Fin 16) : Rect S256x2048 := Rect.unit (s := S256x2048) ![0, 128 * k.val] S256x128.size (by revert k; decide)

/-- One store of a strip. -/
def stripPiece (w : Fin 16 → FVec F S256x128 .bf16) (k : Fin 16) : View.Piece (Elt F) S256x2048 .bf16 := ⟨strip k, w k⟩

/-- The sixteen stores, last first. -/
def strips (w : Fin 16 → FVec F S256x128 .bf16) : List (View.Piece (Elt F) S256x2048 .bf16) :=
  [15, 14, 13, 12, 11, 10, 9, 8, 7, 6, 5, 4, 3, 2, 1, 0].map (stripPiece w)

/-- The strip of the rows. -/
def xbCol (W : IVec SWords 32) (k : Fin 16) : FVec F S256x128 .bf16 := fun x =>
  xbOf W (at2 (n := 256) (k := 2048) (x 0) ⟨128 * k.val + (x 1).val, by have := (x 1).isLt; change _ < 128 at this; have := k.isLt; omega⟩)

theorem readCov_strips {sg : RefSig} {κ : Kind} {sp : Space} (v : View sg κ sp S256x2048 .bf16) (W : IVec SWords 32) (inb) :
    v.readCov (strips (xbCol (F := F) W)) (Rect.unit (s := S256x2048) ![0, 0] S256x2048.size inb).toLoadRect = xbOf (F := F) W := by
  funext y
  have hy0 : (y 0).val < 256 := (y 0).isLt
  have hy1 : (y 1).val < 2048 := (y 1).isLt
  have e : (Rect.unit (s := S256x2048) ![0, 0] S256x2048.size inb).toLoadRect.idx y = y := by
    refine funext fun a => Fin.ext ?_
    match a with
    | ⟨0, _⟩ => show 0 + 1 * (y 0).val = (y 0).val; omega
    | ⟨1, _⟩ => show 0 + 1 * (y 1).val = (y 1).val; omega
  show v.read (Elt F) (v.writes (Elt F) v.junk _) _ = _
  rw [e]
  refine View.read_writes_apply_of_pieces (Val := Elt F) v v.junk (xbOf (F := F) W) _ ?_ y ?_
  · intro p hp x
    obtain ⟨k, -, rfl⟩ := List.mem_map.1 hp
    refine congrArg (xbOf (F := F) W) (funext fun a => Fin.ext ?_)
    match a with
    | ⟨0, _⟩ => show (x 0).val = 0 + 1 * (x 0).val; omega
    | ⟨1, _⟩ => show 128 * k.val + (x 1).val = 128 * k.val + 1 * (x 1).val; omega
  · refine ⟨stripPiece _ ⟨(y 1).val / 128, by omega⟩, List.mem_map.2 ⟨_, ?_, rfl⟩, ?_⟩
    · generalize (⟨(y 1).val / 128, _⟩ : Fin 16) = k
      revert k; decide
    · have := (strip ⟨(y 1).val / 128, by omega⟩).idx_mem (at2 (n := 256) (k := 128) (y 0) ⟨(y 1).val % 128, by omega⟩)
      show y ∈ (strip _).set
      refine Eq.subst (motive := fun z => z ∈ (strip _).set) ?_ this
      refine funext fun a => Fin.ext ?_
      match a with
      | ⟨0, _⟩ => show 0 + 1 * (y 0).val = (y 0).val; omega
      | ⟨1, _⟩ => show 128 * ((y 1).val / 128) + 1 * ((y 1).val % 128) = (y 1).val; omega

theorem lo_eq (h : Fin 2) {sg : RefSig} {κ : Kind} {sp : Space} (v : View sg κ sp S4096x128 .i32) (f : v.ty.Contents (Elt F)) (s : Fin 8) (h1 h2 h3 h4) :
    shapeCast S256x128 (truncf .bf16 (unpackElementwise (F := F) 0 (shapeCast S256x128 (v.readAt (Elt F) (slab h s).toLoadRect f) h1) h2) h3) h4
      = xbCol (F := F) (words h (v.read (Elt F) f)) ⟨s.val, by omega⟩ := by
  have e1 : shapeCast S256x128 (v.readAt (Elt F) (slab h s).toLoadRect f) h1 = (v.readAt (Elt F) (slab h s).toLoadRect f : S256x128.Idx → BitVec 32) := shapeCast_self _ _
  rw [shapeCast_self, e1]
  funext x
  have hs := s.isLt; have hx0 : (x 0).val < 256 := (x 0).isLt; have hx1 : (x 1).val < 128 := (x 1).isLt
  unfold xbCol xbOf
  refine Eq.trans ?_ (dif_pos (show 128 * s.val + (x 1).val < 1024 by omega)).symm
  show FloatOps.truncf .bf16 _ (FloatOps.extf .f32 _ (FloatOps.ofBits .bf16 ((v.read (Elt F) f _).extractLsb' (0 * 16) 16))) = FloatOps.truncf .bf16 _ (FloatOps.extf .f32 _ (FloatOps.ofBits .bf16 ((v.read (Elt F) f _).extractLsb' (0 * 16) 16)))
  refine congrArg (fun z => FloatOps.truncf .bf16 _ (FloatOps.extf .f32 _ (FloatOps.ofBits .bf16 ((v.read (Elt F) f z).extractLsb' (0 * 16) 16)))) (funext fun a => Fin.ext ?_)
  match a with
  | ⟨0, _⟩ => show 2048 * h.val + s.val + 8 * (x 0).val = 2048 * h.val + 8 * (x 0).val + (128 * s.val + (x 1).val) / 128; omega
  | ⟨1, _⟩ => show 0 + 0 + 1 * (x 1).val = (128 * s.val + (x 1).val) % 128; omega

theorem hi_eq (h : Fin 2) {sg : RefSig} {κ : Kind} {sp : Space} (v : View sg κ sp S4096x128 .i32) (f : v.ty.Contents (Elt F)) (s : Fin 8) (h1 h2 h3 h4) :
    shapeCast S256x128 (truncf .bf16 (unpackElementwise (F := F) 1 (shapeCast S256x128 (v.readAt (Elt F) (slab h s).toLoadRect f) h1) h2) h3) h4
      = xbCol (F := F) (words h (v.read (Elt F) f)) ⟨8 + s.val, by omega⟩ := by
  have e1 : shapeCast S256x128 (v.readAt (Elt F) (slab h s).toLoadRect f) h1 = (v.readAt (Elt F) (slab h s).toLoadRect f : S256x128.Idx → BitVec 32) := shapeCast_self _ _
  rw [shapeCast_self, e1]
  funext x
  have hs := s.isLt; have hx0 : (x 0).val < 256 := (x 0).isLt; have hx1 : (x 1).val < 128 := (x 1).isLt
  unfold xbCol xbOf
  refine Eq.trans ?_ (dif_neg (show ¬ 128 * (8 + s.val) + (x 1).val < 1024 by omega)).symm
  show FloatOps.truncf .bf16 _ (FloatOps.extf .f32 _ (FloatOps.ofBits .bf16 ((v.read (Elt F) f _).extractLsb' (1 * 16) 16))) = FloatOps.truncf .bf16 _ (FloatOps.extf .f32 _ (FloatOps.ofBits .bf16 ((v.read (Elt F) f _).extractLsb' (1 * 16) 16)))
  refine congrArg (fun z => FloatOps.truncf .bf16 _ (FloatOps.extf .f32 _ (FloatOps.ofBits .bf16 ((v.read (Elt F) f z).extractLsb' (1 * 16) 16)))) (funext fun a => Fin.ext ?_)
  match a with
  | ⟨0, _⟩ => show 2048 * h.val + s.val + 8 * (x 0).val = 2048 * h.val + 8 * (x 0).val + (128 * (8 + s.val) + (x 1).val - 1024) / 128; omega
  | ⟨1, _⟩ => show 0 + 0 + 1 * (x 1).val = (128 * (8 + s.val) + (x 1).val - 1024) % 128; omega

end Cert.Experts
-- ==== Proof.Half.lean ====
module

public import proofs.«01_k».proof.Proof.Mlp

@[expose] public section

/-! # The two products and the zero rows

The segments that fill one half of the staged output: from the half's words and the expert's three bf16
matrices, or with zero rows. -/

noncomputable section

namespace Cert.Experts

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- One slab of the packed rows. -/
def slabOut (V : FVec F S256x2048 .f32) (s : Fin 8) : IVec S256x128 32 := fun x =>
  pk V (at2 (x 0) ⟨128 * s.val + (x 1).val, by have := (x 1).isLt; change _ < 128 at this; have := s.isLt; omega⟩)

theorem slabOut_eq (V : FVec F S256x2048 .f32) (s : Fin 8) (n n' : ℕ) (eo : n = 128 * s.val) (eo' : n' = 1024 + 128 * s.val) (h h') :
    packElementwise (extractStridedSlice S256x128 ![0, n] V h) (extractStridedSlice S256x128 ![0, n'] V h') = slabOut V s := by
  subst eo eo'
  funext x
  unfold slabOut pk packElementwise
  refine congrArg₂ (fun a b : F .f32 => (BitOps.toBits (FloatOps.truncf .bf16 (by decide) a) ++ BitOps.toBits (FloatOps.truncf .bf16 (by decide) b) : BitVec 32))
    (congrArg V ?_) (congrArg V ?_)
  · refine funext fun a => Fin.ext ?_
    match a with
    | ⟨0, _⟩ => show 0 + (x 0).val = (x 0).val; omega
    | ⟨1, _⟩ => show 1024 + 128 * s.val + (x 1).val = 1024 + (128 * s.val + (x 1).val); omega
  · refine funext fun a => Fin.ext ?_
    match a with
    | ⟨0, _⟩ => show 0 + (x 0).val = (x 0).val; omega
    | ⟨1, _⟩ => rfl

theorem readAt_wbG (h) (G : FVec F S2048x512 .bf16) :
    View.readAt (Elt F) wbG.view (Rect.unit (s := S2048x512) ![0, 0] S2048x512.size h).toLoadRect G = G :=
  Memref.readAt_unit_zero (Val := Elt F) cc0_scratch3 (by funext a; fin_cases a <;> rfl) h G

theorem readAt_wbU (h) (G : FVec F S2048x512 .bf16) :
    View.readAt (Elt F) wbU.view (Rect.unit (s := S2048x512) ![0, 0] S2048x512.size h).toLoadRect G = G :=
  Memref.readAt_unit_zero (Val := Elt F) cc0_scratch4 (by funext a; fin_cases a <;> rfl) h G

theorem readAt_wbD (h) (G : FVec F S512x2048 .bf16) :
    View.readAt (Elt F) wbD.view (Rect.unit (s := S512x2048) ![0, 0] S512x2048.size h).toLoadRect G = G :=
  Memref.readAt_unit_zero (Val := Elt F) cc0_scratch5 (by funext a; fin_cases a <;> rfl) h G

theorem wp_segZ0 (c : Dev nD) (i : grid0.Coords) (arg7 : Memref sig .tc .vmem S4096x128 .i32) (harg7 : arg7.IsWhole) (arg11 : Memref sig .tc .vmem S4096x128 .i32) (harg11 : arg11.IsWhole)
    (v4 : Elt F .i32) (h : k0_cond6 v4 = 1#1) (g) :
    (arg11.view.loc (c : Thread nD τ) ↦[arg11.view.set]{fullShare} g : sProp 𝕄)
      ⊢ wp frame (wpE (defs₀ (F := F)) Variants.none (c : Thread nD τ) none) Set.univ
        (segZ0 (F := F) i arg7 harg7 arg11 harg11 v4) fun _ => iprop(∃ g', (arg11.view.loc (c : Thread nD τ) ↦[arg11.view.set]{fullShare} g')
          ∗ ⌜arg11.view.read (Elt F) g' = halfOut 0 (pk (zeros (F := F))) (arg11.view.read (Elt F) g)⌝) := by
  unfold segZ0 k0_part6
  iintro H11
  sl_exec
  sl_step
  iexists _
  isplitl [H11]
  · iexact H11
  ipureintro
  refine Eq.trans ?_ (read_slabs 0 arg11.view g (slabOut zeros) (pk zeros) (fun _ _ => rfl))
  have hz : wp_segZ0.sl.v37 (F := F) = zeros (F := F) := rfl
  have e0 : wp_segZ0.sl.v40 (F := F) = slabOut (zeros (F := F)) 0 := by
    unfold wp_segZ0.sl.v40 wp_segZ0.sl.v39 wp_segZ0.sl.v38
    rw [hz]
    exact slabOut_eq (zeros (F := F)) 0 0 1024 (by rfl) (by rfl) _ _
  have e1 : wp_segZ0.sl.v45 (F := F) = slabOut (zeros (F := F)) 1 := by
    unfold wp_segZ0.sl.v45 wp_segZ0.sl.v44 wp_segZ0.sl.v43
    rw [hz]
    exact slabOut_eq (zeros (F := F)) 1 128 1152 (by rfl) (by rfl) _ _
  have e2 : wp_segZ0.sl.v50 (F := F) = slabOut (zeros (F := F)) 2 := by
    unfold wp_segZ0.sl.v50 wp_segZ0.sl.v49 wp_segZ0.sl.v48
    rw [hz]
    exact slabOut_eq (zeros (F := F)) 2 256 1280 (by rfl) (by rfl) _ _
  have e3 : wp_segZ0.sl.v55 (F := F) = slabOut (zeros (F := F)) 3 := by
    unfold wp_segZ0.sl.v55 wp_segZ0.sl.v54 wp_segZ0.sl.v53
    rw [hz]
    exact slabOut_eq (zeros (F := F)) 3 384 1408 (by rfl) (by rfl) _ _
  have e4 : wp_segZ0.sl.v60 (F := F) = slabOut (zeros (F := F)) 4 := by
    unfold wp_segZ0.sl.v60 wp_segZ0.sl.v59 wp_segZ0.sl.v58
    rw [hz]
    exact slabOut_eq (zeros (F := F)) 4 512 1536 (by rfl) (by rfl) _ _
  have e5 : wp_segZ0.sl.v65 (F := F) = slabOut (zeros (F := F)) 5 := by
    unfold wp_segZ0.sl.v65 wp_segZ0.sl.v64 wp_segZ0.sl.v63
    rw [hz]
    exact slabOut_eq (zeros (F := F)) 5 640 1664 (by rfl) (by rfl) _ _
  have e6 : wp_segZ0.sl.v70 (F := F) = slabOut (zeros (F := F)) 6 := by
    unfold wp_segZ0.sl.v70 wp_segZ0.sl.v69 wp_segZ0.sl.v68
    rw [hz]
    exact slabOut_eq (zeros (F := F)) 6 768 1792 (by rfl) (by rfl) _ _
  have e7 : wp_segZ0.sl.v75 (F := F) = slabOut (zeros (F := F)) 7 := by
    unfold wp_segZ0.sl.v75 wp_segZ0.sl.v74 wp_segZ0.sl.v73
    rw [hz]
    exact slabOut_eq (zeros (F := F)) 7 896 1920 (by rfl) (by rfl) _ _
  rw [e0, e1, e2, e3, e4, e5, e6, e7]
  rfl

theorem wp_segC0 (c : Dev nD) (i : grid0.Coords) (arg7 : Memref sig .tc .vmem S4096x128 .i32) (harg7 : arg7.IsWhole) (arg11 : Memref sig .tc .vmem S4096x128 .i32) (harg11 : arg11.IsWhole)
    (v4 : Elt F .i32) (h : k0_cond5 v4 = 1#1) (f7) (g) (gx) (G U : FVec F S2048x512 .bf16) (D : FVec F S512x2048 .bf16) :
    iprop((arg7.view.loc (c : Thread nD τ) ↦[arg7.view.set]{fullShare} f7) ∗ (arg11.view.loc (c : Thread nD τ) ↦[arg11.view.set]{fullShare} g) ∗ (xbB.view.loc (c : Thread nD τ) ↦{fullShare} gx)
     ∗ (wbG.view.loc (c : Thread nD τ) ↦{fullShare} G) ∗ (wbU.view.loc (c : Thread nD τ) ↦{fullShare} U) ∗ (wbD.view.loc (c : Thread nD τ) ↦{fullShare} D) : sProp 𝕄)
      ⊢ wp frame (wpE (defs₀ (F := F)) Variants.none (c : Thread nD τ) none) Set.univ
        (segC0 (F := F) i arg7 harg7 arg11 harg11 v4) fun _ =>
          iprop((arg7.view.loc (c : Thread nD τ) ↦[arg7.view.set]{fullShare} f7) ∗ (∃ gx', xbB.view.loc (c : Thread nD τ) ↦{fullShare} gx')
     ∗ (wbG.view.loc (c : Thread nD τ) ↦{fullShare} G) ∗ (wbU.view.loc (c : Thread nD τ) ↦{fullShare} U) ∗ (wbD.view.loc (c : Thread nD τ) ↦{fullShare} D)
     ∗ ∃ g', (arg11.view.loc (c : Thread nD τ) ↦[arg11.view.set]{fullShare} g') ∗ ⌜arg11.view.read (Elt F) g' = halfOut 0 (pk (mlp (xbOf (words 0 (arg7.view.read (Elt F) f7))) G U D)) (arg11.view.read (Elt F) g)⌝) := by
  unfold segC0 k0_part2 k0_part3 k0_part4 k0_part5
  iintro ⟨H7, H11, HX, HG, HU, HD⟩
  sl_exec
  sl_step
  isplitl [H7]
  · iexact H7
  isplitl [HX]
  · iexists _; iexact HX
  isplitl [HG]
  · iexact HG
  isplitl [HU]
  · iexact HU
  isplitl [HD]
  · iexact HD
  iexists _
  isplitl [H11]
  · iexact H11
  ipureintro
  have c0 : wp_segC0.sl.v80 c arg7 f7 = xbCol (F := F) (words 0 (arg7.view.read (Elt F) f7)) 0 := lo_eq 0 arg7.view f7 0 _ _ _ _
  have c1 : wp_segC0.sl.v84 c arg7 f7 = xbCol (F := F) (words 0 (arg7.view.read (Elt F) f7)) 1 := lo_eq 0 arg7.view f7 1 _ _ _ _
  have c2 : wp_segC0.sl.v88 c arg7 f7 = xbCol (F := F) (words 0 (arg7.view.read (Elt F) f7)) 2 := lo_eq 0 arg7.view f7 2 _ _ _ _
  have c3 : wp_segC0.sl.v92 c arg7 f7 = xbCol (F := F) (words 0 (arg7.view.read (Elt F) f7)) 3 := lo_eq 0 arg7.view f7 3 _ _ _ _
  have c4 : wp_segC0.sl.v96 c arg7 f7 = xbCol (F := F) (words 0 (arg7.view.read (Elt F) f7)) 4 := lo_eq 0 arg7.view f7 4 _ _ _ _
  have c5 : wp_segC0.sl.v100 c arg7 f7 = xbCol (F := F) (words 0 (arg7.view.read (Elt F) f7)) 5 := lo_eq 0 arg7.view f7 5 _ _ _ _
  have c6 : wp_segC0.sl.v104 c arg7 f7 = xbCol (F := F) (words 0 (arg7.view.read (Elt F) f7)) 6 := lo_eq 0 arg7.view f7 6 _ _ _ _
  have c7 : wp_segC0.sl.v108 c arg7 f7 = xbCol (F := F) (words 0 (arg7.view.read (Elt F) f7)) 7 := lo_eq 0 arg7.view f7 7 _ _ _ _
  have c8 : wp_segC0.sl.v112 c arg7 f7 = xbCol (F := F) (words 0 (arg7.view.read (Elt F) f7)) 8 := hi_eq 0 arg7.view f7 0 _ _ _ _
  have c9 : wp_segC0.sl.v116 c arg7 f7 = xbCol (F := F) (words 0 (arg7.view.read (Elt F) f7)) 9 := hi_eq 0 arg7.view f7 1 _ _ _ _
  have c10 : wp_segC0.sl.v120 c arg7 f7 = xbCol (F := F) (words 0 (arg7.view.read (Elt F) f7)) 10 := hi_eq 0 arg7.view f7 2 _ _ _ _
  have c11 : wp_segC0.sl.v124 c arg7 f7 = xbCol (F := F) (words 0 (arg7.view.read (Elt F) f7)) 11 := hi_eq 0 arg7.view f7 3 _ _ _ _
  have c12 : wp_segC0.sl.v128 c arg7 f7 = xbCol (F := F) (words 0 (arg7.view.read (Elt F) f7)) 12 := hi_eq 0 arg7.view f7 4 _ _ _ _
  have c13 : wp_segC0.sl.v132 c arg7 f7 = xbCol (F := F) (words 0 (arg7.view.read (Elt F) f7)) 13 := hi_eq 0 arg7.view f7 5 _ _ _ _
  have c14 : wp_segC0.sl.v136 c arg7 f7 = xbCol (F := F) (words 0 (arg7.view.read (Elt F) f7)) 14 := hi_eq 0 arg7.view f7 6 _ _ _ _
  have c15 : wp_segC0.sl.v140 c arg7 f7 = xbCol (F := F) (words 0 (arg7.view.read (Elt F) f7)) 15 := hi_eq 0 arg7.view f7 7 _ _ _ _
  have hx : wp_segC0.sl.v141 c arg7 f7 = xbOf (words 0 (arg7.view.read (Elt F) f7)) := by
    unfold wp_segC0.sl.v141 wp_segC0.sl.HX_16
    rw [c0, c1, c2, c3, c4, c5, c6, c7, c8, c9, c10, c11, c12, c13, c14, c15]
    exact readCov_strips xbB.view _ _
  have hv : wp_segC0.sl.v151 c arg7 f7 G U D = mlp (xbOf (words 0 (arg7.view.read (Elt F) f7))) G U D := by
    unfold wp_segC0.sl.v151 wp_segC0.sl.v149 wp_segC0.sl.v148 wp_segC0.sl.v147 wp_segC0.sl.v146 wp_segC0.sl.v143 wp_segC0.sl.v145
    rw [hx, readAt_wbG, readAt_wbU, readAt_wbD]
    rfl
  have e0 : wp_segC0.sl.v154 c arg7 f7 G U D = slabOut (mlp (xbOf (words 0 (arg7.view.read (Elt F) f7))) G U D) 0 := by
    unfold wp_segC0.sl.v154 wp_segC0.sl.v153 wp_segC0.sl.v152
    rw [hv]
    exact slabOut_eq _ 0 0 1024 (by rfl) (by rfl) _ _
  have e1 : wp_segC0.sl.v159 c arg7 f7 G U D = slabOut (mlp (xbOf (words 0 (arg7.view.read (Elt F) f7))) G U D) 1 := by
    unfold wp_segC0.sl.v159 wp_segC0.sl.v158 wp_segC0.sl.v157
    rw [hv]
    exact slabOut_eq _ 1 128 1152 (by rfl) (by rfl) _ _
  have e2 : wp_segC0.sl.v164 c arg7 f7 G U D = slabOut (mlp (xbOf (words 0 (arg7.view.read (Elt F) f7))) G U D) 2 := by
    unfold wp_segC0.sl.v164 wp_segC0.sl.v163 wp_segC0.sl.v162
    rw [hv]
    exact slabOut_eq _ 2 256 1280 (by rfl) (by rfl) _ _
  have e3 : wp_segC0.sl.v169 c arg7 f7 G U D = slabOut (mlp (xbOf (words 0 (arg7.view.read (Elt F) f7))) G U D) 3 := by
    unfold wp_segC0.sl.v169 wp_segC0.sl.v168 wp_segC0.sl.v167
    rw [hv]
    exact slabOut_eq _ 3 384 1408 (by rfl) (by rfl) _ _
  have e4 : wp_segC0.sl.v174 c arg7 f7 G U D = slabOut (mlp (xbOf (words 0 (arg7.view.read (Elt F) f7))) G U D) 4 := by
    unfold wp_segC0.sl.v174 wp_segC0.sl.v173 wp_segC0.sl.v172
    rw [hv]
    exact slabOut_eq _ 4 512 1536 (by rfl) (by rfl) _ _
  have e5 : wp_segC0.sl.v179 c arg7 f7 G U D = slabOut (mlp (xbOf (words 0 (arg7.view.read (Elt F) f7))) G U D) 5 := by
    unfold wp_segC0.sl.v179 wp_segC0.sl.v178 wp_segC0.sl.v177
    rw [hv]
    exact slabOut_eq _ 5 640 1664 (by rfl) (by rfl) _ _
  have e6 : wp_segC0.sl.v184 c arg7 f7 G U D = slabOut (mlp (xbOf (words 0 (arg7.view.read (Elt F) f7))) G U D) 6 := by
    unfold wp_segC0.sl.v184 wp_segC0.sl.v183 wp_segC0.sl.v182
    rw [hv]
    exact slabOut_eq _ 6 768 1792 (by rfl) (by rfl) _ _
  have e7 : wp_segC0.sl.v189 c arg7 f7 G U D = slabOut (mlp (xbOf (words 0 (arg7.view.read (Elt F) f7))) G U D) 7 := by
    unfold wp_segC0.sl.v189 wp_segC0.sl.v188 wp_segC0.sl.v187
    rw [hv]
    exact slabOut_eq _ 7 896 1920 (by rfl) (by rfl) _ _
  refine Eq.trans ?_ (read_slabs 0 arg11.view g (slabOut (mlp (xbOf (words 0 (arg7.view.read (Elt F) f7))) G U D)) (pk _) (fun _ _ => rfl))
  rw [e0, e1, e2, e3, e4, e5, e6, e7]
  rfl

theorem wp_segZ1 (c : Dev nD) (i : grid0.Coords) (arg7 : Memref sig .tc .vmem S4096x128 .i32) (harg7 : arg7.IsWhole) (arg11 : Memref sig .tc .vmem S4096x128 .i32) (harg11 : arg11.IsWhole)
    (v4 : Elt F .i32) (h : k0_cond10 v4 = 1#1) (g) :
    (arg11.view.loc (c : Thread nD τ) ↦[arg11.view.set]{fullShare} g : sProp 𝕄)
      ⊢ wp frame (wpE (defs₀ (F := F)) Variants.none (c : Thread nD τ) none) Set.univ
        (segZ1 (F := F) i arg7 harg7 arg11 harg11 v4) fun _ => iprop(∃ g', (arg11.view.loc (c : Thread nD τ) ↦[arg11.view.set]{fullShare} g')
          ∗ ⌜arg11.view.read (Elt F) g' = halfOut 1 (pk (zeros (F := F))) (arg11.view.read (Elt F) g)⌝) := by
  unfold segZ1 k0_part12
  iintro H11
  sl_exec
  sl_step
  iexists _
  isplitl [H11]
  · iexact H11
  ipureintro
  refine Eq.trans ?_ (read_slabs 1 arg11.view g (slabOut zeros) (pk zeros) (fun _ _ => rfl))
  have hz : wp_segZ1.sl.v37 (F := F) = zeros (F := F) := rfl
  have e0 : wp_segZ1.sl.v40 (F := F) = slabOut (zeros (F := F)) 0 := by
    unfold wp_segZ1.sl.v40 wp_segZ1.sl.v39 wp_segZ1.sl.v38
    rw [hz]
    exact slabOut_eq (zeros (F := F)) 0 0 1024 (by rfl) (by rfl) _ _
  have e1 : wp_segZ1.sl.v45 (F := F) = slabOut (zeros (F := F)) 1 := by
    unfold wp_segZ1.sl.v45 wp_segZ1.sl.v44 wp_segZ1.sl.v43
    rw [hz]
    exact slabOut_eq (zeros (F := F)) 1 128 1152 (by rfl) (by rfl) _ _
  have e2 : wp_segZ1.sl.v50 (F := F) = slabOut (zeros (F := F)) 2 := by
    unfold wp_segZ1.sl.v50 wp_segZ1.sl.v49 wp_segZ1.sl.v48
    rw [hz]
    exact slabOut_eq (zeros (F := F)) 2 256 1280 (by rfl) (by rfl) _ _
  have e3 : wp_segZ1.sl.v55 (F := F) = slabOut (zeros (F := F)) 3 := by
    unfold wp_segZ1.sl.v55 wp_segZ1.sl.v54 wp_segZ1.sl.v53
    rw [hz]
    exact slabOut_eq (zeros (F := F)) 3 384 1408 (by rfl) (by rfl) _ _
  have e4 : wp_segZ1.sl.v60 (F := F) = slabOut (zeros (F := F)) 4 := by
    unfold wp_segZ1.sl.v60 wp_segZ1.sl.v59 wp_segZ1.sl.v58
    rw [hz]
    exact slabOut_eq (zeros (F := F)) 4 512 1536 (by rfl) (by rfl) _ _
  have e5 : wp_segZ1.sl.v65 (F := F) = slabOut (zeros (F := F)) 5 := by
    unfold wp_segZ1.sl.v65 wp_segZ1.sl.v64 wp_segZ1.sl.v63
    rw [hz]
    exact slabOut_eq (zeros (F := F)) 5 640 1664 (by rfl) (by rfl) _ _
  have e6 : wp_segZ1.sl.v70 (F := F) = slabOut (zeros (F := F)) 6 := by
    unfold wp_segZ1.sl.v70 wp_segZ1.sl.v69 wp_segZ1.sl.v68
    rw [hz]
    exact slabOut_eq (zeros (F := F)) 6 768 1792 (by rfl) (by rfl) _ _
  have e7 : wp_segZ1.sl.v75 (F := F) = slabOut (zeros (F := F)) 7 := by
    unfold wp_segZ1.sl.v75 wp_segZ1.sl.v74 wp_segZ1.sl.v73
    rw [hz]
    exact slabOut_eq (zeros (F := F)) 7 896 1920 (by rfl) (by rfl) _ _
  rw [e0, e1, e2, e3, e4, e5, e6, e7]
  rfl

theorem wp_segC1 (c : Dev nD) (i : grid0.Coords) (arg7 : Memref sig .tc .vmem S4096x128 .i32) (harg7 : arg7.IsWhole) (arg11 : Memref sig .tc .vmem S4096x128 .i32) (harg11 : arg11.IsWhole)
    (v4 : Elt F .i32) (h : k0_cond9 v4 = 1#1) (f7) (g) (gx) (G U : FVec F S2048x512 .bf16) (D : FVec F S512x2048 .bf16) :
    iprop((arg7.view.loc (c : Thread nD τ) ↦[arg7.view.set]{fullShare} f7) ∗ (arg11.view.loc (c : Thread nD τ) ↦[arg11.view.set]{fullShare} g) ∗ (xbB.view.loc (c : Thread nD τ) ↦{fullShare} gx)
     ∗ (wbG.view.loc (c : Thread nD τ) ↦{fullShare} G) ∗ (wbU.view.loc (c : Thread nD τ) ↦{fullShare} U) ∗ (wbD.view.loc (c : Thread nD τ) ↦{fullShare} D) : sProp 𝕄)
      ⊢ wp frame (wpE (defs₀ (F := F)) Variants.none (c : Thread nD τ) none) Set.univ
        (segC1 (F := F) i arg7 harg7 arg11 harg11 v4) fun _ =>
          iprop((arg7.view.loc (c : Thread nD τ) ↦[arg7.view.set]{fullShare} f7) ∗ (∃ gx', xbB.view.loc (c : Thread nD τ) ↦{fullShare} gx')
     ∗ (wbG.view.loc (c : Thread nD τ) ↦{fullShare} G) ∗ (wbU.view.loc (c : Thread nD τ) ↦{fullShare} U) ∗ (wbD.view.loc (c : Thread nD τ) ↦{fullShare} D)
     ∗ ∃ g', (arg11.view.loc (c : Thread nD τ) ↦[arg11.view.set]{fullShare} g') ∗ ⌜arg11.view.read (Elt F) g' = halfOut 1 (pk (mlp (xbOf (words 1 (arg7.view.read (Elt F) f7))) G U D)) (arg11.view.read (Elt F) g)⌝) := by
  unfold segC1 k0_part8 k0_part9 k0_part10 k0_part11
  iintro ⟨H7, H11, HX, HG, HU, HD⟩
  sl_exec
  sl_step
  isplitl [H7]
  · iexact H7
  isplitl [HX]
  · iexists _; iexact HX
  isplitl [HG]
  · iexact HG
  isplitl [HU]
  · iexact HU
  isplitl [HD]
  · iexact HD
  iexists _
  isplitl [H11]
  · iexact H11
  ipureintro
  have c0 : wp_segC1.sl.v80 c arg7 f7 = xbCol (F := F) (words 1 (arg7.view.read (Elt F) f7)) 0 := lo_eq 1 arg7.view f7 0 _ _ _ _
  have c1 : wp_segC1.sl.v84 c arg7 f7 = xbCol (F := F) (words 1 (arg7.view.read (Elt F) f7)) 1 := lo_eq 1 arg7.view f7 1 _ _ _ _
  have c2 : wp_segC1.sl.v88 c arg7 f7 = xbCol (F := F) (words 1 (arg7.view.read (Elt F) f7)) 2 := lo_eq 1 arg7.view f7 2 _ _ _ _
  have c3 : wp_segC1.sl.v92 c arg7 f7 = xbCol (F := F) (words 1 (arg7.view.read (Elt F) f7)) 3 := lo_eq 1 arg7.view f7 3 _ _ _ _
  have c4 : wp_segC1.sl.v96 c arg7 f7 = xbCol (F := F) (words 1 (arg7.view.read (Elt F) f7)) 4 := lo_eq 1 arg7.view f7 4 _ _ _ _
  have c5 : wp_segC1.sl.v100 c arg7 f7 = xbCol (F := F) (words 1 (arg7.view.read (Elt F) f7)) 5 := lo_eq 1 arg7.view f7 5 _ _ _ _
  have c6 : wp_segC1.sl.v104 c arg7 f7 = xbCol (F := F) (words 1 (arg7.view.read (Elt F) f7)) 6 := lo_eq 1 arg7.view f7 6 _ _ _ _
  have c7 : wp_segC1.sl.v108 c arg7 f7 = xbCol (F := F) (words 1 (arg7.view.read (Elt F) f7)) 7 := lo_eq 1 arg7.view f7 7 _ _ _ _
  have c8 : wp_segC1.sl.v112 c arg7 f7 = xbCol (F := F) (words 1 (arg7.view.read (Elt F) f7)) 8 := hi_eq 1 arg7.view f7 0 _ _ _ _
  have c9 : wp_segC1.sl.v116 c arg7 f7 = xbCol (F := F) (words 1 (arg7.view.read (Elt F) f7)) 9 := hi_eq 1 arg7.view f7 1 _ _ _ _
  have c10 : wp_segC1.sl.v120 c arg7 f7 = xbCol (F := F) (words 1 (arg7.view.read (Elt F) f7)) 10 := hi_eq 1 arg7.view f7 2 _ _ _ _
  have c11 : wp_segC1.sl.v124 c arg7 f7 = xbCol (F := F) (words 1 (arg7.view.read (Elt F) f7)) 11 := hi_eq 1 arg7.view f7 3 _ _ _ _
  have c12 : wp_segC1.sl.v128 c arg7 f7 = xbCol (F := F) (words 1 (arg7.view.read (Elt F) f7)) 12 := hi_eq 1 arg7.view f7 4 _ _ _ _
  have c13 : wp_segC1.sl.v132 c arg7 f7 = xbCol (F := F) (words 1 (arg7.view.read (Elt F) f7)) 13 := hi_eq 1 arg7.view f7 5 _ _ _ _
  have c14 : wp_segC1.sl.v136 c arg7 f7 = xbCol (F := F) (words 1 (arg7.view.read (Elt F) f7)) 14 := hi_eq 1 arg7.view f7 6 _ _ _ _
  have c15 : wp_segC1.sl.v140 c arg7 f7 = xbCol (F := F) (words 1 (arg7.view.read (Elt F) f7)) 15 := hi_eq 1 arg7.view f7 7 _ _ _ _
  have hx : wp_segC1.sl.v141 c arg7 f7 = xbOf (words 1 (arg7.view.read (Elt F) f7)) := by
    unfold wp_segC1.sl.v141 wp_segC1.sl.HX_16
    rw [c0, c1, c2, c3, c4, c5, c6, c7, c8, c9, c10, c11, c12, c13, c14, c15]
    exact readCov_strips xbB.view _ _
  have hv : wp_segC1.sl.v151 c arg7 f7 G U D = mlp (xbOf (words 1 (arg7.view.read (Elt F) f7))) G U D := by
    unfold wp_segC1.sl.v151 wp_segC1.sl.v149 wp_segC1.sl.v148 wp_segC1.sl.v147 wp_segC1.sl.v146 wp_segC1.sl.v143 wp_segC1.sl.v145
    rw [hx, readAt_wbG, readAt_wbU, readAt_wbD]
    rfl
  have e0 : wp_segC1.sl.v154 c arg7 f7 G U D = slabOut (mlp (xbOf (words 1 (arg7.view.read (Elt F) f7))) G U D) 0 := by
    unfold wp_segC1.sl.v154 wp_segC1.sl.v153 wp_segC1.sl.v152
    rw [hv]
    exact slabOut_eq _ 0 0 1024 (by rfl) (by rfl) _ _
  have e1 : wp_segC1.sl.v159 c arg7 f7 G U D = slabOut (mlp (xbOf (words 1 (arg7.view.read (Elt F) f7))) G U D) 1 := by
    unfold wp_segC1.sl.v159 wp_segC1.sl.v158 wp_segC1.sl.v157
    rw [hv]
    exact slabOut_eq _ 1 128 1152 (by rfl) (by rfl) _ _
  have e2 : wp_segC1.sl.v164 c arg7 f7 G U D = slabOut (mlp (xbOf (words 1 (arg7.view.read (Elt F) f7))) G U D) 2 := by
    unfold wp_segC1.sl.v164 wp_segC1.sl.v163 wp_segC1.sl.v162
    rw [hv]
    exact slabOut_eq _ 2 256 1280 (by rfl) (by rfl) _ _
  have e3 : wp_segC1.sl.v169 c arg7 f7 G U D = slabOut (mlp (xbOf (words 1 (arg7.view.read (Elt F) f7))) G U D) 3 := by
    unfold wp_segC1.sl.v169 wp_segC1.sl.v168 wp_segC1.sl.v167
    rw [hv]
    exact slabOut_eq _ 3 384 1408 (by rfl) (by rfl) _ _
  have e4 : wp_segC1.sl.v174 c arg7 f7 G U D = slabOut (mlp (xbOf (words 1 (arg7.view.read (Elt F) f7))) G U D) 4 := by
    unfold wp_segC1.sl.v174 wp_segC1.sl.v173 wp_segC1.sl.v172
    rw [hv]
    exact slabOut_eq _ 4 512 1536 (by rfl) (by rfl) _ _
  have e5 : wp_segC1.sl.v179 c arg7 f7 G U D = slabOut (mlp (xbOf (words 1 (arg7.view.read (Elt F) f7))) G U D) 5 := by
    unfold wp_segC1.sl.v179 wp_segC1.sl.v178 wp_segC1.sl.v177
    rw [hv]
    exact slabOut_eq _ 5 640 1664 (by rfl) (by rfl) _ _
  have e6 : wp_segC1.sl.v184 c arg7 f7 G U D = slabOut (mlp (xbOf (words 1 (arg7.view.read (Elt F) f7))) G U D) 6 := by
    unfold wp_segC1.sl.v184 wp_segC1.sl.v183 wp_segC1.sl.v182
    rw [hv]
    exact slabOut_eq _ 6 768 1792 (by rfl) (by rfl) _ _
  have e7 : wp_segC1.sl.v189 c arg7 f7 G U D = slabOut (mlp (xbOf (words 1 (arg7.view.read (Elt F) f7))) G U D) 7 := by
    unfold wp_segC1.sl.v189 wp_segC1.sl.v188 wp_segC1.sl.v187
    rw [hv]
    exact slabOut_eq _ 7 896 1920 (by rfl) (by rfl) _ _
  refine Eq.trans ?_ (read_slabs 1 arg11.view g (slabOut (mlp (xbOf (words 1 (arg7.view.read (Elt F) f7))) G U D)) (pk _) (fun _ _ => rfl))
  rw [e0, e1, e2, e3, e4, e5, e6, e7]
  rfl

end Cert.Experts
-- ==== Proof.Body.lean ====
module

public import proofs.«01_k».proof.Proof.Half

@[expose] public section

/-! # One run of the body

The routing as the body reads it from its tables, which request is under way before each block and whose
weights the products read, and the body's run at a pair of blocks over that state. -/

noncomputable section

namespace Cert.Experts

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The routing, block by block: its expert, its weights' slot, whether it is its expert's first, how many
    of its rows are tokens, and the expert to request ahead. -/
structure Plan where
  ex : ℕ → Fin 64
  sl : ℕ → Fin 2
  fi : ℕ → Bool
  va : ℕ → Fin 257
  nx : ℕ → Option (Fin 64)

/-- The request under way before block `n`. -/
def Plan.pend (P : Plan) : ℕ → Option (Fin 2 × Fin 64)
  | 0 => some (P.sl 0, P.ex 0)
  | n + 1 => if P.fi n then (P.nx n).map (1 - P.sl n, ·) else P.pend n

/-- Whose weights the products read, once block `n - 1` is done. -/
def Plan.cur (P : Plan) : ℕ → Option (Fin 64)
  | 0 => none
  | n + 1 => if P.fi n then some (P.ex n) else P.cur n

/-- What makes the body's run go through: a first block finds its own request under way, a block with tokens
    finds its expert's weights, and nothing is under way at the end. -/
structure Plan.Good (P : Plan) : Prop where
  meet : ∀ n < 192, P.fi n = true → P.pend n = some (P.sl n, P.ex n)
  have_w : ∀ n < 192, 0 < (P.va n).val → P.cur (n + 1) = some (P.ex n)
  done : P.pend 192 = none

variable {F : FTy → Type} [BitOps F]

local notation "𝕄" => MT nD τ sig Unit (Elt F) ℕ (Pipeline.UD sig nD τ) ℕ

/-- The word of a count. -/
def wV (n : Fin 257) : Elt F .i32 := (BitVec.ofNat 32 n.val : BitVec 32)
/-- The word of a flag. -/
def wF (b : Bool) : Elt F .i32 := (if b then 1#32 else 0#32 : BitVec 32)

/-- The tables hold the plan. -/
structure Tells (P : Plan) (fE fV fF fS fA : S192.Idx → Elt F .i32) : Prop where
  he : ∀ b : Fin 192, fE (ix b) = wE (P.ex b.val)
  hv : ∀ b : Fin 192, fV (ix b) = wV (P.va b.val)
  hf : ∀ b : Fin 192, fF (ix b) = wF (P.fi b.val)
  hs : ∀ b : Fin 192, fS (ix b) = wS (P.sl b.val)
  ha : ∀ b : Fin 192, fA (ix b) = wN (P.nx b.val)

theorem c3_true : k0_cond3 (wF (F := F) true) = 1#1 := by show k0_cond3 1#32 = 1#1; decide
theorem c3_false : ¬ k0_cond3 (wF (F := F) false) = 1#1 := by show ¬ k0_cond3 0#32 = 1#1; decide
theorem c7_true : k0_cond7 (wF (F := F) true) = 1#1 := by show k0_cond7 1#32 = 1#1; decide
theorem c7_false : ¬ k0_cond7 (wF (F := F) false) = 1#1 := by show ¬ k0_cond7 0#32 = 1#1; decide
theorem c1_iff' (i : grid0.Coords) : Iff (k0_cond1 i = 1#1) ((i 0).val = 0) := by
  show Iff (Scalar.cmpi .ne (Scalar.extui (Scalar.cmpi .eq (BitVec.ofNat 32 (i 0).val) 0#32) : BitVec 32) 0#32 = 1#1) ((i 0).val = 0)
  have h : ∀ x : Fin 96, Iff (Scalar.cmpi .ne (Scalar.extui (Scalar.cmpi .eq (BitVec.ofNat 32 x.val) 0#32) : BitVec 32) 0#32 = 1#1) (x.val = 0) := by decide
  exact h (i 0)
theorem c5_iff (n : Fin 257) : Iff (k0_cond5 (wV (F := F) n) = 1#1) (0 < n.val) := by
  show Iff (k0_cond5 (BitVec.ofNat 32 n.val) = 1#1) (0 < n.val); revert n; decide
theorem c9_iff (n : Fin 257) : Iff (k0_cond9 (wV (F := F) n) = 1#1) (0 < n.val) := by
  show Iff (k0_cond9 (BitVec.ofNat 32 n.val) = 1#1) (0 < n.val); revert n; decide
theorem c6_iff (n : Fin 257) : Iff (k0_cond6 (wV (F := F) n) = 1#1) (n.val = 0) := by
  show Iff (k0_cond6 (BitVec.ofNat 32 n.val) = 1#1) (n.val = 0); revert n; decide
theorem c10_iff (n : Fin 257) : Iff (k0_cond10 (wV (F := F) n) = 1#1) (n.val = 0) := by
  show Iff (k0_cond10 (BitVec.ofNat 32 n.val) = 1#1) (n.val = 0); revert n; decide

theorem wp_tabV {α : Type} (c : Dev nD) {Q : α → sProp 𝕄} (fE fR fV fF fS fA : S192.Idx → Elt F .i32) (b : Fin 192) {o : Fin 1 → ℕ} {h} (eo : o = ![b.val]) {h1 hp}
    {k : Elt F .i32 → Prog (TpuEff nD τ sig (Elt F) Λ₀ .tc) α} {v : Elt F .i32} (hv : fV (ix b) = v) :
    tabs c fE fR fV fF fS fA ⊢ iprop((tabs c fE fR fV fF fS fA -∗ wp frame (wpE (defs₀ (F := F)) Variants.none (c : Thread nD τ) none) Set.univ (k v) Q) -∗
      wp frame (wpE (defs₀ (F := F)) Variants.none (c : Thread nD τ) none) Set.univ (smemLoad tbV (Rect.unit (s := S192) o S1.size h) h1 hp >>= k) Q) := by
  unfold tabs
  iintro ⟨TE, TR, TV, TF, TS, TA⟩ HK
  iapply (wp_wordK c tbV (Rect.unit (s := S192) o S1.size h) (v := v) (f := fV) (q := fullShare.right) ((word_tbV b eo fV _).trans hv)) $$ TV
  iintro TV
  iapply HK
  isplitl [TE]; · iexact TE
  isplitl [TR]; · iexact TR
  isplitl [TV]; · iexact TV
  isplitl [TF]; · iexact TF
  isplitl [TS]; · iexact TS
  iexact TA

theorem wp_tabS {α : Type} (c : Dev nD) {Q : α → sProp 𝕄} (fE fR fV fF fS fA : S192.Idx → Elt F .i32) (b : Fin 192) {o : Fin 1 → ℕ} {h} (eo : o = ![b.val]) {h1 hp}
    {k : Elt F .i32 → Prog (TpuEff nD τ sig (Elt F) Λ₀ .tc) α} {v : Elt F .i32} (hv : fS (ix b) = v) :
    tabs c fE fR fV fF fS fA ⊢ iprop((tabs c fE fR fV fF fS fA -∗ wp frame (wpE (defs₀ (F := F)) Variants.none (c : Thread nD τ) none) Set.univ (k v) Q) -∗
      wp frame (wpE (defs₀ (F := F)) Variants.none (c : Thread nD τ) none) Set.univ (smemLoad tbS (Rect.unit (s := S192) o S1.size h) h1 hp >>= k) Q) := by
  unfold tabs
  iintro ⟨TE, TR, TV, TF, TS, TA⟩ HK
  iapply (wp_wordK c tbS (Rect.unit (s := S192) o S1.size h) (v := v) (f := fS) (q := fullShare.right) ((word_tbS b eo fS _).trans hv)) $$ TS
  iintro TS
  iapply HK
  isplitl [TE]; · iexact TE
  isplitl [TR]; · iexact TR
  isplitl [TV]; · iexact TV
  isplitl [TF]; · iexact TF
  isplitl [TS]; · iexact TS
  iexact TA

theorem wp_tabF {α : Type} (c : Dev nD) {Q : α → sProp 𝕄} (fE fR fV fF fS fA : S192.Idx → Elt F .i32) (b : Fin 192) {o : Fin 1 → ℕ} {h} (eo : o = ![b.val]) {h1 hp}
    {k : Elt F .i32 → Prog (TpuEff nD τ sig (Elt F) Λ₀ .tc) α} {v : Elt F .i32} (hv : fF (ix b) = v) :
    tabs c fE fR fV fF fS fA ⊢ iprop((tabs c fE fR fV fF fS fA -∗ wp frame (wpE (defs₀ (F := F)) Variants.none (c : Thread nD τ) none) Set.univ (k v) Q) -∗
      wp frame (wpE (defs₀ (F := F)) Variants.none (c : Thread nD τ) none) Set.univ (smemLoad tbF (Rect.unit (s := S192) o S1.size h) h1 hp >>= k) Q) := by
  unfold tabs
  iintro ⟨TE, TR, TV, TF, TS, TA⟩ HK
  iapply (wp_wordK c tbF (Rect.unit (s := S192) o S1.size h) (v := v) (f := fF) (q := fullShare.right) ((word_tbF b eo fF _).trans hv)) $$ TF
  iintro TF
  iapply HK
  isplitl [TE]; · iexact TE
  isplitl [TR]; · iexact TR
  isplitl [TV]; · iexact TV
  isplitl [TF]; · iexact TF
  isplitl [TS]; · iexact TS
  iexact TA

variable (A2 A3 : S64x2048x512.Idx → Elt F .f32) (A4 : S64x512x2048.Idx → Elt F .f32)

/-- The products' buffers, at an expert's weights where `p` names it. -/
def wts (c : Dev nD) (p : Option (Fin 64)) : sProp 𝕄 := match p with
  | none => wtsAny c
  | some e => wtsAt A2 A3 A4 c e

theorem wts_any (c : Dev nD) (p : Option (Fin 64)) : wts A2 A3 A4 c p ⊢ wtsAny c := by
  cases p with
  | none => exact .rfl
  | some e =>
    show wtsAt A2 A3 A4 c e ⊢ _
    unfold wtsAt wtsAny
    iintro ⟨H0, H1, H2⟩
    isplitl [H0]; · iexists _; iexact H0
    isplitl [H1]; · iexists _; iexact H1
    iexists _; iexact H2

/-- What the block's rows become: the expert's, or zero rows where no row is a token. -/
def blockOut (P : Plan) (n : ℕ) (W : IVec SWords 32) : IVec SWords 32 :=
  if 0 < (P.va n).val then pk (mlp (xbOf W) (wtG A2 (P.ex n)) (wtG A3 (P.ex n)) (wtD A4 (P.ex n))) else pk (zeros (F := F))

/-- What a pair's staged rows become. -/
def pairOut (P : Plan) (t : ℕ) (x7 : S4096x128.Idx → BitVec 32) : S4096x128.Idx → BitVec 32 := fun y =>
  if (y 0).val < 2048 then put (blockOut A2 A3 A4 P (2 * t) (words 0 x7)) y else put (blockOut A2 A3 A4 P (2 * t + 1) (words 1 x7)) y

theorem halves (Y0 Y1 : IVec SWords 32) (old : S4096x128.Idx → BitVec 32) (y : S4096x128.Idx) :
    halfOut 1 Y1 (halfOut 0 Y0 old) y = if (y 0).val < 2048 then put Y0 y else put Y1 y := by
  have hy : (y 0).val < 4096 := (y 0).isLt
  unfold halfOut
  by_cases h : (y 0).val < 2048
  · rw [if_neg (show ¬ (y 0).val / 2048 = (1 : Fin 2).val by show ¬ _ = 1; omega), if_pos (show (y 0).val / 2048 = (0 : Fin 2).val by show _ = 0; omega), if_pos h]
  · rw [if_pos (show (y 0).val / 2048 = (1 : Fin 2).val by show _ = 1; omega), if_neg h]

theorem pend_succ (P : Plan) (n : ℕ) : P.pend (n + 1) = if P.fi n then (P.nx n).map (1 - P.sl n, ·) else P.pend n := rfl
theorem cur_succ (P : Plan) (n : ℕ) : P.cur (n + 1) = if P.fi n then some (P.ex n) else P.cur n := rfl

theorem wp_half0 (c : Dev nD) (i : grid0.Coords) (arg7 : Memref sig .tc .vmem S4096x128 .i32) (harg7 : arg7.IsWhole) (arg11 : Memref sig .tc .vmem S4096x128 .i32) (harg11 : arg11.IsWhole) (v1 : BitVec 32) (P : Plan) (hP : P.Good)
    (fE fR fV fF fS fA : S192.Idx → Elt F .i32) (hT : Tells P fE fV fF fS fA) (hw : k0_chk3 (wS (F := F) (P.sl (blk i 0).val)) (wF (F := F) (P.fi (blk i 0).val))) (W : Waits sig Unit) :
    iprop(tabs c fE fR fV fF fS fA ∗ slots A2 A3 A4 c (P.pend (blk i 0).val) ∗ wts A2 A3 A4 c (P.cur (blk i 0).val) ∗ owes (c : Thread nD τ) 0 W : sProp 𝕄)
      ⊢ wp frame (wpE (defs₀ (F := F)) Variants.none (c : Thread nD τ) none) Set.univ
        (segW0 (F := F) i arg7 harg7 arg11 harg11 v1 (wS (F := F) (P.sl (blk i 0).val)) (wF (F := F) (P.fi (blk i 0).val)) hw)
        fun _ => iprop(tabs c fE fR fV fF fS fA ∗ slots A2 A3 A4 c (P.pend ((blk i 0).val + 1)) ∗ wts A2 A3 A4 c (P.cur ((blk i 0).val + 1)) ∗ ∃ W', owes (c : Thread nD τ) 0 W') := by
  rw [pend_succ, cur_succ]
  by_cases hf : P.fi (blk i 0).val = true
  · rw [hP.meet _ (blk i 0).isLt hf, if_pos hf, if_pos hf]
    iintro ⟨HT, HS, HB, HW⟩
    iapply (wp_segW0 A2 A3 A4 c i arg7 harg7 arg11 harg11 v1 (P.sl (blk i 0).val) (P.ex (blk i 0).val) (P.nx (blk i 0).val) (wF (F := F) (P.fi (blk i 0).val)) _ (by rw [hf]; exact c3_true)
      fE fR fV fF fS fA W (hT.he _) (hT.ha _))
    isplitl [HT]; · iexact HT
    isplitl [HS]; · iexact HS
    isplitl [HB]; · iapply (wts_any A2 A3 A4 c _); iexact HB
    iexact HW
  · rw [if_neg hf, if_neg hf]
    rw [segW0_eq, dif_neg (by rw [Bool.eq_false_iff.2 hf]; exact c3_false)]
    iintro ⟨HT, HS, HB, HW⟩
    sl_step
    isplitl [HT]; · iexact HT
    isplitl [HS]; · iexact HS
    isplitl [HB]; · iexact HB
    iexists W; iexact HW

theorem wp_skipC0 (c : Dev nD) (i : grid0.Coords) (arg7 : Memref sig .tc .vmem S4096x128 .i32) (harg7 : arg7.IsWhole) (arg11 : Memref sig .tc .vmem S4096x128 .i32) (harg11 : arg11.IsWhole) (v4 : Elt F .i32) (hc : ¬ k0_cond5 v4 = 1#1) (R : sProp 𝕄) :
    R ⊢ wp frame (wpE (defs₀ (F := F)) Variants.none (c : Thread nD τ) none) Set.univ (segC0 (F := F) i arg7 harg7 arg11 harg11 v4) fun _ => R := by
  unfold segC0
  rw [dif_neg hc]
  iintro H
  sl_step
  iexact H

theorem wp_skipZ0 (c : Dev nD) (i : grid0.Coords) (arg7 : Memref sig .tc .vmem S4096x128 .i32) (harg7 : arg7.IsWhole) (arg11 : Memref sig .tc .vmem S4096x128 .i32) (harg11 : arg11.IsWhole) (v4 : Elt F .i32) (hc : ¬ k0_cond6 v4 = 1#1) (R : sProp 𝕄) :
    R ⊢ wp frame (wpE (defs₀ (F := F)) Variants.none (c : Thread nD τ) none) Set.univ (segZ0 (F := F) i arg7 harg7 arg11 harg11 v4) fun _ => R := by
  unfold segZ0
  rw [dif_neg hc]
  iintro H
  sl_step
  iexact H

theorem wp_fill0 (c : Dev nD) (i : grid0.Coords) (arg7 : Memref sig .tc .vmem S4096x128 .i32) (harg7 : arg7.IsWhole) (arg11 : Memref sig .tc .vmem S4096x128 .i32) (harg11 : arg11.IsWhole) (P : Plan) (hP : P.Good) {α : Type} {Q : α → sProp 𝕄} {k : PUnit → Prog (TpuEff nD τ sig (Elt F) Λ₀ .tc) α}
    (x7 y11 : S4096x128.Idx → Elt F .i32) :
    iprop(owns (c : Thread nD τ) arg7 fullShare x7 ∗ owns (c : Thread nD τ) arg11 fullShare y11 ∗ (∃ gx, xbB.view.loc (c : Thread nD τ) ↦{fullShare} gx)
      ∗ wts A2 A3 A4 c (P.cur ((blk i 0).val + 1)) : sProp 𝕄)
      ⊢ iprop((iprop(owns (c : Thread nD τ) arg7 fullShare x7 ∗ owns (c : Thread nD τ) arg11 fullShare (halfOut 0 (blockOut A2 A3 A4 P (blk i 0).val (words 0 x7)) y11) ∗ (∃ gx, xbB.view.loc (c : Thread nD τ) ↦{fullShare} gx)
      ∗ wts A2 A3 A4 c (P.cur ((blk i 0).val + 1))) -∗ wp frame (wpE (defs₀ (F := F)) Variants.none (c : Thread nD τ) none) Set.univ (k ⟨⟩) Q)
        -∗ wp frame (wpE (defs₀ (F := F)) Variants.none (c : Thread nD τ) none) Set.univ (segC0 (F := F) i arg7 harg7 arg11 harg11 (wV (F := F) (P.va (blk i 0).val)) >>= fun _ =>
          segZ0 (F := F) i arg7 harg7 arg11 harg11 (wV (F := F) (P.va (blk i 0).val)) >>= k) Q) := by
  unfold blockOut
  by_cases hv : 0 < (P.va (blk i 0).val).val
  · rw [if_pos hv, hP.have_w _ (blk i 0).isLt hv]
    unfold owns
    iintro ⟨⟨%f7, %h7, H7⟩, ⟨%g, %hg, H11⟩, ⟨%gx, HX⟩, HB⟩ HK
    icases (show wts A2 A3 A4 c (some (P.ex (blk i 0).val)) ⊢ iprop((wbG.view.loc (c : Thread nD τ) ↦{fullShare} wtG A2 (P.ex (blk i 0).val)) ∗ (wbU.view.loc (c : Thread nD τ) ↦{fullShare} wtG A3 (P.ex (blk i 0).val)) ∗ (wbD.view.loc (c : Thread nD τ) ↦{fullShare} wtD A4 (P.ex (blk i 0).val))) from .rfl) $$ HB with ⟨HG, HU, HD⟩
    iapply (wp_bindK c (wp_segC0 c i arg7 harg7 arg11 harg11 _ ((c5_iff _).2 hv) f7 g gx _ _ _)) $$ [H7 H11 HX HG HU HD]
    · isplitl [H7]; · iexact H7
      isplitl [H11]; · iexact H11
      isplitl [HX]; · iexact HX
      isplitl [HG]; · iexact HG
      isplitl [HU]; · iexact HU
      iexact HD
    iintro %_ ⟨H7, HX, HG, HU, HD, ⟨%g', H11, %hg'⟩⟩
    iapply (wp_bindK c (wp_skipZ0 c i arg7 harg7 arg11 harg11 _ (fun h0 => absurd ((c6_iff _).1 h0) (by omega)) iprop(arg7.view.loc (c : Thread nD τ) ↦[arg7.view.set]{fullShare} f7))) $$ [H7]
    · iexact H7
    iintro %_ H7
    iapply HK
    isplitl [H7]; · iexists _; isplitr; · ipureintro; exact h7
                    iexact H7
    isplitl [H11]
    · iexists g'; isplitr
      · ipureintro; rw [hg', h7, hg]
      iexact H11
    isplitl [HX]; · iexact HX
    iapply (show iprop((wbG.view.loc (c : Thread nD τ) ↦{fullShare} wtG A2 (P.ex (blk i 0).val)) ∗ (wbU.view.loc (c : Thread nD τ) ↦{fullShare} wtG A3 (P.ex (blk i 0).val)) ∗ (wbD.view.loc (c : Thread nD τ) ↦{fullShare} wtD A4 (P.ex (blk i 0).val))) ⊢ wts A2 A3 A4 c (some (P.ex (blk i 0).val)) from .rfl)
    isplitl [HG]; · iexact HG
    isplitl [HU]; · iexact HU
    iexact HD
  · rw [if_neg hv]
    unfold owns
    iintro ⟨H7, ⟨%g, %hg, H11⟩, HX, HB⟩ HK
    iapply (wp_bindK c (wp_skipC0 c i arg7 harg7 arg11 harg11 _ (fun h0 => hv ((c5_iff _).1 h0)) iprop(arg11.view.loc (c : Thread nD τ) ↦[arg11.view.set]{fullShare} g))) $$ [H11]
    · iexact H11
    iintro %_ H11
    iapply (wp_bindK c (wp_segZ0 c i arg7 harg7 arg11 harg11 _ ((c6_iff _).2 (by omega)) g)) $$ [H11]
    · iexact H11
    iintro %_ ⟨%g', H11, %hg'⟩
    iapply HK
    isplitl [H7]; · iexact H7
    isplitl [H11]
    · iexists g'; isplitr
      · ipureintro; rw [hg', hg]
      iexact H11
    isplitl [HX]; · iexact HX
    iexact HB

theorem wp_half1 (c : Dev nD) (i : grid0.Coords) (arg7 : Memref sig .tc .vmem S4096x128 .i32) (harg7 : arg7.IsWhole) (arg11 : Memref sig .tc .vmem S4096x128 .i32) (harg11 : arg11.IsWhole) (v1 : BitVec 32) (P : Plan) (hP : P.Good)
    (fE fR fV fF fS fA : S192.Idx → Elt F .i32) (hT : Tells P fE fV fF fS fA) (hw : k0_chk6 (wS (F := F) (P.sl (blk i 1).val)) (wF (F := F) (P.fi (blk i 1).val))) (W : Waits sig Unit) :
    iprop(tabs c fE fR fV fF fS fA ∗ slots A2 A3 A4 c (P.pend (blk i 1).val) ∗ wts A2 A3 A4 c (P.cur (blk i 1).val) ∗ owes (c : Thread nD τ) 0 W : sProp 𝕄)
      ⊢ wp frame (wpE (defs₀ (F := F)) Variants.none (c : Thread nD τ) none) Set.univ
        (segW1 (F := F) i arg7 harg7 arg11 harg11 v1 (wS (F := F) (P.sl (blk i 1).val)) (wF (F := F) (P.fi (blk i 1).val)) hw)
        fun _ => iprop(tabs c fE fR fV fF fS fA ∗ slots A2 A3 A4 c (P.pend ((blk i 1).val + 1)) ∗ wts A2 A3 A4 c (P.cur ((blk i 1).val + 1)) ∗ ∃ W', owes (c : Thread nD τ) 0 W') := by
  rw [pend_succ, cur_succ]
  by_cases hf : P.fi (blk i 1).val = true
  · rw [hP.meet _ (blk i 1).isLt hf, if_pos hf, if_pos hf]
    iintro ⟨HT, HS, HB, HW⟩
    iapply (wp_segW1 A2 A3 A4 c i arg7 harg7 arg11 harg11 v1 (P.sl (blk i 1).val) (P.ex (blk i 1).val) (P.nx (blk i 1).val) (wF (F := F) (P.fi (blk i 1).val)) _ (by rw [hf]; exact c7_true)
      fE fR fV fF fS fA W (hT.he _) (hT.ha _))
    isplitl [HT]; · iexact HT
    isplitl [HS]; · iexact HS
    isplitl [HB]; · iapply (wts_any A2 A3 A4 c _); iexact HB
    iexact HW
  · rw [if_neg hf, if_neg hf]
    rw [segW1_eq, dif_neg (by rw [Bool.eq_false_iff.2 hf]; exact c7_false)]
    iintro ⟨HT, HS, HB, HW⟩
    sl_step
    isplitl [HT]; · iexact HT
    isplitl [HS]; · iexact HS
    isplitl [HB]; · iexact HB
    iexists W; iexact HW

theorem wp_skipC1 (c : Dev nD) (i : grid0.Coords) (arg7 : Memref sig .tc .vmem S4096x128 .i32) (harg7 : arg7.IsWhole) (arg11 : Memref sig .tc .vmem S4096x128 .i32) (harg11 : arg11.IsWhole) (v4 : Elt F .i32) (hc : ¬ k0_cond9 v4 = 1#1) (R : sProp 𝕄) :
    R ⊢ wp frame (wpE (defs₀ (F := F)) Variants.none (c : Thread nD τ) none) Set.univ (segC1 (F := F) i arg7 harg7 arg11 harg11 v4) fun _ => R := by
  unfold segC1
  rw [dif_neg hc]
  iintro H
  sl_step
  iexact H

theorem wp_skipZ1 (c : Dev nD) (i : grid0.Coords) (arg7 : Memref sig .tc .vmem S4096x128 .i32) (harg7 : arg7.IsWhole) (arg11 : Memref sig .tc .vmem S4096x128 .i32) (harg11 : arg11.IsWhole) (v4 : Elt F .i32) (hc : ¬ k0_cond10 v4 = 1#1) (R : sProp 𝕄) :
    R ⊢ wp frame (wpE (defs₀ (F := F)) Variants.none (c : Thread nD τ) none) Set.univ (segZ1 (F := F) i arg7 harg7 arg11 harg11 v4) fun _ => R := by
  unfold segZ1
  rw [dif_neg hc]
  iintro H
  sl_step
  iexact H

theorem wp_fill1 (c : Dev nD) (i : grid0.Coords) (arg7 : Memref sig .tc .vmem S4096x128 .i32) (harg7 : arg7.IsWhole) (arg11 : Memref sig .tc .vmem S4096x128 .i32) (harg11 : arg11.IsWhole) (P : Plan) (hP : P.Good) {α : Type} {Q : α → sProp 𝕄} {k : PUnit → Prog (TpuEff nD τ sig (Elt F) Λ₀ .tc) α}
    (x7 y11 : S4096x128.Idx → Elt F .i32) :
    iprop(owns (c : Thread nD τ) arg7 fullShare x7 ∗ owns (c : Thread nD τ) arg11 fullShare y11 ∗ (∃ gx, xbB.view.loc (c : Thread nD τ) ↦{fullShare} gx)
      ∗ wts A2 A3 A4 c (P.cur ((blk i 1).val + 1)) : sProp 𝕄)
      ⊢ iprop((iprop(owns (c : Thread nD τ) arg7 fullShare x7 ∗ owns (c : Thread nD τ) arg11 fullShare (halfOut 1 (blockOut A2 A3 A4 P (blk i 1).val (words 1 x7)) y11) ∗ (∃ gx, xbB.view.loc (c : Thread nD τ) ↦{fullShare} gx)
      ∗ wts A2 A3 A4 c (P.cur ((blk i 1).val + 1))) -∗ wp frame (wpE (defs₀ (F := F)) Variants.none (c : Thread nD τ) none) Set.univ (k ⟨⟩) Q)
        -∗ wp frame (wpE (defs₀ (F := F)) Variants.none (c : Thread nD τ) none) Set.univ (segC1 (F := F) i arg7 harg7 arg11 harg11 (wV (F := F) (P.va (blk i 1).val)) >>= fun _ =>
          segZ1 (F := F) i arg7 harg7 arg11 harg11 (wV (F := F) (P.va (blk i 1).val)) >>= k) Q) := by
  unfold blockOut
  by_cases hv : 0 < (P.va (blk i 1).val).val
  · rw [if_pos hv, hP.have_w _ (blk i 1).isLt hv]
    unfold owns
    iintro ⟨⟨%f7, %h7, H7⟩, ⟨%g, %hg, H11⟩, ⟨%gx, HX⟩, HB⟩ HK
    icases (show wts A2 A3 A4 c (some (P.ex (blk i 1).val)) ⊢ iprop((wbG.view.loc (c : Thread nD τ) ↦{fullShare} wtG A2 (P.ex (blk i 1).val)) ∗ (wbU.view.loc (c : Thread nD τ) ↦{fullShare} wtG A3 (P.ex (blk i 1).val)) ∗ (wbD.view.loc (c : Thread nD τ) ↦{fullShare} wtD A4 (P.ex (blk i 1).val))) from .rfl) $$ HB with ⟨HG, HU, HD⟩
    iapply (wp_bindK c (wp_segC1 c i arg7 harg7 arg11 harg11 _ ((c9_iff _).2 hv) f7 g gx _ _ _)) $$ [H7 H11 HX HG HU HD]
    · isplitl [H7]; · iexact H7
      isplitl [H11]; · iexact H11
      isplitl [HX]; · iexact HX
      isplitl [HG]; · iexact HG
      isplitl [HU]; · iexact HU
      iexact HD
    iintro %_ ⟨H7, HX, HG, HU, HD, ⟨%g', H11, %hg'⟩⟩
    iapply (wp_bindK c (wp_skipZ1 c i arg7 harg7 arg11 harg11 _ (fun h0 => absurd ((c10_iff _).1 h0) (by omega)) iprop(arg7.view.loc (c : Thread nD τ) ↦[arg7.view.set]{fullShare} f7))) $$ [H7]
    · iexact H7
    iintro %_ H7
    iapply HK
    isplitl [H7]; · iexists _; isplitr; · ipureintro; exact h7
                    iexact H7
    isplitl [H11]
    · iexists g'; isplitr
      · ipureintro; rw [hg', h7, hg]
      iexact H11
    isplitl [HX]; · iexact HX
    iapply (show iprop((wbG.view.loc (c : Thread nD τ) ↦{fullShare} wtG A2 (P.ex (blk i 1).val)) ∗ (wbU.view.loc (c : Thread nD τ) ↦{fullShare} wtG A3 (P.ex (blk i 1).val)) ∗ (wbD.view.loc (c : Thread nD τ) ↦{fullShare} wtD A4 (P.ex (blk i 1).val))) ⊢ wts A2 A3 A4 c (some (P.ex (blk i 1).val)) from .rfl)
    isplitl [HG]; · iexact HG
    isplitl [HU]; · iexact HU
    iexact HD
  · rw [if_neg hv]
    unfold owns
    iintro ⟨H7, ⟨%g, %hg, H11⟩, HX, HB⟩ HK
    iapply (wp_bindK c (wp_skipC1 c i arg7 harg7 arg11 harg11 _ (fun h0 => hv ((c9_iff _).1 h0)) iprop(arg11.view.loc (c : Thread nD τ) ↦[arg11.view.set]{fullShare} g))) $$ [H11]
    · iexact H11
    iintro %_ H11
    iapply (wp_bindK c (wp_segZ1 c i arg7 harg7 arg11 harg11 _ ((c10_iff _).2 (by omega)) g)) $$ [H11]
    · iexact H11
    iintro %_ ⟨%g', H11, %hg'⟩
    iapply HK
    isplitl [H7]; · iexact H7
    isplitl [H11]
    · iexists g'; isplitr
      · ipureintro; rw [hg', hg]
      iexact H11
    isplitl [HX]; · iexact HX
    iexact HB

/-- The request under way before grid point `t`: none before the first, which makes its own. -/
def Plan.pendAt (P : Plan) (t : ℕ) : Option (Fin 2 × Fin 64) := if t = 0 then none else P.pend (2 * t)

/-- What the body carries from point to point. -/
def carry (c : Dev nD) (P : Plan) (fE fR fV fF fS fA : S192.Idx → Elt F .i32) (t : ℕ) : sProp 𝕄 := iprop(
  tabs c fE fR fV fF fS fA ∗ slots A2 A3 A4 c (P.pendAt t) ∗ wts A2 A3 A4 c (P.cur (2 * t)) ∗ ∃ gx, xbB.view.loc (c : Thread nD τ) ↦{fullShare} gx)

theorem wp_first (c : Dev nD) (i : grid0.Coords) (arg7 : Memref sig .tc .vmem S4096x128 .i32) (harg7 : arg7.IsWhole) (arg11 : Memref sig .tc .vmem S4096x128 .i32) (harg11 : arg11.IsWhole) (P : Plan)
    (fE fR fV fF fS fA : S192.Idx → Elt F .i32) (hT : Tells P fE fV fF fS fA) :
    iprop(tabs c fE fR fV fF fS fA ∗ slots A2 A3 A4 c (P.pendAt (i 0).val) : sProp 𝕄)
      ⊢ wp frame (wpE (defs₀ (F := F)) Variants.none (c : Thread nD τ) none) Set.univ (segI (F := F) i arg7 harg7 arg11 harg11 (wS (F := F) (P.sl (blk i 0).val)))
        fun _ => iprop(tabs c fE fR fV fF fS fA ∗ slots A2 A3 A4 c (P.pend (blk i 0).val)) := by
  by_cases h : (i 0).val = 0
  · have hb : (blk i 0).val = 0 := by show 2 * (i 0).val + 0 = 0; omega
    rw [hb, h]
    exact wp_segI A2 A3 A4 c i arg7 harg7 arg11 harg11 (P.sl 0) (P.ex 0) ((c1_iff' i).2 h) fE fR fV fF fS fA (hT.he 0)
  · rw [show P.pendAt (i 0).val = P.pend (blk i 0).val from if_neg h, segI_eq, dif_neg (fun h1 => h ((c1_iff' i).1 h1))]
    iintro H
    sl_step
    iexact H

theorem wp_pair (c : Dev nD) (i : grid0.Coords) (arg7 : Memref sig .tc .vmem S4096x128 .i32) (harg7 : arg7.IsWhole) (arg11 : Memref sig .tc .vmem S4096x128 .i32) (harg11 : arg11.IsWhole) (P : Plan) (hP : P.Good)
    (fE fR fV fF fS fA : S192.Idx → Elt F .i32) (hT : Tells P fE fV fF fS fA) (W : Waits sig Unit) (x7 y11 : S4096x128.Idx → Elt F .i32) :
    iprop(carry A2 A3 A4 c P fE fR fV fF fS fA (i 0).val ∗ owes (c : Thread nD τ) 0 W
      ∗ owns (c : Thread nD τ) arg7 fullShare x7 ∗ owns (c : Thread nD τ) arg11 fullShare y11 : sProp 𝕄)
      ⊢ wp frame (wpE (defs₀ (F := F)) Variants.none (c : Thread nD τ) none) Set.univ (bodyAt (F := F) i arg7 harg7 arg11 harg11)
        fun _ => iprop(carry A2 A3 A4 c P fE fR fV fF fS fA ((i 0).val + 1) ∗ (∃ W', owes (c : Thread nD τ) 0 W')
      ∗ owns (c : Thread nD τ) arg7 fullShare x7 ∗ owns (c : Thread nD τ) arg11 fullShare (pairOut A2 A3 A4 P (i 0).val x7)) := by
  rw [bodyAt_eq]
  unfold bodySegs carry
  have e1 : (blk i 1).val = (blk i 0).val + 1 := rfl
  have e2 : 2 * ((i 0).val + 1) = (blk i 1).val + 1 := by show _ = 2 * (i 0).val + 1 + 1; omega
  have hpa : P.pendAt ((i 0).val + 1) = P.pend ((blk i 1).val + 1) := by rw [← e2]; exact if_neg (Nat.succ_ne_zero _)
  rw [hpa, e2]
  have hout : pairOut A2 A3 A4 P (i 0).val x7 = halfOut 1 (blockOut A2 A3 A4 P (blk i 1).val (words 1 x7)) (halfOut 0 (blockOut A2 A3 A4 P (blk i 0).val (words 0 x7)) y11) :=
    funext fun y => (halves _ _ _ y).symm
  rw [hout]
  iintro ⟨⟨HT, HS, HB, HX⟩, HW, H7, H11⟩
  iapply (wp_tabV c fE fR fV fF fS fA (blk i 0) (o2 i) (hT.hv _)) $$ HT
  iintro HT
  iapply (wp_tabS c fE fR fV fF fS fA (blk i 0) (o2 i) (hT.hs _)) $$ HT
  iintro HT
  iapply (wp_bindK c (wp_first A2 A3 A4 c i arg7 harg7 arg11 harg11 P fE fR fV fF fS fA hT)) $$ [HT HS]
  · isplitl [HT]; · iexact HT
    iexact HS
  iintro %_ ⟨HT, HS⟩
  iapply (wp_tabF c fE fR fV fF fS fA (blk i 0) (o8 i) (hT.hf _)) $$ HT
  iintro HT
  iapply (wp_assumeK c (chk3_ok _ _))
  iapply (wp_bindK c (wp_half0 A2 A3 A4 c i arg7 harg7 arg11 harg11 _ P hP fE fR fV fF fS fA hT _ W)) $$ [HT HS HB HW]
  · isplitl [HT]; · iexact HT
    isplitl [HS]; · iexact HS
    isplitl [HB]; · iexact HB
    iexact HW
  iintro %_ ⟨HT, HS, HB, ⟨%W1, HW⟩⟩
  iapply (wp_fill0 A2 A3 A4 c i arg7 harg7 arg11 harg11 P hP x7 y11) $$ [H7 H11 HX HB]
  · isplitl [H7]; · iexact H7
    isplitl [H11]; · iexact H11
    isplitl [HX]; · iexact HX
    iexact HB
  iintro ⟨H7, H11, HX, HB⟩
  iapply (wp_tabV c fE fR fV fF fS fA (blk i 1) (o25 i) (hT.hv _)) $$ HT
  iintro HT
  iapply (wp_tabS c fE fR fV fF fS fA (blk i 1) (o25 i) (hT.hs _)) $$ HT
  iintro HT
  iapply (wp_tabF c fE fR fV fF fS fA (blk i 1) (o25 i) (hT.hf _)) $$ HT
  iintro HT
  iapply (wp_assumeK c (chk6_ok _ _))
  iapply (wp_bindK c (wp_half1 A2 A3 A4 c i arg7 harg7 arg11 harg11 _ P hP fE fR fV fF fS fA hT _ W1)) $$ [HT HS HB HW]
  · isplitl [HT]; · iexact HT
    isplitl [HS]; · iexact HS
    isplitl [HB]; · iexact HB
    iexact HW
  iintro %_ ⟨HT, HS, HB, ⟨%W2, HW⟩⟩
  rw [← bind_unit (segZ1 (F := F) i arg7 harg7 arg11 harg11 _)]
  iapply (wp_fill1 A2 A3 A4 c i arg7 harg7 arg11 harg11 P hP x7 _) $$ [H7 H11 HX HB]
  · isplitl [H7]; · iexact H7
    isplitl [H11]; · iexact H11
    isplitl [HX]; · iexact HX
    iexact HB
  iintro ⟨H7, H11, HX, HB⟩
  sl_step
  isplitl [HT HS HB HX]
  · isplitl [HT]; · iexact HT
    isplitl [HS]; · iexact HS
    isplitl [HB]; · iexact HB
    iexact HX
  isplitl [HW]; · iexists _; iexact HW
  isplitl [H7]; · iexact H7
  iexact H11

end Cert.Experts
-- ==== Proof.Tables.lean ====
module

public import proofs.«01_k».proof.Proof.Gen.Kernel.Launch
public import Idealize.ShloMosaic.Lib.StableHlo.RunRead
public import Idealize.ShloMosaic.Lib.Routing.Words

@[expose] public section

/-! # The tables that the host prepares

Each table of the routing as a term over the counts, and that the host's operations leave it. -/

noncomputable section

namespace Cert.Experts

open Cert.Kernel Cert.Kernel.Gen
open Idealize.ShloMosaic Idealize.ShloMosaic.TcCoe Idealize.ShloMosaic.Tactic

abbrev k0 (b : BitVec 32) : IVec S_ 32 := constantI S_ 32 b
def b64 (v : IVec S_ 32) : IVec S64 32 := broadcastInDim S64 ![] bcast_S_S64 v
def b192 (v : IVec S_ 32) : IVec S192 32 := broadcastInDim S192 ![] bcast_S_S192 v
/-- A column of blocks along the experts. -/
def alongE (v : IVec S192 32) : IVec S192x64 32 := broadcastInDim S192x64 ![0, 1] bcast_S192x1_S192x64_0_1 (broadcastInDim S192x1 ![0] bcast_S192_S192x1_0 v)
/-- A row of experts along the blocks. -/
def alongB (v : IVec S64 32) : IVec S192x64 32 := broadcastInDim S192x64 ![0, 1] bcast_S1x64_S192x64_0_1 (broadcastInDim S1x64 ![1] bcast_S64_S1x64_1 v)

variable (x : IVec S64 32)

def hCeil : IVec S64 32 := Routing.pyDiv bcast_S_S64 (subi (addi x (b64 (k0 256#32))) (b64 (k0 1#32))) (k0 256#32)
def hCum (v : IVec S64 32) : IVec S64 32 := Host.reduceWindow IntOp.addi ![64] ![1] ![63] ![0] v (broadcastInDim S_ ![] bcast_S_S_ (k0 0#32)) reduceWindows_S64_S64_w64s1p63_0 h_S_
def hEnd : IVec S64 32 := hCum (hCeil x)
def hStart : IVec S64 32 := subi (hEnd x) (hCeil x)
def hLast (v : IVec S64 32) : IVec S_ 32 := shapeCast S_ (extractStridedSlice S1 ![63] v slices_S64_S1_63) shapeCasts_S1_S_
def hIn : IVec S192 1 := cmpi .slt (iotaInDim S192 32 0) (b192 (hLast (hEnd x)))
def hRow : IVec S192 32 := minsi (iotaInDim S192 32 0) (b192 (maxsi (subi (hLast (hEnd x)) (k0 1#32)) (k0 0#32)))
def hOwn : IVec S192x64 1 := andi (cmpi .sge (alongE (hRow x)) (alongB (hStart x))) (cmpi .slt (alongE (hRow x)) (alongB (hEnd x)))
def hPick (v : IVec S64 32) : IVec S192 32 :=
  Host.reduce IntOp.addi (select (hOwn x) (alongB v) (broadcastInDim S192x64 ![] bcast_S_S192x64 (k0 0#32))) (k0 0#32) reducesTo_S192x64_S192_d1 h_S_
def hE : IVec S192 32 := hPick x (iotaInDim S64 32 0)
def hV : IVec S192 32 := select (hIn x)
  (minsi (b192 (k0 256#32)) (maxsi (b192 (k0 0#32)) (subi (hPick x x) (muli (subi (iotaInDim S192 32 0) (hPick x (hStart x))) (b192 (k0 256#32))))))
  (b192 (k0 0#32))
def hF : IVec S192 32 := extui 32 (andi (hIn x) (cmpi .eq (iotaInDim S192 32 0) (hPick x (hStart x)))) natLt_1_32
def hPos : IVec S64 1 := cmpi .sgt x (b64 (k0 0#32))
def hOrd : IVec S64 32 := subi (hCum (extui 32 (hPos x) natLt_1_32)) (b64 (k0 1#32))
def hS : IVec S192 32 := Routing.pyRem bcast_S_S192 (hPick x (hOrd x)) (k0 2#32)
def hMask : IVec S64x64 1 := andi
  (broadcastInDim S64x64 ![0, 1] bcast_S1x64_S64x64_0_1 (broadcastInDim S1x64 ![1] bcast_S64_S1x64_1 (hPos x)))
  (cmpi .eq (broadcastInDim S64x64 ![0, 1] bcast_S1x64_S64x64_0_1 (broadcastInDim S1x64 ![1] bcast_S64_S1x64_1 (hOrd x)))
    (broadcastInDim S64x64 ![0, 1] bcast_S64x1_S64x64_0_1 (addi (broadcastInDim S64x1 ![0] bcast_S64_S64x1_0 (hOrd x)) (broadcastInDim S64x1 ![] bcast_S_S64x1 (k0 1#32)))))
def hFound : IVec S64 32 := Host.reduce IntOp.addi (select (hMask x)
  (broadcastInDim S64x64 ![0, 1] bcast_S1x64_S64x64_0_1 (broadcastInDim S1x64 ![1] bcast_S64_S1x64_1 (iotaInDim S64 32 0)))
  (broadcastInDim S64x64 ![] bcast_S_S64x64 (k0 0#32))) (k0 0#32) reducesTo_S64x64_S64_d1 h_S_
def hNext : IVec S64 32 := select (cmpi .sle (addi (hOrd x) (b64 (k0 1#32))) (b64 (hLast (hOrd x)))) (hFound x) (b64 (k0 4294967295#32))
def hA : IVec S192 32 := hPick x (hNext x)

variable {F : FTy → Type} [BitOps F]

/-- The host's operations, stretch by stretch. -/
abbrev lines : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27]

variable (V : Valuation τ sig (Elt F))

/-- The counts as the host finds them. -/
abbrev cnt : IVec S64 32 := V (Proc.devRef .tc main_arg0)

/-- What the host's buffers hold after stretches 0 to 2. -/
def atA : Valuation τ sig (Elt F) := StableHlo.after (List.flatten [hostOps0, hostOps0_1, hostOps0_2]) V
/-- What the host's buffers hold after stretches 3 to 3. -/
def atB : Valuation τ sig (Elt F) := StableHlo.after (List.flatten [hostOps0_3]) (atA V)
/-- What the host's buffers hold after stretches 4 to 17. -/
def atC : Valuation τ sig (Elt F) := StableHlo.after (List.flatten [hostOps0_4, hostOps0_5, hostOps0_6, hostOps0_7, hostOps0_8, hostOps0_9, hostOps0_10, hostOps0_11, hostOps0_12, hostOps0_13, hostOps0_14, hostOps0_15, hostOps0_16, hostOps0_17]) (atB V)
/-- What the host's buffers hold after stretches 18 to 24. -/
def atD : Valuation τ sig (Elt F) := StableHlo.after (List.flatten [hostOps0_18, hostOps0_19, hostOps0_20, hostOps0_21, hostOps0_22, hostOps0_23, hostOps0_24]) (atC V)
/-- What the host's buffers hold after stretches 25 to 27. -/
def atG : Valuation τ sig (Elt F) := StableHlo.after (List.flatten [hostOps0_25, hostOps0_26, hostOps0_27]) (atD V)

theorem after_lines : StableHlo.after (lines (F := F)).flatten V = atG V := by
  unfold atG atD atC atB atA
  simp only [← StableHlo.after_append, ← List.flatten_append, List.cons_append, List.nil_append]
theorem A_arg0 : atA V (no_index (Proc.devRef .tc main_arg0)) = cnt V := by
  unfold atA
  simp only [List.flatten_cons, List.flatten_nil, List.cons_append, List.nil_append, List.append_nil]
  after_reads_simp
  all_goals try simp -implicitDefEqProofs only [StableHlo.TRef.toBuf, StableHlo.TRef.ofBuf, cast_cast, cast_eq]
theorem A_arg1 : atA V (no_index (Proc.devRef .tc main_arg1)) = V (Proc.devRef .tc main_arg1) := by
  unfold atA
  simp only [List.flatten_cons, List.flatten_nil, List.cons_append, List.nil_append, List.append_nil]
  after_reads_simp
  all_goals try simp -implicitDefEqProofs only [StableHlo.TRef.toBuf, StableHlo.TRef.ofBuf, cast_cast, cast_eq]
theorem A_arg2 : atA V (no_index (Proc.devRef .tc main_arg2)) = V (Proc.devRef .tc main_arg2) := by
  unfold atA
  simp only [List.flatten_cons, List.flatten_nil, List.cons_append, List.nil_append, List.append_nil]
  after_reads_simp
  all_goals try simp -implicitDefEqProofs only [StableHlo.TRef.toBuf, StableHlo.TRef.ofBuf, cast_cast, cast_eq]
theorem A_arg3 : atA V (no_index (Proc.devRef .tc main_arg3)) = V (Proc.devRef .tc main_arg3) := by
  unfold atA
  simp only [List.flatten_cons, List.flatten_nil, List.cons_append, List.nil_append, List.append_nil]
  after_reads_simp
  all_goals try simp -implicitDefEqProofs only [StableHlo.TRef.toBuf, StableHlo.TRef.ofBuf, cast_cast, cast_eq]
theorem A_arg4 : atA V (no_index (Proc.devRef .tc main_arg4)) = V (Proc.devRef .tc main_arg4) := by
  unfold atA
  simp only [List.flatten_cons, List.flatten_nil, List.cons_append, List.nil_append, List.append_nil]
  after_reads_simp
  all_goals try simp -implicitDefEqProofs only [StableHlo.TRef.toBuf, StableHlo.TRef.ofBuf, cast_cast, cast_eq]
theorem A_v0 : atA V (no_index (Proc.devRef .tc main_v0)) = iotaInDim S64 32 0 := by
  unfold atA
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals rfl
theorem A_v1 : atA V (no_index (Proc.devRef .tc main_v1)) = iotaInDim S192 32 0 := by
  unfold atA
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals rfl
theorem A_v6 : atA V (no_index (Proc.devRef .tc main_v6)) = hCeil (cnt V) := by
  unfold atA
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals rfl
theorem A_v7 : atA V (no_index (Proc.devRef .tc main_v7)) = hEnd (cnt V) := by
  unfold atA
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals rfl
theorem B_arg0 : atB V (no_index (Proc.devRef .tc main_arg0)) = cnt V := by
  unfold atB
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact A_arg0 V
theorem B_arg1 : atB V (no_index (Proc.devRef .tc main_arg1)) = V (Proc.devRef .tc main_arg1) := by
  unfold atB
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact A_arg1 V
theorem B_arg2 : atB V (no_index (Proc.devRef .tc main_arg2)) = V (Proc.devRef .tc main_arg2) := by
  unfold atB
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact A_arg2 V
theorem B_arg3 : atB V (no_index (Proc.devRef .tc main_arg3)) = V (Proc.devRef .tc main_arg3) := by
  unfold atB
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact A_arg3 V
theorem B_arg4 : atB V (no_index (Proc.devRef .tc main_arg4)) = V (Proc.devRef .tc main_arg4) := by
  unfold atB
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact A_arg4 V
theorem B_v0 : atB V (no_index (Proc.devRef .tc main_v0)) = iotaInDim S64 32 0 := by
  unfold atB
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact A_v0 V
theorem B_v1 : atB V (no_index (Proc.devRef .tc main_v1)) = iotaInDim S192 32 0 := by
  unfold atB
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact A_v1 V
theorem B_v8 : atB V (no_index (Proc.devRef .tc main_v8)) = hStart (cnt V) := by
  unfold atB
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [A_arg0, A_arg1, A_arg2, A_arg3, A_arg4, A_v0, A_v1, A_v6, A_v7]
  all_goals rfl
theorem B_v12 : atB V (no_index (Proc.devRef .tc main_v12)) = hIn (cnt V) := by
  unfold atB
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [A_arg0, A_arg1, A_arg2, A_arg3, A_arg4, A_v0, A_v1, A_v6, A_v7]
  all_goals rfl
theorem B_v16 : atB V (no_index (Proc.devRef .tc main_v16)) = hRow (cnt V) := by
  unfold atB
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [A_arg0, A_arg1, A_arg2, A_arg3, A_arg4, A_v0, A_v1, A_v6, A_v7]
  all_goals rfl
theorem B_v27 : atB V (no_index (Proc.devRef .tc main_v27)) = hOwn (cnt V) := by
  unfold atB
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [A_arg0, A_arg1, A_arg2, A_arg3, A_arg4, A_v0, A_v1, A_v6, A_v7]
  all_goals rfl
theorem B_v28 : atB V (no_index (Proc.devRef .tc main_v28)) = broadcastInDim S1x64 ![1] bcast_S64_S1x64_1 (iotaInDim S64 32 0) := by
  unfold atB
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [A_arg0, A_arg1, A_arg2, A_arg3, A_arg4, A_v0, A_v1, A_v6, A_v7]
  all_goals rfl
theorem B_c_4 : atB V (no_index (Proc.devRef .tc main_c_4)) = k0 0#32 := by
  unfold atB
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [A_arg0, A_arg1, A_arg2, A_arg3, A_arg4, A_v0, A_v1, A_v6, A_v7]
  all_goals rfl
theorem C_arg1 : atC V (no_index (Proc.devRef .tc main_arg1)) = V (Proc.devRef .tc main_arg1) := by
  unfold atC
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact B_arg1 V
theorem C_arg2 : atC V (no_index (Proc.devRef .tc main_arg2)) = V (Proc.devRef .tc main_arg2) := by
  unfold atC
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact B_arg2 V
theorem C_arg3 : atC V (no_index (Proc.devRef .tc main_arg3)) = V (Proc.devRef .tc main_arg3) := by
  unfold atC
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact B_arg3 V
theorem C_arg4 : atC V (no_index (Proc.devRef .tc main_arg4)) = V (Proc.devRef .tc main_arg4) := by
  unfold atC
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact B_arg4 V
theorem C_v0 : atC V (no_index (Proc.devRef .tc main_v0)) = iotaInDim S64 32 0 := by
  unfold atC
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact B_v0 V
theorem C_v1 : atC V (no_index (Proc.devRef .tc main_v1)) = iotaInDim S192 32 0 := by
  unfold atC
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact B_v1 V
theorem C_v27 : atC V (no_index (Proc.devRef .tc main_v27)) = hOwn (cnt V) := by
  unfold atC
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact B_v27 V
theorem C_v16 : atC V (no_index (Proc.devRef .tc main_v16)) = hRow (cnt V) := by
  unfold atC
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact B_v16 V
theorem C_v30 : atC V (no_index (Proc.devRef .tc main_v30)) = hE (cnt V) := by
  unfold atC
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [B_arg0, B_arg1, B_arg2, B_arg3, B_arg4, B_v0, B_v1, B_v8, B_v12, B_v16, B_v27, B_v28, B_c_4]
  all_goals rfl
theorem C_v42 : atC V (no_index (Proc.devRef .tc main_v42)) = hV (cnt V) := by
  unfold atC
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [B_arg0, B_arg1, B_arg2, B_arg3, B_arg4, B_v0, B_v1, B_v8, B_v12, B_v16, B_v27, B_v28, B_c_4]
  all_goals rfl
theorem C_v48 : atC V (no_index (Proc.devRef .tc main_v48)) = hF (cnt V) := by
  unfold atC
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [B_arg0, B_arg1, B_arg2, B_arg3, B_arg4, B_v0, B_v1, B_v8, B_v12, B_v16, B_v27, B_v28, B_c_4]
  all_goals rfl
theorem C_v50 : atC V (no_index (Proc.devRef .tc main_v50)) = hPos (cnt V) := by
  unfold atC
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [B_arg0, B_arg1, B_arg2, B_arg3, B_arg4, B_v0, B_v1, B_v8, B_v12, B_v16, B_v27, B_v28, B_c_4]
  all_goals rfl
theorem C_v54 : atC V (no_index (Proc.devRef .tc main_v54)) = hOrd (cnt V) := by
  unfold atC
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [B_arg0, B_arg1, B_arg2, B_arg3, B_arg4, B_v0, B_v1, B_v8, B_v12, B_v16, B_v27, B_v28, B_c_4]
  all_goals rfl
theorem C_v55 : atC V (no_index (Proc.devRef .tc main_v55)) = broadcastInDim S1x64 ![1] bcast_S64_S1x64_1 (hOrd (cnt V)) := by
  unfold atC
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [B_arg0, B_arg1, B_arg2, B_arg3, B_arg4, B_v0, B_v1, B_v8, B_v12, B_v16, B_v27, B_v28, B_c_4]
  all_goals rfl
theorem C_c_18 : atC V (no_index (Proc.devRef .tc main_c_18)) = k0 0#32 := by
  unfold atC
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [B_arg0, B_arg1, B_arg2, B_arg3, B_arg4, B_v0, B_v1, B_v8, B_v12, B_v16, B_v27, B_v28, B_c_4]
  all_goals rfl
theorem D_arg1 : atD V (no_index (Proc.devRef .tc main_arg1)) = V (Proc.devRef .tc main_arg1) := by
  unfold atD
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact C_arg1 V
theorem D_arg2 : atD V (no_index (Proc.devRef .tc main_arg2)) = V (Proc.devRef .tc main_arg2) := by
  unfold atD
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact C_arg2 V
theorem D_arg3 : atD V (no_index (Proc.devRef .tc main_arg3)) = V (Proc.devRef .tc main_arg3) := by
  unfold atD
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact C_arg3 V
theorem D_arg4 : atD V (no_index (Proc.devRef .tc main_arg4)) = V (Proc.devRef .tc main_arg4) := by
  unfold atD
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact C_arg4 V
theorem D_v27 : atD V (no_index (Proc.devRef .tc main_v27)) = hOwn (cnt V) := by
  unfold atD
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact C_v27 V
theorem D_v16 : atD V (no_index (Proc.devRef .tc main_v16)) = hRow (cnt V) := by
  unfold atD
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact C_v16 V
theorem D_v30 : atD V (no_index (Proc.devRef .tc main_v30)) = hE (cnt V) := by
  unfold atD
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact C_v30 V
theorem D_v42 : atD V (no_index (Proc.devRef .tc main_v42)) = hV (cnt V) := by
  unfold atD
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact C_v42 V
theorem D_v48 : atD V (no_index (Proc.devRef .tc main_v48)) = hF (cnt V) := by
  unfold atD
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact C_v48 V
theorem D_v58 : atD V (no_index (Proc.devRef .tc main_v58)) = hS (cnt V) := by
  unfold atD
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [C_arg1, C_arg2, C_arg3, C_arg4, C_v0, C_v1, C_v27, C_v16, C_v30, C_v42, C_v48, C_v50, C_v54, C_v55, C_c_18]
  all_goals rfl
theorem D_v78 : atD V (no_index (Proc.devRef .tc main_v78)) = hNext (cnt V) := by
  unfold atD
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [C_arg1, C_arg2, C_arg3, C_arg4, C_v0, C_v1, C_v27, C_v16, C_v30, C_v42, C_v48, C_v50, C_v54, C_v55, C_c_18]
  all_goals rfl
theorem G_arg2 : atG V (no_index (Proc.devRef .tc main_arg2)) = V (Proc.devRef .tc main_arg2) := by
  unfold atG
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact D_arg2 V
theorem G_arg3 : atG V (no_index (Proc.devRef .tc main_arg3)) = V (Proc.devRef .tc main_arg3) := by
  unfold atG
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact D_arg3 V
theorem G_arg4 : atG V (no_index (Proc.devRef .tc main_arg4)) = V (Proc.devRef .tc main_arg4) := by
  unfold atG
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact D_arg4 V
theorem G_v16 : atG V (no_index (Proc.devRef .tc main_v16)) = hRow (cnt V) := by
  unfold atG
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact D_v16 V
theorem G_v30 : atG V (no_index (Proc.devRef .tc main_v30)) = hE (cnt V) := by
  unfold atG
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact D_v30 V
theorem G_v42 : atG V (no_index (Proc.devRef .tc main_v42)) = hV (cnt V) := by
  unfold atG
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact D_v42 V
theorem G_v48 : atG V (no_index (Proc.devRef .tc main_v48)) = hF (cnt V) := by
  unfold atG
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact D_v48 V
theorem G_v58 : atG V (no_index (Proc.devRef .tc main_v58)) = hS (cnt V) := by
  unfold atG
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact D_v58 V
theorem G_v81 : atG V (no_index (Proc.devRef .tc main_v81)) = hA (cnt V) := by
  unfold atG
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [D_arg1, D_arg2, D_arg3, D_arg4, D_v27, D_v16, D_v30, D_v42, D_v48, D_v58, D_v78]
  all_goals rfl
theorem G_v84 : atG V (no_index (Proc.devRef .tc main_v84)) = shapeCast S393216x128 (V (Proc.devRef .tc main_arg1)) shapeCasts_S49152x8x128_S393216x128 := by
  unfold atG
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [D_arg1, D_arg2, D_arg3, D_arg4, D_v27, D_v16, D_v30, D_v42, D_v48, D_v58, D_v78]
  all_goals rfl

theorem C_arg0 : atC V (no_index (Proc.devRef .tc main_arg0)) = cnt V := by
  unfold atC
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact B_arg0 V
theorem D_arg0 : atD V (no_index (Proc.devRef .tc main_arg0)) = cnt V := by
  unfold atD
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact C_arg0 V
theorem G_arg0 : atG V (no_index (Proc.devRef .tc main_arg0)) = cnt V := by
  unfold atG
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact D_arg0 V
theorem G_arg1 : atG V (no_index (Proc.devRef .tc main_arg1)) = V (Proc.devRef .tc main_arg1) := by
  unfold atG
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals exact D_arg1 V

end Cert.Experts
-- ==== Proof.Route.lean ====
module

public import proofs.«01_k».proof.Proof.Body

@[expose] public section

/-! # The routing, in naturals

Blocks dealt to experts in order: which expert a block is of, which experts have any, and that the plan read
off them is one the body can follow. -/

noncomputable section

namespace Cert.Experts

/-- The first `e` terms of `k` summed. -/
def upTo (k : ℕ → ℕ) (e : ℕ) : ℕ := ((List.range e).map k).sum

theorem upTo_zero (k : ℕ → ℕ) : upTo k 0 = 0 := rfl
theorem upTo_succ (k : ℕ → ℕ) (e : ℕ) : upTo k (e + 1) = upTo k e + k e := by
  unfold upTo
  rw [List.range_succ, List.map_append, List.sum_append, List.map_singleton, List.sum_singleton]

attribute [irreducible] upTo

theorem upTo_mono (k : ℕ → ℕ) {a b : ℕ} (h : a ≤ b) : upTo k a ≤ upTo k b := by
  induction h with
  | refl => exact le_rfl
  | step _ ih => rw [Nat.succ_eq_add_one, upTo_succ]; omega

theorem lt_of_upTo_lt (k : ℕ → ℕ) {a b : ℕ} (h : upTo k a < upTo k b) : a < b := by
  by_contra hc
  exact absurd (upTo_mono k (Nat.le_of_not_lt hc)) (by omega)

/-- `r` falls in `e`'s stretch. -/
def At (k : ℕ → ℕ) (r e : ℕ) : Prop := upTo k e ≤ r ∧ r < upTo k (e + 1)

theorem At.pos {k : ℕ → ℕ} {r e : ℕ} (h : At k r e) : 0 < k e := by
  have h1 := h.1; have h2 := h.2; rw [upTo_succ] at h2; omega

theorem At.unique {k : ℕ → ℕ} {r e e' : ℕ} (h : At k r e) (h' : At k r e') : e = e' := by
  have a := lt_of_upTo_lt k (lt_of_le_of_lt h.1 h'.2)
  have b := lt_of_upTo_lt k (lt_of_le_of_lt h'.1 h.2)
  omega

theorem exists_at (k : ℕ → ℕ) (r n : ℕ) (h : r < upTo k n) : ∃ e, e < n ∧ At k r e := by
  induction n with
  | zero => rw [upTo_zero] at h; exact absurd h (Nat.not_lt_zero r)
  | succ n ih =>
    by_cases hr : r < upTo k n
    · obtain ⟨e, he, ha⟩ := ih hr
      exact ⟨e, by omega, ha⟩
    · exact ⟨n, by omega, by omega, h⟩

theorem own_exists (k : ℕ → ℕ) (r : ℕ) : ∃ e : Fin 64, r < upTo k 64 → At k r e.val := by
  by_cases h : r < upTo k 64
  · obtain ⟨e, he, ha⟩ := exists_at k r 64 h
    exact ⟨⟨e, he⟩, fun _ => ha⟩
  · exact ⟨0, fun h' => absurd h' h⟩

/-- The expert whose stretch `r` falls in. -/
def own (k : ℕ → ℕ) (r : ℕ) : Fin 64 := (own_exists k r).choose

theorem own_at (k : ℕ → ℕ) {r : ℕ} (h : r < upTo k 64) : At k r (own k r).val := (own_exists k r).choose_spec h

attribute [irreducible] own

/-- One where `k` is positive. -/
def ind (k : ℕ → ℕ) (e : ℕ) : ℕ := if 0 < k e then 1 else 0

theorem ind_pos {k : ℕ → ℕ} {e : ℕ} (h : 0 < k e) : ind k e = 1 := if_pos h

/-- How many before `e` are positive. -/
def rk (k : ℕ → ℕ) (e : ℕ) : ℕ := upTo (ind k) e

theorem rk_succ_pos {k : ℕ → ℕ} {e : ℕ} (h : 0 < k e) : rk k (e + 1) = rk k e + 1 := by
  unfold rk; rw [upTo_succ, ind_pos h]

theorem at_ind {k : ℕ → ℕ} {e : ℕ} (h : 0 < k e) : At (ind k) (rk k e) e := ⟨le_rfl, by
  have := rk_succ_pos h; unfold rk at this ⊢; omega⟩

theorem rk_inj {k : ℕ → ℕ} {a b : ℕ} (ha : 0 < k a) (hb : 0 < k b) (h : rk k a = rk k b) : a = b :=
  (at_ind ha).unique (h ▸ at_ind hb)

theorem rk_le (k : ℕ → ℕ) (e : ℕ) : rk k e ≤ e := by
  unfold rk
  induction e with
  | zero => rw [upTo_zero]
  | succ e ih => rw [upTo_succ]; have : ind k e ≤ 1 := by
                   unfold ind; split <;> omega
                 omega

theorem exists_rk (k : ℕ → ℕ) (r : ℕ) (h : r < rk k 64) : ∃ e : Fin 64, 0 < k e.val ∧ rk k e.val = r := by
  obtain ⟨e, he, h1, h2⟩ := exists_at (ind k) r 64 h
  rw [upTo_succ] at h2
  have hk : 0 < k e := by
    by_contra hc
    rw [show ind k e = 0 from if_neg hc] at h2; omega
  rw [ind_pos hk] at h2
  exact ⟨⟨e, he⟩, hk, by show upTo (ind k) e = r; omega⟩

/-- The next expert with a block, if there is one. -/
def nxt (k : ℕ → ℕ) (e : ℕ) : Option (Fin 64) :=
  if h : rk k e + 1 < rk k 64 then some (exists_rk k (rk k e + 1) h).choose else none

theorem nxt_none {k : ℕ → ℕ} {e : ℕ} (h : ¬ rk k e + 1 < rk k 64) : nxt k e = none := dif_neg h

theorem nxt_some {k : ℕ → ℕ} {e : ℕ} {e' : Fin 64} (h : 0 < k e'.val) (hr : rk k e'.val = rk k e + 1) : nxt k e = some e' := by
  have hlt : rk k e + 1 < rk k 64 := by
    have h1 := rk_succ_pos h
    have h2 : rk k (e'.val + 1) ≤ rk k 64 := upTo_mono _ e'.isLt
    omega
  unfold nxt
  rw [dif_pos hlt]
  have hs := (exists_rk k (rk k e + 1) hlt).choose_spec
  exact congrArg some (Fin.ext (rk_inj hs.1 h (hs.2.trans hr.symm)))

attribute [irreducible] nxt

/-- What follows block `r`'s expert when the next block is another's. -/
theorem rk_next {k : ℕ → ℕ} {r e e' : ℕ} (h : At k r e) (h' : At k (r + 1) e') (hf : r + 1 = upTo k e') : rk k e' = rk k e + 1 := by
  have hlt : e < e' := lt_of_upTo_lt k (by rw [← hf]; exact lt_of_le_of_lt h.1 (Nat.lt_succ_self r))
  have hz : ∀ d, e + 1 + d ≤ e' → rk k (e + 1 + d) = rk k (e + 1) := by
    intro d
    induction d with
    | zero => intro _; rfl
    | succ d ih =>
      intro hd
      have e1 : upTo k (e + 1 + d + 1) ≤ upTo k e' := upTo_mono k hd
      have e2 : upTo k (e + 1) ≤ upTo k (e + 1 + d) := upTo_mono k (by omega)
      have e3 := h.2
      rw [upTo_succ] at e1
      have e4 : k (e + 1 + d) = 0 := by omega
      have e5 : ind k (e + 1 + d) = 0 := if_neg (by omega)
      rw [← ih (by omega)]
      show upTo (ind k) (e + 1 + d + 1) = upTo (ind k) (e + 1 + d)
      rw [upTo_succ, e5, Nat.add_zero]
  have := hz (e' - (e + 1)) (by omega)
  rw [show e + 1 + (e' - (e + 1)) = e' by omega] at this
  rw [this, rk_succ_pos h.pos]

/-- No expert has a block after the last block's. -/
theorem rk_last {k : ℕ → ℕ} {r e : ℕ} (h : At k r e) (hl : upTo k 64 = r + 1) : nxt k e = none := by
  refine nxt_none fun hc => ?_
  obtain ⟨e', h1, h2⟩ := exists_rk k _ hc
  have hlt : e < e'.val := by
    have : rk k e < rk k e'.val := by omega
    exact lt_of_upTo_lt _ this
  have a1 : upTo k (e + 1) ≤ upTo k e'.val := upTo_mono k hlt
  have a2 : upTo k (e'.val + 1) ≤ upTo k 64 := upTo_mono k e'.isLt
  rw [upTo_succ] at a2
  have := h.2
  omega

/-- Blocks of 256 rows that hold `n` rows. -/
def blocksOf (n : ℕ → ℕ) (e : ℕ) : ℕ := (n e + 255) / 256

/-- Slots alternate along the experts that have a block. -/
def slotOf (k : ℕ → ℕ) (e : ℕ) : Fin 2 := ⟨rk k e % 2, Nat.mod_lt _ (by decide)⟩

/-- The block whose expert block `b` names: itself, or past the last one the last. -/
def rowOf (k : ℕ → ℕ) (b : ℕ) : ℕ := min b (upTo k 64 - 1)

/-- Block `b`'s rows that are tokens. -/
def rowsIn (n : ℕ → ℕ) (b : ℕ) : ℕ :=
  if b < upTo (blocksOf n) 64 then min 256 (n (own (blocksOf n) b).val - (b - upTo (blocksOf n) (own (blocksOf n) b).val) * 256) else 0

theorem rowsIn_lt (n : ℕ → ℕ) (b : ℕ) : rowsIn n b < 257 := by unfold rowsIn; split <;> omega

/-- The routing that the counts `n` give. -/
def planOf (n : ℕ → ℕ) : Plan where
  ex b := own (blocksOf n) (rowOf (blocksOf n) b)
  sl b := slotOf (blocksOf n) (own (blocksOf n) (rowOf (blocksOf n) b)).val
  fi b := decide (b < upTo (blocksOf n) 64 ∧ b = upTo (blocksOf n) (own (blocksOf n) (rowOf (blocksOf n) b)).val)
  va b := ⟨rowsIn n b, rowsIn_lt n b⟩
  nx b := nxt (blocksOf n) (own (blocksOf n) (rowOf (blocksOf n) b)).val

theorem rowOf_lt {k : ℕ → ℕ} {b : ℕ} (h : b < upTo k 64) : rowOf k b = b := by unfold rowOf; omega

section
variable (n : ℕ → ℕ)
local notation "k" => blocksOf n

theorem ex_of_lt {b : ℕ} (h : b < upTo k 64) : (planOf n).ex b = own k b := by
  show own k (rowOf k b) = _; rw [rowOf_lt h]

theorem fi_of_lt {b : ℕ} (h : b < upTo k 64) : (planOf n).fi b = decide (b = upTo k (own k b).val) := by
  have e : (planOf n).fi b = decide (b < upTo k 64 ∧ b = upTo k (own k (rowOf k b)).val) := rfl
  rw [e, rowOf_lt h]
  exact decide_eq_decide.2 (and_iff_right h)

theorem fi_of_ge {b : ℕ} (h : ¬ b < upTo k 64) : (planOf n).fi b = false := by
  exact decide_eq_false fun hc => h hc.1

theorem slot_flip {a b : ℕ} (h : rk k b = rk k a + 1) : slotOf k b = 1 - slotOf k a := by
  have : ∀ x : Fin 2, ∀ y : Fin 2, (y.val = (x.val + 1) % 2) → y = 1 - x := by decide
  refine this _ _ ?_
  show rk k b % 2 = (rk k a % 2 + 1) % 2
  rw [h]; omega

theorem own_succ_same {b : ℕ} (h : b + 1 < upTo k 64) (hne : ¬ b + 1 = upTo k (own k (b + 1)).val) : own k (b + 1) = own k b := by
  have h1 := own_at k h
  have h0 := own_at k (show b < upTo k 64 by omega)
  refine Fin.ext ?_
  have : At k b (own k (b + 1)).val := ⟨by have := h1.1; omega, by have := h1.2; omega⟩
  exact this.unique h0

/-- The request under way before each block. -/
theorem pend_eq (h0 : 0 < upTo k 64) : ∀ b, (planOf n).pend b =
    if b < upTo k 64 then (if b = upTo k (own k b).val then some (slotOf k (own k b).val, own k b)
      else (nxt k (own k b).val).map (1 - slotOf k (own k b).val, ·)) else none := by
  intro b
  induction b with
  | zero =>
    rw [if_pos h0, if_pos (by have := (own_at k h0).1; omega)]
    show some ((planOf n).sl 0, (planOf n).ex 0) = _
    rw [ex_of_lt n h0]
    show some (slotOf k (own k (rowOf k 0)).val, _) = _
    rw [rowOf_lt h0]
  | succ b ih =>
    rw [pend_succ]
    by_cases hb : b < upTo k 64
    · have step : (if (planOf n).fi b = true then ((planOf n).nx b).map (1 - (planOf n).sl b, ·) else (planOf n).pend b)
          = (nxt k (own k b).val).map (1 - slotOf k (own k b).val, ·) := by
        rw [ih, fi_of_lt n hb, if_pos hb]
        by_cases hf : b = upTo k (own k b).val
        · rw [if_pos (decide_eq_true hf)]
          show (nxt k (own k (rowOf k b)).val).map (1 - slotOf k (own k (rowOf k b)).val, ·) = _
          rw [rowOf_lt hb]
        · rw [if_neg (by simpa using hf), if_neg hf]
      rw [step]
      by_cases hb1 : b + 1 < upTo k 64
      · rw [if_pos hb1]
        by_cases hf : b + 1 = upTo k (own k (b + 1)).val
        · rw [if_pos hf]
          have hr := rk_next (own_at k hb) (own_at k hb1) hf
          rw [nxt_some (own_at k hb1).pos hr, slot_flip n hr]
          rfl
        · rw [if_neg hf, own_succ_same n hb1 hf]
      · rw [if_neg hb1, rk_last (own_at k hb) (by omega)]
        rfl
    · rw [fi_of_ge n hb, if_neg Bool.false_ne_true, ih, if_neg hb, if_neg (by omega)]

theorem cur_eq : ∀ b, b < upTo k 64 → (planOf n).cur (b + 1) = some (own k b) := by
  intro b
  induction b with
  | zero =>
    intro h
    rw [cur_succ, fi_of_lt n h, if_pos (decide_eq_true (by have := (own_at k h).1; omega)), ex_of_lt n h]
  | succ b ih =>
    intro h
    rw [cur_succ, fi_of_lt n h]
    by_cases hf : b + 1 = upTo k (own k (b + 1)).val
    · rw [if_pos (decide_eq_true hf), ex_of_lt n h]
    · rw [if_neg (by simpa using hf), ih (by omega), own_succ_same n h hf]

theorem good (h0 : 0 < upTo k 64) (h1 : upTo k 64 ≤ 192) : (planOf n).Good where
  meet b hb hf := by
    have hlt : b < upTo k 64 := by
      by_contra hc
      rw [fi_of_ge n hc] at hf; exact absurd hf Bool.false_ne_true
    rw [fi_of_lt n hlt] at hf
    rw [pend_eq n h0, if_pos hlt, if_pos (of_decide_eq_true hf), ex_of_lt n hlt]
    show _ = some (slotOf k (own k (rowOf k b)).val, _)
    rw [rowOf_lt hlt]
  have_w b hb hv := by
    have hlt : b < upTo k 64 := by
      by_contra hc
      have : rowsIn n b = 0 := if_neg hc
      have hv' : 0 < rowsIn n b := hv
      omega
    rw [cur_eq n b hlt, ex_of_lt n hlt]
  done := by rw [pend_eq n h0, if_neg (by omega)]

end

/-- A used block has a token's row. -/
theorem rowsIn_pos (n : ℕ → ℕ) {b : ℕ} (h : b < upTo (blocksOf n) 64) :
    0 < rowsIn n b ∧ (b - upTo (blocksOf n) (own (blocksOf n) b).val) * 256 < n (own (blocksOf n) b).val := by
  have ha := own_at (blocksOf n) h
  have h1 := ha.1
  have h2 := ha.2
  rw [upTo_succ] at h2
  have h3 : b - upTo (blocksOf n) (own (blocksOf n) b).val < (n (own (blocksOf n) b).val + 255) / 256 := by
    have : blocksOf n (own (blocksOf n) b).val = (n (own (blocksOf n) b).val + 255) / 256 := rfl
    omega
  have h4 : (b - upTo (blocksOf n) (own (blocksOf n) b).val) * 256 < n (own (blocksOf n) b).val := by omega
  refine ⟨?_, h4⟩
  unfold rowsIn
  rw [if_pos h]
  omega

theorem blocks_le (n : ℕ → ℕ) (e : ℕ) : 256 * upTo (blocksOf n) e ≤ upTo n e + 255 * e := by
  induction e with
  | zero => rw [upTo_zero, upTo_zero]
  | succ e ih =>
    rw [upTo_succ, upTo_succ]
    have : 256 * blocksOf n e ≤ n e + 255 := Nat.mul_div_le _ _
    omega

theorem blocks_pos (n : ℕ → ℕ) (e : ℕ) (h : 0 < upTo n e) : 0 < upTo (blocksOf n) e := by
  induction e with
  | zero => rw [upTo_zero] at h; exact absurd h (by decide)
  | succ e ih =>
    rw [upTo_succ] at h ⊢
    by_cases hn : 0 < upTo n e
    · have := ih hn; omega
    · have : 0 < blocksOf n e := Nat.div_pos (by omega) (by decide)
      omega

end Cert.Experts
-- ==== Proof.Words.lean ====
module

public import proofs.«01_k».proof.Proof.Tables
public import proofs.«01_k».proof.Proof.Route
public import Idealize.ShloMosaic.Lib.Routing.Words

@[expose] public section

/-! # The tables' words

With counts that are the words of small naturals, each table holds the word of the routing's plan. -/

noncomputable section

namespace Cert.Experts

open Cert.Kernel Cert.Kernel.Gen
open Idealize.ShloMosaic
open Idealize.ShloMosaic.TcCoe Idealize.ShloMosaic.Tactic Idealize.ShloMosaic.WordCmp
open Idealize.ShloMosaic.Routing

/-! ## A row's sum with one entry -/

theorem fold_zero {ι : Type} [DecidableEq ι] (S : Finset ι) (f : ι → BitVec 32) (hz : ∀ i ∈ S, f i = 0#32) : S.fold IntOp.addi 0#32 f = 0#32 := by
  induction S using Finset.cons_induction with
  | empty => rfl
  | cons a S ha ih =>
    rw [Finset.fold_cons, ih fun i hi => hz i (Finset.mem_cons_of_mem hi), hz a (Finset.mem_cons_self a S)]
    rfl

theorem fold_one {ι : Type} [DecidableEq ι] (S : Finset ι) (f : ι → BitVec 32) (a : ι) (ha : a ∈ S) (hz : ∀ i ∈ S, i ≠ a → f i = 0#32) :
    S.fold IntOp.addi 0#32 f = f a := by
  have e : S = Finset.cons a (S.erase a) (Finset.notMem_erase a S) := by
    rw [Finset.cons_eq_insert, Finset.insert_erase ha]
  rw [e, Finset.fold_cons, fold_zero _ _ fun i hi => hz i (Finset.mem_of_mem_erase hi) (Finset.ne_of_mem_erase hi)]
  show f a + 0#32 = f a
  exact BitVec.add_zero _

theorem reduce_one {n m : ℕ} (v : IVec (shape2 n m) 32) (h : (shape2 n m).ReducesTo [1] (shape1 n)) (hu : 0 < shape0.numel) (i : Fin n) (q : Fin m)
    (hz : ∀ q', q' ≠ q → v (ValueIdx.ix2 i q') = 0#32) : Host.reduce IntOp.addi v (constantI shape0 32 0#32) h hu (ValueIdx.ix1 i) = v (ValueIdx.ix2 i q) := by
  classical
  rw [Host.reduce_eq_fold]
  have hdrop : ∀ p : (shape2 n m).Idx, h.drop p = ValueIdx.ix1 i ↔ p 0 = i := by
    intro p
    have hv : (h.drop p 0 : Nat) = p 0 := Shape.ReducesTo.drop_apply_val h p 0
    constructor
    · intro e; rw [e] at hv; exact Fin.ext hv.symm
    · intro e; funext b; have hb : b = 0 := Subsingleton.elim _ _; subst hb; exact Fin.ext (by rw [hv, e]; rfl)
  refine fold_one _ _ (ValueIdx.ix2 i q) (Finset.mem_filter.2 ⟨Finset.mem_univ _, (hdrop _).2 rfl⟩) fun p hp hne => ?_
  have h0 := (hdrop p).1 (Finset.mem_filter.1 hp).2
  have hp2 : p = ValueIdx.ix2 i (p 1) := by
    funext b
    match b with
    | ⟨0, _⟩ => exact h0
    | ⟨1, _⟩ => rfl
  rw [hp2]
  exact hz _ fun hq => hne (hp2.trans (congrArg (ValueIdx.ix2 i) hq))

/-! ## Words -/

theorem and_dec (p q : Prop) [Decidable p] [Decidable q] : IntOp.andi (BitVec.ofBool (decide p)) (BitVec.ofBool (decide q)) = BitVec.ofBool (decide (p ∧ q)) := by
  by_cases hp : p <;> by_cases hq : q <;> simp only [hp, hq, decide_true, decide_false, and_true, and_false] <;> rfl

theorem minsi_word {a b : ℕ} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · simp only [h, decide_true, if_true]; rw [Nat.min_eq_left (by omega)]
  · simp only [h, decide_false, Bool.false_eq_true, if_false]; rw [Nat.min_eq_right (by omega)]

theorem mul_word (a b : ℕ) : (BitVec.ofNat 32 a * BitVec.ofNat 32 b : BitVec 32) = BitVec.ofNat 32 (a * b) := (BitVec.ofNat_mul ..).symm
theorem add_word (a b : ℕ) : (BitVec.ofNat 32 a + BitVec.ofNat 32 b : BitVec 32) = BitVec.ofNat 32 (a + b) := (BitVec.ofNat_add ..).symm

theorem minsi_at {s : Shape} (v w : IVec s 32) (i : s.Idx) : minsi v w i = IntOp.minsi (v i) (w i) := rfl
theorem maxsi_at {s : Shape} (v w : IVec s 32) (i : s.Idx) : maxsi v w i = IntOp.maxsi (v i) (w i) := rfl
theorem k0_at (w : BitVec 32) (i : S_.Idx) : k0 w i = w := rfl

/-- The counts are the words of `n`, which is small and not all zero. -/
structure Counts (x : IVec S64 32) (n : ℕ → ℕ) : Prop where
  word : ∀ e : Fin 64, x (ValueIdx.ix1 e) = BitVec.ofNat 32 (n e.val)
  each : ∀ e, n e ≤ 32768
  pos : 0 < upTo n 64
  all : upTo n 64 ≤ 32768

section
variable {x : IVec S64 32} {n : ℕ → ℕ} (hx : Counts x n)
local notation "k" => blocksOf n
include hx

theorem Counts.used : upTo k 64 ≤ 191 := by
  have := blocks_le n 64; have := hx.all; omega
theorem Counts.some : 0 < upTo k 64 := blocks_pos n 64 hx.pos
theorem Counts.le (e : ℕ) (he : e ≤ 64) : upTo k e ≤ 191 := le_trans (upTo_mono k he) hx.used
theorem Counts.rk_le64 (e : ℕ) (he : e ≤ 64) : rk k e ≤ 64 := le_trans (rk_le k e) he

theorem b64_at (w : BitVec 32) (e : Fin 64) : b64 (k0 w) (ValueIdx.ix1 e) = w := bc0 bcast_S_S64 _ _
theorem b192_at (w : BitVec 32) (b : Fin 192) : b192 (k0 w) (ValueIdx.ix1 b) = w := bc0 bcast_S_S192 _ _

theorem hCeil_at (e : Fin 64) : hCeil x (ValueIdx.ix1 e) = BitVec.ofNat 32 (blocksOf n e.val) := by
  have h1 : subi (addi x (b64 (k0 256#32))) (b64 (k0 1#32)) (ValueIdx.ix1 e) = BitVec.ofNat 32 (n e.val + 255) := by
    rw [subi_ap, addi_ap, hx.word, b64_at hx, b64_at hx, show (256#32 : BitVec 32) = BitVec.ofNat 32 256 from rfl, add_word,
      show (1#32 : BitVec 32) = BitVec.ofNat 32 1 from rfl, ofNat32_sub (by omega)]
    rfl
  exact pyDiv_ap bcast_S_S64 _ (k0 256#32) (ValueIdx.ix1 e) h1 (rfl : _ = BitVec.ofNat 32 256) (by have := hx.each e.val; omega) (by decide) (by decide)

theorem hCum_at (v : IVec S64 32) (f : ℕ → ℕ) (hv : ∀ e : Fin 64, v (ValueIdx.ix1 e) = BitVec.ofNat 32 (f e.val)) (e : Fin 64) :
    hCum v (ValueIdx.ix1 e) = BitVec.ofNat 32 (upTo f (e.val + 1)) := by
  unfold hCum upTo
  exact cumsum1 (N := 64) (Nm1 := 63) rfl v f hv _ (bc0 bcast_S_S_ _ _) _ _ e

theorem hEnd_at (e : Fin 64) : hEnd x (ValueIdx.ix1 e) = BitVec.ofNat 32 (upTo k (e.val + 1)) := hCum_at hx _ _ (hCeil_at hx) e

theorem hStart_at (e : Fin 64) : hStart x (ValueIdx.ix1 e) = BitVec.ofNat 32 (upTo k e.val) := by
  unfold hStart
  rw [subi_ap, hEnd_at hx, hCeil_at hx, upTo_succ, ofNat32_sub (by omega), Nat.add_sub_cancel]

theorem hLast_at (v : IVec S64 32) (i : S_.Idx) : hLast v i = v (ValueIdx.ix1 (63 : Fin 64)) := by
  unfold hLast
  rw [ValueIdx.eq_ix0 i]
  refine Eq.trans (b := extractStridedSlice S1 ![63] v slices_S64_S1_63 (ValueIdx.ix1 (0 : Fin 1))) ?_ ?_
  · unfold shapeCast
    exact congrArg _ ((ValueIdx.eq_ix1 _).trans (congrArg ValueIdx.ix1 (Subsingleton.elim (α := Fin 1) _ _)))
  · exact slice1 63 v slices_S64_S1_63 0 (by decide)

theorem hIn_at (b : Fin 192) : hIn x (ValueIdx.ix1 b) = BitVec.ofBool (decide (b.val < upTo k 64)) := by
  unfold hIn b192
  rw [cmpi_at, bc0 bcast_S_S192, hLast_at hx, hEnd_at hx, iota1_ap]
  exact cmpi_slt_ofNat (w := 32) (by omega) (lt_of_le_of_lt hx.used (by decide))

theorem hRow_at (b : Fin 192) : hRow x (ValueIdx.ix1 b) = BitVec.ofNat 32 (rowOf k b.val) := by
  unfold hRow b192
  have e : maxsi (subi (hLast (hEnd x)) (k0 1#32)) (k0 0#32) ValueIdx.ix0 = BitVec.ofNat 32 (upTo k 64 - 1) := by
    rw [maxsi_at, subi_ap, k0_at, k0_at, hLast_at hx, hEnd_at hx]
    exact maxsi_pred (lt_of_le_of_lt hx.used (by decide))
  rw [minsi_at, bc0 bcast_S_S192, e, iota1_ap]
  have := hx.used
  exact minsi_word (by omega) (by omega)

theorem row_lt (b : ℕ) : rowOf k b < upTo k 64 := by
  have := hx.some; unfold rowOf; omega

theorem hOwn_at (b : Fin 192) (e : Fin 64) : hOwn x (ValueIdx.ix2 b e) = BitVec.ofBool (decide (e = own k (rowOf k b.val))) := by
  have hr := row_lt hx b.val
  have hu := hx.used
  have l1 := hx.le e.val (by omega)
  have l2 := hx.le (e.val + 1) (by omega)
  unfold hOwn alongE alongB
  rw [andi_at, cmpi_at, cmpi_at, bcRows bcast_S192_S192x1_0 bcast_S192x1_S192x64_0_1, bcCols bcast_S64_S1x64_1 bcast_S1x64_S192x64_0_1,
    bcCols bcast_S64_S1x64_1 bcast_S1x64_S192x64_0_1, hRow_at hx, hStart_at hx, hEnd_at hx]
  rw [cmpi_sge_ofNat (w := 32) (by omega) (by omega), cmpi_slt_ofNat (w := 32) (by omega) (by omega), and_dec]
  refine congrArg BitVec.ofBool (decide_eq_decide.2 ⟨fun h => ?_, fun h => ?_⟩)
  · exact Fin.ext (At.unique (show At k (rowOf k b.val) e.val from h) (own_at k hr))
  · rw [h]; exact own_at k hr

theorem hPick_at (v : IVec S64 32) (b : Fin 192) : hPick x v (ValueIdx.ix1 b) = v (ValueIdx.ix1 (own k (rowOf k b.val))) := by
  unfold hPick
  have hs : ∀ e : Fin 64, select (hOwn x) (alongB v) (broadcastInDim S192x64 ![] bcast_S_S192x64 (k0 0#32)) (ValueIdx.ix2 b e)
      = if e = own k (rowOf k b.val) then v (ValueIdx.ix1 e) else 0#32 := by
    intro e
    unfold alongB
    rw [select_at, hOwn_at hx, select_decide, bcCols bcast_S64_S1x64_1 bcast_S1x64_S192x64_0_1, bc0 bcast_S_S192x64, k0_at]
  refine (reduce_one _ reducesTo_S192x64_S192_d1 h_S_ b (own k (rowOf k b.val)) fun e he => ?_).trans ?_
  · rw [hs, if_neg he]
  · rw [hs, if_pos rfl]

theorem hE_at (b : Fin 192) : hE x (ValueIdx.ix1 b) = BitVec.ofNat 32 (own k (rowOf k b.val)).val := by
  unfold hE; rw [hPick_at hx, iota1_ap]

theorem hPickS_at (b : Fin 192) : hPick x (hStart x) (ValueIdx.ix1 b) = BitVec.ofNat 32 (upTo k (own k (rowOf k b.val)).val) := by
  rw [hPick_at hx, hStart_at hx]

theorem hF_at (b : Fin 192) : hF x (ValueIdx.ix1 b) = if (planOf n).fi b.val = true then 1#32 else 0#32 := by
  have l1 := hx.le (own k (rowOf k b.val)).val (by omega)
  unfold hF
  rw [extui_at, andi_at, hIn_at hx, cmpi_at, iota1_ap, hPickS_at hx, cmpi_eq_ofNat (w := 32) (by omega) (by omega), and_dec, setWidth_ofBool]
  have e : (planOf n).fi b.val = decide (b.val < upTo k 64 ∧ b.val = upTo k (own k (rowOf k b.val)).val) := rfl
  rw [e]
  by_cases h : b.val < upTo k 64 ∧ b.val = upTo k (own k (rowOf k b.val)).val
  · rw [if_pos h, if_pos (decide_eq_true h)]
  · rw [if_neg h, if_neg (by simpa using h)]

theorem hV_at (b : Fin 192) : hV x (ValueIdx.ix1 b) = BitVec.ofNat 32 (rowsIn n b.val) := by
  unfold hV
  rw [select_at, hIn_at hx, select_decide, b192_at hx]
  unfold rowsIn
  by_cases h : b.val < upTo k 64
  · rw [if_pos h, if_pos h]
    have h1 := (rowsIn_pos n h).2
    have h2 := hx.each (own k b.val).val
    have h3 := (own_at k h).1
    rw [minsi_at, maxsi_at, subi_ap, muli_ap, subi_ap, b192_at hx, b192_at hx, hPick_at hx, hx.word, hPickS_at hx, iota1_ap, rowOf_lt h, ofNat32_sub h3,
      show (256#32 : BitVec 32) = BitVec.ofNat 32 256 from rfl, mul_word, ofNat32_sub (by omega), maxsi_zero_left (by omega), minsi_word (by decide) (by omega)]
  · rw [if_neg h, if_neg h]

theorem hPos_at (e : Fin 64) : hPos x (ValueIdx.ix1 e) = BitVec.ofBool (decide (0 < blocksOf n e.val)) := by
  unfold hPos
  have := hx.each e.val
  rw [cmpi_at, hx.word, b64_at hx, show (0#32 : BitVec 32) = BitVec.ofNat 32 0 from rfl, cmpi_sgt_ofNat (w := 32) (by omega) (by decide)]
  refine congrArg BitVec.ofBool (decide_eq_decide.2 ?_)
  unfold blocksOf
  constructor <;> intro h <;> omega

theorem hOrd_at (e : Fin 64) : hOrd x (ValueIdx.ix1 e) = BitVec.ofNat 32 (rk k (e.val + 1)) - 1#32 := by
  unfold hOrd
  rw [subi_ap, b64_at hx, hCum_at hx (extui 32 (hPos x) natLt_1_32) (ind k) (fun e => by
    rw [extui_at, hPos_at hx, setWidth_ofBool]; rfl)]
  rfl

theorem hOrd_pos (e : Fin 64) (he : 0 < blocksOf n e.val) : hOrd x (ValueIdx.ix1 e) = BitVec.ofNat 32 (rk k e.val) := by
  rw [hOrd_at hx, rk_succ_pos he, show (1#32 : BitVec 32) = BitVec.ofNat 32 1 from rfl, ofNat32_sub (by omega), Nat.add_sub_cancel]

theorem own_pos (b : ℕ) : 0 < blocksOf n (own k (rowOf k b)).val := (own_at k (row_lt hx b)).pos

theorem hS_at (b : Fin 192) : hS x (ValueIdx.ix1 b) = BitVec.ofNat 32 (slotOf k (own k (rowOf k b.val)).val).val := by
  unfold hS
  refine pyRem_ap bcast_S_S192 _ (k0 2#32) (ValueIdx.ix1 b) ?_ (rfl : _ = BitVec.ofNat 32 2) (a := rk k (own k (rowOf k b.val)).val) ?_ (by decide) (by decide)
  · rw [hPick_at hx, hOrd_pos hx _ (own_pos hx _)]
  · exact lt_of_le_of_lt (hx.rk_le64 _ (by omega)) (by decide)

theorem hMask_at (e e' : Fin 64) (he : 0 < blocksOf n e.val) :
    hMask x (ValueIdx.ix2 e e') = BitVec.ofBool (decide (0 < blocksOf n e'.val ∧ rk k e'.val = rk k e.val + 1)) := by
  unfold hMask
  rw [andi_at, cmpi_at, bcCols bcast_S64_S1x64_1 bcast_S1x64_S64x64_0_1, bcCols bcast_S64_S1x64_1 bcast_S1x64_S64x64_0_1, hPos_at hx]
  have h1 : broadcastInDim S64x64 ![0, 1] bcast_S64x1_S64x64_0_1 (addi (broadcastInDim S64x1 ![0] bcast_S64_S64x1_0 (hOrd x)) (broadcastInDim S64x1 ![] bcast_S_S64x1 (k0 1#32))) (ValueIdx.ix2 e e')
      = BitVec.ofNat 32 (rk k e.val + 1) := by
    have hcol : broadcastInDim S64x64 ![0, 1] bcast_S64x1_S64x64_0_1 (addi (broadcastInDim S64x1 ![0] bcast_S64_S64x1_0 (hOrd x)) (broadcastInDim S64x1 ![] bcast_S_S64x1 (k0 1#32))) (ValueIdx.ix2 e e')
        = addi (broadcastInDim S64x1 ![0] bcast_S64_S64x1_0 (hOrd x)) (broadcastInDim S64x1 ![] bcast_S_S64x1 (k0 1#32)) (ValueIdx.ix2 e (0 : Fin 1)) :=
      broadcastInDim_apply _ bcast_S64x1_S64x64_0_1 _ _ (ValueIdx.ix2 e (0 : Fin 1)) fun a => by
        match a with
        | ⟨0, _⟩ => rfl
        | ⟨1, _⟩ => rfl
    rw [hcol, addi_ap, bcCol bcast_S64_S64x1_0, bc0 bcast_S_S64x1, hOrd_pos hx e he]
    exact add_word _ 1
  rw [h1]
  by_cases he' : 0 < blocksOf n e'.val
  · have r1 := hx.rk_le64 e'.val (by omega)
    have r2 := hx.rk_le64 e.val (by omega)
    rw [hOrd_pos hx e' he', cmpi_eq_ofNat (w := 32) (by omega) (by omega), and_dec]
  · simp only [he', false_and, decide_false]
    exact BitVec.zero_and

theorem hNext_at (e : Fin 64) (he : 0 < blocksOf n e.val) :
    hNext x (ValueIdx.ix1 e) = match nxt k e.val with | none => 4294967295#32 | some e' => BitVec.ofNat 32 e'.val := by
  have r0 := hx.rk_le64 e.val (by omega)
  have r1 := hx.rk_le64 64 (by omega)
  have r2 : 0 < rk k 64 := by
    have a1 := rk_succ_pos he
    have a2 : rk k (e.val + 1) ≤ rk k 64 := upTo_mono _ (by omega)
    omega
  unfold hNext b64
  rw [select_at, cmpi_at, addi_ap, bc0 bcast_S_S64, bc0 bcast_S_S64, bc0 bcast_S_S64, hLast_at hx, hOrd_pos hx e he, hOrd_at hx]
  have w1 : (BitVec.ofNat 32 (rk k e.val) + k0 1#32 ValueIdx.ix0 : BitVec 32) = BitVec.ofNat 32 (rk k e.val + 1) := add_word _ 1
  have w2 : (BitVec.ofNat 32 (rk k ((63 : Fin 64).val + 1)) - 1#32 : BitVec 32) = BitVec.ofNat 32 (rk k 64 - 1) := ofNat32_sub (a := rk k 64) (b := 1) r2
  rw [w1, w2, cmpi_sle_ofNat (w := 32) (by omega) (by omega), select_decide]
  by_cases h : rk k e.val + 1 < rk k 64
  · rw [if_pos (by omega)]
    obtain ⟨e', h1, h2⟩ := exists_rk k _ h
    rw [nxt_some h1 h2]
    unfold hFound
    have hs : ∀ q : Fin 64, select (hMask x)
        (broadcastInDim S64x64 ![0, 1] bcast_S1x64_S64x64_0_1 (broadcastInDim S1x64 ![1] bcast_S64_S1x64_1 (iotaInDim S64 32 0)))
        (broadcastInDim S64x64 ![] bcast_S_S64x64 (k0 0#32)) (ValueIdx.ix2 e q)
        = if 0 < blocksOf n q.val ∧ rk k q.val = rk k e.val + 1 then BitVec.ofNat 32 q.val else 0#32 := by
      intro q
      rw [select_at, hMask_at hx e q he, select_decide, bcCols bcast_S64_S1x64_1 bcast_S1x64_S64x64_0_1, bc0 bcast_S_S64x64, iota1_ap, k0_at]
    refine (reduce_one _ reducesTo_S64x64_S64_d1 h_S_ e e' fun q hq => ?_).trans ?_
    · rw [hs, if_neg fun hc => hq (Fin.ext (rk_inj hc.1 h1 (hc.2.trans h2.symm)))]
    · rw [hs, if_pos ⟨h1, h2⟩]
  · rw [if_neg (by omega), nxt_none h, k0_at]

theorem hA_at (b : Fin 192) : hA x (ValueIdx.ix1 b) = match nxt k (own k (rowOf k b.val)).val with | none => 4294967295#32 | some e' => BitVec.ofNat 32 e'.val := by
  unfold hA
  rw [hPick_at hx, hNext_at hx _ (own_pos hx _)]

end

variable {F : FTy → Type} [BitOps F]

theorem ix_eq (b : Fin 192) : (ix b : S192.Idx) = ValueIdx.ix1 b := by
  funext a
  match a with
  | ⟨0, _⟩ => rfl

/-- The tables hold the plan. -/
theorem tells {x : IVec S64 32} {n : ℕ → ℕ} (hx : Counts x n) :
    Tells (F := F) (planOf n) (hE x) (hV x) (hF x) (hS x) (hA x) where
  he b := (congrArg (hE x) (ix_eq b)).trans (hE_at hx b)
  hv b := (congrArg (hV x) (ix_eq b)).trans (hV_at hx b)
  hf b := (congrArg (hF x) (ix_eq b)).trans (hF_at hx b)
  hs b := (congrArg (hS x) (ix_eq b)).trans (hS_at hx b)
  ha b := by
    refine ((congrArg (hA x) (ix_eq b)).trans (hA_at hx b)).trans ?_
    show _ = wN (nxt (blocksOf n) (own (blocksOf n) (rowOf (blocksOf n) b.val)).val)
    cases nxt (blocksOf n) (own (blocksOf n) (rowOf (blocksOf n) b.val)).val <;> rfl

end Cert.Experts
-- ==== Proof.Start.lean ====
module

public import proofs.«01_k».proof.Proof.Words
public import proofs.«01_k».proof.Pre_counts_fit
public import Idealize.ShloMosaic.Lib.StableHlo.Predicate

@[expose] public section

/-! # What the precondition says of the counts

Every count is the word of a natural of at most 32768, and so is their sum, which is positive; so the block that
each point reads is one of the staged array's. -/

noncomputable section

namespace Cert.Experts

open Cert.Kernel Cert.Kernel.Gen
open Idealize.ShloMosaic Idealize.ShloMosaic.TcCoe Idealize.ShloMosaic.Tactic Idealize.ShloMosaic.WordCmp
open Idealize.ShloMosaic.Routing

/-- The counts as naturals. -/
def nOf (x : IVec S64 32) (e : ℕ) : ℕ := if h : e < 64 then (x (ValueIdx.ix1 ⟨e, h⟩)).toNat else 0

theorem word_of_signed {w : BitVec 32} (h0 : IntOp.cmpi .sge w 0#32 = 1#1) (h1 : IntOp.cmpi .sle w 32768#32 = 1#1) : w.toNat ≤ 32768 := by
  have e0 : (0 : ℤ) ≤ w.toInt := by
    have : IntOp.cmpi .sge w 0#32 = BitVec.ofBool (decide ((0#32 : BitVec 32).toInt ≤ w.toInt)) := rfl
    rw [this] at h0
    have := of_decide_eq_true (p := (0#32 : BitVec 32).toInt ≤ w.toInt) (by revert h0; cases decide ((0#32 : BitVec 32).toInt ≤ w.toInt) <;> decide)
    simpa using this
  have e1 : w.toInt ≤ 32768 := by
    have : IntOp.cmpi .sle w 32768#32 = BitVec.ofBool (decide (w.toInt ≤ (32768#32 : BitVec 32).toInt)) := rfl
    rw [this] at h1
    have := of_decide_eq_true (p := w.toInt ≤ (32768#32 : BitVec 32).toInt) (by revert h1; cases decide (w.toInt ≤ (32768#32 : BitVec 32).toInt) <;> decide)
    simpa using this
  rw [BitVec.toInt_eq_toNat_cond] at e0 e1
  have := w.isLt
  split at e0 <;> omega

theorem and_one {a b : BitVec 1} (h : IntOp.andi a b = 1#1) : a = 1#1 ∧ b = 1#1 := by
  revert a b; decide

theorem counts_of_fit [Cert.Pre_counts_fit.Facts] {F : FTy → Type} [FloatOps F] (x : IVec S64 32) (a1 : IVec S49152x8x128 32) (a2 a3 : FVec F S64x2048x512 .f32) (a4 : FVec F S64x512x2048 .f32)
    (h : Cert.Pre_counts_fit.fn (F := F) x a1 a2 a3 a4 = fun _ => 1#1) : Counts x (nOf x) := by
  have hw : ∀ e : Fin 64, x (ValueIdx.ix1 e) = BitVec.ofNat 32 (nOf x e.val) := by
    intro e
    unfold nOf
    rw [dif_pos e.isLt, BitVec.ofNat_toNat, BitVec.setWidth_eq]
  have hs := reduce_sum (N := 64) x (nOf x) hw Cert.Pre_counts_fit.Facts.reducesTo_S64_S_d0 Cert.Pre_counts_fit.Facts.h_S_
  have key : ∀ e : Fin 64, ((IntOp.cmpi .sge (x (ValueIdx.ix1 e)) 0#32 = 1#1 ∧ IntOp.cmpi .sle (x (ValueIdx.ix1 e)) 32768#32 = 1#1)
      ∧ IntOp.cmpi .sge (BitVec.ofNat 32 (upTo (nOf x) 64)) 1#32 = 1#1) ∧ IntOp.cmpi .sle (BitVec.ofNat 32 (upTo (nOf x) 64)) 32768#32 = 1#1 := by
    intro e
    have he := congrFun h (ValueIdx.ix1 e)
    unfold Cert.Pre_counts_fit.fn at he
    simp only [andi_at, cmpi_at] at he
    obtain ⟨he, h4⟩ := and_one he
    obtain ⟨he, h3⟩ := and_one he
    obtain ⟨h1, h2⟩ := and_one he
    have b0 := fun (v : Cert.Pre_counts_fit.S_.Idx → BitVec 32) => bc0 Cert.Pre_counts_fit.Facts.bcast_S_S64 v (ValueIdx.ix1 e)
    have b1 := fun (v : Cert.Pre_counts_fit.S_.Idx → BitVec 1) => bc0 Cert.Pre_counts_fit.Facts.bcast_S_S64 v (ValueIdx.ix1 e)
    have hu : upTo (nOf x) 64 = ((List.range 64).map (nOf x)).sum := by unfold upTo; rfl
    refine ⟨⟨⟨?_, ?_⟩, ?_⟩, ?_⟩
    · exact (congrArg (IntOp.cmpi .sge (x (ValueIdx.ix1 e))) (b0 _)).symm.trans h1
    · exact (congrArg (IntOp.cmpi .sle (x (ValueIdx.ix1 e))) (b0 _)).symm.trans h2
    · rw [hu, ← hs]; exact (b1 _).symm.trans h3
    · rw [hu, ← hs]; exact (b1 _).symm.trans h4
  have each : ∀ e, nOf x e ≤ 32768 := by
    intro e
    unfold nOf
    by_cases he : e < 64
    · rw [dif_pos he]; exact word_of_signed (key ⟨e, he⟩).1.1.1 (key ⟨e, he⟩).1.1.2
    · rw [dif_neg he]; omega
  have hb : ∀ j, upTo (nOf x) j ≤ 32768 * j := by
    intro j
    induction j with
    | zero => rw [upTo_zero]
    | succ j ih => rw [upTo_succ]; have := each j; omega
  have hb64 := hb 64
  have k0 := key 0
  rw [show (1#32 : BitVec 32) = BitVec.ofNat 32 1 from rfl, cmpi_sge_ofNat_eq_one_iff (w := 32) (by omega) (by decide)] at k0
  rw [show (32768#32 : BitVec 32) = BitVec.ofNat 32 32768 from rfl, cmpi_sle_ofNat_eq_one_iff (w := 32) (a := upTo (nOf x) 64) (by omega) (by decide)] at k0
  exact ⟨hw, each, k0.1.2, k0.2⟩

/-! ## The staged block that a point reads -/

variable {F : FTy → Type} [BitOps F]

/-- The tables as the region finds them. -/
def tbls (x : IVec S64 32) : pre0.Contents (Elt F) := fun k => match k with
  | ⟨0, _⟩ => hE x
  | ⟨1, _⟩ => hRow x
  | ⟨2, _⟩ => hV x
  | ⟨3, _⟩ => hF x
  | ⟨4, _⟩ => hS x
  | ⟨5, _⟩ => hA x

/-- A word halved, as the block's index map halves it. -/
def half (v2 : BitVec 32) : BitVec 32 :=
  Scalar.select (Scalar.andi (Scalar.cmpi .ne (Scalar.subi (Scalar.extui (Scalar.cmpi .sgt v2 0#32)) (Scalar.extui (Scalar.cmpi .slt v2 0#32)))
    (Scalar.subi (Scalar.extui (Scalar.cmpi .sgt (2#32 : BitVec 32) 0#32)) (Scalar.extui (Scalar.cmpi .slt (2#32 : BitVec 32) 0#32) : BitVec 32)))
    (Scalar.cmpi .ne (Scalar.remsi v2 2#32) 0#32)) (Scalar.subi (Scalar.divsi v2 2#32) 1#32) (Scalar.divsi v2 2#32)

theorem half_word {r : ℕ} (h : r < 192) : half (BitVec.ofNat 32 r) = BitVec.ofNat 32 (r / 2) := by
  have e1 : Scalar.divsi (BitVec.ofNat 32 r) 2#32 = BitVec.ofNat 32 (r / 2) := divsi_word .scalar (by omega) (by decide) (by decide)
  have e2 : Scalar.remsi (BitVec.ofNat 32 r) 2#32 = BitVec.ofNat 32 (r % 2) := remsi_word .scalar (by omega) (by decide) (by decide)
  unfold half
  rw [e1, e2]
  have : ∀ r : Fin 192, Scalar.andi (Scalar.cmpi .ne (Scalar.subi (Scalar.extui (Scalar.cmpi .sgt (BitVec.ofNat 32 r.val) 0#32)) (Scalar.extui (Scalar.cmpi .slt (BitVec.ofNat 32 r.val) 0#32)))
    (Scalar.subi (Scalar.extui (Scalar.cmpi .sgt (2#32 : BitVec 32) 0#32)) (Scalar.extui (Scalar.cmpi .slt (2#32 : BitVec 32) 0#32) : BitVec 32)))
    (Scalar.cmpi .ne (BitVec.ofNat 32 (r.val % 2)) 0#32) = 0#1 := by decide
  rw [this ⟨r, h⟩]
  rfl

theorem off1 (i : grid0.Coords) : k0_off1 i = ![2 * (i 0).val] := by
  have h : ∀ x : Fin 96, (Scalar.indexCast (Scalar.muli (BitVec.ofNat 32 x.val) 2#32) : Index).toNat = 2 * x.val := by decide
  unfold k0_off1
  exact congrArg (fun n : ℕ => ![n]) (h (i 0))

theorem transform0 (x : IVec S64 32) (i : grid0.Coords) :
    cc0_transform_0 k0_off1_inb numel1_S1 (tbls (F := F) x) i = ![(half (hRow x (ValueIdx.ix1 (⟨2 * (i 0).val, by have : (i 0).val < 96 := (i 0).isLt; omega⟩ : Fin 192)))).toNat, 0] := by
  have e : (tbls (F := F) x).at 1 (Rect.unit (s := S192) (k0_off1 i) S1.size (k0_off1_inb i)) numel1_S1
      = hRow x (ValueIdx.ix1 (⟨2 * (i 0).val, by have : (i 0).val < 96 := (i 0).isLt; omega⟩ : Fin 192)) := by
    show hRow x _ = hRow x _
    refine congrArg (hRow x) (funext fun a => Fin.ext ?_)
    match a with
    | ⟨0, _⟩ =>
      show (k0_off1 i) 0 + 1 * 0 = 2 * (i 0).val
      rw [off1]; rfl
  rw [← e]
  rfl

theorem index0 {x : IVec S64 32} {n : ℕ → ℕ} (hx : Counts x n) (i : grid0.Coords) :
    cc0_transform_0 k0_off1_inb numel1_S1 (tbls (F := F) x) i = ![rowOf (blocksOf n) (2 * (i 0).val) / 2, 0] := by
  have hi : (i 0).val < 96 := (i 0).isLt
  have hr := row_lt hx (2 * (i 0).val)
  have hu := hx.used
  rw [transform0, hRow_at hx]
  dsimp only
  rw [half_word (by omega), BitVec.toNat_ofNat, Nat.mod_eq_of_lt (by omega)]

theorem ok_tbls {x : IVec S64 32} {n : ℕ → ℕ} (hx : Counts x n) : ok0 (tbls (F := F) x) := by
  intro i
  have hr := row_lt hx (2 * (i 0).val)
  have hu := hx.used
  refine ⟨fun a => ?_, Or.inl rfl⟩
  rw [index0 hx i]
  match a with
  | ⟨0, _⟩ => show (rowOf (blocksOf n) (2 * (i 0).val) / 2 + 1) * 4096 ≤ 393216; omega
  | ⟨1, _⟩ => show (0 + 1) * 128 ≤ 128; omega

end Cert.Experts
-- ==== Proof.Hand.lean ====
module

public import proofs.«01_k».proof.Proof.Body
public import proofs.«01_k».proof.Proof.Start
public import proofs.«01_k».proof.Proof.Gen.Kernel.Launch
public import Idealize.ShloMosaic.Lib.Pipeline.Frame

@[expose] public section

/-! # What the region hands the first point, and what the last point hands back -/

noncomputable section

namespace Cert.Experts

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

theorem set_rowG2 (s : Fin 2) : (winG scG ![s.val, 0, 0] (inbG s)).view.set = (Rect.unit (s := S2x2048x512) ![s.val, 0, 0] S1x2048x512.size (inbG s)).set :=
  (View.set_reshape _ _).trans (View.set_slice_whole cc0_scratch0 _)
theorem set_rowU2 (s : Fin 2) : (winG scU ![s.val, 0, 0] (inbG s)).view.set = (Rect.unit (s := S2x2048x512) ![s.val, 0, 0] S1x2048x512.size (inbG s)).set :=
  (View.set_reshape _ _).trans (View.set_slice_whole cc0_scratch1 _)
theorem set_rowD2 (s : Fin 2) : (winD scD ![s.val, 0, 0] (inbD s)).view.set = (Rect.unit (s := S2x512x2048) ![s.val, 0, 0] S1x512x2048.size (inbD s)).set :=
  (View.set_reshape _ _).trans (View.set_slice_whole cc0_scratch2 _)

theorem mem_rowG (s : Fin 2) (y : S2x2048x512.Idx) : (y ∈ (Rect.unit (s := S2x2048x512) ![s.val, 0, 0] S1x2048x512.size (inbG s)).set) = ((y 0).val = s.val) := by
  refine propext (Rect.mem_set_unit.trans ⟨fun h => ?_, fun h a => ?_⟩)
  · have := h 0; change s.val ≤ (y 0).val ∧ (y 0).val < s.val + 1 at this; omega
  · match a with
    | ⟨0, _⟩ => show s.val ≤ (y 0).val ∧ (y 0).val < s.val + 1; omega
    | ⟨1, _⟩ => have : (y 1).val < 2048 := (y 1).isLt; show 0 ≤ (y 1).val ∧ (y 1).val < 0 + 2048; omega
    | ⟨2, _⟩ => have : (y 2).val < 512 := (y 2).isLt; show 0 ≤ (y 2).val ∧ (y 2).val < 0 + 512; omega
theorem mem_rowD (s : Fin 2) (y : S2x512x2048.Idx) : (y ∈ (Rect.unit (s := S2x512x2048) ![s.val, 0, 0] S1x512x2048.size (inbD s)).set) = ((y 0).val = s.val) := by
  refine propext (Rect.mem_set_unit.trans ⟨fun h => ?_, fun h a => ?_⟩)
  · have := h 0; change s.val ≤ (y 0).val ∧ (y 0).val < s.val + 1 at this; omega
  · match a with
    | ⟨0, _⟩ => show s.val ≤ (y 0).val ∧ (y 0).val < s.val + 1; omega
    | ⟨1, _⟩ => have : (y 1).val < 512 := (y 1).isLt; show 0 ≤ (y 1).val ∧ (y 1).val < 0 + 512; omega
    | ⟨2, _⟩ => have : (y 2).val < 2048 := (y 2).isLt; show 0 ≤ (y 2).val ∧ (y 2).val < 0 + 2048; omega

theorem rowG_compl : (Finset.univ : Finset S2x2048x512.Idx) \ (Rect.unit (s := S2x2048x512) ![(0 : Fin 2).val, 0, 0] S1x2048x512.size (inbG 0)).set
    = (Rect.unit (s := S2x2048x512) ![(1 : Fin 2).val, 0, 0] S1x2048x512.size (inbG 1)).set := by
  ext y
  have h0 := mem_rowG 0 y
  have h1 := mem_rowG 1 y
  have : (y 0).val < 2 := (y 0).isLt
  rw [Finset.mem_sdiff, h0, h1]
  show (y ∈ Finset.univ ∧ ¬ (y 0).val = 0) ↔ (y 0).val = 1
  exact ⟨fun h => by have := h.2; omega, fun h => ⟨Finset.mem_univ _, by omega⟩⟩
theorem rowD_compl : (Finset.univ : Finset S2x512x2048.Idx) \ (Rect.unit (s := S2x512x2048) ![(0 : Fin 2).val, 0, 0] S1x512x2048.size (inbD 0)).set
    = (Rect.unit (s := S2x512x2048) ![(1 : Fin 2).val, 0, 0] S1x512x2048.size (inbD 1)).set := by
  ext y
  have h0 := mem_rowD 0 y
  have h1 := mem_rowD 1 y
  have : (y 0).val < 2 := (y 0).isLt
  rw [Finset.mem_sdiff, h0, h1]
  show (y ∈ Finset.univ ∧ ¬ (y 0).val = 0) ↔ (y 0).val = 1
  exact ⟨fun h => by have := h.2; omega, fun h => ⟨Finset.mem_univ _, by omega⟩⟩

/-- The requests' buffers, each whole, are their two slots. -/
theorem slots_split (c : Dev nD) :
    iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f) : sProp 𝕄)
      ⊢ iprop(slotWin (F := F) c 0 ∗ slotWin (F := F) c 1) := by
  unfold slotWin
  rw [set_rowG2, set_rowG2, set_rowU2, set_rowU2, set_rowD2, set_rowD2]
  iintro ⟨⟨%f0, H0⟩, ⟨%f1, H1⟩, ⟨%f2, H2⟩⟩
  icases (pointsTo_split_subset (ℓ := (c : Thread nD τ).loc cc0_scratch0) (Finset.subset_univ (Rect.unit (s := S2x2048x512) ![(0 : Fin 2).val, 0, 0] S1x2048x512.size (inbG 0)).set)).1 $$ H0 with ⟨A0, B0⟩
  icases (pointsTo_split_subset (ℓ := (c : Thread nD τ).loc cc0_scratch1) (Finset.subset_univ (Rect.unit (s := S2x2048x512) ![(0 : Fin 2).val, 0, 0] S1x2048x512.size (inbG 0)).set)).1 $$ H1 with ⟨A1, B1⟩
  icases (pointsTo_split_subset (ℓ := (c : Thread nD τ).loc cc0_scratch2) (Finset.subset_univ (Rect.unit (s := S2x512x2048) ![(0 : Fin 2).val, 0, 0] S1x512x2048.size (inbD 0)).set)).1 $$ H2 with ⟨A2, B2⟩
  rw [rowG_compl, rowD_compl]
  isplitl [A0 A1 A2]
  · isplitl [A0]; · iexists f0; iexact A0
    isplitl [A1]; · iexists f1; iexact A1
    iexists f2; iexact A2
  isplitl [B0]; · iexists f0; iexact B0
  isplitl [B1]; · iexists f1; iexact B1
  iexists f2; iexact B2

theorem slots_join (c : Dev nD) :
    iprop(slotWin (F := F) c 0 ∗ slotWin (F := F) c 1)
      ⊢ iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f) : sProp 𝕄) := by
  unfold slotWin
  rw [set_rowG2, set_rowG2, set_rowU2, set_rowU2, set_rowD2, set_rowD2, ← rowG_compl, ← rowD_compl]
  iintro ⟨⟨⟨%f0, A0⟩, ⟨%f1, A1⟩, ⟨%f2, A2⟩⟩, ⟨%g0, B0⟩, ⟨%g1, B1⟩, ⟨%g2, B2⟩⟩
  ihave C0 := (pointsTo_join_subset (ℓ := (c : Thread nD τ).loc cc0_scratch0) (Finset.subset_univ (Rect.unit (s := S2x2048x512) ![(0 : Fin 2).val, 0, 0] S1x2048x512.size (inbG 0)).set)) $$ [A0 B0]
  · isplitl [A0]; · iexact A0
    iexact B0
  ihave C1 := (pointsTo_join_subset (ℓ := (c : Thread nD τ).loc cc0_scratch1) (Finset.subset_univ (Rect.unit (s := S2x2048x512) ![(0 : Fin 2).val, 0, 0] S1x2048x512.size (inbG 0)).set)) $$ [A1 B1]
  · isplitl [A1]; · iexact A1
    iexact B1
  ihave C2 := (pointsTo_join_subset (ℓ := (c : Thread nD τ).loc cc0_scratch2) (Finset.subset_univ (Rect.unit (s := S2x512x2048) ![(0 : Fin 2).val, 0, 0] S1x512x2048.size (inbD 0)).set)) $$ [A2 B2]
  · isplitl [A2]; · iexact A2
    iexact B2
  isplitl [C0]; · iexists _; iexact C0
  isplitl [C1]; · iexists _; iexact C1
  iexists _; iexact C2

/-- The kernel's own cells: a slot's each. -/
abbrev osem0 : Fin 2 → SemLoc sig := ![SemLoc.dma 4, SemLoc.dma 5]
/-- The arrays the body requests blocks of itself. -/
abbrev H0 : Finset (Ref sig .tc) := {main_arg2, main_arg3, main_arg4}

theorem ownSemFacts0 : Pipeline.OwnSemFacts spec0 osem0 := by decide
theorem H0_sub : H0 ⊆ Pipeline.restRefsP sig pre0 spec0 := by decide

theorem own_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), slotCell 0) 0 ∗ semVal ((c : Thread nD τ), slotCell 1) 0) := by
  rw [Pipeline.ownSems0_eq_of_list c osem0 [0, 1] (by decide) (by decide)]
  rfl

theorem arrs_eq (c : Dev nD) (V : (b : Ref sig .tc) → Buf (Elt F) ((c.tc : Thread nD τ).loc b)) :
    (bigSep H0 fun b => ((c.tc : Thread nD τ).loc b) ↦{fullShare} V b : sProp 𝕄)
    = iprop((((c : Thread nD τ).loc main_arg2) ↦{fullShare} V main_arg2) ∗ (((c : Thread nD τ).loc main_arg3) ↦{fullShare} V main_arg3) ∗ (((c : Thread nD τ).loc main_arg4) ↦{fullShare} V main_arg4)) := by
  rw [bigSep_eq_bigSepL_of_eq [main_arg2, main_arg3, main_arg4] (by decide) (by decide)]
  rfl

theorem tabs_eq (c : Dev nD) (x : IVec S64 32) :
    (Pipeline.prefHeld (Ix := Unit) (Name := ℕ) (U := Pipeline.UD sig nD τ) (Lvl := ℕ) pre0 c (fun _ => fullShare.right) (tbls (F := F) x) : sProp 𝕄)
    = tabs c (hE x) (hRow x) (hV x) (hF x) (hS x) (hA x) := by
  unfold Pipeline.prefHeld
  rw [bigSep_univ_eq_bigSepL [(0 : Fin 6), 1, 2, 3, 4, 5] (by decide) (by decide)]
  rfl

/-- What the points share: the generator's register beside the body's state. -/
def state (c : Dev nD) (n : ℕ → ℕ) (x : IVec S64 32) (V : (b : Ref sig .tc) → Buf (Elt F) ((c.tc : Thread nD τ).loc b)) (t : ℕ) : sProp 𝕄 := iprop(
  carry (V main_arg2) (V main_arg3) (V main_arg4) c (planOf n) (hE x) (hRow x) (hV x) (hF x) (hS x) (hA x) t ∗ (∃ r, prngReg c r))

theorem slots_none (c : Dev nD) (A2 A3 : S64x2048x512.Idx → Elt F .f32) (A4 : S64x512x2048.Idx → Elt F .f32) :
    slots A2 A3 A4 c none = iprop(slotIdle A2 A3 A4 c fullShare.left 0 ∗ slotIdle A2 A3 A4 c fullShare.right 1) := rfl

theorem state_first (c : Dev nD) (n : ℕ → ℕ) (x : IVec S64 32) (V : (c : Dev nD) → (b : Ref sig .tc) → Buf (Elt F) ((c.tc : Thread nD τ).loc b)) :
    iprop(Pipeline.ΦD osem0 spec0 H0 V c ∗ Pipeline.ΦT pre0 (tbls (F := F) x) c) ⊢ state c n x (V c) 0 := by
  unfold Pipeline.ΦD Pipeline.ΦT state carry Plan.pendAt
  rw [scopedRest0_eq, own_eq, arrs_eq, tabs_eq, if_pos rfl, slots_none]
  unfold slotIdle slotSrc
  iintro ⟨⟨⟨S0, S1, S2, S3, S4, S5, S6⟩, Hg, ⟨Q0, Q1⟩, M2, M3, M4⟩, HT⟩
  icases (slots_split c) $$ [S0 S1 S2] with ⟨W0, W1⟩
  · isplitl [S0]; · iexact S0
    isplitl [S1]; · iexact S1
    iexact S2
  icases (pointsTo_share (PosShare.mem_left_op_right fullShare)).1 $$ M2 with ⟨L2, R2⟩
  icases (pointsTo_share (PosShare.mem_left_op_right fullShare)).1 $$ M3 with ⟨L3, R3⟩
  icases (pointsTo_share (PosShare.mem_left_op_right fullShare)).1 $$ M4 with ⟨L4, R4⟩
  isplitr [Hg]
  · isplitl [HT]; · iexact HT
    isplitl [W0 W1 Q0 Q1 L2 L3 L4 R2 R3 R4]
    · isplitl [W0 Q0 L2 L3 L4]
      · isplitl [Q0]; · iexact Q0
        isplitl [W0]; · iexact W0
        isplitl [L2]; · iexact L2
        isplitl [L3]; · iexact L3
        iexact L4
      isplitl [Q1]; · iexact Q1
      isplitl [W1]; · iexact W1
      isplitl [R2]; · iexact R2
      isplitl [R3]; · iexact R3
      iexact R4
    isplitl [S3 S4 S5]
    · iapply (show wtsAny c ⊢ wts (V c main_arg2) (V c main_arg3) (V c main_arg4) c ((planOf n).cur (2 * 0)) from .rfl)
      unfold wtsAny
      isplitl [S3]; · iexact S3
      isplitl [S4]; · iexact S4
      iexact S5
    iexact S6
  iexact Hg

theorem state_last (c : Dev nD) (n : ℕ → ℕ) (hn : (planOf n).Good) (x : IVec S64 32) (V : (c : Dev nD) → (b : Ref sig .tc) → Buf (Elt F) ((c.tc : Thread nD τ).loc b)) :
    state c n x (V c) 96 ⊢ Pipeline.ΦD osem0 spec0 H0 V c := by
  have hp : (planOf n).pendAt 96 = none := (show (planOf n).pendAt 96 = (planOf n).pend 192 from rfl).trans hn.done
  unfold Pipeline.ΦD state carry
  rw [scopedRest0_eq, own_eq, arrs_eq, hp, slots_none]
  unfold slotIdle slotSrc
  iintro ⟨⟨HT, ⟨⟨Q0, W0, L2, L3, L4⟩, Q1, W1, R2, R3, R4⟩, HB, S6⟩, Hg⟩
  icases (slots_join c) $$ [W0 W1] with ⟨S0, S1, S2⟩
  · isplitl [W0]; · iexact W0
    iexact W1
  ihave HB := (wts_any (V c main_arg2) (V c main_arg3) (V c main_arg4) c _) $$ HB
  unfold wtsAny
  icases HB with ⟨S3, S4, S5⟩
  ihave M2 := (pointsTo_share (PosShare.mem_left_op_right fullShare)).2 $$ [L2 R2]
  · isplitl [L2]; · iexact L2
    iexact R2
  ihave M3 := (pointsTo_share (PosShare.mem_left_op_right fullShare)).2 $$ [L3 R3]
  · isplitl [L3]; · iexact L3
    iexact R3
  ihave M4 := (pointsTo_share (PosShare.mem_left_op_right fullShare)).2 $$ [L4 R4]
  · isplitl [L4]; · iexact L4
    iexact R4
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  isplitl [Hg]; · iexact Hg
  isplitl [Q0 Q1]
  · isplitl [Q0]; · iexact Q0
    iexact Q1
  isplitl [M2]; · iexact M2
  isplitl [M3]; · iexact M3
  iexact M4

end Cert.Experts
-- ==== Proof.Run.lean ====
module

public import proofs.«01_k».proof.Proof.Hand
public import proofs.«01_k».proof.Proof.Tables
public import Idealize.ShloMosaic.Lib.Pipeline.FrameBody
public import Idealize.ShloMosaic.Lib.Pipeline.Value
public import Idealize.ShloMosaic.Lib.StableHlo.Run

@[expose] public section

/-! # The run of the kernel's program

The host's stretches, then the region: at each point the staged pair of blocks becomes what the body leaves of it. -/

set_option maxRecDepth 4096

noncomputable section

namespace Cert.Experts

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-- The counts in the launch's memory. -/
def cnts : IVec S64 32 := m (((0 : Dev nD).tc : Thread nD τ).loc main_arg0)

/-- What the region finds. -/
def entry0 (c : Dev nD) (b : Ref sig .tc) : Buf (Elt F) ((c.tc : Thread nD τ).loc b) :=
  StableHlo.after (lines (F := F)).flatten (fun b => m (c, b)) b

theorem hmain (𝒱₀ : Variants) : Pipeline.HMainP (Ix := Unit) (Name := ℕ) (U := Pipeline.UD sig nD τ) (Lvl := ℕ) (pcfgs (F := F)) 0 (defs₀ (F := F)) 𝒱₀ m (main (F := F)) (entry0 m) :=
  Pipeline.hmainP_prefixes (pcfgs (F := F)) 0 (defs₀ (F := F)) 𝒱₀ m main lines
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub⟩
    (by repeat' first | exact StableHlo.forall_fresh_of_map rfl | constructor)
    (fun c => (main_chain c).trans rfl)

theorem entry0_eq (c : Dev nD) (b : Ref sig .tc) : entry0 m c b = atG (fun b => m (c, b)) (Proc.devRef .tc b) := by
  unfold entry0
  exact congrFun (after_lines (fun b => m (c, b))) (Proc.devRef .tc b)

theorem dev0 (c : Dev nD) : c = 0 := Fin.eq_zero c

variable {n : ℕ → ℕ}

/-- The tables' contents, admissible. -/
def adm (hx : Counts (cnts m) n) : (p : Fin 1) → (pcfgs (F := F) p).Adm := fun _ => ⟨tbls (cnts m), ok_tbls hx⟩

abbrev cfgA (hx : Counts (cnts m) n) : Cfg sig Λ₀ := Pipeline.pin (pcfgs (F := F)) (adm m hx) 0

/-- The pair of blocks staged at a point. -/
def pairIn (hx : Counts (cnts m) n) (c : Dev nD) (t : Fin (cfgA m hx).N) : S4096x128.Idx → BitVec 32 :=
  (((cfgA m hx).win 0).blk t).view.read (Elt F) (entry0 m c main_v84)

def dats (hx : Counts (cnts m) n) (p : Fin 1) (c : Dev nD) : Dat τ (Elt F) Unit ℕ (Pipeline.UD sig nD τ) ℕ (Pipeline.pin (pcfgs (F := F)) (adm m hx) p) c where
  A w := entry0 m c (Pipeline.arrRef spec0 w)
  after w t := match w with
    | ⟨0, _⟩ => pairIn m hx c t
    | ⟨1, _⟩ => pairOut (F := F) (entry0 m c main_arg2) (entry0 m c main_arg3) (entry0 m c main_arg4) (planOf n) t.val (pairIn m hx c t)
  Φ t := state c n (cnts m) (entry0 m c) t.val
  q _ := fullShare
  owed _ := 0

theorem A_eq (hx : Counts (cnts m) n) (c : Dev nD) (w : Fin (cfgA m hx).W) : (dats m hx 0 c).A w = entry0 m c (Pipeline.arrRef spec0 w) := by dsimp only [dats]
theorem after_0 (hx : Counts (cnts m) n) (c : Dev nD) (t : Fin (cfgA m hx).N) : (dats m hx 0 c).after 0 t = pairIn m hx c t := rfl
theorem after_1 (hx : Counts (cnts m) n) (c : Dev nD) (t : Fin (cfgA m hx).N) : (dats m hx 0 c).after 1 t
    = pairOut (F := F) (entry0 m c main_arg2) (entry0 m c main_arg3) (entry0 m c main_arg4) (planOf n) t.val (pairIn m hx c t) := rfl

theorem before_0 (hx : Counts (cnts m) n) (c : Dev nD) (t : Fin (cfgA m hx).N) (d) : (dats m hx 0 c).before 0 t d = pairIn m hx c t :=
  ((dats m hx 0 c).before_in_eq_fetched 0 rfl (fun _ => rfl) (fun _ _ _ => rfl) (fun t => by rw [after_0]; unfold Dat.blockOf pairIn; rw [A_eq]; try rfl) t d).trans
    (by unfold Dat.fetched Dat.blockOf pairIn; rw [A_eq]; try rfl)

theorem Phi_succ (hx : Counts (cnts m) n) (c : Dev nD) (t : Fin (cfgA m hx).N) : (dats m hx 0 c).Φ t.succ = state c n (cnts m) (entry0 m c) (t.val + 1) := by
  dsimp only [dats]; rfl
theorem Phi_cast (hx : Counts (cnts m) n) (c : Dev nD) (t : Fin (cfgA m hx).N) : (dats m hx 0 c).Φ t.castSucc = state c n (cnts m) (entry0 m c) t.val := by
  dsimp only [dats]; exact Pipeline.Dat.Φ_castSucc (fun t _ => state c n (cnts m) (entry0 m c) t) t

theorem coord (t : Fin grid0.N) : (grid0.coords t 0).val = t.val := by
  have h : ∀ t : Fin grid0.N, (grid0.coords t 0).val = t.val := by decide +kernel
  exact h t

/-- The result's window is written at every point. -/
theorem busy (hx : Counts (cnts m) n) (i : grid0.Coords) : idle0 (F := F) (tbls (cnts m)) 1 i = false := by
  have e : (tbls (F := F) (cnts m)).atD 2 (k0_off2 i) = wV (F := F) ((planOf n).va (blk i 0).val) := by
    rw [← (tells (F := F) hx).hv (blk i 0)]
    have ho : ∀ a, k0_off2 i a + 1 ≤ S192.size a := by
      intro a
      rw [o2]
      match a with
      | ⟨0, _⟩ => show (blk i 0).val + 1 ≤ 192; have := (blk i 0).isLt; omega
    refine (dif_pos ho).trans ?_
    show hV (cnts m) _ = hV (cnts m) _
    refine congrArg (hV (cnts m)) (funext fun a => Fin.ext ?_)
    match a with
    | ⟨0, _⟩ => show k0_off2 i 0 = (blk i 0).val; rw [o2]; rfl
  show (!(k0_cond5 ((tbls (F := F) (cnts m)).atD 2 (k0_off2 i)) == 1#1) && !(k0_cond6 ((tbls (F := F) (cnts m)).atD 2 (k0_off2 i)) == 1#1) && _ && _) = false
  rw [e]
  by_cases h : 0 < ((planOf n).va (blk i 0).val).val
  · rw [(c5_iff _).2 h]; rfl
  · rw [(c6_iff _).2 (by omega)]; simp

abbrev sIn (hx : Counts (cnts m) n) (t : Fin (cfgA m hx).N) : Memref sig .tc .vmem S4096x128 .i32 := spec0_0.stage ((cfgA m hx).slots t 0)
abbrev sOut (hx : Counts (cnts m) n) (t : Fin (cfgA m hx).N) : Memref sig .tc .vmem S4096x128 .i32 := spec0_1.stage ((cfgA m hx).slots t 1)

theorem sound_body (hx : Counts (cnts m) n) (c : Dev nD) (t : Fin (cfgA m hx).N) :
    iprop((dats m hx 0 c).Φ t.castSucc ∗ (dats m hx 0 c).owesAt () t.castSucc
      ∗ (∃ d, owns (c : Thread nD τ) (sIn m hx t) fullShare ((dats m hx 0 c).before 0 t d))
      ∗ (∃ d, owns (c : Thread nD τ) (sOut m hx t) fullShare ((dats m hx 0 c).before 1 t d)))
    ⊢ wp frame (wpE (defs₀ (F := F)) Variants.none c none) Set.univ
      (bodyAt (F := F) (grid0.coords t) (sIn m hx t) (hstage0_0 (((cfgA m hx).slots t 0).cast nbuf0_0)) (sOut m hx t) (hstage0_1 (((cfgA m hx).slots t 1).cast nbuf0_1)))
      (fun _ => iprop((dats m hx 0 c).Φ t.succ ∗ (dats m hx 0 c).owesAt () t.succ
      ∗ owns (c : Thread nD τ) (sIn m hx t) fullShare ((dats m hx 0 c).after 0 t)
      ∗ owns (c : Thread nD τ) (sOut m hx t) fullShare ((dats m hx 0 c).after 1 t))) := by
  rw [Phi_cast, Phi_succ, after_0, after_1]
  simp only [before_0]
  unfold Dat.owesAt Pipeline.owesWithin
  rw [show (dats m hx 0 c).owed t.castSucc = 0 from rfl, show (dats m hx 0 c).owed t.succ = 0 from rfl]
  unfold state
  iintro ⟨⟨HC, Hg⟩, ⟨%W, -, HW⟩, ⟨%d0, H0⟩, ⟨%d1, H1⟩⟩
  have hw := wp_pair (F := F) (entry0 m c main_arg2) (entry0 m c main_arg3) (entry0 m c main_arg4) c (grid0.coords t) (sIn m hx t) (hstage0_0 (((cfgA m hx).slots t 0).cast nbuf0_0)) (sOut m hx t) (hstage0_1 (((cfgA m hx).slots t 1).cast nbuf0_1))
    (planOf n) (good n hx.some (le_trans hx.used (by decide))) (hE (cnts m)) (hRow (cnts m)) (hV (cnts m)) (hF (cnts m)) (hS (cnts m)) (hA (cnts m)) (tells (F := F) hx) W (pairIn m hx c t) ((dats m hx 0 c).before 1 t d1)
  rw [coord] at hw
  iapply (wp_wand frame _ _) $$ [HC HW H0 H1]
  · iapply hw
    isplitl [HC]; · iexact HC
    isplitl [HW]; · iexact HW
    isplitl [H0]; · iexact H0
    iexact H1
  iintro %_ ⟨HC, ⟨%W', HW⟩, H0, H1⟩
  isplitl [HC Hg]
  · isplitl [HC]; · iexact HC
    iexact Hg
  isplitl [HW]
  · iexists W'; isplitr; · ipureintro; exact fun _ _ => Or.inl trivial
    iexact HW
  isplitl [H0]; · iexact H0
  iexact H1

theorem defs_row (hx : Counts (cnts m) n) (t : Fin (cfgA m hx).N) :
    defs₀ (F := F) .tc (cfgA m hx).body ((cfgA m hx).bodyArgs t ((cfgA m hx).slots t))
      = bodyAt (F := F) (grid0.coords t) (sIn m hx t) (hstage0_0 (((cfgA m hx).slots t 0).cast nbuf0_0)) (sOut m hx t) (hstage0_1 (((cfgA m hx).slots t 1).cast nbuf0_1)) := by
  unfold defs₀; rw [Defs.onTc_tc]

theorem busy' (hx : Counts (cnts m) n) (i : grid0.Coords) : idle0 (F := F) (adm m hx 0).1 1 i = false := by
  have e : (adm m hx 0).1 = tbls (F := F) (cnts m) := rfl
  rw [e]
  exact busy m hx i

theorem idle_at (a : (pcfg0 (F := F)).Adm) (t : Fin grid0.N) (h : idle0 (F := F) a.1 1 (grid0.coords t) = false) :
    (pcfg0.at a).idle 1 ((pcfg0.at a).grid.coords t) = false := h

theorem leaves_live {cfg : Cfg sig Λ₀} {c : Dev nD} (dat : Dat (Ix := Unit) (Name := ℕ) (U := Pipeline.UD sig nD τ) (Lvl := ℕ) (τ := τ) (Val := Elt F) (cfg := cfg) c) (w : Fin cfg.W) (t : Fin cfg.N)
    (hi : cfg.idle w (cfg.grid.coords t) = false) : owns c.tc ((cfg.win w).stage (cfg.slots t w)) fullShare (dat.after w t) ⊢ dat.leavesExact w t := by
  unfold Dat.leavesExact
  rw [hi]

theorem body_obligation (hx : Counts (cnts m) n) (c : Dev nD) : BodyObligation (dats m hx 0 c) (defs₀ (F := F)) Variants.none () Set.univ := fun t => by
  have hi : (cfgA m hx).idle 1 ((cfgA m hx).grid.coords t) = false := idle_at (adm m hx 0) t (busy' m hx (grid0.coords t))
  rw [bigSep_W0, bigSep_W0, defs_row]
  refine triple_restated (sound_body m hx c t) rfl .rfl fun _ => ?_
  exact Laws.sep_mono Entails.rfl (Laws.sep_mono Entails.rfl (Laws.sep_mono Entails.rfl (leaves_live (dats m hx 0 c) 1 t hi)))

theorem t_v30 : entry0 m 0 main_v30 = hE (cnts m) := (entry0_eq m 0 main_v30).trans (G_v30 (fun b => m (0, b)))
theorem t_v16 : entry0 m 0 main_v16 = hRow (cnts m) := (entry0_eq m 0 main_v16).trans (G_v16 (fun b => m (0, b)))
theorem t_v42 : entry0 m 0 main_v42 = hV (cnts m) := (entry0_eq m 0 main_v42).trans (G_v42 (fun b => m (0, b)))
theorem t_v48 : entry0 m 0 main_v48 = hF (cnts m) := (entry0_eq m 0 main_v48).trans (G_v48 (fun b => m (0, b)))
theorem t_v58 : entry0 m 0 main_v58 = hS (cnts m) := (entry0_eq m 0 main_v58).trans (G_v58 (fun b => m (0, b)))
theorem t_v81 : entry0 m 0 main_v81 = hA (cnts m) := (entry0_eq m 0 main_v81).trans (G_v81 (fun b => m (0, b)))

theorem tables_at (E : (b : Ref sig .tc) → Buf (Elt F) (((0 : Dev nD).tc : Thread nD τ).loc b)) (x : IVec S64 32) (h0 : E main_v30 = hE x) (h1 : E main_v16 = hRow x) (h2 : E main_v42 = hV x)
    (h3 : E main_v48 = hF x) (h4 : E main_v58 = hS x) (h5 : E main_v81 = hA x) (k : Fin 6) : E (pre0.ref k) = tbls (F := F) x k := by
  match k with
  | ⟨0, _⟩ => exact h0
  | ⟨1, _⟩ => exact h1
  | ⟨2, _⟩ => exact h2
  | ⟨3, _⟩ => exact h3
  | ⟨4, _⟩ => exact h4
  | ⟨5, _⟩ => exact h5

theorem tables_eq (hx : Counts (cnts m) n) (c : Dev nD) (k : Fin 6) : entry0 m c (pre0.ref k) = (adm m hx 0).1 k := by
  obtain rfl := dev0 c
  exact tables_at (entry0 m 0) (cnts m) (t_v30 m) (t_v16 m) (t_v42 m) (t_v48 m) (t_v58 m) (t_v81 m) k

theorem Phi_first (hx : Counts (cnts m) n) (c : Dev nD) : (dats m hx 0 c).Φ 0 = state c n (cnts m) (entry0 m c) 0 := by
  dsimp only [dats]; rfl
theorem Phi_last (hx : Counts (cnts m) n) (c : Dev nD) : (dats m hx 0 c).Φ (Fin.last (cfgA m hx).N) = state c n (cnts m) (entry0 m c) 96 := by
  have : (cfgA m hx).N = 96 := N_0
  dsimp only [dats]
  rw [Fin.val_last, this]

set_option backward.isDefEq.respectTransparency.types false in
theorem run_main (hx : Counts (cnts m) n) : θ_run defs (onTc (τ := τ) (main (F := F))) (s₀ m ρ)
    (fun r => Pipeline.FramePost (Pipeline.pin (pcfgs (F := F)) (adm m hx)) (dats m hx) 0 (entry0 m) r ∧ r.2.sem = fun _ => 0) :=
  Pipeline.θ_run_frameP_dma (Q' := _) (pcfgs (F := F)) (adm m hx) (dats m hx) (0 : Fin 1) launch0 osem0 defs₀ Variants.none ownSemFacts0 H0 H0_sub m ρ main
    (hbody := fun c => (body_obligation m hx c).loose) (hshare := fun c => (dats m hx 0 c).share_full fun _ => rfl)
    (howed := fun _ _ => rfl) (V := entry0 m) (hmain := hmain m Variants.none) (hA := A_eq m hx) (hpf := tables_eq m hx)
    (hin := fun c => by rw [Phi_first]; exact state_first c n (cnts m) (entry0 m))
    (hout := fun c => by rw [Phi_last]; exact state_last c n (good n hx.some (le_trans hx.used (by decide))) (cnts m) (entry0 m))

theorem win_arr (hx : Counts (cnts m) n) (b : Ref sig .tc) (hb : ∀ w : Fin 2, (spec0 w).arr.view.ref ≠ b) :
    ∀ w, ((Pipeline.pin (pcfgs (F := F)) (adm m hx) 0).spec w).arr.view.ref ≠ b := hb

theorem kept (hx : Counts (cnts m) n) {r : PUnit × MemSt nD τ sig (Elt F)} (h : Pipeline.FramePost (Pipeline.pin (pcfgs (F := F)) (adm m hx)) (dats m hx) 0 (entry0 m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  have hr := (h c).2
  ⟨(hr _ (Pipeline.mem_restRefs_of main_arg0 rfl (win_arr m hx _ (by decide)))).trans ((entry0_eq m c main_arg0).trans (G_arg0 _)),
    (hr _ (Pipeline.mem_restRefs_of main_arg1 rfl (win_arr m hx _ (by decide)))).trans ((entry0_eq m c main_arg1).trans (G_arg1 _)),
    (hr _ (Pipeline.mem_restRefs_of main_arg2 rfl (win_arr m hx _ (by decide)))).trans ((entry0_eq m c main_arg2).trans (G_arg2 _)),
    (hr _ (Pipeline.mem_restRefs_of main_arg3 rfl (win_arr m hx _ (by decide)))).trans ((entry0_eq m c main_arg3).trans (G_arg3 _)),
    (hr _ (Pipeline.mem_restRefs_of main_arg4 rfl (win_arr m hx _ (by decide)))).trans ((entry0_eq m c main_arg4).trans (G_arg4 _))⟩

end Cert.Experts
-- ==== Proof.Refer.lean ====
module

public import proofs.«01_k».proof.Proof.Words
public import proofs.«01_k».proof.Proof.Gen.Reference.Frame
public import Idealize.ShloMosaic.Lib.WholeRead

@[expose] public section

/-! # The plain program's routing

Its two tables as terms over the counts, the words they hold, and that they are what the region finds. -/

set_option maxRecDepth 4096

noncomputable section

namespace Cert.Plain

open Cert.Reference Cert.Reference.Gen
open Idealize.ShloMosaic Idealize.ShloMosaic.TcCoe Idealize.ShloMosaic.Tactic Idealize.ShloMosaic.WordCmp
open Idealize.ShloMosaic.Routing
open Cert.Experts (k0 b64 b192 alongE alongB hCum hCeil hLast Counts upTo blocksOf own)

/-- Where each expert's rows end. -/
def rEnd (x : IVec S64 32) : IVec S64 32 := hCum (muli (hCeil x) (b64 (k0 256#32)))
/-- Each block's first row. -/
def rFirst : IVec S192 32 := muli (iotaInDim S192 32 0) (b192 (k0 256#32))
/-- Each block's expert. -/
def rE (x : IVec S64 32) : IVec S192 32 :=
  minsi (Host.reduce IntOp.addi (extui 32 (cmpi .sle (alongB (rEnd x)) (alongE rFirst)) natLt_1_32) (k0 0#32) reducesTo_S192x64_S192_d1 h_S_) (b192 (k0 63#32))
/-- Whether a block is used. -/
def rU (x : IVec S64 32) : IVec S192 32 := extui 32 (cmpi .slt rFirst (b192 (hLast (rEnd x)))) natLt_1_32

section
variable {F : FTy → Type} [BitOps F] (V : Valuation τ sig (Elt F))

def atP : Valuation τ sig (Elt F) := StableHlo.after (List.flatten [hostOps0, hostOps0_1]) V
def atQ : Valuation τ sig (Elt F) := StableHlo.after (List.flatten [hostOps0_2, hostOps0_3]) (atP V)
def atR : Valuation τ sig (Elt F) := StableHlo.after (List.flatten [hostOps0_4]) (atQ V)

theorem after_all : StableHlo.after (List.flatten [hostOps0, hostOps0_1, hostOps0_2, hostOps0_3, hostOps0_4]) V = atR V := by
  unfold atR atQ atP
  simp only [← StableHlo.after_append, ← List.flatten_append, List.cons_append, List.nil_append]

theorem P_v4 : atP V (no_index (Proc.devRef .tc main_v4)) = hCeil (V (Proc.devRef .tc main_arg0)) := by
  unfold atP
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals rfl
theorem P_arg1 : atP V (no_index (Proc.devRef .tc main_arg1)) = V (Proc.devRef .tc main_arg1) := by
  unfold atP
  simp only [List.flatten_cons, List.flatten_nil, List.cons_append, List.nil_append, List.append_nil]
  after_reads_simp
theorem Q_v7 : atQ V (no_index (Proc.devRef .tc main_v7)) = rEnd (V (Proc.devRef .tc main_arg0)) := by
  unfold atQ
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [P_v4]
  all_goals rfl
theorem Q_arg1 : atQ V (no_index (Proc.devRef .tc main_arg1)) = V (Proc.devRef .tc main_arg1) := by
  unfold atQ
  simp only [List.flatten_cons, List.flatten_nil, List.cons_append, List.nil_append, List.append_nil]
  after_reads_simp
  all_goals exact P_arg1 V
theorem R_v19 : atR V (no_index (Proc.devRef .tc main_v19)) = rE (V (Proc.devRef .tc main_arg0)) := by
  unfold atR
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [Q_v7]
  all_goals rfl
theorem R_v24 : atR V (no_index (Proc.devRef .tc main_v24)) = rU (V (Proc.devRef .tc main_arg0)) := by
  unfold atR
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [Q_v7]
  all_goals rfl
theorem R_v25 : atR V (no_index (Proc.devRef .tc main_v25)) = shapeCast S49152x1024 (V (Proc.devRef .tc main_arg1)) shapeCasts_S49152x8x128_S49152x1024 := by
  unfold atR
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals try simp only [Q_arg1]
  all_goals rfl
end

/-! ## The words -/

section
variable {x : IVec S64 32} {n : ℕ → ℕ} (hx : Counts x n)
local notation "k" => blocksOf n
include hx

theorem upTo_rows (e : ℕ) : upTo (fun e => k e * 256) e = upTo k e * 256 := by
  induction e with
  | zero => rw [Cert.Experts.upTo_zero, Cert.Experts.upTo_zero, Nat.zero_mul]
  | succ e ih => rw [Cert.Experts.upTo_succ, Cert.Experts.upTo_succ, ih, Nat.add_mul]

theorem rEnd_at (e : Fin 64) : rEnd x (ValueIdx.ix1 e) = BitVec.ofNat 32 (upTo k (e.val + 1) * 256) := by
  rw [← upTo_rows hx]
  exact Cert.Experts.hCum_at hx _ _ (fun e => by
    rw [muli_ap, Cert.Experts.hCeil_at hx, Cert.Experts.b64_at hx]
    exact Cert.Experts.mul_word _ 256) e

theorem rFirst_at (b : Fin 192) : rFirst (ValueIdx.ix1 b) = BitVec.ofNat 32 (b.val * 256) := by
  unfold rFirst
  rw [muli_ap, Cert.Experts.b192_at hx, iota1_ap]
  exact Cert.Experts.mul_word _ 256

theorem rU_at (b : Fin 192) : rU x (ValueIdx.ix1 b) = BitVec.ofNat 32 (if b.val < upTo k 64 then 1 else 0) := by
  have := hx.used
  unfold rU b192
  rw [extui_at, cmpi_at, rFirst_at hx, bc0 bcast_S_S192, Cert.Experts.hLast_at hx, rEnd_at hx]
  rw [cmpi_slt_ofNat (w := 32) (by omega) (by show upTo k 64 * 256 < _; omega), setWidth_ofBool]
  refine congrArg _ (if_congr ?_ rfl rfl)
  show b.val * 256 < upTo k 64 * 256 ↔ _
  omega

omit hx in
theorem count_below (P : ℕ → Prop) [DecidablePred P] (a N : ℕ) (h : ∀ q, q < N → (P q ↔ q < a)) : Nat.count P N = min a N := by
  induction N with
  | zero => rw [Nat.count_zero, Nat.min_zero]
  | succ N ih =>
    rw [Nat.count_succ, ih fun q hq => h q (by omega)]
    have := h N (by omega)
    by_cases hP : P N
    · rw [if_pos hP]; have := this.1 hP; omega
    · rw [if_neg hP]; have : ¬ N < a := fun hc => hP (this.2 hc)
      omega

/-- How many experts' rows end by block `b`'s first. -/
def before (n : ℕ → ℕ) (b : ℕ) : ℕ := Nat.count (fun q => upTo (blocksOf n) (q + 1) ≤ b) 64

theorem before_le (b : ℕ) : before n b ≤ 64 := Nat.count_le _

theorem before_own (b : ℕ) (h : b < upTo k 64) : before n b = (own k b).val := by
  have ha := Cert.Experts.own_at k h
  have := (own k b).isLt
  unfold before
  rw [count_below _ (own k b).val 64 fun q _ => ⟨fun hq => ?_, fun hq => ?_⟩]
  · omega
  · exact Nat.lt_of_succ_lt_succ (Cert.Experts.lt_of_upTo_lt k (lt_of_le_of_lt hq ha.2))
  · exact le_trans (Cert.Experts.upTo_mono k hq) ha.1

theorem rE_at (b : Fin 192) : rE x (ValueIdx.ix1 b) = BitVec.ofNat 32 (min (before n b.val) 63) := by
  have hl : ∀ q : Fin 64, upTo k (q.val + 1) ≤ 191 := fun q => hx.le _ (by omega)
  unfold rE
  rw [Cert.Experts.minsi_at, Cert.Experts.b192_at hx]
  have := reduce_count (n := 192) (m := 64) (by decide) (cmpi .sle (alongB (rEnd x)) (alongE rFirst)) natLt_1_32 reducesTo_S192x64_S192_d1 h_S_ b (fun q => upTo k (q + 1) ≤ b.val) (fun q => by
    unfold alongB alongE
    rw [cmpi_at, bcRows bcast_S192_S192x1_0 bcast_S192x1_S192x64_0_1, bcCols bcast_S64_S1x64_1 bcast_S1x64_S192x64_0_1, rFirst_at hx, rEnd_at hx]
    rw [cmpi_sle_ofNat (w := 32) (by have := hl q; omega) (by omega)]
    by_cases h : upTo k (q.val + 1) ≤ b.val
    · rw [decide_eq_true (by omega)]; exact iff_of_true rfl h
    · rw [decide_eq_false (by omega)]; exact iff_of_false (by decide) h)
  rw [this]
  have := before_le hx b.val
  exact Cert.Experts.minsi_word (by unfold before at this; omega) (by decide)

end

/-! ## What the region finds -/

theorem read_blk_whole {sg : RefSig} {s : Shape} {e : EltTy} {cs : CoreSpace} (arr : Memref sg .tc .hbm s e) (o sy : Bool) (stage : Memref sg .tc (.core cs) ⟨s.rank, s.size⟩ e)
    (sem : DmaSem sg) (harr : arr.IsWhole) (hst : stage.IsWhole) (Val : EltTy → Type) (X : arr.view.ty.Contents Val) (t : Fin Pipeline.Grid.none.N) (y : s.Idx) :
    ((Pipeline.Window.whole arr o sy stage sem harr hst).blk t).view.read Val X y = arr.view.read Val X y := by
  refine congrArg (arr.view.read Val X) (funext fun a => Fin.ext ?_)
  show 0 * s.size a + 1 * (y a).val = (y a).val
  omega

section
variable {F : FTy → Type} [BitOps F] (m : (ℓ : Loc nD τ sig) → Buf (Elt F) ℓ)

/-- The counts in the launch's memory. -/
def cnts (c : Dev nD) : IVec S64 32 := m ((c.tc : Thread nD τ).loc main_arg0)

theorem V_eq (c : Dev nD) (b : Ref sig .tc) : V m c b = atR (fun b => m (c, b)) (Proc.devRef .tc b) :=
  congrFun (after_all (fun b => m (c, b))) (Proc.devRef .tc b)

theorem iblk_0 (c : Dev nD) (t : Fin cfg0.N) : iblk m c 0 t = rE (cnts m c) := by
  have e : V m c main_v19 = rE (cnts m c) := (V_eq m c main_v19).trans (R_v19 _)
  funext y
  unfold iblk
  refine (read_blk_whole (Memref.whole main_v19) false false (stage0_0 0) (sem0_0 0) (Memref.isWhole_whole _) (hstage0_0 0) (Elt F) (V m c main_v19) t y).trans ?_
  exact congrFun e y
theorem iblk_1 (c : Dev nD) (t : Fin cfg0.N) : iblk m c 1 t = rU (cnts m c) := by
  have e : V m c main_v24 = rU (cnts m c) := (V_eq m c main_v24).trans (R_v24 _)
  funext y
  unfold iblk
  refine (read_blk_whole (Memref.whole main_v24) false false (stage0_1 0) (sem0_1 0) (Memref.isWhole_whole _) (hstage0_1 0) (Elt F) (V m c main_v24) t y).trans ?_
  exact congrFun e y
theorem iblk_2 (c : Dev nD) (t : Fin cfg0.N) : iblk m c 2 t = shapeCast S49152x1024 (m ((c.tc : Thread nD τ).loc main_arg1)) shapeCasts_S49152x8x128_S49152x1024 := by
  have e : V m c main_v25 = shapeCast S49152x1024 (m ((c.tc : Thread nD τ).loc main_arg1)) shapeCasts_S49152x8x128_S49152x1024 := (V_eq m c main_v25).trans (R_v25 _)
  funext y
  unfold iblk
  refine (read_blk_whole (Memref.whole main_v25) false false (stage0_2 0) (sem0_2 0) (Memref.isWhole_whole _) (hstage0_2 0) (Elt F) (V m c main_v25) t y).trans ?_
  exact congrFun e y
theorem iblk_3 (c : Dev nD) (t : Fin cfg0.N) : iblk m c 3 t = m ((c.tc : Thread nD τ).loc main_arg2) := by
  funext y
  unfold iblk
  refine (read_blk_whole (Memref.whole main_arg2) false false (stage0_3 0) (sem0_3 0) (Memref.isWhole_whole _) (hstage0_3 0) (Elt F) (V m c main_arg2) t y).trans ?_
  exact congrFun (V_main_arg2 m c) y
theorem iblk_4 (c : Dev nD) (t : Fin cfg0.N) : iblk m c 4 t = m ((c.tc : Thread nD τ).loc main_arg3) := by
  funext y
  unfold iblk
  refine (read_blk_whole (Memref.whole main_arg3) false false (stage0_4 0) (sem0_4 0) (Memref.isWhole_whole _) (hstage0_4 0) (Elt F) (V m c main_arg3) t y).trans ?_
  exact congrFun (V_main_arg3 m c) y
theorem iblk_5 (c : Dev nD) (t : Fin cfg0.N) : iblk m c 5 t = m ((c.tc : Thread nD τ).loc main_arg4) := by
  funext y
  unfold iblk
  refine (read_blk_whole (Memref.whole main_arg4) false false (stage0_5 0) (sem0_5 0) (Memref.isWhole_whole _) (hstage0_5 0) (Elt F) (V m c main_arg4) t y).trans ?_
  exact congrFun (V_main_arg4 m c) y

/-! ## The words the body reads -/

theorem trips_eq : k0_t1_loop.trips = 192 := by decide

theorem iv_at : ∀ x : Fin 192, (Scalar.indexCast (Scf.iv 0#32 1#32 x.val) : Index).toNat = x.val := by decide
theorem iv_rows : ∀ x : Fin 192, (Scalar.indexCast (Scalar.muli (Scf.iv 0#32 1#32 x.val) 256#32) : Index).toNat = 256 * x.val := by decide

theorem off1_eq (b : Fin k0_t1_loop.trips) : k0_off1 b = ![b.val] := by
  unfold k0_off1
  exact congrArg (fun z : ℕ => ![z]) (iv_at ⟨b.val, lt_of_lt_of_eq b.isLt trips_eq⟩)
theorem off5_eq (b : Fin k0_t1_loop.trips) : k0_off5 b = ![b.val] := by
  unfold k0_off5
  exact congrArg (fun z : ℕ => ![z]) (iv_at ⟨b.val, lt_of_lt_of_eq b.isLt trips_eq⟩)
theorem off2_eq (b : Fin k0_t1_loop.trips) : k0_off2 b = ![256 * b.val, 0] := by
  unfold k0_off2
  exact congrArg (fun z : ℕ => ![z, 0]) (iv_rows ⟨b.val, lt_of_lt_of_eq b.isLt trips_eq⟩)
theorem off6_eq (b : Fin k0_t1_loop.trips) : k0_off6 b = ![256 * b.val, 0] := by
  unfold k0_off6
  exact congrArg (fun z : ℕ => ![z, 0]) (iv_rows ⟨b.val, lt_of_lt_of_eq b.isLt trips_eq⟩)

theorem word_read {M : Memref sig .tc .smem S192 .i32} (hM : M.IsWhole) (X : Vec F S192 .i32) (off : Fin 1 → ℕ) (b : Fin 192) (ho : off = ![b.val])
    (inb : ∀ a, off a + S1.size a ≤ S192.size a) (y : S1.Idx) :
    M.view.readAt (Elt F) (Rect.unit (s := S192) off S1.size inb).toLoadRect (hM.unread X) y = X (ValueIdx.ix1 b) := by
  subst ho
  rw [hM.readAt_unread]
  refine congrArg X (funext fun a => Fin.ext ?_)
  match a with
  | ⟨0, _⟩ =>
    have : (y 0).val = 0 := by have : (y 0).val < 1 := (y 0).isLt; omega
    show b.val + 1 * (y 0).val = b.val
    omega

theorem chk_of (e : ℕ) (he : e ≤ 63) : k0_chk1 (BitVec.ofNat 32 e) := by
  have h : (BitVec.ofNat 32 e).toNat = e := by rw [BitVec.toNat_ofNat]; omega
  constructor
  · intro a
    unfold k0_off3
    match a with
    | ⟨0, _⟩ => show (BitVec.ofNat 32 e).toNat + 1 ≤ 64; omega
    | ⟨1, _⟩ => show 0 + 2048 ≤ 2048; omega
    | ⟨2, _⟩ => show 0 + 512 ≤ 512; omega
  · intro a
    unfold k0_off4
    match a with
    | ⟨0, _⟩ => show (BitVec.ofNat 32 e).toNat + 1 ≤ 64; omega
    | ⟨1, _⟩ => show 0 + 512 ≤ 512; omega
    | ⟨2, _⟩ => show 0 + 2048 ≤ 2048; omega

theorem hyps {n : Dev nD → ℕ → ℕ} (hx : ∀ c, Counts (cnts m c) (n c)) : Hyps m := fun c t b hb => by
  have h := (word_read (hs0_0 t) (iblk m c 0 t) _ ⟨b, lt_of_lt_of_eq hb trips_eq⟩ (off1_eq ⟨b, hb⟩) (k0_off1_inb ⟨b, hb⟩)
    (Shape.Idx.first (numel1_S1.symm ▸ Nat.one_pos))).trans ((congrFun (iblk_0 m c t) _).trans (rE_at (hx c) ⟨b, lt_of_lt_of_eq hb trips_eq⟩))
  exact (congrArg k0_chk1 h).mpr (chk_of _ (by omega))

end

end Cert.Plain
-- ==== Proof.Frames.lean ====
/- The two frames: each program ends, with its arguments kept and its counters at zero. -/
module

public import proofs.«01_k».proof.Defs
public import proofs.«01_k».proof.Proof.Run
public import proofs.«01_k».proof.Proof.Refer
public import proofs.«01_k».proof.Proof.Start

@[expose] public section

noncomputable section

namespace Cert.Proof

open Idealize.ShloMosaic Idealize.SL.Sem

theorem pre_facts : Cert.Pre_counts_fit.Facts where
  reducesTo_S64_S_d0 := by decide
  h_S_ := by decide
  bcast_S_S64 := by decide

theorem counts_K [Cert.Pre_counts_fit.Facts] {m : (ℓ : Loc Cert.Kernel.nD Cert.Kernel.τ Cert.Kernel.sig) → Buf (Elt Bits) ℓ} (h : Cert.Pre_Kernel m) :
    Cert.Experts.Counts (Cert.Experts.cnts m) (Cert.Experts.nOf (Cert.Experts.cnts m)) :=
  Cert.Experts.counts_of_fit _ _ _ _ _ (h 0)

theorem counts_R [Cert.Pre_counts_fit.Facts] {m : (ℓ : Loc Cert.Reference.nD Cert.Reference.τ Cert.Reference.sig) → Buf (Elt Bits) ℓ} (h : Cert.Pre_Reference m) (c : Dev Cert.Reference.nD) :
    Cert.Experts.Counts (Cert.Plain.cnts m c) (Cert.Experts.nOf (Cert.Plain.cnts m c)) :=
  Cert.Experts.counts_of_fit _ _ _ _ _ (h c)

theorem frame_K [Cert.Pre_counts_fit.Facts] : Cert.quiescent_Kernel := fun m g h =>
  (θ_run _ _ _).mono (fun _ hr => ⟨fun c => Cert.Experts.kept m (counts_K h) hr.1 c, hr.2⟩) (Cert.Experts.run_main m g (counts_K h))

theorem frame_R [Cert.Pre_counts_fit.Facts] : Cert.quiescent_Reference := fun m g h =>
  Cert.Reference.Gen.frame m g (Cert.Plain.hyps m (counts_R h))

end Cert.Proof

end
-- ==== Proof.Rows.lean ====
module

public import proofs.«01_k».proof.Proof.Refer
public import proofs.«01_k».proof.Proof.Arrive

@[expose] public section

/-! # What the plain program stores

One trip of the plain program's loop computes one block of rows; the blocks together are its result. -/

noncomputable section

namespace Cert.Plain

open Cert.Reference Cert.Reference.Gen
open Cert.Experts (Counts SWords at2 xbOf mlp zeros pk wtG wtD inG inD upTo blocksOf)
open Idealize.ShloMosaic Idealize.ShloMosaic.TcCoe Idealize.ShloMosaic.Tactic

variable {F : FTy → Type} [BitOps F]

theorem pack_eq (V : FVec F S256x2048 .f32) (h h') :
    packElementwise (extractStridedSlice S256x1024 ![0, 0] V h) (extractStridedSlice S256x1024 ![0, 1024] V h') = pk V := by
  funext x
  unfold pk packElementwise
  refine congrArg₂ (fun a b : F .f32 => (BitOps.toBits (FloatOps.truncf .bf16 (by decide) a) ++ BitOps.toBits (FloatOps.truncf .bf16 (by decide) b) : BitVec 32))
    (congrArg V ?_) (congrArg V ?_)
  · refine funext fun a => Fin.ext ?_
    match a with
    | ⟨0, _⟩ => show 0 + (x 0).val = (x 0).val; omega
    | ⟨1, _⟩ => rfl
  · refine funext fun a => Fin.ext ?_
    match a with
    | ⟨0, _⟩ => show 0 + (x 0).val = (x 0).val; omega
    | ⟨1, _⟩ => show 0 + (x 1).val = (x 1).val; omega

theorem cat_eq (X0 X1 : FVec F S256x1024 .f32) (hc : Shape.Concatenates [S256x1024, S256x1024] S256x2048 1) (j : S256x2048.Idx) :
    concatenate S256x2048 1 [⟨S256x1024, X0⟩, ⟨S256x1024, X1⟩] hc j
      = if h : (j 1).val < 1024 then X0 (at2 (n := 256) (k := 1024) (j 0) ⟨(j 1).val, h⟩)
        else X1 (at2 (n := 256) (k := 1024) (j 0) ⟨(j 1).val - 1024, by have := (j 1).isLt; change _ < 2048 at this; omega⟩) := by
  have hj : (j 1).val < 2048 := (j 1).isLt
  split
  · rename_i hlt
    refine concatenate_pair_apply_left (1 : Fin 2) X0 X1 hc j rfl (at2 (n := 256) (k := 1024) (j 0) ⟨(j 1).val, hlt⟩) ?_
    intro b
    match b with
    | ⟨0, _⟩ => rfl
    | ⟨1, _⟩ => rfl
  · rename_i hge
    refine concatenate_pair_apply_right (1 : Fin 2) X0 X1 hc j rfl rfl (at2 (n := 256) (k := 1024) (j 0) ⟨(j 1).val - 1024, by omega⟩) ?_ ?_
    · intro b hb
      match b, hb with
      | ⟨0, _⟩, _ => rfl
      | ⟨1, _⟩, hb => exact absurd rfl hb
    · show (j 1).val - 1024 + 1024 = (j 1).val; omega

theorem unpack_eq (W : IVec SWords 32) (hc : Shape.Concatenates [S256x1024, S256x1024] S256x2048 1) (h2 : 0 < 2) (h3 : 1 < 2) (hb : FTy.bf16.bits < FTy.f32.bits) :
    truncf .bf16 (concatenate S256x2048 1 [⟨S256x1024, unpackElementwise (F := F) (s := S256x1024) 0 W h2⟩, ⟨S256x1024, unpackElementwise (F := F) (s := S256x1024) 1 W h3⟩] hc : FVec F S256x2048 .f32) hb
      = xbOf (F := F) W := by
  funext j
  refine (congrArg (fun a : F .f32 => FloatOps.truncf .bf16 (by decide) a) (cat_eq _ _ hc j)).trans ?_
  unfold xbOf
  split
  · rfl
  · rfl

theorem pay_eq (W : IVec SWords 32) (A2 A3 : S64x2048x512.Idx → Elt F .f32) (A4 : S64x512x2048.Idx → Elt F .f32) (e : Fin 64) (u : BitVec 32) :
    k0_pay1 (F := F) W (fun y : S1x2048x512.Idx => A2 (inG e y)) (fun y : S1x2048x512.Idx => A3 (inG e y)) (fun y : S1x512x2048.Idx => A4 (inD e y)) u
      = if u = 0#32 then pk (zeros (F := F)) else pk (mlp (xbOf W) (wtG A2 e) (wtG A3 e) (wtD A4 e)) := by
  have hs : ∀ (A B : FVec F S256x2048 .f32), Scalar.select (Scalar.cmpi .ne u 0#32) A B = if u = 0#32 then B else A := by
    intro A B
    by_cases hu : u = 0#32
    · subst hu; rw [if_pos rfl]; rfl
    · rw [if_neg hu]
      have : Scalar.cmpi .ne u 0#32 = 1#1 := by
        unfold Scalar.cmpi IntOp.cmpi
        have : (u != 0#32) = true := bne_iff_ne.2 hu
        rw [this]; rfl
      rw [this]; rfl
  unfold k0_pay1
  dsimp only
  rw [pack_eq, hs, show shapeCast S256x1024 W shapeCasts_S256x1024_S256x1024 = W from shapeCast_self W _, unpack_eq]
  split
  · rfl
  · rfl

/-- The words of block `b`. -/
def rowsAt (A : S49152x1024.Idx → BitVec 32) (b : Fin 192) : IVec SWords 32 := fun j =>
  A (at2 (n := 49152) (k := 1024) ⟨256 * b.val + (j 0).val, by have := (j 0).isLt; change _ < 256 at this; have := b.isLt; omega⟩ (j 1))

theorem rows_read {M : Memref sig .tc .vmem S49152x1024 .i32} (hM : M.IsWhole) (A : Vec F S49152x1024 .i32) (off : Fin 2 → ℕ) (b : Fin 192) (ho : off = ![256 * b.val, 0])
    (inb : ∀ a, off a + S256x1024.size a ≤ S49152x1024.size a) :
    M.view.readAt (Elt F) (Rect.unit (s := S49152x1024) off S256x1024.size inb).toLoadRect (hM.unread A) = rowsAt A b := by
  subst ho
  funext y
  rw [hM.readAt_unread]
  refine congrArg A (funext fun a => Fin.ext ?_)
  match a with
  | ⟨0, _⟩ => show 256 * b.val + 1 * (y 0).val = 256 * b.val + (y 0).val; omega
  | ⟨1, _⟩ => show 0 + 1 * (y 1).val = (y 1).val; omega

theorem wG_read {M : Memref sig .tc .vmem S64x2048x512 .f32} (hM : M.IsWhole) (A : Vec F S64x2048x512 .f32) (off : Fin 3 → ℕ) (e : Fin 64) (ho : off = ![e.val, 0, 0])
    (inb : ∀ a, off a + S1x2048x512.size a ≤ S64x2048x512.size a) :
    M.view.readAt (Elt F) (Rect.unit (s := S64x2048x512) off S1x2048x512.size inb).toLoadRect (hM.unread A) = fun y : S1x2048x512.Idx => A (inG e y) := by
  subst ho
  funext y
  rw [hM.readAt_unread]
  refine congrArg A (funext fun a => Fin.ext ?_)
  match a with
  | ⟨0, _⟩ => have : (y 0).val < 1 := (y 0).isLt; show e.val + 1 * (y 0).val = e.val; omega
  | ⟨1, _⟩ => show 0 + 1 * (y 1).val = (y 1).val; omega
  | ⟨2, _⟩ => show 0 + 1 * (y 2).val = (y 2).val; omega

theorem wD_read {M : Memref sig .tc .vmem S64x512x2048 .f32} (hM : M.IsWhole) (A : Vec F S64x512x2048 .f32) (off : Fin 3 → ℕ) (e : Fin 64) (ho : off = ![e.val, 0, 0])
    (inb : ∀ a, off a + S1x512x2048.size a ≤ S64x512x2048.size a) :
    M.view.readAt (Elt F) (Rect.unit (s := S64x512x2048) off S1x512x2048.size inb).toLoadRect (hM.unread A) = fun y : S1x512x2048.Idx => A (inD e y) := by
  subst ho
  funext y
  rw [hM.readAt_unread]
  refine congrArg A (funext fun a => Fin.ext ?_)
  match a with
  | ⟨0, _⟩ => have : (y 0).val < 1 := (y 0).isLt; show e.val + 1 * (y 0).val = e.val; omega
  | ⟨1, _⟩ => show 0 + 1 * (y 1).val = (y 1).val; omega
  | ⟨2, _⟩ => show 0 + 1 * (y 2).val = (y 2).val; omega

theorem off3_eq (w : BitVec 32) : k0_off3 w = ![w.toNat, 0, 0] := rfl
theorem off4_eq (w : BitVec 32) : k0_off4 w = ![w.toNat, 0, 0] := rfl

/-- What becomes of block `b`: its words `W` through expert `e`, if the block is used. -/
def blockAt (A2 A3 : S64x2048x512.Idx → Elt F .f32) (A4 : S64x512x2048.Idx → Elt F .f32) (e : Fin 64) (u : Prop) [Decidable u] (W : IVec SWords 32) : IVec SWords 32 :=
  if u then pk (mlp (xbOf W) (wtG A2 e) (wtG A3 e) (wtD A4 e)) else pk (zeros (F := F))

/-- The result, block under block. -/
def result (n : ℕ → ℕ) (A : S49152x1024.Idx → BitVec 32) (A2 A3 : S64x2048x512.Idx → Elt F .f32) (A4 : S64x512x2048.Idx → Elt F .f32) : S49152x1024.Idx → BitVec 32 := fun y =>
  blockAt A2 A3 A4 ⟨min (before n ((y 0).val / 256)) 63, by omega⟩ ((y 0).val / 256 < upTo (blocksOf n) 64)
    (rowsAt A ⟨(y 0).val / 256, by have := (y 0).isLt; change _ < 49152 at this; omega⟩)
    (at2 (n := 256) (k := 1024) ⟨(y 0).val % 256, by omega⟩ (y 1))

theorem result_at (n : ℕ → ℕ) (A : S49152x1024.Idx → BitVec 32) (A2 A3 : S64x2048x512.Idx → Elt F .f32) (A4 : S64x512x2048.Idx → Elt F .f32) (b : Fin 192) (z : SWords.Idx) (y : S49152x1024.Idx)
    (h0 : (y 0).val = 256 * b.val + (z 0).val) (h1 : (y 1).val = (z 1).val) :
    result n A A2 A3 A4 y = blockAt A2 A3 A4 ⟨min (before n b.val) 63, by omega⟩ (b.val < upTo (blocksOf n) 64) (rowsAt A b) z := by
  have hz : (z 0).val < 256 := (z 0).isLt
  have hb : (⟨(y 0).val / 256, by have := (y 0).isLt; change _ < 49152 at this; omega⟩ : Fin 192) = b := Fin.ext (by show (y 0).val / 256 = b.val; omega)
  have hz' : z = at2 (n := 256) (k := 1024) ⟨(y 0).val % 256, by omega⟩ (y 1) := by
    refine funext fun a => Fin.ext ?_
    match a with
    | ⟨0, _⟩ => show (z 0).val = (y 0).val % 256; omega
    | ⟨1, _⟩ => exact h1.symm
  exact congr (congrArg (fun b' : Fin 192 => blockAt A2 A3 A4 ⟨min (before n b'.val) 63, by omega⟩ (b'.val < upTo (blocksOf n) 64) (rowsAt A b')) hb) hz'.symm

section
variable {x : IVec S64 32} {n : ℕ → ℕ}
variable (𝒱 : Variants) (c : Dev nD) (bd : Option 𝒱.V) (arg0 : Memref sig .tc .smem S192 .i32) (harg0 : arg0.IsWhole) (arg1 : Memref sig .tc .smem S192 .i32) (harg1 : arg1.IsWhole) (arg2 : Memref sig .tc .vmem S49152x1024 .i32) (harg2 : arg2.IsWhole) (arg3 : Memref sig .tc .vmem S64x2048x512 .f32) (harg3 : arg3.IsWhole) (arg4 : Memref sig .tc .vmem S64x2048x512 .f32) (harg4 : arg4.IsWhole) (arg5 : Memref sig .tc .vmem S64x512x2048 .f32) (harg5 : arg5.IsWhole) (arg6 : Memref sig .tc .vmem S49152x1024 .i32) (harg6 : arg6.IsWhole)
  (A : Vec F S49152x1024 .i32) (A2 A3 : Vec F S64x2048x512 .f32) (A4 : Vec F S64x512x2048 .f32)

theorem trip_value (hx : Counts x n) (k : Fin k0_t1_loop.trips) (hw)
    (p : View.Piece (Elt F) S49152x1024 .i32)
    (hp : p ∈ tripL_k0_t1 (F := F) 𝒱 c bd arg0 harg0 arg1 harg1 arg2 harg2 arg3 harg3 arg4 harg4 arg5 harg5 arg6 harg6
      (harg0.unread (rE x)) (harg1.unread (rU x)) (harg2.unread A) (harg3.unread A2) (harg4.unread A3) (harg5.unread A4) k hw) (z : p.1.shape.Idx) :
    p.2 z = result n A A2 A3 A4 (p.1.emb z) := by
  have hk : k.val < 192 := lt_of_lt_of_eq k.isLt trips_eq
  have he : trip_k0_t1.sl.r (F := F) arg0 (harg0.unread (rE x)) k = BitVec.ofNat 32 (min (before n k.val) 63) := by
    unfold trip_k0_t1.sl.r
    exact (word_read harg0 (rE x) _ ⟨k.val, hk⟩ (off1_eq k) (k0_off1_inb k) _).trans (rE_at hx ⟨k.val, hk⟩)
  have hu : trip_k0_t1.sl.r_1 (F := F) arg1 (harg1.unread (rU x)) k = BitVec.ofNat 32 (if k.val < upTo (blocksOf n) 64 then 1 else 0) := by
    unfold trip_k0_t1.sl.r_1
    exact (word_read harg1 (rU x) _ ⟨k.val, hk⟩ (off5_eq k) (k0_off5_inb k) _).trans (rU_at hx ⟨k.val, hk⟩)
  have hn : (trip_k0_t1.sl.r (F := F) arg0 (harg0.unread (rE x)) k).toNat = min (before n k.val) 63 := by
    rw [he, BitVec.toNat_ofNat]; omega
  have ho : k0_off3 (trip_k0_t1.sl.r (F := F) arg0 (harg0.unread (rE x)) k) = ![(⟨min (before n k.val) 63, by omega⟩ : Fin 64).val, 0, 0] := by
    rw [off3_eq, hn]
  have ho' : k0_off4 (trip_k0_t1.sl.r (F := F) arg0 (harg0.unread (rE x)) k) = ![(⟨min (before n k.val) 63, by omega⟩ : Fin 64).val, 0, 0] := by
    rw [off4_eq, hn]
  unfold tripL_k0_t1 trip_k0_t1 at hp
  obtain rfl := List.mem_singleton.1 hp
  dsimp only
  refine (congrFun (congr (congr (congr (congr (congrArg (k0_pay1 (F := F)) (rows_read harg2 A _ ⟨k.val, hk⟩ (off2_eq k) _)) (wG_read harg3 A2 _ ⟨min (before n k.val) 63, by omega⟩ ho _))
    (wG_read harg4 A3 _ ⟨min (before n k.val) 63, by omega⟩ ho _)) (wD_read harg5 A4 _ ⟨min (before n k.val) 63, by omega⟩ ho' _)) hu) z).trans ?_
  refine (congrFun (pay_eq _ A2 A3 A4 _ _) z).trans ?_
  refine Eq.trans ?_ (result_at n A A2 A3 A4 ⟨k.val, hk⟩ z _ ?_ ?_).symm
  · unfold blockAt
    by_cases hl : k.val < upTo (blocksOf n) 64
    · rw [if_pos hl, if_pos hl]; rfl
    · rw [if_neg hl, if_neg hl]; rfl
  · exact congrArg₂ (· + ·) (congrFun (off6_eq k) 0) (Nat.one_mul (z 0).val)
  · exact (congrArg₂ (· + ·) (congrFun (off6_eq k) 1) (Nat.one_mul (z 1).val)).trans (Nat.zero_add _)

theorem trips_value (hx : Counts x n) (hw) (k : ℕ) (hk : k ≤ k0_t1_loop.trips) :
    ∀ p ∈ pb_k0_t1 (F := F) 𝒱 c bd arg0 harg0 arg1 harg1 arg2 harg2 arg3 harg3 arg4 harg4 arg5 harg5 arg6 harg6
      (harg0.unread (rE x)) (harg1.unread (rU x)) (harg2.unread A) (harg3.unread A2) (harg4.unread A3) (harg5.unread A4) hw k,
      ∀ z : p.1.shape.Idx, p.2 z = result n A A2 A3 A4 (p.1.emb z) := by
  induction k with
  | zero => intro p hp; unfold pb_k0_t1 at hp; exact absurd hp List.not_mem_nil
  | succ k ih =>
    intro p hp
    rw [pb_k0_t1_succ (F := F) 𝒱 c bd arg0 harg0 arg1 harg1 arg2 harg2 arg3 harg3 arg4 harg4 arg5 harg5 arg6 harg6
      (harg0.unread (rE x)) (harg1.unread (rU x)) (harg2.unread A) (harg3.unread A2) (harg4.unread A3) (harg5.unread A4) hw ⟨k, hk⟩] at hp
    rcases List.mem_append.1 hp with h | h
    · exact trip_value 𝒱 c bd arg0 harg0 arg1 harg1 arg2 harg2 arg3 harg3 arg4 harg4 arg5 harg5 arg6 harg6 A A2 A3 A4 hx ⟨k, hk⟩ _ p h
    · exact ih (Nat.le_of_succ_le hk) p h

theorem out_value (hx : Counts x n) (hw) :
    out0_A_6 (F := F) c arg0 harg0 arg1 harg1 arg2 harg2 arg3 harg3 arg4 harg4 arg5 harg5 arg6 harg6 (rE x) (rU x) A A2 A3 A4 hw = result n A A2 A3 A4 := by
  funext y
  unfold out0_A_6
  refine View.read_writes_apply_of_pieces VO0_6 VO0_6.junk (result n A A2 A3 A4) _ ?_ y (cover0_A_6 c arg0 harg0 arg1 harg1 arg2 harg2 arg3 harg3 arg4 harg4 arg5 harg5 arg6 harg6 (rE x) (rU x) A A2 A3 A4 hw y)
  intro p hp z
  unfold kernelRun0_A at hp
  dsimp only at hp
  exact trips_value Variants.none c none arg0 harg0 arg1 harg1 arg2 harg2 arg3 harg3 arg4 harg4 arg5 harg5 arg6 harg6 A A2 A3 A4 hx hw _ le_rfl p hp z

end

/-! ## The result of the whole program -/

section
variable (m : (ℓ : Loc nD τ sig) → Buf (Elt F) ℓ) {n : Dev nD → ℕ → ℕ}

/-- The rows' words as the region finds them. -/
def words1 (c : Dev nD) : S49152x1024.Idx → BitVec 32 :=
  shapeCast S49152x1024 (m ((c.tc : Thread nD τ).loc main_arg1)) shapeCasts_S49152x8x128_S49152x1024

/-- The result of the region on a device. -/
def resultAt (n : ℕ → ℕ) (c : Dev nD) : S49152x1024.Idx → BitVec 32 :=
  result n (words1 m c) (m ((c.tc : Thread nD τ).loc main_arg2)) (m ((c.tc : Thread nD τ).loc main_arg3)) (m ((c.tc : Thread nD τ).loc main_arg4))

theorem outs_eq (hx : ∀ c, Counts (cnts m c) (n c)) (c : Dev nD) (t : Fin cfg0.N) : outsAt0 m (hyps m hx) c t = resultAt m (n c) c := by
  unfold outsAt0
  generalize Hyps.c0 (hyps m hx) c t = hw
  revert hw
  rw [iblk_0, iblk_1, iblk_2, iblk_3, iblk_4, iblk_5]
  intro hw
  exact out_value c _ _ _ _ _ _ _ _ _ _ _ _ _ _ _ _ _ _ (hx c) hw

theorem array_26 (hx : ∀ c, Counts (cnts m c) (n c)) (c : Dev nD) : (dats m (hyps m hx) 0 c).arrAt 6 cfg0.N = resultAt m (n c) c := by
  refine Pipeline.Dat.arrAt_eq_of_cover (dats m (hyps m hx) 0 c) 6 (resultAt m (n c) c) ?_ ?_
  · intro t _
    funext y
    refine Eq.trans ?_ (read_blk_whole (Memref.whole main_v26) true false (stage0_6 0) (sem0_6 0) (Memref.isWhole_whole _) (hstage0_6 0) (Elt F) (resultAt m (n c) c) t y).symm
    refine (congrFun (congrArg _ ((after0_6 m (hyps m hx) c t).trans (outs_eq m hx c t))) y).trans ?_
    rfl
  · intro i
    refine ⟨⟨0, by decide⟩, by decide, ?_⟩
    have ht : 0 < cfg0.N := by decide
    refine Eq.subst (motive := fun z : ((cfg0.win 6).blk ⟨0, ht⟩).view.ty.Idx => z ∈ ((cfg0.win 6).blk ⟨0, ht⟩).view.set) ?_ (((cfg0.win 6).blk ⟨0, ht⟩).view.emb_mem_set i)
    refine funext fun a => Fin.ext ?_
    show 0 * S49152x1024.size a + 1 * (i a).val = (i a).val
    omega

theorem last_27 (V : Valuation τ sig (Elt F)) : StableHlo.after (List.flatten [hostOps1]) V (Proc.devRef .tc main_v27)
    = shapeCast S393216x128 (V (Proc.devRef .tc main_v26)) shapeCasts_S49152x1024_S393216x128 := by
  simp only [List.flatten_cons, List.flatten_nil, List.cons_append, List.nil_append, List.append_nil]
  after_reads_simp
  all_goals rfl

theorem tail_27 (hx : ∀ c, Counts (cnts m c) (n c)) (c : Dev nD) :
    Pipeline.afterTail₀ cfgs (dats m (hyps m hx)) 0 (V0 m) [hostOps1] c main_v27 = shapeCast S393216x128 (resultAt m (n c) c) shapeCasts_S49152x1024_S393216x128 := by
  unfold Pipeline.afterTail₀
  refine (last_27 _).trans (congrArg (fun X => shapeCast S393216x128 X shapeCasts_S49152x1024_S393216x128) ?_)
  exact (Pipeline.withArrays_arr spec0 (by decide) c _ _ 6).trans (array_26 m hx c)

end

end Cert.Plain
end
-- ==== Proof.Blocks.lean ====
module

public import proofs.«01_k».proof.Proof.Rows
public import proofs.«01_k».proof.Proof.Body

@[expose] public section

/-! # A pair of blocks of the kernel is a pair of blocks of the plain result

The kernel reads and writes the rows' words as an array of 128 columns, eight rows of it to a row of words; the plain
program reads and writes them as an array of 1024 columns. In row-major order they are the same array. -/

noncomputable section

namespace Cert.Plain

open Cert.Reference Cert.Reference.Gen
open Cert.Experts (Counts SWords at2 xbOf mlp zeros pk wtG wtD upTo blocksOf planOf rowsIn rowsIn_pos rowOf ex_of_lt own blockOut pairOut words put)
open Cert.Kernel (S4096x128)
open Idealize.ShloMosaic Idealize.ShloMosaic.TcCoe

variable {F : FTy → Type} [BitOps F]

/-- The rows' words, 1024 to a row. -/
def wide (x : S49152x8x128.Idx → BitVec 32) : S49152x1024.Idx → BitVec 32 := shapeCast S49152x1024 x shapeCasts_S49152x8x128_S49152x1024

/-- A word's index among the three axes of the argument. -/
def at3 (r : Fin 49152) (s : Fin 8) (l : Fin 128) : S49152x8x128.Idx := fun a => match a with
  | ⟨0, _⟩ => r
  | ⟨1, _⟩ => s
  | ⟨2, _⟩ => l

theorem narrow_at (x : S49152x8x128.Idx → BitVec 32) (h : S49152x8x128.ShapeCasts S393216x128) (j : S393216x128.Idx) (r : Fin 49152) (s : Fin 8) (l : Fin 128)
    (h0 : (j 0).val = 8 * r.val + s.val) (h1 : (j 1).val = l.val) : shapeCast S393216x128 x h j = x (at3 r s l) := by
  refine shapeCast_apply x h j _ ?_
  rw [Shape.rowMajor_val_two, Shape.rowMajor_val_three]
  show (r.val * 8 + s.val) * 128 + l.val = (j 0).val * 128 + (j 1).val
  omega

theorem wide_at (x : S49152x8x128.Idx → BitVec 32) (j : S49152x1024.Idx) (r : Fin 49152) (s : Fin 8) (l : Fin 128)
    (h0 : (j 0).val = r.val) (h1 : (j 1).val = 128 * s.val + l.val) : wide x j = x (at3 r s l) := by
  refine shapeCast_apply x _ j _ ?_
  rw [Shape.rowMajor_val_two, Shape.rowMajor_val_three]
  show (r.val * 8 + s.val) * 128 + l.val = (j 0).val * 1024 + (j 1).val
  omega

/-- A word of a staged pair, in a block of rows that holds tokens. -/
theorem words_rows (x : S49152x8x128.Idx → BitVec 32) (h84 : S49152x8x128.ShapeCasts S393216x128) (t : ℕ) (h : Fin 2) (hb : 2 * t + h.val < 192) (x7 : S4096x128.Idx → BitVec 32)
    (hx7 : ∀ (y : S4096x128.Idx) (j : S393216x128.Idx), (j 0).val = 4096 * t + (y 0).val → (j 1).val = (y 1).val → x7 y = shapeCast S393216x128 x h84 j) :
    words h x7 = rowsAt (wide x) ⟨2 * t + h.val, hb⟩ := by
  funext z
  have hz0 : (z 0).val < 256 := (z 0).isLt
  have hz1 : (z 1).val < 1024 := (z 1).isLt
  have hh : h.val < 2 := h.isLt
  unfold words rowsAt
  rw [wide_at x _ ⟨256 * (2 * t + h.val) + (z 0).val, by omega⟩ ⟨(z 1).val / 128, by omega⟩ ⟨(z 1).val % 128, by omega⟩ rfl (by
    show (z 1).val = 128 * ((z 1).val / 128) + (z 1).val % 128; omega)]
  have hj : 4096 * t + (2048 * h.val + 8 * (z 0).val + (z 1).val / 128) < 393216 := by omega
  refine (hx7 _ (at2 (n := 393216) (k := 128) ⟨4096 * t + (2048 * h.val + 8 * (z 0).val + (z 1).val / 128), hj⟩ ⟨(z 1).val % 128, by omega⟩) rfl rfl).trans ?_
  refine narrow_at x h84 _ _ _ _ ?_ rfl
  show 4096 * t + (2048 * h.val + 8 * (z 0).val + (z 1).val / 128) = 8 * (256 * (2 * t + h.val) + (z 0).val) + (z 1).val / 128
  omega

/-- A block of the kernel is a block of the plain result. -/
theorem block_same {q : IVec S64 32} {n : ℕ → ℕ} (hx : Counts q n) (x : S49152x8x128.Idx → BitVec 32) (A2 A3 : S64x2048x512.Idx → Elt F .f32) (A4 : S64x512x2048.Idx → Elt F .f32)
    (h84 : S49152x8x128.ShapeCasts S393216x128) (t : ℕ) (h : Fin 2) (hb : 2 * t + h.val < 192) (x7 : S4096x128.Idx → BitVec 32)
    (hx7 : ∀ (y : S4096x128.Idx) (j : S393216x128.Idx), (j 0).val = 4096 * (rowOf (blocksOf n) (2 * t) / 2) + (y 0).val → (j 1).val = (y 1).val → x7 y = shapeCast S393216x128 x h84 j) :
    blockOut A2 A3 A4 (planOf n) (2 * t + h.val) (words h x7)
      = blockAt A2 A3 A4 ⟨min (before n (2 * t + h.val)) 63, by omega⟩ (2 * t + h.val < upTo (blocksOf n) 64) (rowsAt (wide x) ⟨2 * t + h.val, hb⟩) := by
  have hh : h.val < 2 := h.isLt
  unfold blockOut blockAt
  by_cases hu : 2 * t + h.val < upTo (blocksOf n) 64
  · have hv : 0 < ((planOf n).va (2 * t + h.val)).val := (rowsIn_pos n hu).1
    have ht : rowOf (blocksOf n) (2 * t) / 2 = t := by rw [Cert.Experts.rowOf_lt (by omega)]; omega
    rw [ht] at hx7
    have he : (⟨min (before n (2 * t + h.val)) 63, by omega⟩ : Fin 64) = (planOf n).ex (2 * t + h.val) := by
      rw [ex_of_lt n hu]
      refine Fin.ext ?_
      show min (before n (2 * t + h.val)) 63 = _
      rw [before_own hx _ hu]
      have := (own (blocksOf n) (2 * t + h.val)).isLt
      omega
    rw [if_pos hv, if_pos hu, he, words_rows x h84 t h hb x7 hx7]
  · have hv : ¬ 0 < ((planOf n).va (2 * t + h.val)).val := by
      show ¬ 0 < rowsIn n (2 * t + h.val)
      unfold rowsIn
      rw [if_neg hu]
      exact Nat.lt_irrefl 0
    rw [if_neg hv, if_neg hu]

/-- What a pair's staged rows become, read in the plain result. -/
theorem pair_same {q : IVec S64 32} {n : ℕ → ℕ} (hx : Counts q n) (x : S49152x8x128.Idx → BitVec 32) (A2 A3 : S64x2048x512.Idx → Elt F .f32) (A4 : S64x512x2048.Idx → Elt F .f32)
    (h84 : S49152x8x128.ShapeCasts S393216x128) (t : ℕ) (ht : t < 96) (x7 : S4096x128.Idx → BitVec 32)
    (hx7 : ∀ (y : S4096x128.Idx) (j : S393216x128.Idx), (j 0).val = 4096 * (rowOf (blocksOf n) (2 * t) / 2) + (y 0).val → (j 1).val = (y 1).val → x7 y = shapeCast S393216x128 x h84 j)
    (y : S4096x128.Idx) (j : S393216x128.Idx) (h0 : (j 0).val = 4096 * t + (y 0).val) (h1 : (j 1).val = (y 1).val) :
    pairOut A2 A3 A4 (planOf n) t x7 y = shapeCast S393216x128 (result n (wide x) A2 A3 A4) shapeCasts_S49152x1024_S393216x128 j := by
  have hy0 : (y 0).val < 4096 := (y 0).isLt
  have hy1 : (y 1).val < 128 := (y 1).isLt
  have key : ∀ h : Fin 2, (y 0).val / 2048 = h.val →
      put (blockOut A2 A3 A4 (planOf n) (2 * t + h.val) (words h x7)) y = shapeCast S393216x128 (result n (wide x) A2 A3 A4) shapeCasts_S49152x1024_S393216x128 j := by
    intro h hy
    have hh : h.val < 2 := h.isLt
    rw [block_same hx x A2 A3 A4 h84 t h (by omega) x7 hx7]
    unfold put
    refine ((shapeCast_apply _ _ j (at2 (n := 49152) (k := 1024) ⟨(j 0).val / 8, by omega⟩ ⟨128 * ((j 0).val % 8) + (j 1).val, by omega⟩) ?_).trans
      (result_at n (wide x) A2 A3 A4 ⟨2 * t + h.val, by omega⟩ _ _ ?_ ?_)).symm
    · rw [Shape.rowMajor_val_two, Shape.rowMajor_val_two]
      show (j 0).val / 8 * 1024 + (128 * ((j 0).val % 8) + (j 1).val) = (j 0).val * 128 + (j 1).val
      omega
    · show (j 0).val / 8 = 256 * (2 * t + h.val) + (y 0).val % 2048 / 8
      omega
    · show 128 * ((j 0).val % 8) + (j 1).val = 128 * ((y 0).val % 8) + (y 1).val
      omega
  unfold pairOut
  by_cases hy : (y 0).val < 2048
  · rw [if_pos hy]
    exact key 0 (by show (y 0).val / 2048 = 0; omega)
  · rw [if_neg hy]
    exact key 1 (by show (y 0).val / 2048 = 1; omega)

end Cert.Plain

end
-- ==== Proof.Output.lean ====
module

public import proofs.«01_k».proof.Proof.Blocks
public import proofs.«01_k».proof.Proof.Run
public import proofs.«01_k».proof.Proof.Start
public import Idealize.ShloMosaic.Lib.Pipeline.ValueKit.Geometry

@[expose] public section

/-! # The kernel's result

Each point writes one pair of blocks of the result; the pairs cover it. -/

noncomputable section

namespace Cert.Experts

open Cert.Kernel Cert.Kernel.Gen
open Idealize.ShloMosaic Idealize.ShloMosaic.TcCoe

variable {F : FTy → Type} [BitOps F] (m : (ℓ : Loc nD τ sig) → Buf (Elt F) ℓ) {n : ℕ → ℕ}

/-- The result, as the plain program lays it out. -/
def output (n : ℕ → ℕ) (c : Dev nD) : S393216x128.Idx → BitVec 32 :=
  shapeCast S393216x128 (Cert.Plain.result n (Cert.Plain.wide (m ((c.tc : Thread nD τ).loc main_arg1))) (m ((c.tc : Thread nD τ).loc main_arg2)) (m ((c.tc : Thread nD τ).loc main_arg3)) (m ((c.tc : Thread nD τ).loc main_arg4)))
    Cert.Reference.Gen.facts.shapeCasts_S49152x1024_S393216x128

theorem point_lt (hx : Counts (cnts m) n) (t : Fin (cfgA m hx).N) : t.val < 96 := lt_of_lt_of_eq t.isLt N_0

theorem emb_in_of (a : (p : Fin 1) → (pcfgs (F := F) p).Adm) (t : Fin (Pipeline.pin (pcfgs (F := F)) a 0).N) (y : S4096x128.Idx) (k : Fin 2) :
    ((((Pipeline.pin (pcfgs (F := F)) a 0).win 0).blk t).view.emb y k : ℕ) = cc0_transform_0 k0_off1_inb numel1_S1 (a 0).1 (grid0.coords t) k * S4096x128.size k + (y k).val :=
  Pipeline.Window.rect_emb_val ((Pipeline.pin (pcfgs (F := F)) a 0).win 0) t y k rfl

theorem index_at (hx : Counts (cnts m) n) (t : Fin grid0.N) (T) (hT : T = tbls (F := F) (cnts m)) :
    cc0_transform_0 k0_off1_inb numel1_S1 T (grid0.coords t) = ![rowOf (blocksOf n) (2 * t.val) / 2, 0] := by
  rw [hT, index0 hx (grid0.coords t), coord t]

theorem adm_tbls (hx : Counts (cnts m) n) : (adm (F := F) m hx 0).1 = tbls (F := F) (cnts m) := rfl

theorem emb_in (hx : Counts (cnts m) n) (t : Fin (cfgA m hx).N) (y : S4096x128.Idx) (a : Fin 2) :
    ((((cfgA m hx).win 0).blk t).view.emb y a : ℕ) = (![rowOf (blocksOf n) (2 * t.val) / 2, 0] : Fin 2 → ℕ) a * S4096x128.size a + (y a).val :=
  (emb_in_of (adm m hx) t y a).trans (congrArg (fun q : ℕ => q * S4096x128.size a + (y a).val) (congrFun (index_at m hx t _ (adm_tbls m hx)) a))

theorem pair_in (hx : Counts (cnts m) n) (c : Dev nD) (t : Fin (cfgA m hx).N) (y : S4096x128.Idx) (j : S393216x128.Idx)
    (h0 : (j 0).val = 4096 * (rowOf (blocksOf n) (2 * t.val) / 2) + (y 0).val) (h1 : (j 1).val = (y 1).val) :
    pairIn m hx c t y = shapeCast S393216x128 (m ((c.tc : Thread nD τ).loc main_arg1)) shapeCasts_S49152x8x128_S393216x128 j := by
  have e : entry0 m c main_v84 = shapeCast S393216x128 (m ((c.tc : Thread nD τ).loc main_arg1)) shapeCasts_S49152x8x128_S393216x128 :=
    (entry0_eq m c main_v84).trans (G_v84 _)
  have hj : ((((cfgA m hx).win 0).blk t).view.emb y : S393216x128.Idx) = j := by
    refine funext fun a => Fin.ext ((emb_in m hx t y a).trans ?_)
    match a with
    | ⟨0, _⟩ => show rowOf (blocksOf n) (2 * t.val) / 2 * 4096 + (y 0).val = (j 0).val; omega
    | ⟨1, _⟩ => show 0 * 128 + (y 1).val = (j 1).val; omega
  exact (congrArg (entry0 m c main_v84) hj).trans (congrFun e j)

theorem index_out (hx : Counts (cnts m) n) (t : Fin (cfgA m hx).N) : ((cfgA m hx).win 1).index t = ![t.val, 0] := by
  show cc0_transform_4 (grid0.coords t) = _
  have ht := point_lt m hx t
  unfold cc0_transform_4
  rw [coord t]
  refine funext fun a => ?_
  match a with
  | ⟨0, _⟩ => show (BitVec.ofNat 32 t.val).toNat = t.val; rw [BitVec.toNat_ofNat]; omega
  | ⟨1, _⟩ => rfl

theorem emb_out (hx : Counts (cnts m) n) (t : Fin (cfgA m hx).N) (y : S4096x128.Idx) (a : Fin 2) :
    ((((cfgA m hx).win 1).blk t).view.emb y a : ℕ) = (![t.val, 0] : Fin 2 → ℕ) a * S4096x128.size a + (y a).val := by
  refine (Pipeline.Window.rect_emb_val ((cfgA m hx).win 1) t y a rfl).trans ?_
  rw [index_out m hx t]; rfl

theorem flush_out (hx : Counts (cnts m) n) (t : Fin (cfgA m hx).N) : ((cfgA m hx).win 1).flush t = true := by
  have h : ∀ t : Fin grid0.N, Pipeline.Window.flushOf grid0 true cc0_transform_4 t = true := by decide +kernel
  exact h t

theorem cover (hx : Counts (cnts m) n) (i : S393216x128.Idx) :
    ∃ t : Fin (cfgA m hx).N, ((cfgA m hx).win 1).flush t = true ∧ i ∈ (((cfgA m hx).win 1).blk t).view.set := by
  have hi0 : (i 0).val < 393216 := (i 0).isLt
  have hi1 : (i 1).val < 128 := (i 1).isLt
  obtain ⟨t, ht⟩ : ∃ t : Fin (cfgA m hx).N, t.val = (i 0).val / 4096 :=
    ⟨⟨(i 0).val / 4096, lt_of_lt_of_eq (show (i 0).val / 4096 < 96 by omega) N_0.symm⟩, rfl⟩
  have he : ((((cfgA m hx).win 1).blk t).view.emb (at2 (n := 4096) (k := 128) ⟨(i 0).val % 4096, by omega⟩ ⟨(i 1).val, hi1⟩) : S393216x128.Idx) = i := by
    refine funext fun a => Fin.ext ((emb_out m hx t _ a).trans ?_)
    match a with
    | ⟨0, _⟩ => show t.val * 4096 + (i 0).val % 4096 = (i 0).val; omega
    | ⟨1, _⟩ => show 0 * 128 + (i 1).val = (i 1).val; omega
  have hm : ((((cfgA m hx).win 1).blk t).view.emb (at2 (n := 4096) (k := 128) ⟨(i 0).val % 4096, by omega⟩ ⟨(i 1).val, hi1⟩) : S393216x128.Idx) ∈ (((cfgA m hx).win 1).blk t).view.set :=
    View.emb_mem_set _ _
  rw [he] at hm
  exact ⟨t, flush_out m hx t, hm⟩

theorem point_eq (hx : Counts (cnts m) n) (c : Dev nD) (t : Fin (cfgA m hx).N) (y : S4096x128.Idx) :
    pairOut (F := F) (entry0 m c main_arg2) (entry0 m c main_arg3) (entry0 m c main_arg4) (planOf n) t.val (pairIn m hx c t) y = output m n c ((((cfgA m hx).win 1).blk t).view.emb y) := by
  have e2 : entry0 m c main_arg2 = m ((c.tc : Thread nD τ).loc main_arg2) := (entry0_eq m c main_arg2).trans (G_arg2 _)
  have e3 : entry0 m c main_arg3 = m ((c.tc : Thread nD τ).loc main_arg3) := (entry0_eq m c main_arg3).trans (G_arg3 _)
  have e4 : entry0 m c main_arg4 = m ((c.tc : Thread nD τ).loc main_arg4) := (entry0_eq m c main_arg4).trans (G_arg4 _)
  rw [e2, e3, e4]
  exact Cert.Plain.pair_same hx _ _ _ _ shapeCasts_S49152x8x128_S393216x128 t.val (point_lt m hx t) (pairIn m hx c t) (pair_in m hx c t) y _
    ((emb_out m hx t y 0).trans (by show t.val * 4096 + (y 0).val = _; omega)) ((emb_out m hx t y 1).trans (by show 0 * 128 + (y 1).val = _; omega))

theorem out_eq (hx : Counts (cnts m) n) (c : Dev nD) : (dats m hx 0 c).arrAt 1 (cfgA m hx).N = output m n c :=
  Pipeline.Dat.arrAt_eq_of_emb (dats m hx 0 c) 1 (output m n c) (fun t _ y => point_eq m hx c t y) (fun i => cover m hx i)

end Cert.Experts

end
-- ==== Proof.Exact.lean ====
/- Bit for bit, the kernel and the plain program leave the same result. -/
module

public import proofs.«01_k».proof.Proof.Frames
public import proofs.«01_k».proof.Proof.Output

@[expose] public section

noncomputable section

namespace Cert.Proof

open Idealize.ShloMosaic Idealize.ShloMosaic.TcCoe Idealize.SL.Sem

/-- The kernel's run: its result, and its arguments kept. -/
theorem run_K {m : (ℓ : Loc Cert.Kernel.nD Cert.Kernel.τ Cert.Kernel.sig) → Buf (Elt Bits) ℓ} {n : ℕ → ℕ} (hx : Cert.Experts.Counts (Cert.Experts.cnts m) n) (g) :
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_v85) = Cert.Experts.output m n c
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)) :=
  (θ_run _ _ _).mono (fun _ hr c => ⟨((hr.1 c).1 1).trans (Cert.Experts.out_eq m hx c), Cert.Experts.kept m hx hr.1 c⟩) (Cert.Experts.run_main m g hx)

/-- The plain program's run: its result, and its arguments kept. -/
theorem run_R {m : (ℓ : Loc Cert.Reference.nD Cert.Reference.τ Cert.Reference.sig) → Buf (Elt Bits) ℓ} {n : Dev Cert.Reference.nD → ℕ → ℕ} (hx : ∀ c, Cert.Experts.Counts (Cert.Plain.cnts m c) (n c)) (g) :
    θ_run (Cert.Reference.defs (F := Bits)) (onTc (τ := Cert.Reference.τ) (Cert.Reference.main (F := Bits))) ⟨m, fun _ => 0, g⟩ (fun r => ∀ c : Dev Cert.Reference.nD,
      r.2.mem ((c.tc : Thread Cert.Reference.nD Cert.Reference.τ).loc Cert.Reference.main_v27)
        = shapeCast Cert.Reference.S393216x128 (Cert.Plain.resultAt m (n c) c) Cert.Reference.Gen.facts.shapeCasts_S49152x1024_S393216x128
      ∧ r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)) :=
  (θ_run _ _ _).mono (fun _ h c => ⟨((h.1 c).2 Cert.Reference.main_v27 (Pipeline.mem_restRefs_of Cert.Reference.main_v27 (by decide) (by decide))).trans (Cert.Plain.tail_27 m hx c), h.2 c⟩)
    (θ_run_and (Cert.Reference.Gen.run_main m g (Cert.Plain.hyps m hx)) (Cert.Reference.Gen.unchanged m g (Cert.Plain.hyps m hx)))

theorem exact_KR [Cert.Pre_counts_fit.Facts] : Cert.bitexact_Kernel_Reference := fun m g m' g' hp he => by
  have hx := counts_K hp
  have h0 : ∀ c, Cert.Plain.cnts m' c = Cert.Experts.cnts m := fun c => by
    rw [Fin.eq_zero c]
    exact (he 0).1
  have hx' : ∀ c : Dev Cert.Reference.nD, Cert.Experts.Counts (Cert.Plain.cnts m' c) (Cert.Experts.nOf (Cert.Experts.cnts m)) := fun c => (h0 c).symm ▸ hx
  refine ⟨fun c => Cert.Experts.output m (Cert.Experts.nOf (Cert.Experts.cnts m)) c, run_K hx g, (θ_run _ _ _).mono (fun r h c => ?_) (run_R hx' g')⟩
  refine ⟨(h c).1.trans ?_, (h c).2⟩
  obtain ⟨-, e1, e2, e3, e4⟩ := he c
  unfold Cert.Plain.resultAt Cert.Plain.words1 Cert.Experts.output Cert.Plain.wide
  rw [e1, e2, e3, e4]

end Cert.Proof

end
-- ==== Proof.Project.lean ====
/- The input projection: the kernel's rows are the plain program's. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import Idealize.ShloMosaic.Lib.Pipeline.ValueKit
public import Idealize.ShloMosaic.Lib.Claim
public import Idealize.ShloMosaic.Lib.Pointwise

@[expose] public section

set_option maxRecDepth 16384

noncomputable section

namespace Cert.Project

open Idealize.ShloMosaic Idealize.ShloMosaic.TcCoe Idealize.SL.Sem

section Pay
open Cert.Kernel2Ideal Cert.Kernel2Ideal.Gen

/-- One element of the conditioning projection: the activated row against a column, with the bias. -/
def condE (c : Vec Ideal S4x2048 .f32) (wa : Vec Ideal S2048x12288 .f32) (ba : Vec Ideal S12288 .f32) (b : Fin 4) (l : Fin 12288) : EReal :=
  ∑ k : Fin 2048, c (ix2 b k) * Ideal.div 1 (1 + Ideal.exp (-c (ix2 b k))) * wa (ix2 k l) + ba (ix1 l)

/-- The conditioning projection. -/
def cond (c : Vec Ideal S4x2048 .f32) (wa : Vec Ideal S2048x12288 .f32) (ba : Vec Ideal S12288 .f32) : S4x12288.Idx → Ideal .f32 := fun i =>
  condE c wa ba (i 0) (i 1)

/-- One element of a block of the conditioning projection. -/
theorem cpay_at (c : Vec Ideal S4x2048 .f32) (wa : Vec Ideal S2048x1024 .f32) (ba : Vec Ideal S1x1024 .f32) (C : Vec Ideal S4x2048 .f32)
    (WA : Vec Ideal S2048x12288 .f32) (BA : Vec Ideal S12288 .f32) (b : Fin 4) (l : Fin 1024) (l' : Fin 12288) (hc : ∀ k, c (ix2 b k) = C (ix2 b k))
    (hw : ∀ k, wa (ix2 k l) = WA (ix2 k l')) (hb : ba (ix2 0 l) = BA (ix1 l')) :
    k0_pay1 c wa ba (ix2 b l) = condE C WA BA b l' := by
  pointwise [k0_pay1, condE]
  simp only [hc, hw, hb, Ideal.logistic]

/-- One element of the projection: a row normalized, scaled and shifted, against a column. -/
def proj (x : Vec Ideal S4x4096x2048 .f32) (md : Vec Ideal S4x12288 .f32) (g : Vec Ideal S2048 .f32) (w : Vec Ideal S2048x2304 .f32)
    (b : Fin 4) (s : Fin 4096) (l : Fin 2304) : EReal :=
  ∑ k : Fin 2048, (x (ix3 b s k) * Ideal.rsqrt (Ideal.div (∑ j : Fin 2048, x (ix3 b s j) * x (ix3 b s j)) (Ideal.ofBits .f32 1157627904#32)
      + Ideal.ofBits .f32 897988541#32) * (g (ix1 k) * (1 + md (ix2 b ⟨2048 + k, by omega⟩))) + md (ix2 b ⟨k, by omega⟩)) * w (ix2 k l)

/-- One element of a block: the same row, its scale and shift rows of the block of modulations. -/
theorem pay_at (x : Vec Ideal S1024x2048 .f32) (md : Vec Ideal S1x6x2048 .f32) (g : Vec Ideal S1x2048 .f32) (w : Vec Ideal S2048x2304 .bf16)
    (X : Vec Ideal S4x4096x2048 .f32) (M : Vec Ideal S4x12288 .f32) (G : Vec Ideal S2048 .f32) (W : Vec Ideal S2048x2304 .f32)
    (r : Fin 1024) (l : Fin 2304) (b : Fin 4) (s : Fin 4096) (hx : ∀ k, x (ix2 r k) = X (ix3 b s k))
    (h0 : ∀ k : Fin 2048, md (ix3 0 0 k) = M (ix2 b ⟨k, by omega⟩)) (h1 : ∀ k : Fin 2048, md (ix3 0 1 k) = M (ix2 b ⟨2048 + k, by omega⟩))
    (hg : ∀ k, g (ix2 0 k) = G (ix1 k)) (hw : ∀ k, w (ix2 k l) = W (ix2 k l)) :
    k1_pay1 x g (View.ld md r1_2) (View.ld md r1_3) w (ix2 r l) = proj X M G W b s l := by
  pointwise [k1_pay1, proj]
  simp only [hx, h0, h1, hg, hw]

end Pay

section Plain
open Cert.Reference2Ideal Cert.Reference2Ideal.Gen

/-- The plain program's conditioning projection. -/
def condP (c : FVec Ideal S4x2048 .f32) (wa : FVec Ideal S2048x12288 .f32) (ba : FVec Ideal S12288 .f32) : FVec Ideal S4x12288 .f32 :=
  (addf (Host.dotGeneral dot_S4x2048_S2048x12288_S4x12288_1_0_0_1_n_n none (mulf c (Host.divf (broadcastInDim S4x2048 ![] bcast_S_S4x2048 (constant S_ .f32 0x3F800000#32)) (addf (broadcastInDim S4x2048 ![] bcast_S_S4x2048 (constant S_ .f32 0x3F800000#32)) (Host.exp (Host.negf c))))) wa) (broadcastInDim S4x12288 ![0, 1] bcast_S1x12288_S4x12288_0_1 (broadcastInDim S1x12288 ![1] bcast_S12288_S1x12288_1 ba)))

theorem cond_at (c : FVec Ideal S4x2048 .f32) (wa : FVec Ideal S2048x12288 .f32) (ba : FVec Ideal S12288 .f32) (b : Fin 4) (l : Fin 12288) :
    condP c wa ba (ix2 b l) = condE c wa ba b l := by
  pointwise [condP, condE]

theorem cond_whole (c : FVec Ideal S4x2048 .f32) (wa : FVec Ideal S2048x12288 .f32) (ba : FVec Ideal S12288 .f32) : condP c wa ba = cond c wa ba := by
  funext i
  obtain ⟨r, l, rfl⟩ : ∃ (r : Fin 4) (l : Fin 12288), i = ix2 r l := ⟨i 0, i 1, eq_ix2 i⟩
  exact cond_at c wa ba r l

/-- The plain program's normalized rows, scaled and shifted. -/
def rows (x : FVec Ideal S4x4096x2048 .f32) (md : FVec Ideal S4x12288 .f32) (g : FVec Ideal S2048 .f32) : FVec Ideal S4x4096x2048 .f32 :=
  (addf (mulf (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 2048] md slices_S4x12288_S4x2048_0_2048))))) (broadcastInDim S4x4096x2048 ![0, 1, 2] bcast_S4x1x2048_S4x4096x2048_0_1_2 (broadcastInDim S4x1x2048 ![0, 2] bcast_S4x2048_S4x1x2048_0_2 (extractStridedSlice S4x2048 ![0, 0] md slices_S4x12288_S4x2048_0_0))))

/-- The plain program's result. -/
def plain (x : FVec Ideal S4x4096x2048 .f32) (md : FVec Ideal S4x12288 .f32) (g : FVec Ideal S2048 .f32) (w : FVec Ideal S2048x2304 .f32) : FVec Ideal S16384x2304 .bf16 :=
  shapeCast (α := Ideal .bf16) S16384x2304 (truncf .bf16 (Host.dotGeneral dot_S4x4096x2048_S2048x2304_S4x4096x2304_2_0_01_1_n_n none (rows x md g) w) bitsLt_bf16_f32)
    shapeCasts_S4x4096x2304_S16384x2304

/-- The plain program's result, element by element. -/
theorem plain_at (x : FVec Ideal S4x4096x2048 .f32) (md : FVec Ideal S4x12288 .f32) (g : FVec Ideal S2048 .f32) (w : FVec Ideal S2048x2304 .f32)
    (r : Fin 16384) (l : Fin 2304) :
    plain x md g w (ix2 r l) = proj x md g w ⟨r / 4096, by omega⟩ ⟨r % 4096, by omega⟩ l := by
  pointwise [plain, rows, proj]
  simp only [mul_assoc]

end Plain

section Array
open Cert.Kernel2Ideal Cert.Kernel2Ideal.Gen

variable (V : (c : Dev nD) → (b : Ref sig .tc) → Buf (Elt Ideal) ((c : Thread nD τ).loc b)) (c : Dev nD)

/-- The projection of all rows. -/
def whole (x : Vec Ideal S4x4096x2048 .f32) (md : Vec Ideal S4x12288 .f32) (g : Vec Ideal S2048 .f32) (w : Vec Ideal S2048x2304 .f32) :
    S16384x2304.Idx → Ideal .bf16 := fun i =>
  proj x md g w ⟨(i 0 : ℕ) / 4096, Nat.div_lt_of_lt_mul (i 0).isLt⟩ ⟨(i 0 : ℕ) % 4096, Nat.mod_lt _ (by decide)⟩ (i 1)

theorem d0 : ∀ t : Fin cfg0.N, win0_0.index t = ![0, 0] := (by decide +kernel : ∀ t : Fin grid0.N, _)
theorem d1 : ∀ t : Fin cfg0.N, win0_1.index t = ![0, (t : ℕ)] := (by decide +kernel : ∀ t : Fin grid0.N, _)
theorem d2 : ∀ t : Fin cfg0.N, win0_2.index t = ![0, (t : ℕ)] := (by decide +kernel : ∀ t : Fin grid0.N, _)
theorem d3 : ∀ t : Fin cfg0.N, win0_3.index t = ![0, (t : ℕ)] := (by decide +kernel : ∀ t : Fin grid0.N, _)

theorem lt12 (t : Fin cfg0.N) : (t : ℕ) < 12 := t.isLt

theorem cblk0 (t : Fin cfg0.N) (b : Fin 4) (k : Fin 2048) : iblk0 V c 0 t (ix2 b k) = V c main_arg1 (ix2 b k) := by
  blk_simp [iblk0]
  refine congrArg _ ?_
  blk_ext [d0]

theorem cblk1 (t : Fin cfg0.N) (k : Fin 2048) (l : Fin 1024) (l' : Fin 12288) (h : (l' : ℕ) = (t : ℕ) * 1024 + l) :
    iblk0 V c 1 t (ix2 k l) = V c main_arg2 (ix2 k l') := by
  blk_simp [iblk0]
  refine congrArg _ ?_
  blk_ext [d1]

theorem cblk2 (t : Fin cfg0.N) (l : Fin 1024) (l' : Fin 12288) (h : (l' : ℕ) = (t : ℕ) * 1024 + l) :
    iblk0 V c 2 t (ix2 0 l) = V c main_v0 (ix2 0 l') := by
  blk_simp [iblk0]
  refine congrArg _ ?_
  blk_ext [d2]

theorem cpoint (ba : Vec Ideal S12288 .f32) (hb : ∀ l : Fin 12288, V c main_v0 (ix2 0 l) = ba (ix1 l)) (t : Fin cfg0.N) (b : Fin 4) (l : Fin 1024)
    (i : S4x12288.Idx) (h0 : (i 0 : ℕ) = b) (h1 : (i 1 : ℕ) = (t : ℕ) * 1024 + l) :
    k0_pay1 (iblk0 V c 0 t) (iblk0 V c 1 t) (iblk0 V c 2 t) (ix2 b l) = cond (V c main_arg1) (V c main_arg2) ba i := by
  have e : i 0 = b := Fin.ext h0
  refine (cpay_at _ _ _ (V c main_arg1) (V c main_arg2) ba b l (i 1) (fun k => cblk0 V c t b k) (fun k => cblk1 V c t k l _ h1)
    ((cblk2 V c t l _ h1).trans (hb _))).trans ?_
  rw [← e]
  rfl

/-- The conditioning projection's array at the end of the first call. -/
theorem cfinal (ba : Vec Ideal S12288 .f32) (hb : ∀ l : Fin 12288, V c main_v0 (ix2 0 l) = ba (ix1 l)) :
    (dat0 V c).arrAt 3 cfg0.N = cond (V c main_arg1) (V c main_arg2) ba := by
  refine (dat0 V c).arrAt_eq_of_covers 3 _ (by decide +kernel) fun t hf y => ?_
  blk_simp
  rw [after0_3]
  frame_out
  obtain ⟨r, l, rfl⟩ : ∃ (r : Fin 4) (l : Fin 1024), y = ix2 r l := ⟨y 0, y 1, eq_ix2 y⟩
  refine cpoint V c ba hb t r l _ ?_ ?_
  · blk_simp [d3]
  · blk_simp [d3]

theorem e0 : ∀ t : Fin cfg1.N, win1_0.index t = ![(t : ℕ), 0] := (by decide +kernel : ∀ t : Fin grid1.N, _)
theorem e1 : ∀ t : Fin cfg1.N, win1_1.index t = ![(t : ℕ) / 4, 0, 0] := (by decide +kernel : ∀ t : Fin grid1.N, _)
theorem e2 : ∀ t : Fin cfg1.N, win1_2.index t = ![0, 0] := (by decide +kernel : ∀ t : Fin grid1.N, _)
theorem e3 : ∀ t : Fin cfg1.N, win1_3.index t = ![0, 0] := (by decide +kernel : ∀ t : Fin grid1.N, _)
theorem e4 : ∀ t : Fin cfg1.N, win1_4.index t = ![(t : ℕ), 0] := (by decide +kernel : ∀ t : Fin grid1.N, _)

theorem lt16 (t : Fin cfg1.N) : (t : ℕ) < 16 := t.isLt

theorem cast_at (x : Vec Ideal S4x4096x2048 .f32) (r : Fin 16384) (k : Fin 2048) :
    shapeCast (α := Elt Ideal .f32) S16384x2048 x shapeCasts_S4x4096x2048_S16384x2048 (ix2 r k)
      = x (ix3 ⟨(r : ℕ) / 4096, by omega⟩ ⟨(r : ℕ) % 4096, Nat.mod_lt _ (by decide)⟩ k) := by
  pointwise

theorem blk0 {x : Vec Ideal S4x4096x2048 .f32} (hx : V c main_v3 = shapeCast (α := Elt Ideal .f32) S16384x2048 x shapeCasts_S4x4096x2048_S16384x2048)
    (t : Fin cfg1.N) (r : Fin 1024) (k : Fin 2048) (b : Fin 4) (s : Fin 4096) (h : (t : ℕ) * 1024 + r = b * 4096 + s) :
    iblk1 V c 0 t (ix2 r k) = x (ix3 b s k) := by
  have ht := lt16 t
  have e : iblk1 V c 0 t (ix2 r k) = V c main_v3 (ix2 ⟨(t : ℕ) * 1024 + r, by omega⟩ k) := by
    blk_simp [iblk1]
    refine congrArg _ ?_
    blk_ext [e0]
  have hb : (⟨((t : ℕ) * 1024 + r) / 4096, by omega⟩ : Fin 4) = b := Fin.ext (by show ((t : ℕ) * 1024 + r) / 4096 = b; omega)
  have hs : (⟨((t : ℕ) * 1024 + r) % 4096, Nat.mod_lt _ (by decide)⟩ : Fin 4096) = s := Fin.ext (by show ((t : ℕ) * 1024 + r) % 4096 = s; omega)
  rw [e, hx, cast_at, hb, hs]

theorem blk1 {md : Vec Ideal S4x12288 .f32} (hm : V c main_v2 = shapeCast (α := Elt Ideal .f32) S4x6x2048 md shapeCasts_S4x12288_S4x6x2048)
    (t : Fin cfg1.N) (a : Fin 6) (k : Fin 2048) (b : Fin 4) (h : (t : ℕ) / 4 = b) :
    iblk1 V c 1 t (ix3 0 a k) = md (ix2 b ⟨a * 2048 + k, by omega⟩) := by
  have ht := lt16 t
  have e : iblk1 V c 1 t (ix3 0 a k) = V c main_v2 (ix3 b a k) := by
    blk_simp [iblk1]
    refine congrArg _ ?_
    blk_ext [e1]
  rw [e, hm]
  pointwise

theorem blk2 {g : Vec Ideal S2048 .f32} (hg : V c main_v4 = shapeCast (α := Elt Ideal .f32) S1x2048 g shapeCasts_S2048_S1x2048)
    (t : Fin cfg1.N) (k : Fin 2048) : iblk1 V c 2 t (ix2 0 k) = g (ix1 k) := by
  have e : iblk1 V c 2 t (ix2 0 k) = V c main_v4 (ix2 0 k) := by
    blk_simp [iblk1]
    refine congrArg _ ?_
    blk_ext [e2]
  rw [e, hg]
  pointwise

theorem blk3 {w : FVec Ideal S2048x2304 .f32} (hw : V c main_v5 = (truncf (F := Ideal) .bf16 w bitsLt_bf16_f32 : FVec Ideal S2048x2304 .bf16))
    (t : Fin cfg1.N) (k : Fin 2048) (l : Fin 2304) : iblk1 V c 3 t (ix2 k l) = w (ix2 k l) := by
  have e : iblk1 V c 3 t (ix2 k l) = V c main_v5 (ix2 k l) := by
    blk_simp [iblk1]
    refine congrArg _ ?_
    blk_ext [e3]
  rw [e, hw]
  pointwise

/-- A row of block `t` is the array's row of the same number. -/
theorem row_at (x : Vec Ideal S4x4096x2048 .f32) (md : Vec Ideal S4x12288 .f32) (g : Vec Ideal S2048 .f32) (w : Vec Ideal S2048x2304 .f32)
    (i : S16384x2304.Idx) (b : Fin 4) (s : Fin 4096) (l : Fin 2304) (h : (i 0 : ℕ) = b * 4096 + s) (hl : (i 1 : ℕ) = l) :
    proj x md g w b s l = whole x md g w i := by
  have hb : b = ⟨(i 0 : ℕ) / 4096, Nat.div_lt_of_lt_mul (i 0).isLt⟩ := Fin.ext (by simp only [h]; omega)
  have hs : s = ⟨(i 0 : ℕ) % 4096, Nat.mod_lt _ (by decide)⟩ := Fin.ext (by simp only [h]; omega)
  have hl' : l = i 1 := Fin.ext hl.symm
  rw [hb, hs, hl']
  rfl

theorem point {x : Vec Ideal S4x4096x2048 .f32} {md : Vec Ideal S4x12288 .f32} {g : Vec Ideal S2048 .f32} {w : FVec Ideal S2048x2304 .f32}
    (hx : V c main_v3 = shapeCast (α := Elt Ideal .f32) S16384x2048 x shapeCasts_S4x4096x2048_S16384x2048)
    (hm : V c main_v2 = shapeCast (α := Elt Ideal .f32) S4x6x2048 md shapeCasts_S4x12288_S4x6x2048)
    (hg : V c main_v4 = shapeCast (α := Elt Ideal .f32) S1x2048 g shapeCasts_S2048_S1x2048)
    (hw : V c main_v5 = (truncf (F := Ideal) .bf16 w bitsLt_bf16_f32 : FVec Ideal S2048x2304 .bf16))
    (t : Fin cfg1.N) (r : Fin 1024) (l : Fin 2304) (i : S16384x2304.Idx) (h : (i 0 : ℕ) = (t : ℕ) * 1024 + r) (hl : (i 1 : ℕ) = l) :
    k1_pay1 (iblk1 V c 0 t) (iblk1 V c 2 t) (View.ld (iblk1 V c 1 t) r1_2) (View.ld (iblk1 V c 1 t) r1_3) (iblk1 V c 3 t) (ix2 r l)
      = whole x md g w i := by
  have ht := lt16 t
  refine (pay_at _ _ _ _ _ _ _ _ r l ⟨(t : ℕ) / 4, by omega⟩ ⟨(t : ℕ) % 4 * 1024 + r, by omega⟩ (fun k => blk0 V c hx t r k _ _ ?_)
    (fun k => (blk1 V c hm t 0 k _ rfl).trans (congrArg _ (congrArg _ (Fin.ext ?_)))) (fun k => (blk1 V c hm t 1 k _ rfl).trans (congrArg _ (congrArg _ (Fin.ext ?_))))
    (fun k => blk2 V c hg t k) (fun k => blk3 V c hw t k l)).trans (row_at _ _ _ _ i _ _ l ?_ hl)
  · show (t : ℕ) * 1024 + r = (t : ℕ) / 4 * 4096 + ((t : ℕ) % 4 * 1024 + r)
    omega
  · show 0 * 2048 + (k : ℕ) = k
    omega
  · show 1 * 2048 + (k : ℕ) = 2048 + k
    omega
  · show _ = (t : ℕ) / 4 * 4096 + ((t : ℕ) % 4 * 1024 + r)
    omega

/-- The projection's array at the end of the second call. -/
theorem final {x : Vec Ideal S4x4096x2048 .f32} {md : Vec Ideal S4x12288 .f32} {g : Vec Ideal S2048 .f32} {w : FVec Ideal S2048x2304 .f32}
    (hx : V c main_v3 = shapeCast (α := Elt Ideal .f32) S16384x2048 x shapeCasts_S4x4096x2048_S16384x2048)
    (hm : V c main_v2 = shapeCast (α := Elt Ideal .f32) S4x6x2048 md shapeCasts_S4x12288_S4x6x2048)
    (hg : V c main_v4 = shapeCast (α := Elt Ideal .f32) S1x2048 g shapeCasts_S2048_S1x2048)
    (hw : V c main_v5 = (truncf (F := Ideal) .bf16 w bitsLt_bf16_f32 : FVec Ideal S2048x2304 .bf16)) :
    (dat1 V c).arrAt 4 cfg1.N = whole x md g w := by
  refine (dat1 V c).arrAt_eq_of_covers 4 _ (by decide +kernel) fun t hf y => ?_
  blk_simp
  rw [after1_4]
  frame_out
  obtain ⟨r, l, rfl⟩ : ∃ (r : Fin 1024) (l : Fin 2304), y = ix2 r l := ⟨y 0, y 1, eq_ix2 y⟩
  refine point V c hx hm hg hw t r l _ ?_ ?_
  · blk_simp [e4]
  · blk_simp [e4]

end Array

theorem plain_whole (x : FVec Ideal Cert.Reference2Ideal.S4x4096x2048 .f32) (md : FVec Ideal Cert.Reference2Ideal.S4x12288 .f32)
    (g : FVec Ideal Cert.Reference2Ideal.S2048 .f32) (w : FVec Ideal Cert.Reference2Ideal.S2048x2304 .f32) : plain x md g w = whole x md g w := by
  funext i
  obtain ⟨r, l, rfl⟩ : ∃ (r : Fin 16384) (l : Fin 2304), i = ix2 r l := ⟨i 0, i 1, eq_ix2 i⟩
  exact plain_at x md g w r l

end Cert.Project

end

end
-- ==== Proof.Chain.lean ====
/- The two projections one after the other: what the second call leaves, over the arguments of the first. -/
module

public import proofs.«01_k».proof.Proof.Project

@[expose] public section

set_option maxRecDepth 16384

noncomputable section

namespace Cert.Project

open Idealize.ShloMosaic Idealize.ShloMosaic.TcCoe Idealize.SL.Sem Idealize.SL Idealize.SL.RA Idealize.SL.BI
open scoped Idealize.SL.BI
open Idealize.SL.BI.BIBase Idealize.SL.BI.Laws Idealize.SL.ProofMode

section Chain
open Cert.Kernel2Ideal Cert.Kernel2Ideal.Gen

local notation "𝕄" => MT nD τ sig Unit (Elt Idealize.ShloMosaic.Ideal) ℕ (UR sig nD τ) ℕ

variable (m : (ℓ : Loc nD τ sig) → Buf (Elt Ideal) ℓ) (ρ : Dev nD → PrngReg) (c : Dev nD)

omit m ρ c in
theorem bias_cast (b : FVec Ideal S12288 .f32) (l : Fin 12288) :
    shapeCast (α := Elt Ideal .f32) S1x12288 b shapeCasts_S12288_S1x12288 (ix2 0 l) = b (ix1 l) := by
  pointwise

theorem bias_at (l : Fin 12288) : V1 m ρ c main_v0 (ix2 0 l) = m ((c : Thread nD τ).loc main_arg3) (ix1 l) := by
  have e : V1 m ρ c main_v0 = shapeCast (α := Elt Ideal .f32) S1x12288 (m ((c : Thread nD τ).loc main_arg3)) shapeCasts_S12288_S1x12288 := by
    show StableHlo.after hostOps0 _ (Proc.devRef .tc main_v0) = _
    after_results
    all_goals rfl
  rw [e]
  exact bias_cast _ l

/-- What the first call leaves. -/
theorem mod_eq : W2 m ρ c (Proc.devRef .tc main_v1) = cond (m ((c : Thread nD τ).loc main_arg1)) (m ((c : Thread nD τ).loc main_arg2))
    (m ((c : Thread nD τ).loc main_arg3)) := by
  refine (W2_arr m ρ c 3).trans ((cfinal (V1 m ρ) c _ (bias_at m ρ c)).trans ?_)
  rw [show V1 m ρ c main_arg1 = m ((c : Thread nD τ).loc main_arg1) from W1_args m ρ c main_arg1 (by decide),
    show V1 m ρ c main_arg2 = m ((c : Thread nD τ).loc main_arg2) from W1_args m ρ c main_arg2 (by decide)]

theorem x_eq : V3 m ρ c main_v3 = shapeCast (α := Elt Ideal .f32) S16384x2048 (m ((c : Thread nD τ).loc main_arg0)) shapeCasts_S4x4096x2048_S16384x2048 := by
  rw [← W2_args m ρ c main_arg0 (by decide)]
  show StableHlo.after hostOps1 _ (Proc.devRef .tc main_v3) = _
  after_results
  all_goals rfl

theorem m_eq : V3 m ρ c main_v2 = shapeCast (α := Elt Ideal .f32) S4x6x2048 (cond (m ((c : Thread nD τ).loc main_arg1)) (m ((c : Thread nD τ).loc main_arg2))
    (m ((c : Thread nD τ).loc main_arg3))) shapeCasts_S4x12288_S4x6x2048 := by
  rw [← mod_eq m ρ c]
  show StableHlo.after hostOps1 _ (Proc.devRef .tc main_v2) = _
  after_results
  all_goals rfl

theorem g_eq : V3 m ρ c main_v4 = shapeCast (α := Elt Ideal .f32) S1x2048 (m ((c : Thread nD τ).loc main_arg4)) shapeCasts_S2048_S1x2048 := by
  rw [← W2_args m ρ c main_arg4 (by decide)]
  show StableHlo.after hostOps1 _ (Proc.devRef .tc main_v4) = _
  after_results
  all_goals rfl

theorem w_eq : V3 m ρ c main_v5 = (truncf (F := Ideal) .bf16 (m ((c : Thread nD τ).loc main_arg5)) bitsLt_bf16_f32 : FVec Ideal S2048x2304 .bf16) := by
  rw [← W2_args m ρ c main_arg5 (by decide)]
  show StableHlo.after hostOps1 _ (Proc.devRef .tc main_v5) = _
  after_results
  all_goals rfl

/-- What the second call leaves. -/
theorem proj_eq : W4 m ρ c (Proc.devRef .tc main_v6) = whole (m ((c : Thread nD τ).loc main_arg0)) (cond (m ((c : Thread nD τ).loc main_arg1))
    (m ((c : Thread nD τ).loc main_arg2)) (m ((c : Thread nD τ).loc main_arg3))) (m ((c : Thread nD τ).loc main_arg4)) (m ((c : Thread nD τ).loc main_arg5)) :=
  (W4_arr m ρ c 4).trans (final (V3 m ρ) c (x_eq m ρ c) (m_eq m ρ c) (g_eq m ρ c) (w_eq m ρ c))

set_option backward.isDefEq.respectTransparency.types false in
/-- Every buffer outside the calls ends at the last boundary's contents. -/
theorem run_ends : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := Rounds.initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (QY := fun c s => ∀ b ∈ Pipeline.ucRefs τ sig, s.mem (((c : Thread nD τ)).1, b) = W4 m ρ c b)
    (hu₀ := by
      iintro Hu
      imodintro
      isplitl [Hu]
      · have all_left : (ownU (Rounds.initOf (Pipeline.cells cfgs cellOf_inj) (Pipeline.launchToks cfgs cellOf_inj)) : sProp 𝕄) ⊢
            BI.own (emb₁ (Rounds.initOf (Pipeline.cells cfgs cellOf_inj) (Pipeline.launchToks cfgs cellOf_inj))) := .rfl
        iapply all_left
        iexact Hu
      · have none_left : (BI.emp : sProp 𝕄) ⊢ bigSep Finset.univ (fun _ : Dev nD => (BI.emp : sProp 𝕄)) := by rw [BI.bigSep_emp_const]
        iapply none_left
        iempintro)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howes, -, Hreg, -⟩, -⟩
      imodintro
      isplitl [Hheld]
      · iexact Hheld
      · isplitl [Hreg]
        · iexists _
          iexact Hreg
        · iexists ∅
          iexact Howes)
    (hfin := fun c s' => by
      iintro ⟨⟨Hheld, -⟩, Hstate⟩
      unfold StableHlo.held
      imodintro
      iapply (pointsTo_read_all (Pipeline.ucRefs τ sig) (fun b => (((c : Thread nD τ)).1, b)) (W4 m ρ c) s')
      isplitl [Hheld] <;> iassumption)
    (hQ := fun s h _ => h)

end Chain

theorem frame_K : Cert.quiescent_Kernel2 := fun m g _ => Cert.Kernel2.Gen.frame m g

theorem frame_KI : Cert.quiescent_Kernel2Ideal := fun m g _ => Cert.Kernel2Ideal.Gen.frame m g

theorem frame_RI : Cert.quiescent_Reference2Ideal := fun m g _ =>
  (θ_run _ _ _).mono (fun _ h => ⟨fun c => (h c).2, sem_eq_zero_of_no_sems rfl _⟩) (Cert.Reference2Ideal.Value.run m g)

theorem exact_KR : Cert.algebraic_Kernel2Ideal_Reference2Ideal := fun m g m' g' _ h =>
  ⟨fun c => whole (m ((c.tc : Thread Cert.Kernel2Ideal.nD Cert.Kernel2Ideal.τ).loc Cert.Kernel2Ideal.main_arg0))
      (cond (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3)))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)),
    (θ_run _ _ _).mono (fun _ hr c => ⟨(hr c _ (Cert.Kernel2Ideal.Gen.mem_uc Cert.Kernel2Ideal.main_v6 (by decide))).trans (proj_eq m g c),
      (hr c _ (Cert.Kernel2Ideal.Gen.mem_uc Cert.Kernel2Ideal.main_arg0 (by decide))).trans (Cert.Kernel2Ideal.Gen.W4_main_arg0 m g c),
      (hr c _ (Cert.Kernel2Ideal.Gen.mem_uc Cert.Kernel2Ideal.main_arg1 (by decide))).trans (Cert.Kernel2Ideal.Gen.W4_main_arg1 m g c),
      (hr c _ (Cert.Kernel2Ideal.Gen.mem_uc Cert.Kernel2Ideal.main_arg2 (by decide))).trans (Cert.Kernel2Ideal.Gen.W4_main_arg2 m g c),
      (hr c _ (Cert.Kernel2Ideal.Gen.mem_uc Cert.Kernel2Ideal.main_arg3 (by decide))).trans (Cert.Kernel2Ideal.Gen.W4_main_arg3 m g c),
      (hr c _ (Cert.Kernel2Ideal.Gen.mem_uc Cert.Kernel2Ideal.main_arg4 (by decide))).trans (Cert.Kernel2Ideal.Gen.W4_main_arg4 m g c),
      (hr c _ (Cert.Kernel2Ideal.Gen.mem_uc Cert.Kernel2Ideal.main_arg5 (by decide))).trans (Cert.Kernel2Ideal.Gen.W4_main_arg5 m g c)⟩) (run_ends m g),
    (θ_run _ _ _).mono (fun _ hr c => ⟨(hr c).1.trans ((plain_whole _ (condP _ _ _) _ _).trans (by
      rw [cond_whole, (h c).1, (h c).2.1, (h c).2.2.1, (h c).2.2.2.1, (h c).2.2.2.2.1, (h c).2.2.2.2.2])), (hr c).2⟩) (Cert.Reference2Ideal.Value.run m' g')⟩

end Cert.Project

end

end
-- ==== Proof.Spot.lean ====
/- Where each dispatched row goes: the plain program's destinations, from the counts and each token's experts and ranks. -/
module

public import proofs.«01_k».proof.Proof.Words
public import proofs.«01_k».proof.Proof.Gen.Reference3Ideal.Run
public import Idealize.ShloMosaic.Lib.Routing.OpsOne
public import Idealize.ShloMosaic.Lib.Pointwise

@[expose] public section

set_option maxRecDepth 16384

noncomputable section

namespace Cert.Spot

open Idealize.ShloMosaic Idealize.ShloMosaic.TcCoe Idealize.ShloMosaic.Routing
open ValueIdx (select_apply)
open Cert.Reference3Ideal Cert.Reference3Ideal.Gen
open Cert.Experts (k0 b64 hCum hCeil hStart)

/-- The entry of `s` that the word `w` names, or zero. -/
def pick (s : IVec S64 32) (w : BitVec 32) : BitVec 32 := if h : w.toNat < 64 then s (ix1 ⟨w.toNat, h⟩) else 0#32

/-- The destinations: in rows 0 and 1 the two experts' first rows and the ranks behind them, and zero below. -/
def spots (s : IVec S64 32) (mi : IVec S8x16384 32) : IVec S8x16384 32 := fun i =>
  if (i 0 : ℕ) = 0 then pick s (mi (ix2 0 (i 1))) + mi (ix2 2 (i 1))
  else if (i 0 : ℕ) = 1 then pick s (mi (ix2 1 (i 1))) + mi (ix2 3 (i 1)) else 0#32

/-- A sum down a column with at most one entry that isn't zero. -/
theorem column_one {n m : ℕ} (v : IVec (shape2 n m) 32) (h : (shape2 n m).ReducesTo [0] (shape1 m)) (hu : 0 < shape0.numel) (l : Fin m) (p : Fin n)
    (hz : ∀ p', p' ≠ p → v (ix2 p' l) = 0#32) : Host.reduce IntOp.addi v (constantI shape0 32 0#32) h hu (ix1 l) = v (ix2 p l) := by
  classical
  rw [Host.reduce_eq_fold]
  have hcol : ∀ i : (shape2 n m).Idx, h.drop i = ix1 l ↔ i 1 = l := fun i => by
    have hv : (h.drop i 0 : ℕ) = i 1 := Shape.ReducesTo.drop_apply_val h i 0
    refine ⟨fun e => Fin.ext (by rw [← hv, e]; rfl), fun e => funext fun b => ?_⟩
    obtain rfl : b = 0 := Subsingleton.elim _ _
    exact Fin.ext (by rw [hv, e]; rfl)
  refine Cert.Experts.fold_one _ _ (ix2 p l) (Finset.mem_filter.2 ⟨Finset.mem_univ _, (hcol _).2 rfl⟩) fun i hi hne => ?_
  have h1 := (hcol i).1 (Finset.mem_filter.1 hi).2
  have hi2 : i = ix2 (i 0) l := by rw [← h1]; exact eq_ix2 i
  rw [hi2]
  exact hz _ fun e => hne (hi2.trans (congrArg (ix2 · l) e))

/-- The plain program's choice: the sum over the experts of the entries whose number is the word. -/
def chosen (s : IVec S64 32) (row : IVec S16384 32) : IVec S16384 32 :=
  Host.reduce IntOp.addi (select
    (cmpi .eq (broadcastInDim S64x16384 ![0, 1] bcast_S1x16384_S64x16384_0_1 (broadcastInDim S1x16384 ![1] bcast_S16384_S1x16384_1 row))
      (broadcastInDim S64x16384 ![0, 1] bcast_S64x1_S64x16384_0_1 (broadcastInDim S64x1 ![0] bcast_S64_S64x1_0 (iotaInDim S64 32 0))))
    (broadcastInDim S64x16384 ![0, 1] bcast_S64x1_S64x16384_0_1 (broadcastInDim S64x1 ![0] bcast_S64_S64x1_0 s))
    (broadcastInDim S64x16384 ![] bcast_S_S64x16384 (constantI S_ 32 0#32))) (constantI S_ 32 0#32) reducesTo_S64x16384_S16384_d0 h_S_

theorem chosen_at (s : IVec S64 32) (row : IVec S16384 32) (l : Fin 16384) : chosen s row (ix1 l) = pick s (row (ix1 l)) := by
  have term : ∀ e : Fin 64, select
      (cmpi .eq (broadcastInDim S64x16384 ![0, 1] bcast_S1x16384_S64x16384_0_1 (broadcastInDim S1x16384 ![1] bcast_S16384_S1x16384_1 row))
        (broadcastInDim S64x16384 ![0, 1] bcast_S64x1_S64x16384_0_1 (broadcastInDim S64x1 ![0] bcast_S64_S64x1_0 (iotaInDim S64 32 0))))
      (broadcastInDim S64x16384 ![0, 1] bcast_S64x1_S64x16384_0_1 (broadcastInDim S64x1 ![0] bcast_S64_S64x1_0 s))
      (broadcastInDim S64x16384 ![] bcast_S_S64x16384 (constantI S_ 32 0#32)) (ix2 e l)
      = if row (ix1 l) = BitVec.ofNat 32 e then s (ix1 e) else 0#32 := fun e => by
    pointwise
    by_cases hw : row (ix1 l) = BitVec.ofNat 32 e
    · rw [if_pos hw, hw]; simp [IntOp.cmpi, Scalar.select]
    · rw [if_neg hw, show IntOp.cmpi .eq (row (ix1 l)) (BitVec.ofNat 32 e) = 0#1 by simp [IntOp.cmpi, beq_eq_false_iff_ne.2 hw]]; rfl
  have small : ∀ e : Fin 64, (BitVec.ofNat 32 (e : ℕ)).toNat = e := fun e => by
    have := e.isLt
    rw [BitVec.toNat_ofNat, Nat.mod_eq_of_lt (by omega)]
  unfold chosen pick
  by_cases h : (row (ix1 l)).toNat < 64
  · rw [dif_pos h]
    refine (column_one _ reducesTo_S64x16384_S16384_d0 h_S_ l ⟨_, h⟩ fun e he => ?_).trans ?_
    · rw [term, if_neg fun hw => he (Fin.ext ((small e).symm.trans (congrArg BitVec.toNat hw.symm)))]
    · rw [term, if_pos (BitVec.eq_of_toNat_eq (small ⟨_, h⟩).symm)]
  · rw [dif_neg h]
    have none : ∀ e : Fin 64, row (ix1 l) ≠ BitVec.ofNat 32 e := fun e hw => h (by rw [hw, small]; exact e.isLt)
    refine (column_one _ reducesTo_S64x16384_S16384_d0 h_S_ l 0 fun e _ => ?_).trans ?_
    · rw [term, if_neg (none e)]
    · rw [term, if_neg (none 0)]

/-- The plain program's first rows: the running sum of the padded counts, less the expert's own. -/
def firsts (x : IVec S64 32) : IVec S64 32 :=
  subi (hCum (muli (pyDiv bcast_S_S64 (addi x (b64 (k0 255#32))) (k0 256#32)) (b64 (k0 256#32))))
    (muli (pyDiv bcast_S_S64 (addi x (b64 (k0 255#32))) (k0 256#32)) (b64 (k0 256#32)))

theorem b64_all (a : BitVec 32) (i : S64.Idx) : b64 (k0 a) i = a := (bc0 Cert.Kernel.Gen.bcast_S_S64 _ _).trans rfl

theorem muli_b64 (v : IVec S64 32) (a : BitVec 32) (i : S64.Idx) : muli v (b64 (k0 a)) i = v i * a := by
  rw [muli_ap, b64_all]

theorem cum_all (v : IVec S64 32) (j : Fin 64) : hCum v (ix1 j) = ∑ i : Fin 64, if i ≤ j then v (ix1 i) else 0 := by
  unfold hCum
  exact cumsum_vec (N := 64) (Nm1 := 63) rfl v _ (bc0 Cert.Kernel.Gen.bcast_S_S_ _ _) _ _ j

theorem ceil_eq (x : IVec S64 32) : pyDiv bcast_S_S64 (addi x (b64 (k0 255#32))) (k0 256#32) = hCeil x := by
  have e : addi x (b64 (k0 255#32)) = subi (addi x (b64 (k0 256#32))) (b64 (k0 1#32)) := funext fun i => by
    rw [addi_ap, subi_ap, addi_ap, b64_all, b64_all, b64_all, show (255#32 : BitVec 32) = 256#32 - 1#32 by decide, add_sub_assoc]
  rw [e]
  unfold hCeil
  with_reducible rfl

theorem sum_mul_at (n : ℕ) (f : Fin n → BitVec 32) (j : Fin n) (a : BitVec 32) :
    (∑ i : Fin n, if i ≤ j then f i * a else 0) = (∑ i : Fin n, if i ≤ j then f i else 0) * a := by
  rw [Finset.sum_mul]
  exact Finset.sum_congr rfl fun i _ => by rw [ite_mul, zero_mul]

theorem cum_mul_at (u : IVec S64 32) (a : BitVec 32) (j : Fin 64) : hCum (muli u (b64 (k0 a))) (ix1 j) = hCum u (ix1 j) * a := by
  rw [cum_all, cum_all, ← sum_mul_at]
  simp only [muli_b64]

theorem cum_mul_one (u : IVec S64 32) (a : BitVec 32) (j : Fin 64) :
    subi (hCum (muli u (b64 (k0 a)))) (muli u (b64 (k0 a))) (ix1 j) = muli (subi (hCum u) u) (b64 (k0 a)) (ix1 j) := by
  rw [subi_ap, muli_b64, muli_b64, subi_ap, cum_mul_at, sub_mul]

theorem cum_mul (u : IVec S64 32) (a : BitVec 32) : subi (hCum (muli u (b64 (k0 a)))) (muli u (b64 (k0 a))) = muli (subi (hCum u) u) (b64 (k0 a)) := by
  refine funext fun i => ?_
  have e : i = ix1 (i 0 : Fin 64) := eq_ix1 i
  exact (congrArg _ e).trans ((cum_mul_one u a (i 0)).trans (congrArg _ e.symm))

/-- They are the first blocks, 256 rows to a block. -/
theorem firsts_eq (x : IVec S64 32) : firsts x = muli (hStart x) (b64 (k0 256#32)) := by
  unfold firsts hStart Cert.Experts.hEnd
  rw [ceil_eq, cum_mul]

/-- The plain program's result. -/
def plain (s : IVec S64 32) (mi : IVec S8x16384 32) : IVec S8x16384 32 :=
  concatenate S8x16384 0
    [⟨S1x16384, broadcastInDim S1x16384 ![1] bcast_S16384_S1x16384_1 (addi (chosen s (shapeCast _ (extractStridedSlice S1x16384 ![0, 0] mi slices_S8x16384_S1x16384_0_0) shapeCasts_S1x16384_S16384)) (shapeCast _ (extractStridedSlice S1x16384 ![2, 0] mi slices_S8x16384_S1x16384_2_0) shapeCasts_S1x16384_S16384))⟩,
     ⟨S1x16384, broadcastInDim S1x16384 ![1] bcast_S16384_S1x16384_1 (addi (chosen s (shapeCast _ (extractStridedSlice S1x16384 ![1, 0] mi slices_S8x16384_S1x16384_1_0) shapeCasts_S1x16384_S16384)) (shapeCast _ (extractStridedSlice S1x16384 ![3, 0] mi slices_S8x16384_S1x16384_3_0) shapeCasts_S1x16384_S16384))⟩,
     ⟨S6x16384, broadcastInDim S6x16384 ![] bcast_S_S6x16384 (constantI S_ 32 0#32)⟩] concatenates_S1x16384_S1x16384_S6x16384_S8x16384_d0

theorem plain_top (s : IVec S64 32) (mi : IVec S8x16384 32) (l : Fin 16384) : plain s mi (ix2 0 l) = pick s (mi (ix2 0 l)) + mi (ix2 2 l) := by
  pointwise [plain, chosen_at]
  rfl

theorem plain_next (s : IVec S64 32) (mi : IVec S8x16384 32) (l : Fin 16384) : plain s mi (ix2 1 l) = pick s (mi (ix2 1 l)) + mi (ix2 3 l) := by
  pointwise [plain, chosen_at]
  rfl

theorem plain_rest (s : IVec S64 32) (mi : IVec S8x16384 32) (r : Fin 8) (hr : 2 ≤ (r : ℕ)) (l : Fin 16384) : plain s mi (ix2 r l) = 0#32 := by
  pointwise [plain]
  rw [dif_neg (by omega), dif_neg (by omega)]

theorem plain_eq (s : IVec S64 32) (mi : IVec S8x16384 32) : plain s mi = spots s mi := by
  funext i
  obtain ⟨r, l, rfl⟩ : ∃ (r : Fin 8) (l : Fin 16384), i = ix2 r l := ⟨i 0, i 1, eq_ix2 i⟩
  have e : spots s mi (ix2 r l) = if (r : ℕ) = 0 then pick s (mi (ix2 0 l)) + mi (ix2 2 l)
      else if (r : ℕ) = 1 then pick s (mi (ix2 1 l)) + mi (ix2 3 l) else 0#32 := rfl
  rw [e]
  by_cases h0 : (r : ℕ) = 0
  · obtain rfl : r = 0 := Fin.ext h0
    rw [if_pos h0, plain_top]
  rw [if_neg h0]
  by_cases h1 : (r : ℕ) = 1
  · obtain rfl : r = 1 := Fin.ext h1
    rw [if_pos h1, plain_next]
  rw [if_neg h1, plain_rest s mi r (by omega)]

theorem result_eq (m : (ℓ : Loc nD τ sig) → Buf (Elt Ideal) ℓ) (c : Dev nD) : Cert.Reference3Ideal.Value.res_main_v36 m c =
    spots (muli (hStart (m ((c.tc : Thread nD τ).loc main_arg0))) (b64 (k0 256#32))) (m ((c.tc : Thread nD τ).loc main_arg1)) := by
  rw [← firsts_eq, ← plain_eq]
  rfl

end Cert.Spot

end

end
-- ==== Proof.Dest.lean ====
/- The call that gives each token's rows their destinations. -/
module

public import proofs.«01_k».proof.Proof.Spot
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Claim
public import Idealize.ShloMosaic.Lib.Pointwise
public import proofs.«01_k».proof.Defs

@[expose] public section

set_option maxRecDepth 16384

noncomputable section

namespace Cert.Dest

open Idealize.ShloMosaic Idealize.ShloMosaic.TcCoe Idealize.SL.Sem
open Cert.Kernel3Ideal Cert.Kernel3Ideal.Gen
open Cert.Spot (pick spots)
open Cert.Experts (k0 b64 hStart)

/-- The last of the first `n` entries whose number is `w`, or zero: the call's chain of choices. -/
def upto (s : ℕ → BitVec 32) (w : BitVec 32) : ℕ → BitVec 32
  | 0 => 0#32
  | n + 1 => Scalar.select (IntOp.cmpi .eq w (BitVec.ofNat 32 n)) (s n) (upto s w n)

theorem upto_at (s : ℕ → BitVec 32) (w : BitVec 32) (n : ℕ) (hn : n ≤ 64) : upto s w n = if w.toNat < n then s w.toNat else 0#32 := by
  induction n with
  | zero => rfl
  | succ n ih =>
    have small : (BitVec.ofNat 32 n).toNat = n := by rw [BitVec.toNat_ofNat, Nat.mod_eq_of_lt (by omega)]
    unfold upto
    by_cases hw : w = BitVec.ofNat 32 n
    · have hn' : w.toNat = n := by rw [hw, small]
      rw [hn', if_pos (Nat.lt_succ_self n), hw, show IntOp.cmpi .eq (BitVec.ofNat 32 n) (BitVec.ofNat 32 n) = 1#1 by simp [IntOp.cmpi]]
      rfl
    · have hn' : w.toNat ≠ n := fun e => hw (BitVec.eq_of_toNat_eq (e.trans small.symm))
      rw [show IntOp.cmpi .eq w (BitVec.ofNat 32 n) = 0#1 by simp [IntOp.cmpi, beq_eq_false_iff_ne.2 hw]]
      refine (ih (by omega)).trans ?_
      by_cases h : w.toNat < n
      · rw [if_pos h, if_pos (by omega)]
      · rw [if_neg h, if_neg (by omega)]

theorem upto_pick (x : IVec S64 32) (w : BitVec 32) : upto (fun n => x (ix1 (Fin.ofNat 64 n))) w 64 = pick x w := by
  rw [upto_at _ _ _ le_rfl]
  unfold pick
  by_cases h : w.toNat < 64
  · rw [if_pos h, dif_pos h]
    exact congrArg (fun j => x (ix1 j)) (Fin.ext (Nat.mod_eq_of_lt h))
  · rw [if_neg h, dif_neg h]

section Chain
variable (s : ℕ → BitVec 32) (v : IVec S1x16384 32)

theorem pay2 : k0_pay2 (F := Ideal) v (s 0) (s 1) (s 2) (s 3) = fun i => upto s (v i) 4 := rfl
theorem pay4 : k0_pay4 (F := Ideal) v (fun i => upto s (v i) 4) (s 4) (s 5) (s 6) (s 7) (s 8) = fun i => upto s (v i) 9 := rfl
theorem pay6 : k0_pay6 (F := Ideal) v (fun i => upto s (v i) 9) (s 9) (s 10) (s 11) (s 12) (s 13) = fun i => upto s (v i) 14 := rfl
theorem pay8 : k0_pay8 (F := Ideal) v (fun i => upto s (v i) 14) (s 14) (s 15) (s 16) (s 17) (s 18) = fun i => upto s (v i) 19 := rfl
theorem pay10 : k0_pay10 (F := Ideal) v (fun i => upto s (v i) 19) (s 19) (s 20) (s 21) (s 22) (s 23) = fun i => upto s (v i) 24 := rfl
theorem pay12 : k0_pay12 (F := Ideal) v (fun i => upto s (v i) 24) (s 24) (s 25) (s 26) (s 27) (s 28) = fun i => upto s (v i) 29 := rfl
theorem pay14 : k0_pay14 (F := Ideal) v (fun i => upto s (v i) 29) (s 29) (s 30) (s 31) (s 32) (s 33) = fun i => upto s (v i) 34 := rfl
theorem pay16 : k0_pay16 (F := Ideal) v (fun i => upto s (v i) 34) (s 34) (s 35) (s 36) (s 37) (s 38) = fun i => upto s (v i) 39 := rfl
theorem pay18 : k0_pay18 (F := Ideal) v (fun i => upto s (v i) 39) (s 39) (s 40) (s 41) (s 42) (s 43) = fun i => upto s (v i) 44 := rfl
theorem pay20 : k0_pay20 (F := Ideal) v (fun i => upto s (v i) 44) (s 44) (s 45) (s 46) (s 47) (s 48) = fun i => upto s (v i) 49 := rfl
theorem pay22 : k0_pay22 (F := Ideal) v (fun i => upto s (v i) 49) (s 49) (s 50) (s 51) (s 52) (s 53) = fun i => upto s (v i) 54 := rfl
theorem pay24 : k0_pay24 (F := Ideal) v (fun i => upto s (v i) 54) (s 54) (s 55) (s 56) (s 57) (s 58) = fun i => upto s (v i) 59 := rfl
theorem pay26 : k0_pay26 (F := Ideal) v (fun i => upto s (v i) 59) (s 59) (s 60) (s 61) (s 62) (s 63) = fun i => upto s (v i) 64 := rfl
theorem chain2 : k0_pay26 (F := Ideal) v (k0_pay24 (F := Ideal) v (k0_pay22 (F := Ideal) v (k0_pay20 (F := Ideal) v (k0_pay18 (F := Ideal) v (k0_pay16 (F := Ideal) v (k0_pay14 (F := Ideal) v (k0_pay12 (F := Ideal) v (k0_pay10 (F := Ideal) v (k0_pay8 (F := Ideal) v (k0_pay6 (F := Ideal) v (k0_pay4 (F := Ideal) v (k0_pay2 (F := Ideal) v (s 0) (s 1) (s 2) (s 3)) (s 4) (s 5) (s 6) (s 7) (s 8)) (s 9) (s 10) (s 11) (s 12) (s 13)) (s 14) (s 15) (s 16) (s 17) (s 18)) (s 19) (s 20) (s 21) (s 22) (s 23)) (s 24) (s 25) (s 26) (s 27) (s 28)) (s 29) (s 30) (s 31) (s 32) (s 33)) (s 34) (s 35) (s 36) (s 37) (s 38)) (s 39) (s 40) (s 41) (s 42) (s 43)) (s 44) (s 45) (s 46) (s 47) (s 48)) (s 49) (s 50) (s 51) (s 52) (s 53)) (s 54) (s 55) (s 56) (s 57) (s 58)) (s 59) (s 60) (s 61) (s 62) (s 63) = fun i => upto s (v i) 64 := by
  rw [pay2, pay4, pay6, pay8, pay10, pay12, pay14, pay16, pay18, pay20, pay22, pay24, pay26]

theorem pay3 : k0_pay3 (F := Ideal) v (s 0) (s 1) (s 2) (s 3) = fun i => upto s (v i) 4 := rfl
theorem pay5 : k0_pay5 (F := Ideal) v (fun i => upto s (v i) 4) (s 4) (s 5) (s 6) (s 7) (s 8) = fun i => upto s (v i) 9 := rfl
theorem pay7 : k0_pay7 (F := Ideal) v (fun i => upto s (v i) 9) (s 9) (s 10) (s 11) (s 12) (s 13) = fun i => upto s (v i) 14 := rfl
theorem pay9 : k0_pay9 (F := Ideal) v (fun i => upto s (v i) 14) (s 14) (s 15) (s 16) (s 17) (s 18) = fun i => upto s (v i) 19 := rfl
theorem pay11 : k0_pay11 (F := Ideal) v (fun i => upto s (v i) 19) (s 19) (s 20) (s 21) (s 22) (s 23) = fun i => upto s (v i) 24 := rfl
theorem pay13 : k0_pay13 (F := Ideal) v (fun i => upto s (v i) 24) (s 24) (s 25) (s 26) (s 27) (s 28) = fun i => upto s (v i) 29 := rfl
theorem pay15 : k0_pay15 (F := Ideal) v (fun i => upto s (v i) 29) (s 29) (s 30) (s 31) (s 32) (s 33) = fun i => upto s (v i) 34 := rfl
theorem pay17 : k0_pay17 (F := Ideal) v (fun i => upto s (v i) 34) (s 34) (s 35) (s 36) (s 37) (s 38) = fun i => upto s (v i) 39 := rfl
theorem pay19 : k0_pay19 (F := Ideal) v (fun i => upto s (v i) 39) (s 39) (s 40) (s 41) (s 42) (s 43) = fun i => upto s (v i) 44 := rfl
theorem pay21 : k0_pay21 (F := Ideal) v (fun i => upto s (v i) 44) (s 44) (s 45) (s 46) (s 47) (s 48) = fun i => upto s (v i) 49 := rfl
theorem pay23 : k0_pay23 (F := Ideal) v (fun i => upto s (v i) 49) (s 49) (s 50) (s 51) (s 52) (s 53) = fun i => upto s (v i) 54 := rfl
theorem pay25 : k0_pay25 (F := Ideal) v (fun i => upto s (v i) 54) (s 54) (s 55) (s 56) (s 57) (s 58) = fun i => upto s (v i) 59 := rfl
theorem pay27 : k0_pay27 (F := Ideal) v (fun i => upto s (v i) 59) (s 59) (s 60) (s 61) (s 62) (s 63) = fun i => upto s (v i) 64 := rfl
theorem chain3 : k0_pay27 (F := Ideal) v (k0_pay25 (F := Ideal) v (k0_pay23 (F := Ideal) v (k0_pay21 (F := Ideal) v (k0_pay19 (F := Ideal) v (k0_pay17 (F := Ideal) v (k0_pay15 (F := Ideal) v (k0_pay13 (F := Ideal) v (k0_pay11 (F := Ideal) v (k0_pay9 (F := Ideal) v (k0_pay7 (F := Ideal) v (k0_pay5 (F := Ideal) v (k0_pay3 (F := Ideal) v (s 0) (s 1) (s 2) (s 3)) (s 4) (s 5) (s 6) (s 7) (s 8)) (s 9) (s 10) (s 11) (s 12) (s 13)) (s 14) (s 15) (s 16) (s 17) (s 18)) (s 19) (s 20) (s 21) (s 22) (s 23)) (s 24) (s 25) (s 26) (s 27) (s 28)) (s 29) (s 30) (s 31) (s 32) (s 33)) (s 34) (s 35) (s 36) (s 37) (s 38)) (s 39) (s 40) (s 41) (s 42) (s 43)) (s 44) (s 45) (s 46) (s 47) (s 48)) (s 49) (s 50) (s 51) (s 52) (s 53)) (s 54) (s 55) (s 56) (s 57) (s 58)) (s 59) (s 60) (s 61) (s 62) (s 63) = fun i => upto s (v i) 64 := by
  rw [pay3, pay5, pay7, pay9, pay11, pay13, pay15, pay17, pay19, pay21, pay23, pay25, pay27]

end Chain

theorem pay1_at (a b p q : IVec S1x16384 32) (r : Fin 8) (l : Fin 16384) :
    k0_pay1 (F := Ideal) a b (iota Kind.tc S8x16384 32 [0] iota_S8x16384_d0_w32) 0#32 p q (ix2 r l) =
      if (r : ℕ) = 0 then a (ix2 0 l) + p (ix2 0 l) else if (r : ℕ) = 1 then b (ix2 0 l) + q (ix2 0 l) else 0#32 := by
  pointwise [k0_pay1]
  have word : ∀ n : ℕ, n < 8 → IntOp.cmpi .eq (BitVec.ofNat 32 (r : ℕ)) (BitVec.ofNat 32 n) = if (r : ℕ) = n then 1#1 else 0#1 := fun n hn => by
    have inj : BitVec.ofNat 32 (r : ℕ) = BitVec.ofNat 32 n ↔ (r : ℕ) = n := ⟨fun e => by
      have e' := congrArg BitVec.toNat e
      rwa [BitVec.toNat_ofNat, BitVec.toNat_ofNat, Nat.mod_eq_of_lt (by omega), Nat.mod_eq_of_lt (by omega)] at e', fun e => by rw [e]⟩
    by_cases h : (r : ℕ) = n
    · rw [if_pos h, h]; simp [IntOp.cmpi]
    · rw [if_neg h]; simp [IntOp.cmpi, beq_eq_false_iff_ne.2 (fun e => h (inj.1 e))]
  rw [word 0 (by decide), word 1 (by decide)]
  by_cases h0 : (r : ℕ) = 0
  · rw [if_pos h0, if_pos h0]; rfl
  rw [if_neg h0, if_neg h0]
  by_cases h1 : (r : ℕ) = 1
  · rw [if_pos h1, if_pos h1]; rfl
  · rw [if_neg h1, if_neg h1]; rfl

theorem ld_one (x : Vec Ideal S64 .i32) (n : ℕ) (h) (i) : View.ld (Val := Elt Ideal) (e' := .i32) x (Rect.unit (s := S64) ![n] ![1] h) i = x (ix1 (Fin.ofNat 64 n)) := by
  have hn : n + 1 ≤ 64 := h 0
  refine View.ld_unit_apply_of x _ _ h i _ fun a => ?_
  obtain rfl : a = 0 := Subsingleton.elim _ _
  have hi : (i 0 : ℕ) < 1 := (i 0).isLt
  show n % 64 = n + (i 0 : ℕ)
  rw [Nat.mod_eq_of_lt (by omega)]
  omega

theorem ld_row (x : Vec Ideal S8x16384 .i32) (n : ℕ) (h) (l : Fin 16384) :
    View.ld (Val := Elt Ideal) (e' := .i32) x (Rect.unit (s := S8x16384) ![n, 0] ![1, 16384] h) (ix2 0 l) = x (ix2 (Fin.ofNat 8 n) l) := by
  have hn : n + 1 ≤ 8 := h 0
  refine View.ld_unit_apply_of x _ _ h _ _ fun a => ?_
  match a with
  | ⟨0, _⟩ =>
    show n % 8 = n + 0
    rw [Nat.mod_eq_of_lt (by omega)]
    rfl
  | ⟨1, _⟩ =>
    show (l : ℕ) = 0 + l
    rw [Nat.zero_add]

theorem starts_eq (m : (ℓ : Loc nD τ sig) → Buf (Elt Ideal) ℓ) (c : Dev nD) :
    V m c main_v83 = muli (hStart (m ((c.tc : Thread nD τ).loc main_arg0))) (b64 (k0 256#32)) := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27
  simp only [List.flatten_cons, List.flatten_nil, List.cons_append, List.nil_append, List.append_nil]
  after_reads_simp
  all_goals try simp -implicitDefEqProofs only [StableHlo.TRef.toBuf, StableHlo.TRef.ofBuf, cast_cast, cast_eq]
  all_goals rfl

theorem rows_at (s : IVec S64 32) (mi : IVec S8x16384 32) (v0 v1 p q : IVec S1x16384 32) (r : Fin 8) (l : Fin 16384)
    (h0 : v0 (ix2 0 l) = mi (ix2 0 l)) (h1 : v1 (ix2 0 l) = mi (ix2 1 l)) (hp : p (ix2 0 l) = mi (ix2 2 l)) (hq : q (ix2 0 l) = mi (ix2 3 l)) :
    (if (r : ℕ) = 0 then upto (fun n => s (ix1 (Fin.ofNat 64 n))) (v0 (ix2 0 l)) 64 + p (ix2 0 l)
      else if (r : ℕ) = 1 then upto (fun n => s (ix1 (Fin.ofNat 64 n))) (v1 (ix2 0 l)) 64 + q (ix2 0 l) else 0#32) = spots s mi (ix2 r l) := by
  rw [h0, h1, hp, hq, upto_pick, upto_pick]
  rfl

/-- What the call writes with its numbers read, from the first rows and the table of experts and ranks. -/
theorem call_rows (s : Vec Ideal S64 .i32) (mi : Vec Ideal S8x16384 .i32) (r : Fin 8) (l : Fin 16384) :
    k0_pay1 (F := Ideal) (k0_pay26 (F := Ideal) (View.ld (Val := Elt Ideal) (e' := .i32) mi (Rect.unit ![0, 0] ![1, 16384] inb_S8x16384_S1x16384_0_0)) (k0_pay24 (F := Ideal) (View.ld (Val := Elt Ideal) (e' := .i32) mi (Rect.unit ![0, 0] ![1, 16384] inb_S8x16384_S1x16384_0_0)) (k0_pay22 (F := Ideal) (View.ld (Val := Elt Ideal) (e' := .i32) mi (Rect.unit ![0, 0] ![1, 16384] inb_S8x16384_S1x16384_0_0)) (k0_pay20 (F := Ideal) (View.ld (Val := Elt Ideal) (e' := .i32) mi (Rect.unit ![0, 0] ![1, 16384] inb_S8x16384_S1x16384_0_0)) (k0_pay18 (F := Ideal) (View.ld (Val := Elt Ideal) (e' := .i32) mi (Rect.unit ![0, 0] ![1, 16384] inb_S8x16384_S1x16384_0_0)) (k0_pay16 (F := Ideal) (View.ld (Val := Elt Ideal) (e' := .i32) mi (Rect.unit ![0, 0] ![1, 16384] inb_S8x16384_S1x16384_0_0)) (k0_pay14 (F := Ideal) (View.ld (Val := Elt Ideal) (e' := .i32) mi (Rect.unit ![0, 0] ![1, 16384] inb_S8x16384_S1x16384_0_0)) (k0_pay12 (F := Ideal) (View.ld (Val := Elt Ideal) (e' := .i32) mi (Rect.unit ![0, 0] ![1, 16384] inb_S8x16384_S1x16384_0_0)) (k0_pay10 (F := Ideal) (View.ld (Val := Elt Ideal) (e' := .i32) mi (Rect.unit ![0, 0] ![1, 16384] inb_S8x16384_S1x16384_0_0)) (k0_pay8 (F := Ideal) (View.ld (Val := Elt Ideal) (e' := .i32) mi (Rect.unit ![0, 0] ![1, 16384] inb_S8x16384_S1x16384_0_0)) (k0_pay6 (F := Ideal) (View.ld (Val := Elt Ideal) (e' := .i32) mi (Rect.unit ![0, 0] ![1, 16384] inb_S8x16384_S1x16384_0_0)) (k0_pay4 (F := Ideal) (View.ld (Val := Elt Ideal) (e' := .i32) mi (Rect.unit ![0, 0] ![1, 16384] inb_S8x16384_S1x16384_0_0)) (k0_pay2 (F := Ideal) (View.ld (Val := Elt Ideal) (e' := .i32) mi (Rect.unit ![0, 0] ![1, 16384] inb_S8x16384_S1x16384_0_0)) (s (ix1 (Fin.ofNat 64 0))) (s (ix1 (Fin.ofNat 64 1))) (s (ix1 (Fin.ofNat 64 2))) (s (ix1 (Fin.ofNat 64 3)))) (s (ix1 (Fin.ofNat 64 4))) (s (ix1 (Fin.ofNat 64 5))) (s (ix1 (Fin.ofNat 64 6))) (s (ix1 (Fin.ofNat 64 7))) (s (ix1 (Fin.ofNat 64 8)))) (s (ix1 (Fin.ofNat 64 9))) (s (ix1 (Fin.ofNat 64 10))) (s (ix1 (Fin.ofNat 64 11))) (s (ix1 (Fin.ofNat 64 12))) (s (ix1 (Fin.ofNat 64 13)))) (s (ix1 (Fin.ofNat 64 14))) (s (ix1 (Fin.ofNat 64 15))) (s (ix1 (Fin.ofNat 64 16))) (s (ix1 (Fin.ofNat 64 17))) (s (ix1 (Fin.ofNat 64 18)))) (s (ix1 (Fin.ofNat 64 19))) (s (ix1 (Fin.ofNat 64 20))) (s (ix1 (Fin.ofNat 64 21))) (s (ix1 (Fin.ofNat 64 22))) (s (ix1 (Fin.ofNat 64 23)))) (s (ix1 (Fin.ofNat 64 24))) (s (ix1 (Fin.ofNat 64 25))) (s (ix1 (Fin.ofNat 64 26))) (s (ix1 (Fin.ofNat 64 27))) (s (ix1 (Fin.ofNat 64 28)))) (s (ix1 (Fin.ofNat 64 29))) (s (ix1 (Fin.ofNat 64 30))) (s (ix1 (Fin.ofNat 64 31))) (s (ix1 (Fin.ofNat 64 32))) (s (ix1 (Fin.ofNat 64 33)))) (s (ix1 (Fin.ofNat 64 34))) (s (ix1 (Fin.ofNat 64 35))) (s (ix1 (Fin.ofNat 64 36))) (s (ix1 (Fin.ofNat 64 37))) (s (ix1 (Fin.ofNat 64 38)))) (s (ix1 (Fin.ofNat 64 39))) (s (ix1 (Fin.ofNat 64 40))) (s (ix1 (Fin.ofNat 64 41))) (s (ix1 (Fin.ofNat 64 42))) (s (ix1 (Fin.ofNat 64 43)))) (s (ix1 (Fin.ofNat 64 44))) (s (ix1 (Fin.ofNat 64 45))) (s (ix1 (Fin.ofNat 64 46))) (s (ix1 (Fin.ofNat 64 47))) (s (ix1 (Fin.ofNat 64 48)))) (s (ix1 (Fin.ofNat 64 49))) (s (ix1 (Fin.ofNat 64 50))) (s (ix1 (Fin.ofNat 64 51))) (s (ix1 (Fin.ofNat 64 52))) (s (ix1 (Fin.ofNat 64 53)))) (s (ix1 (Fin.ofNat 64 54))) (s (ix1 (Fin.ofNat 64 55))) (s (ix1 (Fin.ofNat 64 56))) (s (ix1 (Fin.ofNat 64 57))) (s (ix1 (Fin.ofNat 64 58)))) (s (ix1 (Fin.ofNat 64 59))) (s (ix1 (Fin.ofNat 64 60))) (s (ix1 (Fin.ofNat 64 61))) (s (ix1 (Fin.ofNat 64 62))) (s (ix1 (Fin.ofNat 64 63))))
      (k0_pay27 (F := Ideal) (View.ld (Val := Elt Ideal) (e' := .i32) mi (Rect.unit ![1, 0] ![1, 16384] inb_S8x16384_S1x16384_1_0)) (k0_pay25 (F := Ideal) (View.ld (Val := Elt Ideal) (e' := .i32) mi (Rect.unit ![1, 0] ![1, 16384] inb_S8x16384_S1x16384_1_0)) (k0_pay23 (F := Ideal) (View.ld (Val := Elt Ideal) (e' := .i32) mi (Rect.unit ![1, 0] ![1, 16384] inb_S8x16384_S1x16384_1_0)) (k0_pay21 (F := Ideal) (View.ld (Val := Elt Ideal) (e' := .i32) mi (Rect.unit ![1, 0] ![1, 16384] inb_S8x16384_S1x16384_1_0)) (k0_pay19 (F := Ideal) (View.ld (Val := Elt Ideal) (e' := .i32) mi (Rect.unit ![1, 0] ![1, 16384] inb_S8x16384_S1x16384_1_0)) (k0_pay17 (F := Ideal) (View.ld (Val := Elt Ideal) (e' := .i32) mi (Rect.unit ![1, 0] ![1, 16384] inb_S8x16384_S1x16384_1_0)) (k0_pay15 (F := Ideal) (View.ld (Val := Elt Ideal) (e' := .i32) mi (Rect.unit ![1, 0] ![1, 16384] inb_S8x16384_S1x16384_1_0)) (k0_pay13 (F := Ideal) (View.ld (Val := Elt Ideal) (e' := .i32) mi (Rect.unit ![1, 0] ![1, 16384] inb_S8x16384_S1x16384_1_0)) (k0_pay11 (F := Ideal) (View.ld (Val := Elt Ideal) (e' := .i32) mi (Rect.unit ![1, 0] ![1, 16384] inb_S8x16384_S1x16384_1_0)) (k0_pay9 (F := Ideal) (View.ld (Val := Elt Ideal) (e' := .i32) mi (Rect.unit ![1, 0] ![1, 16384] inb_S8x16384_S1x16384_1_0)) (k0_pay7 (F := Ideal) (View.ld (Val := Elt Ideal) (e' := .i32) mi (Rect.unit ![1, 0] ![1, 16384] inb_S8x16384_S1x16384_1_0)) (k0_pay5 (F := Ideal) (View.ld (Val := Elt Ideal) (e' := .i32) mi (Rect.unit ![1, 0] ![1, 16384] inb_S8x16384_S1x16384_1_0)) (k0_pay3 (F := Ideal) (View.ld (Val := Elt Ideal) (e' := .i32) mi (Rect.unit ![1, 0] ![1, 16384] inb_S8x16384_S1x16384_1_0)) (s (ix1 (Fin.ofNat 64 0))) (s (ix1 (Fin.ofNat 64 1))) (s (ix1 (Fin.ofNat 64 2))) (s (ix1 (Fin.ofNat 64 3)))) (s (ix1 (Fin.ofNat 64 4))) (s (ix1 (Fin.ofNat 64 5))) (s (ix1 (Fin.ofNat 64 6))) (s (ix1 (Fin.ofNat 64 7))) (s (ix1 (Fin.ofNat 64 8)))) (s (ix1 (Fin.ofNat 64 9))) (s (ix1 (Fin.ofNat 64 10))) (s (ix1 (Fin.ofNat 64 11))) (s (ix1 (Fin.ofNat 64 12))) (s (ix1 (Fin.ofNat 64 13)))) (s (ix1 (Fin.ofNat 64 14))) (s (ix1 (Fin.ofNat 64 15))) (s (ix1 (Fin.ofNat 64 16))) (s (ix1 (Fin.ofNat 64 17))) (s (ix1 (Fin.ofNat 64 18)))) (s (ix1 (Fin.ofNat 64 19))) (s (ix1 (Fin.ofNat 64 20))) (s (ix1 (Fin.ofNat 64 21))) (s (ix1 (Fin.ofNat 64 22))) (s (ix1 (Fin.ofNat 64 23)))) (s (ix1 (Fin.ofNat 64 24))) (s (ix1 (Fin.ofNat 64 25))) (s (ix1 (Fin.ofNat 64 26))) (s (ix1 (Fin.ofNat 64 27))) (s (ix1 (Fin.ofNat 64 28)))) (s (ix1 (Fin.ofNat 64 29))) (s (ix1 (Fin.ofNat 64 30))) (s (ix1 (Fin.ofNat 64 31))) (s (ix1 (Fin.ofNat 64 32))) (s (ix1 (Fin.ofNat 64 33)))) (s (ix1 (Fin.ofNat 64 34))) (s (ix1 (Fin.ofNat 64 35))) (s (ix1 (Fin.ofNat 64 36))) (s (ix1 (Fin.ofNat 64 37))) (s (ix1 (Fin.ofNat 64 38)))) (s (ix1 (Fin.ofNat 64 39))) (s (ix1 (Fin.ofNat 64 40))) (s (ix1 (Fin.ofNat 64 41))) (s (ix1 (Fin.ofNat 64 42))) (s (ix1 (Fin.ofNat 64 43)))) (s (ix1 (Fin.ofNat 64 44))) (s (ix1 (Fin.ofNat 64 45))) (s (ix1 (Fin.ofNat 64 46))) (s (ix1 (Fin.ofNat 64 47))) (s (ix1 (Fin.ofNat 64 48)))) (s (ix1 (Fin.ofNat 64 49))) (s (ix1 (Fin.ofNat 64 50))) (s (ix1 (Fin.ofNat 64 51))) (s (ix1 (Fin.ofNat 64 52))) (s (ix1 (Fin.ofNat 64 53)))) (s (ix1 (Fin.ofNat 64 54))) (s (ix1 (Fin.ofNat 64 55))) (s (ix1 (Fin.ofNat 64 56))) (s (ix1 (Fin.ofNat 64 57))) (s (ix1 (Fin.ofNat 64 58)))) (s (ix1 (Fin.ofNat 64 59))) (s (ix1 (Fin.ofNat 64 60))) (s (ix1 (Fin.ofNat 64 61))) (s (ix1 (Fin.ofNat 64 62))) (s (ix1 (Fin.ofNat 64 63))))
      (iota Kind.tc S8x16384 32 [0] iota_S8x16384_d0_w32) 0#32 (View.ld (Val := Elt Ideal) (e' := .i32) mi (Rect.unit ![2, 0] ![1, 16384] inb_S8x16384_S1x16384_2_0)) (View.ld (Val := Elt Ideal) (e' := .i32) mi (Rect.unit ![3, 0] ![1, 16384] inb_S8x16384_S1x16384_3_0)) (ix2 r l) = spots s mi (ix2 r l) := by
  have c2 := chain2 (fun n => s (ix1 (Fin.ofNat 64 n))) (View.ld (Val := Elt Ideal) (e' := .i32) mi (Rect.unit ![0, 0] ![1, 16384] inb_S8x16384_S1x16384_0_0))
  have c3 := chain3 (fun n => s (ix1 (Fin.ofNat 64 n))) (View.ld (Val := Elt Ideal) (e' := .i32) mi (Rect.unit ![1, 0] ![1, 16384] inb_S8x16384_S1x16384_1_0))
  rw [c2, c3, pay1_at]
  exact rows_at s mi _ _ _ _ r l (ld_row mi 0 _ l) (ld_row mi 1 _ l) (ld_row mi 2 _ l) (ld_row mi 3 _ l)

/-- What the call writes, from the first rows and the table of experts and ranks. -/
theorem call_at (s : Vec Ideal S64 .i32) (mi : Vec Ideal S8x16384 .i32) (r : Fin 8) (l : Fin 16384) (h1) :
    k0_pay1 (F := Ideal) (k0_pay26 (F := Ideal) (View.ld (Val := Elt Ideal) (e' := .i32) mi (Rect.unit ![0, 0] ![1, 16384] inb_S8x16384_S1x16384_0_0)) (k0_pay24 (F := Ideal) (View.ld (Val := Elt Ideal) (e' := .i32) mi (Rect.unit ![0, 0] ![1, 16384] inb_S8x16384_S1x16384_0_0)) (k0_pay22 (F := Ideal) (View.ld (Val := Elt Ideal) (e' := .i32) mi (Rect.unit ![0, 0] ![1, 16384] inb_S8x16384_S1x16384_0_0)) (k0_pay20 (F := Ideal) (View.ld (Val := Elt Ideal) (e' := .i32) mi (Rect.unit ![0, 0] ![1, 16384] inb_S8x16384_S1x16384_0_0)) (k0_pay18 (F := Ideal) (View.ld (Val := Elt Ideal) (e' := .i32) mi (Rect.unit ![0, 0] ![1, 16384] inb_S8x16384_S1x16384_0_0)) (k0_pay16 (F := Ideal) (View.ld (Val := Elt Ideal) (e' := .i32) mi (Rect.unit ![0, 0] ![1, 16384] inb_S8x16384_S1x16384_0_0)) (k0_pay14 (F := Ideal) (View.ld (Val := Elt Ideal) (e' := .i32) mi (Rect.unit ![0, 0] ![1, 16384] inb_S8x16384_S1x16384_0_0)) (k0_pay12 (F := Ideal) (View.ld (Val := Elt Ideal) (e' := .i32) mi (Rect.unit ![0, 0] ![1, 16384] inb_S8x16384_S1x16384_0_0)) (k0_pay10 (F := Ideal) (View.ld (Val := Elt Ideal) (e' := .i32) mi (Rect.unit ![0, 0] ![1, 16384] inb_S8x16384_S1x16384_0_0)) (k0_pay8 (F := Ideal) (View.ld (Val := Elt Ideal) (e' := .i32) mi (Rect.unit ![0, 0] ![1, 16384] inb_S8x16384_S1x16384_0_0)) (k0_pay6 (F := Ideal) (View.ld (Val := Elt Ideal) (e' := .i32) mi (Rect.unit ![0, 0] ![1, 16384] inb_S8x16384_S1x16384_0_0)) (k0_pay4 (F := Ideal) (View.ld (Val := Elt Ideal) (e' := .i32) mi (Rect.unit ![0, 0] ![1, 16384] inb_S8x16384_S1x16384_0_0)) (k0_pay2 (F := Ideal) (View.ld (Val := Elt Ideal) (e' := .i32) mi (Rect.unit ![0, 0] ![1, 16384] inb_S8x16384_S1x16384_0_0)) (View.ld (Val := Elt Ideal) (e' := .i32) s (Rect.unit ![0] ![1] inb_S64_S1_0) (Shape.Idx.first h1)) (View.ld (Val := Elt Ideal) (e' := .i32) s (Rect.unit ![1] ![1] inb_S64_S1_1) (Shape.Idx.first h1)) (View.ld (Val := Elt Ideal) (e' := .i32) s (Rect.unit ![2] ![1] inb_S64_S1_2) (Shape.Idx.first h1)) (View.ld (Val := Elt Ideal) (e' := .i32) s (Rect.unit ![3] ![1] inb_S64_S1_3) (Shape.Idx.first h1))) (View.ld (Val := Elt Ideal) (e' := .i32) s (Rect.unit ![4] ![1] inb_S64_S1_4) (Shape.Idx.first h1)) (View.ld (Val := Elt Ideal) (e' := .i32) s (Rect.unit ![5] ![1] inb_S64_S1_5) (Shape.Idx.first h1)) (View.ld (Val := Elt Ideal) (e' := .i32) s (Rect.unit ![6] ![1] inb_S64_S1_6) (Shape.Idx.first h1)) (View.ld (Val := Elt Ideal) (e' := .i32) s (Rect.unit ![7] ![1] inb_S64_S1_7) (Shape.Idx.first h1)) (View.ld (Val := Elt Ideal) (e' := .i32) s (Rect.unit ![8] ![1] inb_S64_S1_8) (Shape.Idx.first h1))) (View.ld (Val := Elt Ideal) (e' := .i32) s (Rect.unit ![9] ![1] inb_S64_S1_9) (Shape.Idx.first h1)) (View.ld (Val := Elt Ideal) (e' := .i32) s (Rect.unit ![10] ![1] inb_S64_S1_10) (Shape.Idx.first h1)) (View.ld (Val := Elt Ideal) (e' := .i32) s (Rect.unit ![11] ![1] inb_S64_S1_11) (Shape.Idx.first h1)) (View.ld (Val := Elt Ideal) (e' := .i32) s (Rect.unit ![12] ![1] inb_S64_S1_12) (Shape.Idx.first h1)) (View.ld (Val := Elt Ideal) (e' := .i32) s (Rect.unit ![13] ![1] inb_S64_S1_13) (Shape.Idx.first h1))) (View.ld (Val := Elt Ideal) (e' := .i32) s (Rect.unit ![14] ![1] inb_S64_S1_14) (Shape.Idx.first h1)) (View.ld (Val := Elt Ideal) (e' := .i32) s (Rect.unit ![15] ![1] inb_S64_S1_15) (Shape.Idx.first h1)) (View.ld (Val := Elt Ideal) (e' := .i32) s (Rect.unit ![16] ![1] inb_S64_S1_16) (Shape.Idx.first h1)) (View.ld (Val := Elt Ideal) (e' := .i32) s (Rect.unit ![17] ![1] inb_S64_S1_17) (Shape.Idx.first h1)) (View.ld (Val := Elt Ideal) (e' := .i32) s (Rect.unit ![18] ![1] inb_S64_S1_18) (Shape.Idx.first h1))) (View.ld (Val := Elt Ideal) (e' := .i32) s (Rect.unit ![19] ![1] inb_S64_S1_19) (Shape.Idx.first h1)) (View.ld (Val := Elt Ideal) (e' := .i32) s (Rect.unit ![20] ![1] inb_S64_S1_20) (Shape.Idx.first h1)) (View.ld (Val := Elt Ideal) (e' := .i32) s (Rect.unit ![21] ![1] inb_S64_S1_21) (Shape.Idx.first h1)) (View.ld (Val := Elt Ideal) (e' := .i32) s (Rect.unit ![22] ![1] inb_S64_S1_22) (Shape.Idx.first h1)) (View.ld (Val := Elt Ideal) (e' := .i32) s (Rect.unit ![23] ![1] inb_S64_S1_23) (Shape.Idx.first h1))) (View.ld (Val := Elt Ideal) (e' := .i32) s (Rect.unit ![24] ![1] inb_S64_S1_24) (Shape.Idx.first h1)) (View.ld (Val := Elt Ideal) (e' := .i32) s (Rect.unit ![25] ![1] inb_S64_S1_25) (Shape.Idx.first h1)) (View.ld (Val := Elt Ideal) (e' := .i32) s (Rect.unit ![26] ![1] inb_S64_S1_26) (Shape.Idx.first h1)) (View.ld (Val := Elt Ideal) (e' := .i32) s (Rect.unit ![27] ![1] inb_S64_S1_27) (Shape.Idx.first h1)) (View.ld (Val := Elt Ideal) (e' := .i32) s (Rect.unit ![28] ![1] inb_S64_S1_28) (Shape.Idx.first h1))) (View.ld (Val := Elt Ideal) (e' := .i32) s (Rect.unit ![29] ![1] inb_S64_S1_29) (Shape.Idx.first h1)) (View.ld (Val := Elt Ideal) (e' := .i32) s (Rect.unit ![30] ![1] inb_S64_S1_30) (Shape.Idx.first h1)) (View.ld (Val := Elt Ideal) (e' := .i32) s (Rect.unit ![31] ![1] inb_S64_S1_31) (Shape.Idx.first h1)) (View.ld (Val := Elt Ideal) (e' := .i32) s (Rect.unit ![32] ![1] inb_S64_S1_32) (Shape.Idx.first h1)) (View.ld (Val := Elt Ideal) (e' := .i32) s (Rect.unit ![33] ![1] inb_S64_S1_33) (Shape.Idx.first h1))) (View.ld (Val := Elt Ideal) (e' := .i32) s (Rect.unit ![34] ![1] inb_S64_S1_34) (Shape.Idx.first h1)) (View.ld (Val := Elt Ideal) (e' := .i32) s (Rect.unit ![35] ![1] inb_S64_S1_35) (Shape.Idx.first h1)) (View.ld (Val := Elt Ideal) (e' := .i32) s (Rect.unit ![36] ![1] inb_S64_S1_36) (Shape.Idx.first h1)) (View.ld (Val := Elt Ideal) (e' := .i32) s (Rect.unit ![37] ![1] inb_S64_S1_37) (Shape.Idx.first h1)) (View.ld (Val := Elt Ideal) (e' := .i32) s (Rect.unit ![38] ![1] inb_S64_S1_38) (Shape.Idx.first h1))) (View.ld (Val := Elt Ideal) (e' := .i32) s (Rect.unit ![39] ![1] inb_S64_S1_39) (Shape.Idx.first h1)) (View.ld (Val := Elt Ideal) (e' := .i32) s (Rect.unit ![40] ![1] inb_S64_S1_40) (Shape.Idx.first h1)) (View.ld (Val := Elt Ideal) (e' := .i32) s (Rect.unit ![41] ![1] inb_S64_S1_41) (Shape.Idx.first h1)) (View.ld (Val := Elt Ideal) (e' := .i32) s (Rect.unit ![42] ![1] inb_S64_S1_42) (Shape.Idx.first h1)) (View.ld (Val := Elt Ideal) (e' := .i32) s (Rect.unit ![43] ![1] inb_S64_S1_43) (Shape.Idx.first h1))) (View.ld (Val := Elt Ideal) (e' := .i32) s (Rect.unit ![44] ![1] inb_S64_S1_44) (Shape.Idx.first h1)) (View.ld (Val := Elt Ideal) (e' := .i32) s (Rect.unit ![45] ![1] inb_S64_S1_45) (Shape.Idx.first h1)) (View.ld (Val := Elt Ideal) (e' := .i32) s (Rect.unit ![46] ![1] inb_S64_S1_46) (Shape.Idx.first h1)) (View.ld (Val := Elt Ideal) (e' := .i32) s (Rect.unit ![47] ![1] inb_S64_S1_47) (Shape.Idx.first h1)) (View.ld (Val := Elt Ideal) (e' := .i32) s (Rect.unit ![48] ![1] inb_S64_S1_48) (Shape.Idx.first h1))) (View.ld (Val := Elt Ideal) (e' := .i32) s (Rect.unit ![49] ![1] inb_S64_S1_49) (Shape.Idx.first h1)) (View.ld (Val := Elt Ideal) (e' := .i32) s (Rect.unit ![50] ![1] inb_S64_S1_50) (Shape.Idx.first h1)) (View.ld (Val := Elt Ideal) (e' := .i32) s (Rect.unit ![51] ![1] inb_S64_S1_51) (Shape.Idx.first h1)) (View.ld (Val := Elt Ideal) (e' := .i32) s (Rect.unit ![52] ![1] inb_S64_S1_52) (Shape.Idx.first h1)) (View.ld (Val := Elt Ideal) (e' := .i32) s (Rect.unit ![53] ![1] inb_S64_S1_53) (Shape.Idx.first h1))) (View.ld (Val := Elt Ideal) (e' := .i32) s (Rect.unit ![54] ![1] inb_S64_S1_54) (Shape.Idx.first h1)) (View.ld (Val := Elt Ideal) (e' := .i32) s (Rect.unit ![55] ![1] inb_S64_S1_55) (Shape.Idx.first h1)) (View.ld (Val := Elt Ideal) (e' := .i32) s (Rect.unit ![56] ![1] inb_S64_S1_56) (Shape.Idx.first h1)) (View.ld (Val := Elt Ideal) (e' := .i32) s (Rect.unit ![57] ![1] inb_S64_S1_57) (Shape.Idx.first h1)) (View.ld (Val := Elt Ideal) (e' := .i32) s (Rect.unit ![58] ![1] inb_S64_S1_58) (Shape.Idx.first h1))) (View.ld (Val := Elt Ideal) (e' := .i32) s (Rect.unit ![59] ![1] inb_S64_S1_59) (Shape.Idx.first h1)) (View.ld (Val := Elt Ideal) (e' := .i32) s (Rect.unit ![60] ![1] inb_S64_S1_60) (Shape.Idx.first h1)) (View.ld (Val := Elt Ideal) (e' := .i32) s (Rect.unit ![61] ![1] inb_S64_S1_61) (Shape.Idx.first h1)) (View.ld (Val := Elt Ideal) (e' := .i32) s (Rect.unit ![62] ![1] inb_S64_S1_62) (Shape.Idx.first h1)) (View.ld (Val := Elt Ideal) (e' := .i32) s (Rect.unit ![63] ![1] inb_S64_S1_63) (Shape.Idx.first h1)))
      (k0_pay27 (F := Ideal) (View.ld (Val := Elt Ideal) (e' := .i32) mi (Rect.unit ![1, 0] ![1, 16384] inb_S8x16384_S1x16384_1_0)) (k0_pay25 (F := Ideal) (View.ld (Val := Elt Ideal) (e' := .i32) mi (Rect.unit ![1, 0] ![1, 16384] inb_S8x16384_S1x16384_1_0)) (k0_pay23 (F := Ideal) (View.ld (Val := Elt Ideal) (e' := .i32) mi (Rect.unit ![1, 0] ![1, 16384] inb_S8x16384_S1x16384_1_0)) (k0_pay21 (F := Ideal) (View.ld (Val := Elt Ideal) (e' := .i32) mi (Rect.unit ![1, 0] ![1, 16384] inb_S8x16384_S1x16384_1_0)) (k0_pay19 (F := Ideal) (View.ld (Val := Elt Ideal) (e' := .i32) mi (Rect.unit ![1, 0] ![1, 16384] inb_S8x16384_S1x16384_1_0)) (k0_pay17 (F := Ideal) (View.ld (Val := Elt Ideal) (e' := .i32) mi (Rect.unit ![1, 0] ![1, 16384] inb_S8x16384_S1x16384_1_0)) (k0_pay15 (F := Ideal) (View.ld (Val := Elt Ideal) (e' := .i32) mi (Rect.unit ![1, 0] ![1, 16384] inb_S8x16384_S1x16384_1_0)) (k0_pay13 (F := Ideal) (View.ld (Val := Elt Ideal) (e' := .i32) mi (Rect.unit ![1, 0] ![1, 16384] inb_S8x16384_S1x16384_1_0)) (k0_pay11 (F := Ideal) (View.ld (Val := Elt Ideal) (e' := .i32) mi (Rect.unit ![1, 0] ![1, 16384] inb_S8x16384_S1x16384_1_0)) (k0_pay9 (F := Ideal) (View.ld (Val := Elt Ideal) (e' := .i32) mi (Rect.unit ![1, 0] ![1, 16384] inb_S8x16384_S1x16384_1_0)) (k0_pay7 (F := Ideal) (View.ld (Val := Elt Ideal) (e' := .i32) mi (Rect.unit ![1, 0] ![1, 16384] inb_S8x16384_S1x16384_1_0)) (k0_pay5 (F := Ideal) (View.ld (Val := Elt Ideal) (e' := .i32) mi (Rect.unit ![1, 0] ![1, 16384] inb_S8x16384_S1x16384_1_0)) (k0_pay3 (F := Ideal) (View.ld (Val := Elt Ideal) (e' := .i32) mi (Rect.unit ![1, 0] ![1, 16384] inb_S8x16384_S1x16384_1_0)) (View.ld (Val := Elt Ideal) (e' := .i32) s (Rect.unit ![0] ![1] inb_S64_S1_0) (Shape.Idx.first h1)) (View.ld (Val := Elt Ideal) (e' := .i32) s (Rect.unit ![1] ![1] inb_S64_S1_1) (Shape.Idx.first h1)) (View.ld (Val := Elt Ideal) (e' := .i32) s (Rect.unit ![2] ![1] inb_S64_S1_2) (Shape.Idx.first h1)) (View.ld (Val := Elt Ideal) (e' := .i32) s (Rect.unit ![3] ![1] inb_S64_S1_3) (Shape.Idx.first h1))) (View.ld (Val := Elt Ideal) (e' := .i32) s (Rect.unit ![4] ![1] inb_S64_S1_4) (Shape.Idx.first h1)) (View.ld (Val := Elt Ideal) (e' := .i32) s (Rect.unit ![5] ![1] inb_S64_S1_5) (Shape.Idx.first h1)) (View.ld (Val := Elt Ideal) (e' := .i32) s (Rect.unit ![6] ![1] inb_S64_S1_6) (Shape.Idx.first h1)) (View.ld (Val := Elt Ideal) (e' := .i32) s (Rect.unit ![7] ![1] inb_S64_S1_7) (Shape.Idx.first h1)) (View.ld (Val := Elt Ideal) (e' := .i32) s (Rect.unit ![8] ![1] inb_S64_S1_8) (Shape.Idx.first h1))) (View.ld (Val := Elt Ideal) (e' := .i32) s (Rect.unit ![9] ![1] inb_S64_S1_9) (Shape.Idx.first h1)) (View.ld (Val := Elt Ideal) (e' := .i32) s (Rect.unit ![10] ![1] inb_S64_S1_10) (Shape.Idx.first h1)) (View.ld (Val := Elt Ideal) (e' := .i32) s (Rect.unit ![11] ![1] inb_S64_S1_11) (Shape.Idx.first h1)) (View.ld (Val := Elt Ideal) (e' := .i32) s (Rect.unit ![12] ![1] inb_S64_S1_12) (Shape.Idx.first h1)) (View.ld (Val := Elt Ideal) (e' := .i32) s (Rect.unit ![13] ![1] inb_S64_S1_13) (Shape.Idx.first h1))) (View.ld (Val := Elt Ideal) (e' := .i32) s (Rect.unit ![14] ![1] inb_S64_S1_14) (Shape.Idx.first h1)) (View.ld (Val := Elt Ideal) (e' := .i32) s (Rect.unit ![15] ![1] inb_S64_S1_15) (Shape.Idx.first h1)) (View.ld (Val := Elt Ideal) (e' := .i32) s (Rect.unit ![16] ![1] inb_S64_S1_16) (Shape.Idx.first h1)) (View.ld (Val := Elt Ideal) (e' := .i32) s (Rect.unit ![17] ![1] inb_S64_S1_17) (Shape.Idx.first h1)) (View.ld (Val := Elt Ideal) (e' := .i32) s (Rect.unit ![18] ![1] inb_S64_S1_18) (Shape.Idx.first h1))) (View.ld (Val := Elt Ideal) (e' := .i32) s (Rect.unit ![19] ![1] inb_S64_S1_19) (Shape.Idx.first h1)) (View.ld (Val := Elt Ideal) (e' := .i32) s (Rect.unit ![20] ![1] inb_S64_S1_20) (Shape.Idx.first h1)) (View.ld (Val := Elt Ideal) (e' := .i32) s (Rect.unit ![21] ![1] inb_S64_S1_21) (Shape.Idx.first h1)) (View.ld (Val := Elt Ideal) (e' := .i32) s (Rect.unit ![22] ![1] inb_S64_S1_22) (Shape.Idx.first h1)) (View.ld (Val := Elt Ideal) (e' := .i32) s (Rect.unit ![23] ![1] inb_S64_S1_23) (Shape.Idx.first h1))) (View.ld (Val := Elt Ideal) (e' := .i32) s (Rect.unit ![24] ![1] inb_S64_S1_24) (Shape.Idx.first h1)) (View.ld (Val := Elt Ideal) (e' := .i32) s (Rect.unit ![25] ![1] inb_S64_S1_25) (Shape.Idx.first h1)) (View.ld (Val := Elt Ideal) (e' := .i32) s (Rect.unit ![26] ![1] inb_S64_S1_26) (Shape.Idx.first h1)) (View.ld (Val := Elt Ideal) (e' := .i32) s (Rect.unit ![27] ![1] inb_S64_S1_27) (Shape.Idx.first h1)) (View.ld (Val := Elt Ideal) (e' := .i32) s (Rect.unit ![28] ![1] inb_S64_S1_28) (Shape.Idx.first h1))) (View.ld (Val := Elt Ideal) (e' := .i32) s (Rect.unit ![29] ![1] inb_S64_S1_29) (Shape.Idx.first h1)) (View.ld (Val := Elt Ideal) (e' := .i32) s (Rect.unit ![30] ![1] inb_S64_S1_30) (Shape.Idx.first h1)) (View.ld (Val := Elt Ideal) (e' := .i32) s (Rect.unit ![31] ![1] inb_S64_S1_31) (Shape.Idx.first h1)) (View.ld (Val := Elt Ideal) (e' := .i32) s (Rect.unit ![32] ![1] inb_S64_S1_32) (Shape.Idx.first h1)) (View.ld (Val := Elt Ideal) (e' := .i32) s (Rect.unit ![33] ![1] inb_S64_S1_33) (Shape.Idx.first h1))) (View.ld (Val := Elt Ideal) (e' := .i32) s (Rect.unit ![34] ![1] inb_S64_S1_34) (Shape.Idx.first h1)) (View.ld (Val := Elt Ideal) (e' := .i32) s (Rect.unit ![35] ![1] inb_S64_S1_35) (Shape.Idx.first h1)) (View.ld (Val := Elt Ideal) (e' := .i32) s (Rect.unit ![36] ![1] inb_S64_S1_36) (Shape.Idx.first h1)) (View.ld (Val := Elt Ideal) (e' := .i32) s (Rect.unit ![37] ![1] inb_S64_S1_37) (Shape.Idx.first h1)) (View.ld (Val := Elt Ideal) (e' := .i32) s (Rect.unit ![38] ![1] inb_S64_S1_38) (Shape.Idx.first h1))) (View.ld (Val := Elt Ideal) (e' := .i32) s (Rect.unit ![39] ![1] inb_S64_S1_39) (Shape.Idx.first h1)) (View.ld (Val := Elt Ideal) (e' := .i32) s (Rect.unit ![40] ![1] inb_S64_S1_40) (Shape.Idx.first h1)) (View.ld (Val := Elt Ideal) (e' := .i32) s (Rect.unit ![41] ![1] inb_S64_S1_41) (Shape.Idx.first h1)) (View.ld (Val := Elt Ideal) (e' := .i32) s (Rect.unit ![42] ![1] inb_S64_S1_42) (Shape.Idx.first h1)) (View.ld (Val := Elt Ideal) (e' := .i32) s (Rect.unit ![43] ![1] inb_S64_S1_43) (Shape.Idx.first h1))) (View.ld (Val := Elt Ideal) (e' := .i32) s (Rect.unit ![44] ![1] inb_S64_S1_44) (Shape.Idx.first h1)) (View.ld (Val := Elt Ideal) (e' := .i32) s (Rect.unit ![45] ![1] inb_S64_S1_45) (Shape.Idx.first h1)) (View.ld (Val := Elt Ideal) (e' := .i32) s (Rect.unit ![46] ![1] inb_S64_S1_46) (Shape.Idx.first h1)) (View.ld (Val := Elt Ideal) (e' := .i32) s (Rect.unit ![47] ![1] inb_S64_S1_47) (Shape.Idx.first h1)) (View.ld (Val := Elt Ideal) (e' := .i32) s (Rect.unit ![48] ![1] inb_S64_S1_48) (Shape.Idx.first h1))) (View.ld (Val := Elt Ideal) (e' := .i32) s (Rect.unit ![49] ![1] inb_S64_S1_49) (Shape.Idx.first h1)) (View.ld (Val := Elt Ideal) (e' := .i32) s (Rect.unit ![50] ![1] inb_S64_S1_50) (Shape.Idx.first h1)) (View.ld (Val := Elt Ideal) (e' := .i32) s (Rect.unit ![51] ![1] inb_S64_S1_51) (Shape.Idx.first h1)) (View.ld (Val := Elt Ideal) (e' := .i32) s (Rect.unit ![52] ![1] inb_S64_S1_52) (Shape.Idx.first h1)) (View.ld (Val := Elt Ideal) (e' := .i32) s (Rect.unit ![53] ![1] inb_S64_S1_53) (Shape.Idx.first h1))) (View.ld (Val := Elt Ideal) (e' := .i32) s (Rect.unit ![54] ![1] inb_S64_S1_54) (Shape.Idx.first h1)) (View.ld (Val := Elt Ideal) (e' := .i32) s (Rect.unit ![55] ![1] inb_S64_S1_55) (Shape.Idx.first h1)) (View.ld (Val := Elt Ideal) (e' := .i32) s (Rect.unit ![56] ![1] inb_S64_S1_56) (Shape.Idx.first h1)) (View.ld (Val := Elt Ideal) (e' := .i32) s (Rect.unit ![57] ![1] inb_S64_S1_57) (Shape.Idx.first h1)) (View.ld (Val := Elt Ideal) (e' := .i32) s (Rect.unit ![58] ![1] inb_S64_S1_58) (Shape.Idx.first h1))) (View.ld (Val := Elt Ideal) (e' := .i32) s (Rect.unit ![59] ![1] inb_S64_S1_59) (Shape.Idx.first h1)) (View.ld (Val := Elt Ideal) (e' := .i32) s (Rect.unit ![60] ![1] inb_S64_S1_60) (Shape.Idx.first h1)) (View.ld (Val := Elt Ideal) (e' := .i32) s (Rect.unit ![61] ![1] inb_S64_S1_61) (Shape.Idx.first h1)) (View.ld (Val := Elt Ideal) (e' := .i32) s (Rect.unit ![62] ![1] inb_S64_S1_62) (Shape.Idx.first h1)) (View.ld (Val := Elt Ideal) (e' := .i32) s (Rect.unit ![63] ![1] inb_S64_S1_63) (Shape.Idx.first h1)))
      (iota Kind.tc S8x16384 32 [0] iota_S8x16384_d0_w32) 0#32 (View.ld (Val := Elt Ideal) (e' := .i32) mi (Rect.unit ![2, 0] ![1, 16384] inb_S8x16384_S1x16384_2_0)) (View.ld (Val := Elt Ideal) (e' := .i32) mi (Rect.unit ![3, 0] ![1, 16384] inb_S8x16384_S1x16384_3_0)) (ix2 r l) = spots s mi (ix2 r l) := by
  have one : ∀ n h, View.ld (Val := Elt Ideal) (e' := .i32) s (Rect.unit ![n] ![1] h) (Shape.Idx.first h1) = s (ix1 (Fin.ofNat 64 n)) := fun n h => ld_one s n h _
  rw [one 0 inb_S64_S1_0,
    one 1 inb_S64_S1_1,
    one 2 inb_S64_S1_2,
    one 3 inb_S64_S1_3,
    one 4 inb_S64_S1_4,
    one 5 inb_S64_S1_5,
    one 6 inb_S64_S1_6,
    one 7 inb_S64_S1_7,
    one 8 inb_S64_S1_8,
    one 9 inb_S64_S1_9,
    one 10 inb_S64_S1_10,
    one 11 inb_S64_S1_11,
    one 12 inb_S64_S1_12,
    one 13 inb_S64_S1_13,
    one 14 inb_S64_S1_14,
    one 15 inb_S64_S1_15,
    one 16 inb_S64_S1_16,
    one 17 inb_S64_S1_17,
    one 18 inb_S64_S1_18,
    one 19 inb_S64_S1_19,
    one 20 inb_S64_S1_20,
    one 21 inb_S64_S1_21,
    one 22 inb_S64_S1_22,
    one 23 inb_S64_S1_23,
    one 24 inb_S64_S1_24,
    one 25 inb_S64_S1_25,
    one 26 inb_S64_S1_26,
    one 27 inb_S64_S1_27,
    one 28 inb_S64_S1_28,
    one 29 inb_S64_S1_29,
    one 30 inb_S64_S1_30,
    one 31 inb_S64_S1_31,
    one 32 inb_S64_S1_32,
    one 33 inb_S64_S1_33,
    one 34 inb_S64_S1_34,
    one 35 inb_S64_S1_35,
    one 36 inb_S64_S1_36,
    one 37 inb_S64_S1_37,
    one 38 inb_S64_S1_38,
    one 39 inb_S64_S1_39,
    one 40 inb_S64_S1_40,
    one 41 inb_S64_S1_41,
    one 42 inb_S64_S1_42,
    one 43 inb_S64_S1_43,
    one 44 inb_S64_S1_44,
    one 45 inb_S64_S1_45,
    one 46 inb_S64_S1_46,
    one 47 inb_S64_S1_47,
    one 48 inb_S64_S1_48,
    one 49 inb_S64_S1_49,
    one 50 inb_S64_S1_50,
    one 51 inb_S64_S1_51,
    one 52 inb_S64_S1_52,
    one 53 inb_S64_S1_53,
    one 54 inb_S64_S1_54,
    one 55 inb_S64_S1_55,
    one 56 inb_S64_S1_56,
    one 57 inb_S64_S1_57,
    one 58 inb_S64_S1_58,
    one 59 inb_S64_S1_59,
    one 60 inb_S64_S1_60,
    one 61 inb_S64_S1_61,
    one 62 inb_S64_S1_62,
    one 63 inb_S64_S1_63]
  exact call_rows s mi r l

theorem d0 : ∀ t : Fin cfg0.N, win0_0.index t = ![0] := (by decide +kernel : ∀ t : Fin grid0.N, _)
theorem d1 : ∀ t : Fin cfg0.N, win0_1.index t = ![0, 0] := (by decide +kernel : ∀ t : Fin grid0.N, _)
theorem d2 : ∀ t : Fin cfg0.N, win0_2.index t = ![0, 0] := (by decide +kernel : ∀ t : Fin grid0.N, _)

theorem iblk0 (m : (ℓ : Loc nD τ sig) → Buf (Elt Ideal) ℓ) (c : Dev nD) (t : Fin cfg0.N) : iblk m c 0 t = V m c main_v83 := by
  funext i
  obtain ⟨j, rfl⟩ : ∃ j : Fin 64, i = ix1 j := ⟨i 0, eq_ix1 i⟩
  blk_simp [iblk]
  refine congrArg _ ?_
  blk_ext [d0]

theorem iblk1 (m : (ℓ : Loc nD τ sig) → Buf (Elt Ideal) ℓ) (c : Dev nD) (t : Fin cfg0.N) : iblk m c 1 t = V m c main_arg1 := by
  funext i
  obtain ⟨r, l, rfl⟩ : ∃ (r : Fin 8) (l : Fin 16384), i = ix2 r l := ⟨i 0, i 1, eq_ix2 i⟩
  blk_simp [iblk]
  refine congrArg _ ?_
  blk_ext [d1]

theorem emb_self (t : Fin cfg0.N) (r : Fin 8) (l : Fin 16384) : ((View.whole main_v84).slice (win0_2.rect t)).emb (ix2 r l) = ix2 r l := by
  blk_simp
  blk_ext [d2]

theorem final (m : (ℓ : Loc nD τ sig) → Buf (Elt Ideal) ℓ) (c : Dev nD) : (dats m 0 c).arrAt 2 cfg0.N = spots (V m c main_v83) (V m c main_arg1) := by
  refine (dats m 0 c).arrAt_eq_of_covers 2 _ (by decide +kernel) fun t hf y => ?_
  blk_simp
  rw [after0_2]
  unfold outsAt0
  frame_out
  rw [(hs0_0 t).read_unread, (hs0_1 t).read_unread, iblk0, iblk1]
  obtain ⟨r, l, rfl⟩ : ∃ (r : Fin 8) (l : Fin 16384), y = ix2 r l := ⟨y 0, y 1, eq_ix2 y⟩
  rw [emb_self]
  exact call_at (V m c main_v83) (V m c main_arg1) r l _

theorem frame_K : Cert.quiescent_Kernel3 := fun m g _ => Cert.Kernel3.Gen.frame m g

theorem frame_KI : Cert.quiescent_Kernel3Ideal := fun m g _ => Cert.Kernel3Ideal.Gen.frame m g

theorem frame_RI : Cert.quiescent_Reference3Ideal := fun m g _ =>
  (θ_run _ _ _).mono (fun _ h => ⟨fun c => (h c).2, sem_eq_zero_of_no_sems rfl _⟩) (Cert.Reference3Ideal.Value.run m g)

theorem exact_KR : Cert.algebraic_Kernel3Ideal_Reference3Ideal := fun m g m' g' _ h =>
  ⟨fun c => spots (muli (hStart (m ((c.tc : Thread nD τ).loc main_arg0))) (b64 (k0 256#32))) (m ((c.tc : Thread nD τ).loc main_arg1)),
    (θ_run _ _ _).mono (fun _ hr c => ⟨(hr c).1.trans ((final m c).trans (by rw [starts_eq, V_main_arg1])), (hr c).2⟩) (Cert.Kernel3Ideal.Value.run_blocks m g),
    (θ_run _ _ _).mono (fun _ hr c => ⟨(hr c).1.trans ((Cert.Spot.result_eq m' c).trans (by rw [(h c).1, (h c).2])), (hr c).2⟩) (Cert.Reference3Ideal.Value.run m' g')⟩

end Cert.Dest

end

end
-- ==== Proof.lean ====
/- The claims, from the modules beside this one. -/
module

public import proofs.«01_k».proof.Defs
public import proofs.«01_k».proof.Proof.Exact
public import proofs.«01_k».proof.Proof.Chain
public import proofs.«01_k».proof.Proof.Dest

@[expose] public section

noncomputable section

namespace Cert.Proof

open Idealize.ShloMosaic Idealize.SL.Sem

theorem claim : Cert.Claim :=
  ⟨Cert.Kernel.Gen.facts, Cert.Reference.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, pre_facts,
    @frame_K pre_facts, @frame_R pre_facts, Cert.Project.frame_K, Cert.Project.frame_KI, Cert.Project.frame_RI,
    Cert.Dest.frame_K, Cert.Dest.frame_KI, Cert.Dest.frame_RI,
    @exact_KR pre_facts, trivial, Cert.Project.exact_KR, trivial, Cert.Dest.exact_KR⟩

end Cert.Proof

end
